-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_out [hPre_finite_out : Cert.Pre_finite_out.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_out.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_out [hPre_finite_out : Cert.Pre_finite_out.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_out.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))) = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite_out [hKernel15Ideal : Cert.Kernel15Ideal.Facts] [hPre_finite_out : Cert.Pre_finite_out.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_out m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite_out [hReference15Ideal : Cert.Reference15Ideal.Facts] [hPre_finite_out : Cert.Pre_finite_out.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_out m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v62_0)) (v1 : (c : Dev Cert.KernelIdeal.nD) → Buf (Elt Ideal) ((c.tc : Thread Cert.KernelIdeal.nD Cert.KernelIdeal.τ).loc Cert.KernelIdeal.main_v62_1)) (v2 : (c : Dev Cert.KernelIdeal.nD) → Buf (Elt Ideal) ((c.tc : Thread Cert.KernelIdeal.nD Cert.KernelIdeal.τ).loc Cert.KernelIdeal.main_v62_2)) (v3 : (c : Dev Cert.KernelIdeal.nD) → Buf (Elt Ideal) ((c.tc : Thread Cert.KernelIdeal.nD Cert.KernelIdeal.τ).loc Cert.KernelIdeal.main_v62_3)) (v4 : (c : Dev Cert.KernelIdeal.nD) → Buf (Elt Ideal) ((c.tc : Thread Cert.KernelIdeal.nD Cert.KernelIdeal.τ).loc Cert.KernelIdeal.main_v62_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62_0) = v0 c
          ∧ r.2.mem ((c.tc : Thread Cert.KernelIdeal.nD Cert.KernelIdeal.τ).loc Cert.KernelIdeal.main_v62_1) = v1 c
          ∧ r.2.mem ((c.tc : Thread Cert.KernelIdeal.nD Cert.KernelIdeal.τ).loc Cert.KernelIdeal.main_v62_2) = v2 c
          ∧ r.2.mem ((c.tc : Thread Cert.KernelIdeal.nD Cert.KernelIdeal.τ).loc Cert.KernelIdeal.main_v62_3) = v3 c
          ∧ r.2.mem ((c.tc : Thread Cert.KernelIdeal.nD Cert.KernelIdeal.τ).loc Cert.KernelIdeal.main_v62_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v87) = v3 c
          ∧ r.2.mem ((c.tc : Thread Cert.ReferenceIdeal.nD Cert.ReferenceIdeal.τ).loc Cert.ReferenceIdeal.main_v91) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)) (v2 : (c : Dev Cert.Kernel2Ideal.nD) → Buf (Elt Ideal) ((c.tc : Thread Cert.Kernel2Ideal.nD Cert.Kernel2Ideal.τ).loc Cert.Kernel2Ideal.main_v17_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_v17_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v56) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_v13) = v2 c
          ∧ r.2.mem ((c.tc : Thread Cert.Reference6Ideal.nD Cert.Reference6Ideal.τ).loc Cert.Reference6Ideal.main_v19) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)) (v2 : (c : Dev Cert.Kernel8Ideal.nD) → Buf (Elt Ideal) ((c.tc : Thread Cert.Kernel8Ideal.nD Cert.Kernel8Ideal.τ).loc Cert.Kernel8Ideal.main_v3_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_v3_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v19) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_v19) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v2_0)) (v1 : (c : Dev Cert.Kernel11Ideal.nD) → Buf (Elt Ideal) ((c.tc : Thread Cert.Kernel11Ideal.nD Cert.Kernel11Ideal.τ).loc Cert.Kernel11Ideal.main_v2_1)) (v2 : (c : Dev Cert.Kernel11Ideal.nD) → Buf (Elt Ideal) ((c.tc : Thread Cert.Kernel11Ideal.nD Cert.Kernel11Ideal.τ).loc Cert.Kernel11Ideal.main_v2_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2_0) = v0 c
          ∧ r.2.mem ((c.tc : Thread Cert.Kernel11Ideal.nD Cert.Kernel11Ideal.τ).loc Cert.Kernel11Ideal.main_v2_1) = v1 c
          ∧ r.2.mem ((c.tc : Thread Cert.Kernel11Ideal.nD Cert.Kernel11Ideal.τ).loc Cert.Kernel11Ideal.main_v2_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v44) = v0 c
          ∧ r.2.mem ((c.tc : Thread Cert.Reference11Ideal.nD Cert.Reference11Ideal.τ).loc Cert.Reference11Ideal.main_v45) = v1 c
          ∧ r.2.mem ((c.tc : Thread Cert.Reference11Ideal.nD Cert.Reference11Ideal.τ).loc Cert.Reference11Ideal.main_v46) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v23_0)) (v1 : (c : Dev Cert.Kernel13Ideal.nD) → Buf (Elt Ideal) ((c.tc : Thread Cert.Kernel13Ideal.nD Cert.Kernel13Ideal.τ).loc Cert.Kernel13Ideal.main_v23_1)) (v2 : (c : Dev Cert.Kernel13Ideal.nD) → Buf (Elt Ideal) ((c.tc : Thread Cert.Kernel13Ideal.nD Cert.Kernel13Ideal.τ).loc Cert.Kernel13Ideal.main_v23_2)) (v3 : (c : Dev Cert.Kernel13Ideal.nD) → Buf (Elt Ideal) ((c.tc : Thread Cert.Kernel13Ideal.nD Cert.Kernel13Ideal.τ).loc Cert.Kernel13Ideal.main_v23_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v23_0) = v0 c
          ∧ r.2.mem ((c.tc : Thread Cert.Kernel13Ideal.nD Cert.Kernel13Ideal.τ).loc Cert.Kernel13Ideal.main_v23_1) = v1 c
          ∧ r.2.mem ((c.tc : Thread Cert.Kernel13Ideal.nD Cert.Kernel13Ideal.τ).loc Cert.Kernel13Ideal.main_v23_2) = v2 c
          ∧ r.2.mem ((c.tc : Thread Cert.Kernel13Ideal.nD Cert.Kernel13Ideal.τ).loc Cert.Kernel13Ideal.main_v23_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v57) = v0 c
          ∧ r.2.mem ((c.tc : Thread Cert.Reference13Ideal.nD Cert.Reference13Ideal.τ).loc Cert.Reference13Ideal.main_v58) = v1 c
          ∧ r.2.mem ((c.tc : Thread Cert.Reference13Ideal.nD Cert.Reference13Ideal.τ).loc Cert.Reference13Ideal.main_v59) = v2 c
          ∧ r.2.mem ((c.tc : Thread Cert.Reference13Ideal.nD Cert.Reference13Ideal.τ).loc Cert.Reference13Ideal.main_v60) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal_pre_finite_out [hKernel15Ideal : Cert.Kernel15Ideal.Facts] [hReference15Ideal : Cert.Reference15Ideal.Facts] [hPre_finite_out : Cert.Pre_finite_out.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_out m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_v7) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite_out : Cert.Pre_finite_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_out (hKernel15Ideal := hKernel15Ideal) (hPre_finite_out := hPre_finite_out)
    ∧ quiescent_Reference15Ideal (hReference15Ideal := hReference15Ideal)
    ∧ quiescent_Reference15Ideal_pre_finite_out (hReference15Ideal := hReference15Ideal) (hPre_finite_out := hPre_finite_out)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_out (hKernel15Ideal := hKernel15Ideal) (hReference15Ideal := hReference15Ideal) (hPre_finite_out := hPre_finite_out)
    ∧ preserves_Kernel16_Kernel16Ideal
    ∧ algebraic_Kernel16Ideal_Reference16Ideal (hKernel16Ideal := hKernel16Ideal) (hReference16Ideal := hReference16Ideal)
-- ==== Pre_finite.lean ====
abbrev S8192x1024 : Shape := ⟨2, ![8192, 1024]⟩
abbrev S8192x16 : Shape := ⟨2, ![8192, 16]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x1024 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S8192x1024 .f32) (main_arg3 : FVec F S8192x16 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Pre_finite_out.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S8192x16 : Shape := ⟨2, ![8192, 16]⟩
abbrev S8192x16x64 : Shape := ⟨3, ![8192, 16, 64]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S16x64x8192 : Shape := ⟨3, ![16, 64, 8192]⟩
abbrev S8192x8x2 : Shape := ⟨3, ![8192, 8, 2]⟩
abbrev S8x8192x2 : Shape := ⟨3, ![8, 8192, 2]⟩
abbrev S8x2x8192 : Shape := ⟨3, ![8, 2, 8192]⟩
abbrev S8x8192x6 : Shape := ⟨3, ![8, 8192, 6]⟩
abbrev S1024x8192 : Shape := ⟨2, ![1024, 8192]⟩
abbrev S8x8x8192 : Shape := ⟨3, ![8, 8, 8192]⟩
abbrev S8192x128 : Shape := ⟨2, ![8192, 128]⟩
abbrev S128x8192 : Shape := ⟨2, ![128, 8192]⟩
abbrev S1024x128 : Shape := ⟨2, ![1024, 128]⟩
abbrev S128x1024 : Shape := ⟨2, ![128, 1024]⟩
abbrev S1x2x1024 : Shape := ⟨3, ![1, 2, 1024]⟩
abbrev S1x8192x6 : Shape := ⟨3, ![1, 8192, 6]⟩
abbrev S1x8x1024 : Shape := ⟨3, ![1, 8, 1024]⟩
abbrev S1x8192x2 : Shape := ⟨3, ![1, 8192, 2]⟩
abbrev S8192x2 : Shape := ⟨2, ![8192, 2]⟩
abbrev S8x1024 : Shape := ⟨2, ![8, 1024]⟩
abbrev S1x512x6 : Shape := ⟨3, ![1, 512, 6]⟩
abbrev S512x6 : Shape := ⟨2, ![512, 6]⟩
abbrev S1x1x512 : Shape := ⟨3, ![1, 1, 512]⟩
abbrev S1x512 : Shape := ⟨2, ![1, 512]⟩
abbrev S1x1 : Shape := ⟨2, ![1, 1]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x512x1 : Shape := ⟨3, ![1, 512, 1]⟩
abbrev S1x1x1024 : Shape := ⟨3, ![1, 1, 1024]⟩
abbrev S1x1024 : Shape := ⟨2, ![1, 1024]⟩
abbrev S64x1024 : Shape := ⟨2, ![64, 1024]⟩
abbrev S512x1024 : Shape := ⟨2, ![512, 1024]⟩
abbrev S1024 : Shape := ⟨1, ![1024]⟩
abbrev S1024x64 : Shape := ⟨2, ![1024, 64]⟩

abbrev nBuf : Space → Nat
  | .hbm => 82
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S8192x16x64, .f32⟩
  | .hbm, ⟨8, _⟩ => ⟨S16x8192x8192, .f32⟩
  | .hbm, ⟨9, _⟩ => ⟨S16x8192, .f32⟩
  | .hbm, ⟨10, _⟩ => ⟨S16x8192x1, .f32⟩
  | .hbm, ⟨11, _⟩ => ⟨S16x8192, .f32⟩
  | .hbm, ⟨12, _⟩ => ⟨S16x1x8192, .f32⟩
  | .hbm, ⟨13, _⟩ => ⟨S16x8192x8192, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192x8192, .i1⟩
  | .hbm, ⟨23, _⟩ => ⟨S16x8192x8192, .f32⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S_, .f32⟩
  | .hbm, ⟨32, _⟩ => ⟨S16x8192, .f32⟩
  | .hbm, ⟨33, _⟩ => ⟨S16x8192, .f32⟩
  | .hbm, ⟨34, _⟩ => ⟨S16x8192x1, .f32⟩
  | .hbm, ⟨35, _⟩ => ⟨S16x8192x8192, .f32⟩
  | .hbm, ⟨36, _⟩ => ⟨S16x8192x8192, .f32⟩
  | .hbm, ⟨37, _⟩ => ⟨S16x8192x8192, .f32⟩
  | .hbm, ⟨38, _⟩ => ⟨S_, .f32⟩
  | .hbm, ⟨39, _⟩ => ⟨S16x8192, .f32⟩
  | .hbm, ⟨40, _⟩ => ⟨S16x8192x1, .f32⟩
  | .hbm, ⟨41, _⟩ => ⟨S16x8192x8192, .f32⟩
  | .hbm, ⟨42, _⟩ => ⟨S16x8192x8192, .f32⟩
  | .hbm, ⟨43, _⟩ => ⟨S16x64x8192, .f32⟩
  | .hbm, ⟨44, _⟩ => ⟨S8192x16x64, .f32⟩
  | .hbm, ⟨45, _⟩ => ⟨S8192x1024, .f32⟩
  | .hbm, ⟨46, _⟩ => ⟨S_, .f32⟩
  | .hbm, ⟨47, _⟩ => ⟨S16x8192, .f32⟩
  | .hbm, ⟨48, _⟩ => ⟨S16x8192x1, .f32⟩
  | .hbm, ⟨49, _⟩ => ⟨S16x8192, .f32⟩
  | .hbm, ⟨50, _⟩ => ⟨S16x8192x8192, .f32⟩
  | .hbm, ⟨51, _⟩ => ⟨S16x8192x8192, .f32⟩
  | .hbm, ⟨52, _⟩ => ⟨S16x8192x8192, .f32⟩
  | .hbm, ⟨53, _⟩ => ⟨S_, .f32⟩
  | .hbm, ⟨54, _⟩ => ⟨S16x8192, .f32⟩
  | .hbm, ⟨55, _⟩ => ⟨S16x8192, .f32⟩
  | .hbm, ⟨56, _⟩ => ⟨S16x8192, .f32⟩
  | .hbm, ⟨57, _⟩ => ⟨S8192x1024, .f32⟩
  | .hbm, ⟨58, _⟩ => ⟨S8192x16x64, .f32⟩
  | .hbm, ⟨59, _⟩ => ⟨S_, .f32⟩
  | .hbm, ⟨60, _⟩ => ⟨S8192x16, .f32⟩
  | .hbm, ⟨61, _⟩ => ⟨S8192x8x2, .f32⟩
  | .hbm, ⟨62, _⟩ => ⟨S8x8192x2, .f32⟩
  | .hbm, ⟨63, _⟩ => ⟨S8x2x8192, .f32⟩
  | .hbm, ⟨64, _⟩ => ⟨S8x2x8192, .f32⟩
  | .hbm, ⟨65, _⟩ => ⟨S8x8192x2, .f32⟩
  | .hbm, ⟨66, _⟩ => ⟨S8192x8x2, .f32⟩
  | .hbm, ⟨67, _⟩ => ⟨S8x8192x2, .f32⟩
  | .hbm, ⟨68, _⟩ => ⟨S8x8192x6, .f32⟩
  | .hbm, ⟨69, _⟩ => ⟨S8192x1024, .bf16⟩
  | .hbm, ⟨70, _⟩ => ⟨S8192x1024, .bf16⟩
  | .hbm, ⟨71, _⟩ => ⟨S8192x1024, .bf16⟩
  | .hbm, ⟨72, _⟩ => ⟨S8192x1024, .bf16⟩
  | .hbm, ⟨73, _⟩ => ⟨S1024x8192, .bf16⟩
  | .hbm, ⟨74, _⟩ => ⟨S1024x8192, .bf16⟩
  | .hbm, ⟨75, _⟩ => ⟨S1024x8192, .bf16⟩
  | .hbm, ⟨76, _⟩ => ⟨S1024x8192, .bf16⟩
  | .hbm, ⟨77, _⟩ => ⟨S8192x1024, .f32⟩
  | .hbm, ⟨78, _⟩ => ⟨S1024x8192, .f32⟩
  | .hbm, ⟨79, _⟩ => ⟨S1024x8192, .f32⟩
  | .hbm, ⟨80, _⟩ => ⟨S8x8x8192, .f32⟩
  | .hbm, ⟨81, _⟩ => ⟨S8x8192x2, .f32⟩
  | .local _ .vmem, ⟨0, _⟩ => ⟨S8192x128, .bf16⟩
  | .local _ .vmem, ⟨1, _⟩ => ⟨S8192x128, .bf16⟩
  | .local _ .vmem, ⟨2, _⟩ => ⟨S128x8192, .bf16⟩
  | .local _ .vmem, ⟨3, _⟩ => ⟨S128x8192, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S1x2x1024, .f32⟩
  | .local _ .vmem, ⟨11, _⟩ => ⟨S1x2x1024, .f32⟩
  | .local _ .vmem, ⟨12, _⟩ => ⟨S8192x128, .bf16⟩
  | .local _ .vmem, ⟨13, _⟩ => ⟨S8192x128, .bf16⟩
  | .local _ .vmem, ⟨14, _⟩ => ⟨S128x8192, .bf16⟩
  | .local _ .vmem, ⟨15, _⟩ => ⟨S128x8192, .bf16⟩
  | .local _ .vmem, ⟨16, _⟩ => ⟨S1x8192x6, .f32⟩
  | .local _ .vmem, ⟨17, _⟩ => ⟨S1x8192x6, .f32⟩
  | .local _ .vmem, ⟨18, _⟩ => ⟨S8192x128, .f32⟩
  | .local _ .vmem, ⟨19, _⟩ => ⟨S8192x128, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S1x8x1024, .f32⟩
  | .local _ .vmem, ⟨25, _⟩ => ⟨S1x8x1024, .f32⟩
  | .local _ .vmem, ⟨26, _⟩ => ⟨S1x8192x2, .f32⟩
  | .local _ .vmem, ⟨27, _⟩ => ⟨S1x8192x2, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_0 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62_0 : Ref sig .tc := ⟨.hbm, 77, rfl⟩
abbrev main_v62_1 : Ref sig .tc := ⟨.hbm, 78, rfl⟩
abbrev main_v62_2 : Ref sig .tc := ⟨.hbm, 79, rfl⟩
abbrev main_v62_3 : Ref sig .tc := ⟨.hbm, 80, rfl⟩
abbrev main_v62_4 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c2_i32 : BitVec 32 := 2#32
  let v11 : BitVec 32 := Scalar.muli arg1 c2_i32
  let c0_i32_9 : BitVec 32 := 0#32
  let v12 : BitVec 32 := Scalar.addi v11 c0_i32_9
  let c512_i32 : BitVec 32 := 512#32
  let v13 : BitVec 32 := Scalar.muli v12 c512_i32
  v13
def k0_off1 (i : grid0.Coords) (c0_i32_9 : BitVec 32) : Fin 3 → Nat :=
  let c0_10 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v15 : Index := Scalar.indexCast v14
  let c0_11 : Index := 0#32
  ![0, v15.toNat, 0]
def k0_off2 (i : grid0.Coords) (c0_i32_9 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v26 : Index := Scalar.indexCast v14
  let c0_15 : Index := 0#32
  ![v26.toNat, 0]
def k0_off3 (i : grid0.Coords) (c0_i32_9 : BitVec 32) : Fin 2 → Nat :=
  let c0_23 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v52 : Index := Scalar.indexCast v14
  ![0, v52.toNat]
def k0_off4 (i : grid0.Coords) (c0_i32_9 : BitVec 32) : Fin 3 → Nat :=
  let c0_44 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v86 : Index := Scalar.indexCast v14
  let c0_45 : Index := 0#32
  ![0, v86.toNat, 0]
def k0_off5 (i : grid0.Coords) (c0_i32_9 : BitVec 32) : Fin 2 → Nat :=
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v114 : Index := Scalar.indexCast v14
  let c64 : Index := 64#32
  ![v114.toNat, 64]
def k0_off6 (i : grid0.Coords) (c0_i32_9 : BitVec 32) : Fin 2 → Nat :=
  let c64_64 : Index := 64#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v140 : Index := Scalar.indexCast v14
  ![64, v140.toNat]
def k0_off7 (i : grid0.Coords) (c0_i32_9 : BitVec 32) : Fin 3 → Nat :=
  let c0_85 : Index := 0#32
  let arg1 : BitVec 32 := BitVec.ofNat 32 (i 1).val
  let c2_i32 : BitVec 32 := 2#32
  let v11 : BitVec 32 := Scalar.muli arg1 c2_i32
  let v12 : BitVec 32 := Scalar.addi v11 c0_i32_9
  let c512_i32 : BitVec 32 := 512#32
  let v13 : BitVec 32 := Scalar.muli v12 c512_i32
  let v14 : BitVec 32 := v13
  let v174 : Index := Scalar.indexCast v14
  let c1_86 : Index := 1#32
  ![0, v174.toNat, 1]
def k0_mult2 (i : grid0.Coords) : BitVec 32 :=
  let arg1 : BitVec 32 := BitVec.ofNat 32 (i 1).val
  let c2_i32_95 : BitVec 32 := 2#32
  let v194 : BitVec 32 := Scalar.muli arg1 c2_i32_95
  let c1_i32 : BitVec 32 := 1#32
  let v195 : BitVec 32 := Scalar.addi v194 c1_i32
  let c512_i32_96 : BitVec 32 := 512#32
  let v196 : BitVec 32 := Scalar.muli v195 c512_i32_96
  v196
@[reducible] def k0_t1_loop (i : grid0.Coords) : Scf.Loop 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_189 : BitVec 32 := 1#32
  ⟨v378, v383, c1_i32_189⟩
def k0_mult3 (i : grid0.Coords) (k0_t1 : Fin (k0_t1_loop i).trips) : BitVec 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  v384
def k0_off8 (i : grid0.Coords) (k0_t1 : Fin (k0_t1_loop i).trips) : Fin 3 → Nat :=
  let c0_192 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v386 : Index := Scalar.indexCast v385
  let c0_193 : Index := 0#32
  ![0, v386.toNat, 0]
def k0_off9 (i : grid0.Coords) (k0_t1 : Fin (k0_t1_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v397 : Index := Scalar.indexCast v385
  let c0_197 : Index := 0#32
  ![v397.toNat, 0]
def k0_off10 (i : grid0.Coords) (k0_t1 : Fin (k0_t1_loop i).trips) : Fin 2 → Nat :=
  let c0_203 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v412 : Index := Scalar.indexCast v385
  ![0, v412.toNat]
def k0_off11 (i : grid0.Coords) (k0_t1 : Fin (k0_t1_loop i).trips) : Fin 3 → Nat :=
  let c0_224 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v446 : Index := Scalar.indexCast v385
  let c0_225 : Index := 0#32
  ![0, v446.toNat, 0]
def k0_off12 (i : grid0.Coords) (k0_t1 : Fin (k0_t1_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v474 : Index := Scalar.indexCast v385
  let c64_237 : Index := 64#32
  ![v474.toNat, 64]
def k0_off13 (i : grid0.Coords) (k0_t1 : Fin (k0_t1_loop i).trips) : Fin 2 → Nat :=
  let c64_243 : Index := 64#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v489 : Index := Scalar.indexCast v385
  ![64, v489.toNat]
def k0_off14 (i : grid0.Coords) (k0_t1 : Fin (k0_t1_loop i).trips) : Fin 3 → Nat :=
  let c0_264 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c1_i32_189 : BitVec 32 := 1#32
  let arg16 : BitVec 32 := Scf.iv v378 c1_i32_189 k0_t1
  let c512_i32_191 : BitVec 32 := 512#32
  let v384 : BitVec 32 := Scalar.muli arg16 c512_i32_191
  let v385 : BitVec 32 := v384
  let v523 : Index := Scalar.indexCast v385
  let c1_265 : Index := 1#32
  ![0, v523.toNat, 1]
@[reducible] def k0_t2_loop (i : grid0.Coords) : Scf.Loop 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let v380 : BitVec 32 := Scalar.addi v378 v379
  let c1_i32_190 : BitVec 32 := 1#32
  ⟨v383, v380, c1_i32_190⟩
def k0_mult4 (i : grid0.Coords) (k0_t2 : Fin (k0_t2_loop i).trips) : BitVec 32 :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  v384
def k0_off15 (i : grid0.Coords) (k0_t2 : Fin (k0_t2_loop i).trips) : Fin 3 → Nat :=
  let c0_192 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v386 : Index := Scalar.indexCast v385
  let c0_193 : Index := 0#32
  ![0, v386.toNat, 0]
def k0_off16 (i : grid0.Coords) (k0_t2 : Fin (k0_t2_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v397 : Index := Scalar.indexCast v385
  let c0_197 : Index := 0#32
  ![v397.toNat, 0]
def k0_off17 (i : grid0.Coords) (k0_t2 : Fin (k0_t2_loop i).trips) : Fin 2 → Nat :=
  let c0_203 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v412 : Index := Scalar.indexCast v385
  ![0, v412.toNat]
def k0_off18 (i : grid0.Coords) (k0_t2 : Fin (k0_t2_loop i).trips) : Fin 3 → Nat :=
  let c0_224 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v446 : Index := Scalar.indexCast v385
  let c0_225 : Index := 0#32
  ![0, v446.toNat, 0]
def k0_off19 (i : grid0.Coords) (k0_t2 : Fin (k0_t2_loop i).trips) : Fin 2 → Nat :=
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v474 : Index := Scalar.indexCast v385
  let c64_237 : Index := 64#32
  ![v474.toNat, 64]
def k0_off20 (i : grid0.Coords) (k0_t2 : Fin (k0_t2_loop i).trips) : Fin 2 → Nat :=
  let c64_243 : Index := 64#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v489 : Index := Scalar.indexCast v385
  ![64, v489.toNat]
def k0_off21 (i : grid0.Coords) (k0_t2 : Fin (k0_t2_loop i).trips) : Fin 3 → Nat :=
  let c0_264 : Index := 0#32
  let arg1 : BitVec 32 := BitVec.ofNat 32 (i 1).val
  let c1_i32_185 : BitVec 32 := 1#32
  let v377 : BitVec 32 := Scalar.addi arg1 c1_i32_185
  let c2_i32_186 : BitVec 32 := 2#32
  let v378 : BitVec 32 := Scalar.muli v377 c2_i32_186
  let c16_i32 : BitVec 32 := 16#32
  let v379 : BitVec 32 := Scalar.subi c16_i32 v378
  let c1_i32_188 : BitVec 32 := 1#32
  let v381 : BitVec 32 := Scalar.divsi v379 c1_i32_188
  let v382 : BitVec 32 := Scalar.muli v381 c1_i32_188
  let v383 : BitVec 32 := Scalar.addi v378 v382
  let c1_i32_190 : BitVec 32 := 1#32
  let arg16 : BitVec 32 := Scf.iv v383 c1_i32_190 k0_t2
  let c512_i32_191 : BitVec 32 := 512#32
  let v384 : BitVec 32 := Scalar.muli arg16 c512_i32_191
  let v385 : BitVec 32 := v384
  let v523 : Index := Scalar.indexCast v385
  let c1_265 : Index := 1#32
  ![0, v523.toNat, 1]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8192x6 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8192x2 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S8192x16 : Shape := ⟨2, ![8192, 16]⟩
abbrev S8192x16x64 : Shape := ⟨3, ![8192, 16, 64]⟩
abbrev S16x8192x8192 : Shape := ⟨3, ![16, 8192, 8192]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S_ : Shape := ⟨0, ![]⟩
abbrev S16x64x8192 : Shape := ⟨3, ![16, 64, 8192]⟩
abbrev S16x8192x64 : Shape := ⟨3, ![16, 8192, 64]⟩
abbrev S8x2x8192 : Shape := ⟨3, ![8, 2, 8192]⟩
abbrev S8x8x8192 : Shape := ⟨3, ![8, 8, 8192]⟩
abbrev S1024x8192 : Shape := ⟨2, ![1024, 8192]⟩
abbrev S8192x8x2 : Shape := ⟨3, ![8192, 8, 2]⟩
abbrev S8x8192x2 : Shape := ⟨3, ![8, 8192, 2]⟩

abbrev nBuf : Space → Nat
  | .hbm => 123
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x16, .f32⟩
  | .hbm, ⟨4, _⟩ => ⟨S8192x1024, .f32⟩
  | .hbm, ⟨5, _⟩ => ⟨S8192x16x64, .f32⟩
  | .hbm, ⟨6, _⟩ => ⟨S8192x16x64, .f32⟩
  | .hbm, ⟨7, _⟩ => ⟨S8192x16x64, .f32⟩
  | .hbm, ⟨8, _⟩ => ⟨S16x8192x8192, .f32⟩
  | .hbm, ⟨9, _⟩ => ⟨S16x8192, .f32⟩
  | .hbm, ⟨10, _⟩ => ⟨S16x8192x1, .f32⟩
  | .hbm, ⟨11, _⟩ => ⟨S16x8192, .f32⟩
  | .hbm, ⟨12, _⟩ => ⟨S16x1x8192, .f32⟩
  | .hbm, ⟨13, _⟩ => ⟨S16x8192x8192, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192x8192, .i1⟩
  | .hbm, ⟨23, _⟩ => ⟨S16x8192x8192, .f32⟩
  | .hbm, ⟨24, _⟩ => ⟨S_, .f32⟩
  | .hbm, ⟨25, _⟩ => ⟨S_, .f32⟩
  | .hbm, ⟨26, _⟩ => ⟨S16x8192x8192, .i1⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .i1⟩
  | .hbm, ⟨36, _⟩ => ⟨S16x8192x8192, .f32⟩
  | .hbm, ⟨37, _⟩ => ⟨S_, .f32⟩
  | .hbm, ⟨38, _⟩ => ⟨S16x8192, .f32⟩
  | .hbm, ⟨39, _⟩ => ⟨S_, .f32⟩
  | .hbm, ⟨40, _⟩ => ⟨S16x8192, .f32⟩
  | .hbm, ⟨41, _⟩ => ⟨S16x8192, .f32⟩
  | .hbm, ⟨42, _⟩ => ⟨S_, .f32⟩
  | .hbm, ⟨43, _⟩ => ⟨S16x8192, .f32⟩
  | .hbm, ⟨44, _⟩ => ⟨S16x8192, .i1⟩
  | .hbm, ⟨45, _⟩ => ⟨S_, .f32⟩
  | .hbm, ⟨46, _⟩ => ⟨S16x8192, .f32⟩
  | .hbm, ⟨47, _⟩ => ⟨S16x8192, .i1⟩
  | .hbm, ⟨48, _⟩ => ⟨S_, .f32⟩
  | .hbm, ⟨49, _⟩ => ⟨S16x8192, .f32⟩
  | .hbm, ⟨50, _⟩ => ⟨S_, .f32⟩
  | .hbm, ⟨51, _⟩ => ⟨S16x8192, .f32⟩
  | .hbm, ⟨52, _⟩ => ⟨S_, .f32⟩
  | .hbm, ⟨53, _⟩ => ⟨S16x8192, .f32⟩
  | .hbm, ⟨54, _⟩ => ⟨S16x8192, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x8192, .f32⟩
  | .hbm, ⟨60, _⟩ => ⟨S_, .f32⟩
  | .hbm, ⟨61, _⟩ => ⟨S16x8192, .f32⟩
  | .hbm, ⟨62, _⟩ => ⟨S16x8192x1, .f32⟩
  | .hbm, ⟨63, _⟩ => ⟨S16x8192x8192, .f32⟩
  | .hbm, ⟨64, _⟩ => ⟨S16x8192x8192, .f32⟩
  | .hbm, ⟨65, _⟩ => ⟨S16x8192x1, .f32⟩
  | .hbm, ⟨66, _⟩ => ⟨S_, .f32⟩
  | .hbm, ⟨67, _⟩ => ⟨S16x8192x1, .f32⟩
  | .hbm, ⟨68, _⟩ => ⟨S16x8192x1, .f32⟩
  | .hbm, ⟨69, _⟩ => ⟨S16x64x8192, .f32⟩
  | .hbm, ⟨70, _⟩ => ⟨S8192x16x64, .f32⟩
  | .hbm, ⟨71, _⟩ => ⟨S8192x1024, .f32⟩
  | .hbm, ⟨72, _⟩ => ⟨S8192x16x64, .f32⟩
  | .hbm, ⟨73, _⟩ => ⟨S16x64x8192, .f32⟩
  | .hbm, ⟨74, _⟩ => ⟨S16x8192x8192, .f32⟩
  | .hbm, ⟨75, _⟩ => ⟨S16x64x8192, .f32⟩
  | .hbm, ⟨76, _⟩ => ⟨S8192x16x64, .f32⟩
  | .hbm, ⟨77, _⟩ => ⟨S16x8192x8192, .f32⟩
  | .hbm, ⟨78, _⟩ => ⟨S16x8192x8192, .f32⟩
  | .hbm, ⟨79, _⟩ => ⟨S16x8192x8192, .f32⟩
  | .hbm, ⟨80, _⟩ => ⟨S_, .f32⟩
  | .hbm, ⟨81, _⟩ => ⟨S16x8192, .f32⟩
  | .hbm, ⟨82, _⟩ => ⟨S16x8192x1, .f32⟩
  | .hbm, ⟨83, _⟩ => ⟨S16x8192x1, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192, .f32⟩
  | .hbm, ⟨88, _⟩ => ⟨S16x8192x8192, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192x8192, .f32⟩
  | .hbm, ⟨93, _⟩ => ⟨S16x8192x8192, .f32⟩
  | .hbm, ⟨94, _⟩ => ⟨S_, .f32⟩
  | .hbm, ⟨95, _⟩ => ⟨S16x8192, .f32⟩
  | .hbm, ⟨96, _⟩ => ⟨S16x8192x1, .f32⟩
  | .hbm, ⟨97, _⟩ => ⟨S16x8192x8192, .f32⟩
  | .hbm, ⟨98, _⟩ => ⟨S_, .f32⟩
  | .hbm, ⟨99, _⟩ => ⟨S16x8192, .f32⟩
  | .hbm, ⟨100, _⟩ => ⟨S16x1x8192, .f32⟩
  | .hbm, ⟨101, _⟩ => ⟨S_, .f32⟩
  | .hbm, ⟨102, _⟩ => ⟨S16x8192, .f32⟩
  | .hbm, ⟨103, _⟩ => ⟨S8192x16, .f32⟩
  | .hbm, ⟨104, _⟩ => ⟨S_, .f32⟩
  | .hbm, ⟨105, _⟩ => ⟨S16x8192, .f32⟩
  | .hbm, ⟨106, _⟩ => ⟨S8192x16, .f32⟩
  | .hbm, ⟨107, _⟩ => ⟨S16x8192x64, .f32⟩
  | .hbm, ⟨108, _⟩ => ⟨S8192x16x64, .f32⟩
  | .hbm, ⟨109, _⟩ => ⟨S16x8192x64, .f32⟩
  | .hbm, ⟨110, _⟩ => ⟨S8192x16x64, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S16x8192, .f32⟩
  | .hbm, ⟨115, _⟩ => ⟨S8x2x8192, .f32⟩
  | .hbm, ⟨116, _⟩ => ⟨S_, .i32⟩
  | .hbm, ⟨117, _⟩ => ⟨S_, .f32⟩
  | .hbm, ⟨118, _⟩ => ⟨S8x8x8192, .f32⟩
  | .hbm, ⟨119, _⟩ => ⟨S1024x8192, .f32⟩
  | .hbm, ⟨120, _⟩ => ⟨S1024x8192, .f32⟩
  | .hbm, ⟨121, _⟩ => ⟨S8192x8x2, .f32⟩
  | .hbm, ⟨122, _⟩ => ⟨S8x8192x2, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_call0_v0 : Ref sig .tc := ⟨.hbm, 25, rfl⟩
abbrev main_v19_1 : Ref sig .tc := ⟨.hbm, 26, rfl⟩
abbrev main_call0_v2 : Ref sig .tc := ⟨.hbm, 27, rfl⟩
abbrev main_v19_0 : Ref sig .tc := ⟨.hbm, 28, rfl⟩
abbrev main_call0_cst : Ref sig .tc := ⟨.hbm, 29, rfl⟩
abbrev main_v19_2 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_1 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_call1_cst : Ref sig .tc := ⟨.hbm, 91, rfl⟩
abbrev main_call1_v0 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c : Ref sig .tc := ⟨.hbm, 116, rfl⟩
abbrev main_call2_v0 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩

abbrev nD : Nat := 1
abbrev τ : Topo := Topo.v7x

variable {F : FTy → Type} [FloatOps F]

def κ : String → Option EReal := fun
  | "mask" => some ⊥
  | _ => none
-- ==== Kernel2.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S1x1024, .f32⟩
  | .hbm, ⟨23, _⟩ => ⟨S1024x4096, .bf16⟩
  | .hbm, ⟨24, _⟩ => ⟨S4096x1024, .bf16⟩
  | .hbm, ⟨25, _⟩ => ⟨S8192x1024, .f32⟩
  | .hbm, ⟨26, _⟩ => ⟨S8192x4096, .bf16⟩
  | .hbm, ⟨27, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S256x4096, .f32⟩
  | .local _ .vmem, ⟨8, _⟩ => ⟨S256x4096, .f32⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S1x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v60 : BitVec 1 := Scalar.cmpi .eq arg0 c31_i32
  let v61 : BitVec 32 := Scalar.extui v60
  let c0_i32_29 : BitVec 32 := 0#32
  let v62 : BitVec 1 := Scalar.cmpi .ne v61 c0_i32_29
  v62

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S_, .f32⟩
  | .hbm, ⟨6, _⟩ => ⟨S8192x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x4096, .f32⟩
  | .hbm, ⟨34, _⟩ => ⟨S8192x4096, .i1⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x4096, .bf16⟩
  | .hbm, ⟨77, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_cst : Ref sig .tc := ⟨.hbm, 29, rfl⟩
abbrev main_call0_v0 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Kernel3.lean ====
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .f32⟩
  | .local _ .vmem, ⟨5, _⟩ => ⟨S2x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x8x512, .f32⟩
  | .hbm, ⟨8, _⟩ => ⟨S8x1024x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S8192x1024, .bf16⟩
  | .hbm, ⟨9, _⟩ => ⟨S8192x4096, .f32⟩
  | .hbm, ⟨10, _⟩ => ⟨S8192x4096, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x4096, .f32⟩
  | .local _ .vmem, ⟨10, _⟩ => ⟨S256x4096, .f32⟩
  | .local _ .vmem, ⟨11, _⟩ => ⟨S256x4096, .bf16⟩
  | .local _ .vmem, ⟨12, _⟩ => ⟨S256x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S1x1024, .f32⟩
  | .hbm, ⟨6, _⟩ => ⟨S1024x1024, .bf16⟩
  | .hbm, ⟨7, _⟩ => ⟨S256x1024, .bf16⟩
  | .hbm, ⟨8, _⟩ => ⟨S8192x1024, .f32⟩
  | .hbm, ⟨9, _⟩ => ⟨S8192x1024, .bf16⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x256, .f32⟩
  | .local _ .vmem, ⟨5, _⟩ => ⟨S256x256, .f32⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x256, .f32⟩
  | .hbm, ⟨4, _⟩ => ⟨S256x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S1024x8192 : Shape := ⟨2, ![1024, 8192]⟩
abbrev S256x1024 : Shape := ⟨2, ![256, 1024]⟩
abbrev S1024x256 : Shape := ⟨2, ![1024, 256]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S1x1024, .f32⟩
  | .hbm, ⟨4, _⟩ => ⟨S1024x1024, .bf16⟩
  | .hbm, ⟨5, _⟩ => ⟨S8192x1024, .bf16⟩
  | .hbm, ⟨6, _⟩ => ⟨S8192x1024, .bf16⟩
  | .hbm, ⟨7, _⟩ => ⟨S1024x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x256, .bf16⟩
  | .local _ .vmem, ⟨9, _⟩ => ⟨S1024x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x8192 : Shape := ⟨2, ![1024, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S8192x1024, .bf16⟩
  | .hbm, ⟨25, _⟩ => ⟨S1024x8192, .f32⟩
  | .hbm, ⟨26, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S8192x1024, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S1024x1024 : Shape := ⟨2, ![1024, 1024]⟩
abbrev S1x1024 : Shape := ⟨2, ![1, 1024]⟩
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v52 : BitVec 1 := Scalar.cmpi .eq arg0 c31_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8192x1024 : Shape := ⟨2, ![8192, 1024]⟩
abbrev S1024 : Shape := ⟨1, ![1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Kernel12.lean ====
abbrev S8192x1024 : Shape := ⟨2, ![8192, 1024]⟩
abbrev S8192x2048 : Shape := ⟨2, ![8192, 2048]⟩
abbrev S8x1024x256 : Shape := ⟨3, ![8, 1024, 256]⟩
abbrev S2048x1024 : Shape := ⟨2, ![2048, 1024]⟩
abbrev S4x1024x256 : Shape := ⟨3, ![4, 1024, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S8x1024x256, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x1024x256, .f32⟩
  | .local _ .vmem, ⟨5, _⟩ => ⟨S4x1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S256x256 : Shape := ⟨2, ![256, 256]⟩
abbrev S8x1024 : Shape := ⟨2, ![8, 1024]⟩
abbrev S256 : Shape := ⟨1, ![256]⟩
abbrev S256x1 : Shape := ⟨2, ![256, 1]⟩
abbrev S32x8x1024 : Shape := ⟨3, ![32, 8, 1024]⟩

abbrev nBuf : Space → Nat
  | .hbm => 38
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S1x1024, .f32⟩
  | .hbm, ⟨32, _⟩ => ⟨S1024x1024, .bf16⟩
  | .hbm, ⟨33, _⟩ => ⟨S256x1024, .bf16⟩
  | .hbm, ⟨34, _⟩ => ⟨S8192x1024, .f32⟩
  | .hbm, ⟨35, _⟩ => ⟨S8192x1024, .bf16⟩
  | .hbm, ⟨36, _⟩ => ⟨S8192x1024, .bf16⟩
  | .hbm, ⟨37, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x1024, .bf16⟩
  | .local _ .vmem, ⟨6, _⟩ => ⟨S256x1024, .f32⟩
  | .local _ .vmem, ⟨7, _⟩ => ⟨S256x1024, .f32⟩
  | .local _ .vmem, ⟨8, _⟩ => ⟨S256x256, .f32⟩
  | .local _ .vmem, ⟨9, _⟩ => ⟨S256x256, .f32⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23_0 : Ref sig .tc := ⟨.hbm, 34, rfl⟩
abbrev main_v23_1 : Ref sig .tc := ⟨.hbm, 35, rfl⟩
abbrev main_v23_2 : Ref sig .tc := ⟨.hbm, 36, rfl⟩
abbrev main_v23_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v64 : BitVec 1 := Scalar.cmpi .eq arg0 c31_i32
  let v65 : BitVec 32 := Scalar.extui v64
  let c0_i32_32 : BitVec 32 := 0#32
  let v66 : BitVec 1 := Scalar.cmpi .ne v65 c0_i32_32
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S8192x1024 : Shape := ⟨2, ![8192, 1024]⟩
abbrev S1024 : Shape := ⟨1, ![1024]⟩
abbrev S1024x1024 : Shape := ⟨2, ![1024, 1024]⟩
abbrev S8192x256 : Shape := ⟨2, ![8192, 256]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x1024, .f32⟩
  | .hbm, ⟨4, _⟩ => ⟨S8192x256, .f32⟩
  | .hbm, ⟨5, _⟩ => ⟨S256x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .bf16⟩
  | .hbm, ⟨78, _⟩ => ⟨S8192x1024, .bf16⟩
  | .hbm, ⟨79, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Kernel14.lean ====
abbrev S8192x256 : Shape := ⟨2, ![8192, 256]⟩
abbrev S8192x1024 : Shape := ⟨2, ![8192, 1024]⟩
abbrev S8x256x128 : Shape := ⟨3, ![8, 256, 128]⟩
abbrev S2048x256 : Shape := ⟨2, ![2048, 256]⟩
abbrev S2048x1024 : Shape := ⟨2, ![2048, 1024]⟩
abbrev S256x1024 : Shape := ⟨2, ![256, 1024]⟩
abbrev S1x256x128 : Shape := ⟨3, ![1, 256, 128]⟩
abbrev S256x128 : Shape := ⟨2, ![256, 128]⟩

abbrev nBuf : Space → Nat
  | .hbm => 4
  | .vmem => 5
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S8192x1024, .bf16⟩
  | .hbm, ⟨3, _⟩ => ⟨S8x256x128, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S8x256x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S1024x256, .f32⟩
  | .hbm, ⟨6, _⟩ => ⟨S256x1024, .f32⟩
  | .hbm, ⟨7, _⟩ => ⟨S256x8x128, .f32⟩
  | .hbm, ⟨8, _⟩ => ⟨S8x256x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S1024x8192 : Shape := ⟨2, ![1024, 8192]⟩
abbrev S8192x16 : Shape := ⟨2, ![8192, 16]⟩
abbrev S256x1024 : Shape := ⟨2, ![256, 1024]⟩
abbrev S1024x256 : Shape := ⟨2, ![1024, 256]⟩
abbrev S256x16 : Shape := ⟨2, ![256, 16]⟩
abbrev S1024x16 : Shape := ⟨2, ![1024, 16]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1024x1024, .bf16⟩
  | .hbm, ⟨4, _⟩ => ⟨S8192x1024, .bf16⟩
  | .hbm, ⟨5, _⟩ => ⟨S1024x8192, .bf16⟩
  | .hbm, ⟨6, _⟩ => ⟨S8192x16, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | .local _ .vmem, ⟨7, _⟩ => ⟨S1024x256, .bf16⟩
  | .local _ .vmem, ⟨8, _⟩ => ⟨S1024x256, .bf16⟩
  | .local _ .vmem, ⟨9, _⟩ => ⟨S256x16, .f32⟩
  | .local _ .vmem, ⟨10, _⟩ => ⟨S256x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S8192x1024 : Shape := ⟨2, ![8192, 1024]⟩
abbrev S1024x1024 : Shape := ⟨2, ![1024, 1024]⟩
abbrev S8192x16x64 : Shape := ⟨3, ![8192, 16, 64]⟩
abbrev S_ : Shape := ⟨0, ![]⟩
abbrev S8192x16 : Shape := ⟨2, ![8192, 16]⟩
abbrev S1024x8192 : Shape := ⟨2, ![1024, 8192]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x16x64, .f32⟩
  | .hbm, ⟨7, _⟩ => ⟨S_, .f32⟩
  | .hbm, ⟨8, _⟩ => ⟨S8192x16, .f32⟩
  | .hbm, ⟨9, _⟩ => ⟨S8192x1024, .bf16⟩
  | .hbm, ⟨10, _⟩ => ⟨S1024x8192, .f32⟩
  | .hbm, ⟨11, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel16.lean ====
abbrev S8192x1024 : Shape := ⟨2, ![8192, 1024]⟩
abbrev S8192x16 : Shape := ⟨2, ![8192, 16]⟩
abbrev S1024x16 : Shape := ⟨2, ![1024, 16]⟩
abbrev S2048x1024 : Shape := ⟨2, ![2048, 1024]⟩
abbrev S2048x16 : Shape := ⟨2, ![2048, 16]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x16, .f32⟩
  | .hbm, ⟨2, _⟩ => ⟨S8192x1024, .bf16⟩
  | .hbm, ⟨3, _⟩ => ⟨S1024x16, .f32⟩
  | .local _ .vmem, ⟨0, _⟩ => ⟨S2048x1024, .bf16⟩
  | .local _ .vmem, ⟨1, _⟩ => ⟨S2048x1024, .bf16⟩
  | .local _ .vmem, ⟨2, _⟩ => ⟨S2048x16, .f32⟩
  | .local _ .vmem, ⟨3, _⟩ => ⟨S2048x16, .f32⟩
  | .local _ .vmem, ⟨4, _⟩ => ⟨S1024x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S8192x16 : Shape := ⟨2, ![8192, 16]⟩
abbrev S_ : Shape := ⟨0, ![]⟩
abbrev S1024x16 : Shape := ⟨2, ![1024, 16]⟩
abbrev S16x1024 : Shape := ⟨2, ![16, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x16, .f32⟩
  | .hbm, ⟨2, _⟩ => ⟨S_, .f32⟩
  | .hbm, ⟨3, _⟩ => ⟨S1024x16, .f32⟩
  | .hbm, ⟨4, _⟩ => ⟨S8192x16, .f32⟩
  | .hbm, ⟨5, _⟩ => ⟨S16x1024, .f32⟩
  | .hbm, ⟨6, _⟩ => ⟨S1024x16, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Frame.Body.lean ====
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! The kernel's body on whole staging buffers, its results named nowhere. -/

/-- The condition of the body's branch: the point is the first of its row. -/
abbrev first (i : grid0.Coords) : Prop := (Scalar.cmpi .ne (Scalar.extui (Scalar.cmpi .eq (BitVec.ofNat 32 (i 1).val) 0#32)) 0#32) = 1#1

set_option maxHeartbeats 2000000 in
/-- The body runs without fault at every point, whether or not its branch is taken, and gives the nine inputs back as
    they were and the five results at some contents. -/
theorem run (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole)
    (x0 : Vec F S8192x128 .bf16) (x1 : Vec F S128x8192 .bf16) (x2 : Vec F S1024x128 .bf16) (x3 : Vec F S128x1024 .bf16) (x4 : Vec F S128x1024 .bf16) (x5 : Vec F S1x2x1024 .f32) (x6 : Vec F S8192x128 .bf16) (x7 : Vec F S128x8192 .bf16) (x8 : Vec F S1x8192x6 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14 arg15 harg15) K := by
  intro E K
  simp only [cc0_flash_bwd_eq_skeleton]; unfold cc0_flash_bwd_skel
  simp only [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  by_cases hc0 : first i
  all_goals
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Forget

end
-- ==== Proof.Frame.Launch.lean ====
module

public import proofs.«01_k».proof.Proof.Frame.Body
public import Idealize.ShloMosaic.Lib.Claim

@[expose] public section

set_option maxRecDepth 16384

noncomputable section

namespace Cert.Kernel.Forget

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The kernel's frame: it ends without fault, its arguments unchanged and every counter at zero. -/

/-- Window 0's staging buffer at a point, and so on for each window. -/
abbrev ms0_0 (t : Fin cfg0.N) : Memref sig .tc .vmem S8192x128 .bf16 := win0_0.stage (cfg0.slots t 0)
abbrev ms0_1 (t : Fin cfg0.N) : Memref sig .tc .vmem S128x8192 .bf16 := win0_1.stage (cfg0.slots t 1)
abbrev ms0_2 (t : Fin cfg0.N) : Memref sig .tc .vmem S1024x128 .bf16 := win0_2.stage (cfg0.slots t 2)
abbrev ms0_3 (t : Fin cfg0.N) : Memref sig .tc .vmem S128x1024 .bf16 := win0_3.stage (cfg0.slots t 3)
abbrev ms0_4 (t : Fin cfg0.N) : Memref sig .tc .vmem S128x1024 .bf16 := win0_4.stage (cfg0.slots t 4)
abbrev ms0_5 (t : Fin cfg0.N) : Memref sig .tc .vmem S1x2x1024 .f32 := win0_5.stage (cfg0.slots t 5)
abbrev ms0_6 (t : Fin cfg0.N) : Memref sig .tc .vmem S8192x128 .bf16 := win0_6.stage (cfg0.slots t 6)
abbrev ms0_7 (t : Fin cfg0.N) : Memref sig .tc .vmem S128x8192 .bf16 := win0_7.stage (cfg0.slots t 7)
abbrev ms0_8 (t : Fin cfg0.N) : Memref sig .tc .vmem S1x8192x6 .f32 := win0_8.stage (cfg0.slots t 8)
abbrev ms0_9 (t : Fin cfg0.N) : Memref sig .tc .vmem S8192x128 .f32 := win0_9.stage (cfg0.slots t 9)
abbrev ms0_10 (t : Fin cfg0.N) : Memref sig .tc .vmem S128x1024 .f32 := win0_10.stage (cfg0.slots t 10)
abbrev ms0_11 (t : Fin cfg0.N) : Memref sig .tc .vmem S128x1024 .f32 := win0_11.stage (cfg0.slots t 11)
abbrev ms0_12 (t : Fin cfg0.N) : Memref sig .tc .vmem S1x8x1024 .f32 := win0_12.stage (cfg0.slots t 12)
abbrev ms0_13 (t : Fin cfg0.N) : Memref sig .tc .vmem S1x8192x2 .f32 := win0_13.stage (cfg0.slots t 13)

/-- The windows of the five results: nothing is said of what they hold. -/
def forgets0 : Fin 14 → Bool := fun w => w.val == 9 || w.val == 10 || w.val == 11 || w.val == 12 || w.val == 13

/-- What each window holds at each point: the inputs their blocks, the results something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- Window 0 holds its block after a point, and so on for each input. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Window 0 holds its block before a point, and so on for each input. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- What the body gives back at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 2400000 in
/-- The body at any point, from the windows as they stand there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The table of bodies holds this body. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: the inputs unchanged, nothing said of the results, every other buffer as the call found it, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Forget

end
-- ==== Proof.Flash.Real.lean ====
module

public import Idealize.ShloMosaic.PureOps.Ideal.Laws

@[expose] public section

set_option maxRecDepth 16384

noncomputable section

open Idealize.ShloMosaic

namespace Cert.Flash.Real

/-- The arguments as real numbers: queries, keys, values, the gradient that comes in, and the cumulative gates. -/
structure Args where
  q : Fin 8192 → Fin 1024 → ℝ
  k : Fin 8192 → Fin 1024 → ℝ
  v : Fin 8192 → Fin 1024 → ℝ
  g : Fin 8192 → Fin 1024 → ℝ
  c : Fin 8192 → Fin 16 → ℝ

/-- Lane `l` of head `h` among the 1024 columns. -/
def ln (h : Fin 16) (l : Fin 64) : Fin 1024 := ⟨64 * h.val + l.val, by omega⟩

/-- The head a column belongs to. -/
def hd (x : Fin 1024) : Fin 16 := ⟨x.val / 64, by omega⟩

variable (A : Args)

/-- The score of query row `r` against key `j` in head `h`. -/
def s (h : Fin 16) (r j : Fin 8192) : ℝ := (∑ l : Fin 64, A.q r (ln h l) * A.k j (ln h l)) + (A.c r h - A.c j h)

/-- The sum of the exponentials over the keys row `r` may look at. -/
def E (h : Fin 16) (r : Fin 8192) : ℝ := ∑ j : Fin 8192, if j ≤ r then Real.exp (s A h r j) else 0

/-- The attention probability. -/
def p (h : Fin 16) (r j : Fin 8192) : ℝ := if j ≤ r then Real.exp (s A h r j) / E A h r else 0

/-- The gradient of the probability. -/
def dp (h : Fin 16) (r j : Fin 8192) : ℝ := ∑ l : Fin 64, A.g r (ln h l) * A.v j (ln h l)

/-- The probabilities' gradients averaged over the row. -/
def del (h : Fin 16) (r : Fin 8192) : ℝ := ∑ j : Fin 8192, p A h r j * dp A h r j

/-- The gradient of the score. -/
def ds (h : Fin 16) (r j : Fin 8192) : ℝ := p A h r j * (dp A h r j - del A h r)

/-- The attention's output. -/
def o (r : Fin 8192) (x : Fin 1024) : ℝ := ∑ j : Fin 8192, A.v j x * p A (hd x) r j

/-- The gradient of the queries. -/
def dQ (r : Fin 8192) (x : Fin 1024) : ℝ := ∑ j : Fin 8192, ds A (hd x) r j * A.k j x

/-- The gradient of the keys. -/
def dK (j : Fin 8192) (x : Fin 1024) : ℝ := ∑ r : Fin 8192, ds A (hd x) r j * A.q r x

/-- The gradient of the values. -/
def dV (j : Fin 8192) (x : Fin 1024) : ℝ := ∑ r : Fin 8192, A.g r x * p A (hd x) r j

/-- The gradient of the gates through the keys. -/
def dCk (h : Fin 16) (j : Fin 8192) : ℝ := -∑ r : Fin 8192, ds A h r j

/-- The gradient of the gates through the queries. -/
def dCq (h : Fin 16) (r : Fin 8192) : ℝ := ∑ j : Fin 8192, ds A h r j

/-- A row has a key it may look at, so its sum is positive. -/
theorem E_pos (h : Fin 16) (r : Fin 8192) : 0 < E A h r := by
  refine Finset.sum_pos' (fun j _ => ?_) ⟨r, Finset.mem_univ _, ?_⟩
  · split_ifs
    · exact (Real.exp_pos _).le
    · exact le_rfl
  · rw [if_pos le_rfl]; exact Real.exp_pos _

/-- The sum of the exponentials shifted by `M`. -/
theorem E_shift (M : ℝ) (h : Fin 16) (r : Fin 8192) :
    (∑ j : Fin 8192, if j ≤ r then Real.exp (s A h r j - M) else 0) = E A h r * Real.exp (-M) := by
  rw [E, Finset.sum_mul]
  refine Finset.sum_congr rfl fun j _ => ?_
  split_ifs
  · rw [sub_eq_add_neg, Real.exp_add]
  · rw [zero_mul]

/-- A probability from shifted exponentials. -/
theorem p_shift (M : ℝ) (h : Fin 16) (r j : Fin 8192) :
    (if j ≤ r then Real.exp (s A h r j - M) else 0) * (1 / (E A h r * Real.exp (-M))) = p A h r j := by
  have h1 := (E_pos A h r).ne'
  have h2 := (Real.exp_pos (-M)).ne'
  rw [p]
  split_ifs
  · rw [sub_eq_add_neg, Real.exp_add]; field_simp
  · rw [zero_mul]

/-- The logarithm of a row's sum, taken at a shift. -/
theorem log_shift (M : ℝ) (h : Fin 16) (r : Fin 8192) : M + Real.log (E A h r * Real.exp (-M)) = Real.log (E A h r) := by
  rw [Real.log_mul (E_pos A h r).ne' (Real.exp_pos _).ne', Real.log_exp]; ring

/-- The probability from the logarithm of the row's sum. -/
theorem p_of_log (h : Fin 16) (r j : Fin 8192) :
    (if j ≤ r then Real.exp (s A h r j - Real.log (E A h r)) else 0) = p A h r j := by
  rw [p]
  split_ifs
  · rw [Real.exp_sub, Real.exp_log (E_pos A h r)]
  · rfl

/-- The head of a lane. -/
theorem hd_ln (h : Fin 16) (l : Fin 64) : hd (ln h l) = h := by
  apply Fin.ext; simp only [hd, ln]; omega

/-- The row average is the incoming gradient against the output, over the head's lanes. -/
theorem del_eq (h : Fin 16) (r : Fin 8192) : (∑ l : Fin 64, A.g r (ln h l) * o A r (ln h l)) = del A h r := by
  simp only [o, hd_ln, del, dp, Finset.mul_sum]
  rw [Finset.sum_comm]
  refine Finset.sum_congr rfl fun j _ => Finset.sum_congr rfl fun l _ => ?_
  ring

/-- The gradient of the score through the quotient of shifted exponentials. -/
theorem ds_shift (M : ℝ) (h : Fin 16) (r j : Fin 8192) (D : ℝ) :
    (dp A h r j * (1 / (E A h r * Real.exp (-M))) + -D) * (if j ≤ r then Real.exp (s A h r j - M) else 0)
      = p A h r j * (dp A h r j - D * (E A h r * Real.exp (-M))) := by
  have h1 := (E_pos A h r).ne'
  have h2 := (Real.exp_pos (-M)).ne'
  rw [← p_shift A M]
  split_ifs
  · field_simp; ring
  · ring

/-- The quotient's second part, summed over the row. -/
theorem del_shift (M : ℝ) (h : Fin 16) (r : Fin 8192) :
    (∑ j : Fin 8192, dp A h r j * (1 / ((E A h r * Real.exp (-M)) * (E A h r * Real.exp (-M))))
        * (if j ≤ r then Real.exp (s A h r j - M) else 0)) * (E A h r * Real.exp (-M)) = del A h r := by
  have h1 := (E_pos A h r).ne'
  have h2 := (Real.exp_pos (-M)).ne'
  rw [del, Finset.sum_mul]
  refine Finset.sum_congr rfl fun j _ => ?_
  rw [← p_shift A M]
  split_ifs
  · field_simp
  · ring

/-- A sum of real numbers, each read among the extended ones. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A sum of extended numbers that are real, term by term. -/
theorem sum_of_coe {ι : Type} [Fintype ι] (f : ι → EReal) (g : ι → ℝ) (h : ∀ i, f i = (g i : EReal)) :
    ∑ i, f i = ((∑ i, g i : ℝ) : EReal) := by
  rw [coe_sum]; exact Finset.sum_congr rfl fun i _ => h i

/-- A maximum over a set, from minus infinity: real when its terms are real or minus infinity and one of them is real. -/
theorem fold_max_real {ι : Type} (S : Finset ι) (f : ι → EReal) (hf : ∀ i ∈ S, f i = ⊥ ∨ ∃ x : ℝ, f i = x)
    (h : ∃ i ∈ S, ∃ x : ℝ, f i = x) : ∃ M : ℝ, S.fold max ⊥ f = M := by
  have ht : S.fold max ⊥ f ≠ ⊤ := by
    have : S.fold max ⊥ f < ⊤ := by
      rw [Finset.fold_max_lt]
      refine ⟨bot_lt_top, fun i hi => ?_⟩
      rcases hf i hi with e | ⟨x, e⟩ <;> rw [e]
      · exact bot_lt_top
      · exact EReal.coe_lt_top x
    exact this.ne
  have hb : S.fold max ⊥ f ≠ ⊥ := by
    obtain ⟨i, hi, x, e⟩ := h
    have : (x : EReal) ≤ S.fold max ⊥ f := by
      rw [Finset.le_fold_max]; exact Or.inr ⟨i, hi, e.ge⟩
    intro hc; rw [hc] at this; exact absurd (this.trans_lt (EReal.bot_lt_coe x)) (lt_irrefl _)
  exact ⟨(S.fold max ⊥ f).toReal, (EReal.coe_toReal ht hb).symm⟩

end Cert.Flash.Real
-- ==== Proof.Flash.Step.lean ====
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace Cert.KernelIdeal.Flash

open Idealize.ShloMosaic Idealize.ShloMosaic.TcCoe

/-! ## Stores as overlays -/

/-- What a memref reads after one more store is the earlier reading with the stored rectangle replaced. -/
theorem read_writes_overlay {sig : RefSig} {κ : Kind} {sp : Space} {s : Shape} {e : EltTy} {Val : EltTy → Type}
    (v : View sig κ sp s e) (f : v.ty.Contents Val) (p : View.Piece Val s e) (L : List (View.Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [View.read_writes_cons_emb, Rect.overlay_emb]
  · rw [View.writes_cons, View.read_slice_write_of_not_mem p.1 _ _ _ (by rw [Rect.map_emb_univ]; exact hy),
      Rect.overlay_of_not_mem _ _ _ hy]

/-- A rectangle of a matrix replaced, read at an entry. -/
theorem overlay2 {α : Type} {n0 n1 o0 o1 m0 m1 : ℕ} (inb : ∀ a, ![o0, o1] a + ![m0, m1] a ≤ (⟨2, ![n0, n1]⟩ : Shape).size a)
    (X : (⟨2, ![n0, n1]⟩ : Shape).Idx → α) (w : (⟨2, ![m0, m1]⟩ : Shape).Idx → α) (a : Fin n0) (b : Fin n1) :
    (Rect.unit (s := ⟨2, ![n0, n1]⟩) ![o0, o1] ![m0, m1] inb).overlay X w (ix2 a b)
      = if h : (o0 ≤ a.val ∧ a.val - o0 < m0) ∧ (o1 ≤ b.val ∧ b.val - o1 < m1) then w (ix2 ⟨a.val - o0, h.1.2⟩ ⟨b.val - o1, h.2.2⟩) else X (ix2 a b) := by
  split
  · rename_i h
    have e : ix2 a b = (Rect.unit (s := ⟨2, ![n0, n1]⟩) ![o0, o1] ![m0, m1] inb).emb (ix2 ⟨a.val - o0, h.1.2⟩ ⟨b.val - o1, h.2.2⟩) := by
      funext c; apply Fin.ext
      fin_cases c
      · show a.val = o0 + 1 * (a.val - o0); omega
      · show b.val = o1 + 1 * (b.val - o1); omega
    rw [e]; exact Rect.overlay_emb _ _ _ _
  · rename_i h
    refine Rect.overlay_of_not_mem _ _ _ fun hm => h ?_
    have h0 := Rect.mem_set_unit.mp hm 0
    have h1 := Rect.mem_set_unit.mp hm 1
    change o0 ≤ a.val ∧ a.val < o0 + m0 at h0
    change o1 ≤ b.val ∧ b.val < o1 + m1 at h1
    omega

/-- A rectangle of a rank-three block replaced, read at an entry. -/
theorem overlay3 {α : Type} {n0 n1 n2 o0 o1 o2 m0 m1 m2 : ℕ} (inb : ∀ a, ![o0, o1, o2] a + ![m0, m1, m2] a ≤ (⟨3, ![n0, n1, n2]⟩ : Shape).size a)
    (X : (⟨3, ![n0, n1, n2]⟩ : Shape).Idx → α) (w : (⟨3, ![m0, m1, m2]⟩ : Shape).Idx → α) (a : Fin n0) (b : Fin n1) (d : Fin n2) :
    (Rect.unit (s := ⟨3, ![n0, n1, n2]⟩) ![o0, o1, o2] ![m0, m1, m2] inb).overlay X w (ix3 a b d)
      = if h : (o0 ≤ a.val ∧ a.val - o0 < m0) ∧ (o1 ≤ b.val ∧ b.val - o1 < m1) ∧ (o2 ≤ d.val ∧ d.val - o2 < m2)
          then w (ix3 ⟨a.val - o0, h.1.2⟩ ⟨b.val - o1, h.2.1.2⟩ ⟨d.val - o2, h.2.2.2⟩) else X (ix3 a b d) := by
  split
  · rename_i h
    have e : ix3 a b d = (Rect.unit (s := ⟨3, ![n0, n1, n2]⟩) ![o0, o1, o2] ![m0, m1, m2] inb).emb
        (ix3 ⟨a.val - o0, h.1.2⟩ ⟨b.val - o1, h.2.1.2⟩ ⟨d.val - o2, h.2.2.2⟩) := by
      funext c; apply Fin.ext
      fin_cases c
      · show a.val = o0 + 1 * (a.val - o0); omega
      · show b.val = o1 + 1 * (b.val - o1); omega
      · show d.val = o2 + 1 * (d.val - o2); omega
    rw [e]; exact Rect.overlay_emb _ _ _ _
  · rename_i h
    refine Rect.overlay_of_not_mem _ _ _ fun hm => h ?_
    have h0 := Rect.mem_set_unit.mp hm 0
    have h1 := Rect.mem_set_unit.mp hm 1
    have h2 := Rect.mem_set_unit.mp hm 2
    change o0 ≤ a.val ∧ a.val < o0 + m0 at h0
    change o1 ≤ b.val ∧ b.val < o1 + m1 at h1
    change o2 ≤ d.val ∧ d.val < o2 + m2 at h2
    omega

/-! ## What one chunk of 512 query rows adds

The nine input blocks of a grid point: the queries (both ways round), the keys (both ways round), the values, the row of
gates at the keys, the output gradients (both ways round), and per row the two gates, the two log-sums and the two deltas. -/

/-- The nine input blocks of a grid point. -/
structure Blocks where
  q : Vec Ideal S8192x128 .bf16
  qT : Vec Ideal S128x8192 .bf16
  k : Vec Ideal S1024x128 .bf16
  kT : Vec Ideal S128x1024 .bf16
  vT : Vec Ideal S128x1024 .bf16
  cr : Vec Ideal S1x2x1024 .f32
  dO : Vec Ideal S8192x128 .bf16
  dOT : Vec Ideal S128x8192 .bf16
  st : Vec Ideal S1x8192x6 .f32

/-- Lane `l` of head `h` of the two heads of a group. -/
abbrev lane (h : Fin 2) (l : Fin 64) : Fin 128 := ⟨64 * h.val + l.val, by omega⟩

/-- The head of a lane. -/
abbrev hd (d : Fin 128) : Fin 2 := ⟨d.val / 64, by omega⟩

/-- Row `r` of the chunk that begins at row `R`. -/
abbrev rowAt (R : ℕ) (hR : R + 512 ≤ 8192) (r : Fin 512) : Fin 8192 := ⟨R + r.val, by omega⟩

variable (B : Blocks) (κ₀ : ℕ)

/-- The exponent at row `r` and key `j` of head `h`: score, plus gate of the row, less gate of the key, less the row's log-sum,
    in the order the kernel takes them. -/
def sc (r : Fin 8192) (j : Fin 1024) (h : Fin 2) : EReal :=
  ((∑ l : Fin 64, B.q (ix2 r (lane h l)) * B.kT (ix2 (lane h l) j)) - (B.cr (ix3 0 h j) - B.cr (ix3 0 h 0)))
    + ((B.st (ix3 0 r ⟨h.val, by omega⟩) - B.cr (ix3 0 h 0)) - B.st (ix3 0 r ⟨h.val + 2, by omega⟩))

/-- The attention weight at row `r` and key `j` of the block whose first key is `κ₀`: zero where the key comes after the row. -/
def pr (r : Fin 8192) (j : Fin 1024) (h : Fin 2) : EReal :=
  if κ₀ + j.val ≤ r.val then Ideal.exp (sc B r j h) else 0

/-- The gradient of the score at row `r` and key `j`. -/
def ds (r : Fin 8192) (j : Fin 1024) (h : Fin 2) : EReal :=
  pr B κ₀ r j h * ((∑ l : Fin 64, B.dO (ix2 r (lane h l)) * B.vT (ix2 (lane h l) j)) - B.st (ix3 0 r ⟨h.val + 4, by omega⟩))

variable (R : ℕ) (hR : R + 512 ≤ 8192)

/-- The gradient of the values (transposed) after the chunk of rows from `R`. -/
def stepV (y : Vec Ideal S128x1024 .f32) : Vec Ideal S128x1024 .f32 := fun i =>
  y (ix2 (i 0) (i 1)) + ∑ r : Fin 512, B.dOT (ix2 (i 0) (rowAt R hR r)) * pr B κ₀ (rowAt R hR r) (i 1) (hd (i 0))

/-- The gradient of the keys (transposed) after the chunk. -/
def stepK (y : Vec Ideal S128x1024 .f32) : Vec Ideal S128x1024 .f32 := fun i =>
  y (ix2 (i 0) (i 1)) + ∑ r : Fin 512, B.qT (ix2 (i 0) (rowAt R hR r)) * ds B κ₀ (rowAt R hR r) (i 1) (hd (i 0))

/-- The gradient of the keys' gates after the chunk: the first two of its eight rows change. -/
def stepCk (y : Vec Ideal S1x8x1024 .f32) : Vec Ideal S1x8x1024 .f32 := fun i =>
  if h : (i 1).val < 2 then y (ix3 (i 0) (i 1) (i 2)) - ∑ r : Fin 512, ds B κ₀ (rowAt R hR r) (i 2) ⟨(i 1).val, h⟩ else y (ix3 (i 0) (i 1) (i 2))

/-- The gradient of the rows' gates after the chunk: the chunk's rows change. -/
def stepCq (y : Vec Ideal S1x8192x2 .f32) : Vec Ideal S1x8192x2 .f32 := fun i =>
  if R ≤ (i 1).val ∧ (i 1).val < R + 512 then y (ix3 (i 0) (i 1) (i 2)) + ∑ j : Fin 1024, ds B κ₀ (i 1) j (i 2) else y (ix3 (i 0) (i 1) (i 2))

/-- The gradient of the queries after the chunk: the chunk's rows change. -/
def stepQ (y : Vec Ideal S8192x128 .f32) : Vec Ideal S8192x128 .f32 := fun i =>
  if R ≤ (i 0).val ∧ (i 0).val < R + 512 then y (ix2 (i 0) (i 1)) + ∑ j : Fin 1024, ds B κ₀ (i 0) j (hd (i 1)) * B.k (ix2 j (i 1)) else y (ix2 (i 0) (i 1))

end Cert.KernelIdeal.Flash
-- ==== Proof.Flash.Pure.lean ====
module

public import proofs.«01_k».proof.Proof.Flash.Step

@[expose] public section

set_option maxRecDepth 16384

noncomputable section

namespace Cert.KernelIdeal.Flash

open Idealize.ShloMosaic Idealize.ShloMosaic.TcCoe Cert.KernelIdeal.Gen

@[simp] theorem hd_lane (h : Fin 2) (l : Fin 64) : hd (lane h l) = h := Fin.ext (by show (64 * h.val + l.val) / 64 = h.val; omega)

theorem lane0 (l : Fin 64) : lane 0 l = ⟨l.val, by omega⟩ := Fin.ext (by show 64 * 0 + l.val = l.val; omega)
theorem lane1 (l : Fin 64) : lane 1 l = ⟨64 + l.val, by omega⟩ := rfl

/-- Every lane is a lane of one of the two heads. -/
theorem lane_cases (d : Fin 128) : (∃ l, d = lane 0 l) ∨ ∃ l, d = lane 1 l := by
  by_cases h : d.val < 64
  · exact .inl ⟨⟨d.val, h⟩, Fin.ext (by show d.val = 64 * 0 + d.val; omega)⟩
  · exact .inr ⟨⟨d.val - 64, by omega⟩, Fin.ext (by show d.val = 64 * 1 + (d.val - 64); omega)⟩

/-- The lanes of both heads stored one after the other, over the first `m` keys: the block is `t` if each half stores `t` and
    `t` changes nothing at the other keys. -/
theorem twoHeads {m : ℕ} (i0 i1) (w0 w1 : (⟨2, ![64, m]⟩ : Shape).Idx → EReal) (y t : S128x1024.Idx → EReal) (hm : m ≤ 1024)
    (h0 : ∀ (l : Fin 64) (j : Fin m), w0 (ix2 l j) = t (ix2 (lane 0 l) ⟨j.val, by omega⟩))
    (h1 : ∀ (l : Fin 64) (j : Fin m), w1 (ix2 l j) = t (ix2 (lane 1 l) ⟨j.val, by omega⟩))
    (h2 : ∀ (d : Fin 128) (j : Fin 1024), m ≤ j.val → t (ix2 d j) = y (ix2 d j)) :
    (Rect.unit (s := S128x1024) ![64, 0] ![64, m] i1).overlay ((Rect.unit (s := S128x1024) ![0, 0] ![64, m] i0).overlay y w0) w1 = t := by
  funext i
  obtain ⟨a, b, rfl⟩ : ∃ (a : Fin 128) (b : Fin 1024), i = ix2 a b := ⟨i 0, i 1, eq_ix2 i⟩
  rw [overlay2, overlay2]
  by_cases hb : b.val < m
  · rcases lane_cases a with ⟨l, rfl⟩ | ⟨l, rfl⟩
    · rw [dif_neg (by show ¬((64 ≤ 64 * 0 + l.val ∧ _) ∧ _); omega), dif_pos (by show (0 ≤ 64 * 0 + l.val ∧ 64 * 0 + l.val - 0 < 64) ∧ _; omega)]
      rw [show (⟨(lane 0 l).val - 0, _⟩ : Fin 64) = l from Fin.ext (by show 64 * 0 + l.val - 0 = l.val; omega)]
      exact h0 l ⟨b.val, hb⟩
    · rw [dif_pos (by show (64 ≤ 64 * 1 + l.val ∧ 64 * 1 + l.val - 64 < 64) ∧ _; omega)]
      rw [show (⟨(lane 1 l).val - 64, _⟩ : Fin 64) = l from Fin.ext (by show 64 * 1 + l.val - 64 = l.val; omega)]
      exact h1 l ⟨b.val, hb⟩
  · rw [dif_neg (by omega), dif_neg (by omega)]
    exact (h2 a b (by omega)).symm

/-- The two heads' lanes of 512 rows stored one after the other. -/
theorem twoRows (R : ℕ) (hR : R + 512 ≤ 8192) (i0 i1) (w0 w1 : S512x64.Idx → EReal) (y t : S8192x128.Idx → EReal)
    (h0 : ∀ (r : Fin 512) (l : Fin 64), w0 (ix2 r l) = t (ix2 (rowAt R hR r) (lane 0 l)))
    (h1 : ∀ (r : Fin 512) (l : Fin 64), w1 (ix2 r l) = t (ix2 (rowAt R hR r) (lane 1 l)))
    (h2 : ∀ (r : Fin 8192) (d : Fin 128), ¬(R ≤ r.val ∧ r.val < R + 512) → t (ix2 r d) = y (ix2 r d)) :
    (Rect.unit (s := S8192x128) ![R, 64] ![512, 64] i1).overlay ((Rect.unit (s := S8192x128) ![R, 0] ![512, 64] i0).overlay y w0) w1 = t := by
  funext i
  obtain ⟨a, b, rfl⟩ : ∃ (a : Fin 8192) (b : Fin 128), i = ix2 a b := ⟨i 0, i 1, eq_ix2 i⟩
  rw [overlay2, overlay2]
  by_cases hb : R ≤ a.val ∧ a.val < R + 512
  · obtain ⟨r, rfl⟩ : ∃ r, a = rowAt R hR r := ⟨⟨a.val - R, by omega⟩, Fin.ext (by show a.val = R + (a.val - R); omega)⟩
    rcases lane_cases b with ⟨l, rfl⟩ | ⟨l, rfl⟩
    · rw [dif_neg (by show ¬(_ ∧ (64 ≤ 64 * 0 + l.val ∧ _)); omega), dif_pos (by show (R ≤ R + r.val ∧ R + r.val - R < 512) ∧ (0 ≤ 64 * 0 + l.val ∧ 64 * 0 + l.val - 0 < 64); omega)]
      rw [show (⟨(lane 0 l).val - 0, _⟩ : Fin 64) = l from Fin.ext (by show 64 * 0 + l.val - 0 = l.val; omega),
        show (⟨(rowAt R hR r).val - R, _⟩ : Fin 512) = r from Fin.ext (by show R + r.val - R = r.val; omega)]
      exact h0 r l
    · rw [dif_pos (by show (R ≤ R + r.val ∧ R + r.val - R < 512) ∧ (64 ≤ 64 * 1 + l.val ∧ 64 * 1 + l.val - 64 < 64); omega)]
      rw [show (⟨(lane 1 l).val - 64, _⟩ : Fin 64) = l from Fin.ext (by show 64 * 1 + l.val - 64 = l.val; omega),
        show (⟨(rowAt R hR r).val - R, _⟩ : Fin 512) = r from Fin.ext (by show R + r.val - R = r.val; omega)]
      exact h1 r l
  · rw [dif_neg (by omega), dif_neg (by omega)]
    exact (h2 a b hb).symm

/-- The same with the offset known only to equal the chunk's first row. -/
theorem twoRows_of (R R' : ℕ) (e : R' = R) (hR : R + 512 ≤ 8192) (i0 i1) (w0 w1 : S512x64.Idx → EReal) (y t : S8192x128.Idx → EReal)
    (h0 : ∀ (r : Fin 512) (l : Fin 64), w0 (ix2 r l) = t (ix2 (rowAt R hR r) (lane 0 l)))
    (h1 : ∀ (r : Fin 512) (l : Fin 64), w1 (ix2 r l) = t (ix2 (rowAt R hR r) (lane 1 l)))
    (h2 : ∀ (r : Fin 8192) (d : Fin 128), ¬(R ≤ r.val ∧ r.val < R + 512) → t (ix2 r d) = y (ix2 r d)) :
    (Rect.unit (s := S8192x128) ![R', 64] ![512, 64] i1).overlay ((Rect.unit (s := S8192x128) ![R', 0] ![512, 64] i0).overlay y w0) w1 = t := by
  subst e
  exact twoRows R' hR i0 i1 w0 w1 y t h0 h1 h2

/-- The two heads' columns of 512 rows stored one after the other. -/
theorem twoCols (R : ℕ) (hR : R + 512 ≤ 8192) (i0 i1) (w0 w1 : S1x512x1.Idx → EReal) (y t : S1x8192x2.Idx → EReal)
    (h0 : ∀ (r : Fin 512), w0 (ix3 0 r 0) = t (ix3 0 (rowAt R hR r) 0))
    (h1 : ∀ (r : Fin 512), w1 (ix3 0 r 0) = t (ix3 0 (rowAt R hR r) 1))
    (h2 : ∀ (r : Fin 8192) (h : Fin 2), ¬(R ≤ r.val ∧ r.val < R + 512) → t (ix3 0 r h) = y (ix3 0 r h)) :
    (Rect.unit (s := S1x8192x2) ![0, R, 1] ![1, 512, 1] i1).overlay ((Rect.unit (s := S1x8192x2) ![0, R, 0] ![1, 512, 1] i0).overlay y w0) w1 = t := by
  funext i
  obtain ⟨z, a, b, rfl⟩ : ∃ (z : Fin 1) (a : Fin 8192) (b : Fin 2), i = ix3 z a b := ⟨i 0, i 1, i 2, eq_ix3 i⟩
  obtain rfl : z = 0 := Subsingleton.elim _ _
  rw [overlay3, overlay3]
  by_cases hb : R ≤ a.val ∧ a.val < R + 512
  · obtain ⟨r, rfl⟩ : ∃ r, a = rowAt R hR r := ⟨⟨a.val - R, by omega⟩, Fin.ext (by show a.val = R + (a.val - R); omega)⟩
    rcases (show b = 0 ∨ b = 1 by omega) with rfl | rfl
    · rw [dif_neg (by show ¬(_ ∧ _ ∧ (1 ≤ 0 ∧ _)); omega), dif_pos (by show (0 ≤ 0 ∧ 0 - 0 < 1) ∧ (R ≤ R + r.val ∧ R + r.val - R < 512) ∧ (0 ≤ 0 ∧ 0 - 0 < 1); omega)]
      rw [show (⟨(rowAt R hR r).val - R, _⟩ : Fin 512) = r from Fin.ext (by show R + r.val - R = r.val; omega)]
      exact h0 r
    · rw [dif_pos (by show (0 ≤ 0 ∧ 0 - 0 < 1) ∧ (R ≤ R + r.val ∧ R + r.val - R < 512) ∧ (1 ≤ 1 ∧ 1 - 1 < 1); omega)]
      rw [show (⟨(rowAt R hR r).val - R, _⟩ : Fin 512) = r from Fin.ext (by show R + r.val - R = r.val; omega)]
      exact h1 r
  · rw [dif_neg (by omega), dif_neg (by omega)]
    exact (h2 a b hb).symm

/-- The same with the offset known only to equal the chunk's first row. -/
theorem twoCols_of (R R' : ℕ) (e : R' = R) (hR : R + 512 ≤ 8192) (i0 i1) (w0 w1 : S1x512x1.Idx → EReal) (y t : S1x8192x2.Idx → EReal)
    (h0 : ∀ (r : Fin 512), w0 (ix3 0 r 0) = t (ix3 0 (rowAt R hR r) 0))
    (h1 : ∀ (r : Fin 512), w1 (ix3 0 r 0) = t (ix3 0 (rowAt R hR r) 1))
    (h2 : ∀ (r : Fin 8192) (h : Fin 2), ¬(R ≤ r.val ∧ r.val < R + 512) → t (ix3 0 r h) = y (ix3 0 r h)) :
    (Rect.unit (s := S1x8192x2) ![0, R', 1] ![1, 512, 1] i1).overlay ((Rect.unit (s := S1x8192x2) ![0, R', 0] ![1, 512, 1] i0).overlay y w0) w1 = t := by
  subst e
  exact twoCols R' hR i0 i1 w0 w1 y t h0 h1 h2

/-- The two heads' rows of key gates stored one after the other, over the first `m` keys. -/
theorem twoGates {m : ℕ} (i0 i1) (w0 w1 : (⟨3, ![1, 1, m]⟩ : Shape).Idx → EReal) (y t : S1x8x1024.Idx → EReal) (hm : m ≤ 1024)
    (h0 : ∀ (j : Fin m), w0 (ix3 0 0 j) = t (ix3 0 0 ⟨j.val, by omega⟩))
    (h1 : ∀ (j : Fin m), w1 (ix3 0 0 j) = t (ix3 0 1 ⟨j.val, by omega⟩))
    (h2 : ∀ (e : Fin 8) (j : Fin 1024), 2 ≤ e.val ∨ m ≤ j.val → t (ix3 0 e j) = y (ix3 0 e j)) :
    (Rect.unit (s := S1x8x1024) ![0, 1, 0] ![1, 1, m] i1).overlay ((Rect.unit (s := S1x8x1024) ![0, 0, 0] ![1, 1, m] i0).overlay y w0) w1 = t := by
  funext i
  obtain ⟨z, a, b, rfl⟩ : ∃ (z : Fin 1) (a : Fin 8) (b : Fin 1024), i = ix3 z a b := ⟨i 0, i 1, i 2, eq_ix3 i⟩
  obtain rfl : z = 0 := Subsingleton.elim _ _
  rw [overlay3, overlay3]
  by_cases hb : a.val < 2 ∧ b.val < m
  · rcases (show a = 0 ∨ a = 1 by omega) with rfl | rfl
    · rw [dif_neg (by show ¬(_ ∧ (1 ≤ 0 ∧ _) ∧ _); omega), dif_pos (by show (0 ≤ 0 ∧ 0 - 0 < 1) ∧ (0 ≤ 0 ∧ 0 - 0 < 1) ∧ _; omega)]
      exact h0 ⟨b.val, hb.2⟩
    · rw [dif_pos (by show (0 ≤ 0 ∧ 0 - 0 < 1) ∧ (1 ≤ 1 ∧ 1 - 1 < 1) ∧ _; omega)]
      exact h1 ⟨b.val, hb.2⟩
  · rw [dif_neg (by omega), dif_neg (by omega)]
    exact (h2 a b (by omega)).symm

/-! ## The chunk's results at an index -/

variable (B : Blocks) (κ₀ R : ℕ) (hR : R + 512 ≤ 8192)

theorem stepV_at (y : Vec Ideal S128x1024 .f32) (h : Fin 2) (l : Fin 64) (j : Fin 1024) :
    stepV B κ₀ R hR y (ix2 (lane h l) j) = y (ix2 (lane h l) j) + ∑ r : Fin 512, B.dOT (ix2 (lane h l) (rowAt R hR r)) * pr B κ₀ (rowAt R hR r) j h := by
  show _ + ∑ r : Fin 512, _ * pr B κ₀ _ _ (hd (lane h l)) = _
  rw [hd_lane]; rfl

theorem stepK_at (y : Vec Ideal S128x1024 .f32) (h : Fin 2) (l : Fin 64) (j : Fin 1024) :
    stepK B κ₀ R hR y (ix2 (lane h l) j) = y (ix2 (lane h l) j) + ∑ r : Fin 512, B.qT (ix2 (lane h l) (rowAt R hR r)) * ds B κ₀ (rowAt R hR r) j h := by
  show _ + ∑ r : Fin 512, _ * ds B κ₀ _ _ (hd (lane h l)) = _
  rw [hd_lane]; rfl

theorem stepCk_at (y : Vec Ideal S1x8x1024 .f32) (h : Fin 2) (j : Fin 1024) :
    stepCk B κ₀ R hR y (ix3 0 ⟨h.val, by omega⟩ j) = y (ix3 0 ⟨h.val, by omega⟩ j) - ∑ r : Fin 512, ds B κ₀ (rowAt R hR r) j h :=
  dif_pos h.isLt

theorem stepCq_at (y : Vec Ideal S1x8192x2 .f32) (h : Fin 2) (r : Fin 512) :
    stepCq B κ₀ R y (ix3 0 (rowAt R hR r) h) = y (ix3 0 (rowAt R hR r) h) + ∑ j : Fin 1024, ds B κ₀ (rowAt R hR r) j h :=
  if_pos (by show R ≤ R + r.val ∧ R + r.val < R + 512; omega)

theorem stepQ_at (y : Vec Ideal S8192x128 .f32) (h : Fin 2) (r : Fin 512) (l : Fin 64) :
    stepQ B κ₀ R y (ix2 (rowAt R hR r) (lane h l)) = y (ix2 (rowAt R hR r) (lane h l)) + ∑ j : Fin 1024, ds B κ₀ (rowAt R hR r) j h * B.k (ix2 j (lane h l)) := by
  refine (if_pos (by show R ≤ R + r.val ∧ R + r.val < R + 512; omega)).trans ?_
  show _ + ∑ j : Fin 1024, ds B κ₀ _ _ (hd (lane h l)) * _ = _
  rw [hd_lane]
  rfl

/-- In a chunk that begins after the block's last key nothing is masked. -/
theorem pr_full (hκ : κ₀ + 1024 ≤ R) (r : Fin 512) (j : Fin 1024) (h : Fin 2) : pr B κ₀ (rowAt R hR r) j h = Ideal.exp (sc B (rowAt R hR r) j h) :=
  if_pos (by show κ₀ + j.val ≤ R + r.val; omega)

end Cert.KernelIdeal.Flash
-- ==== Proof.Flash.Mask.lean ====
module

public import proofs.«01_k».proof.Proof.Flash.Pure
public import Idealize.ShloMosaic.Lib.WordCmp

@[expose] public section

set_option maxRecDepth 16384

noncomputable section

namespace Cert.KernelIdeal.Flash

open Idealize.ShloMosaic Idealize.ShloMosaic.TcCoe Cert.KernelIdeal.Gen

/-- A sum over the keys that is zero from key 512 on is the sum over the first 512. -/
theorem sum_half (f : Fin 1024 → EReal) (h : ∀ j : Fin 1024, 512 ≤ j.val → f j = 0) : ∑ j, f j = ∑ j : Fin 512, f ⟨j.val, by omega⟩ := by
  refine (Fin.sum_univ_add (a := 512) (b := 512) f).trans ?_
  rw [Finset.sum_eq_zero (s := Finset.univ) (f := fun i : Fin 512 => f (Fin.natAdd 512 i)) (fun i _ => h _ (by show 512 ≤ 512 + i.val; omega)), add_zero]
  rfl

variable (B : Blocks) (κ₀ R : ℕ) (hR : R + 512 ≤ 8192)

/-- The weight at a row of the chunk, with its condition spelled at the row. -/
theorem pr_at (r : Fin 512) (j : Fin 1024) (h : Fin 2) :
    pr B κ₀ (rowAt R hR r) j h = if κ₀ + j.val ≤ R + r.val then Ideal.exp (sc B (rowAt R hR r) j h) else 0 := rfl

/-- The exponential of a masked score is the masked exponential: the mask is minus infinity. -/
theorem mask_exp {κ₀ R : ℕ} {a b : BitVec 32} (ha : a = BitVec.ofNat 32 κ₀) (hb : b = BitVec.ofNat 32 R) (h1 : κ₀ ≤ 7168) (h2 : R ≤ 7680)
    (j : ℕ) (hj : j < 1024) (r : ℕ) (hr : r < 512) (x : EReal) :
    Ideal.exp (Scalar.select (IntOp.cmpi CmpIPredicate.sle (IntOp.addi a (BitVec.ofNat 32 j)) (IntOp.addi b (BitVec.ofNat 32 r))) x
      (Named.named (F := Ideal) (φ := .f32) κ "mask" 4048155338#32)) = if κ₀ + j ≤ R + r then Ideal.exp x else 0 := by
  have e : Named.named (F := Ideal) (φ := .f32) κ "mask" 4048155338#32 = (⊥ : EReal) := IdealRules.named_const.ideal_named_scalar κ "mask" _ ⊥ rfl
  have c : IntOp.cmpi CmpIPredicate.sle (IntOp.addi a (BitVec.ofNat 32 j)) (IntOp.addi b (BitVec.ofNat 32 r)) = BitVec.ofBool (decide (κ₀ + j ≤ R + r)) := by
    subst ha hb
    rw [WordCmp.cmpi_sle_eq]
    have e1 : IntOp.addi (BitVec.ofNat 32 κ₀) (BitVec.ofNat 32 j) = BitVec.ofNat 32 (κ₀ + j) := (BitVec.ofNat_add _ _).symm
    have e2 : IntOp.addi (BitVec.ofNat 32 R) (BitVec.ofNat 32 r) = BitVec.ofNat 32 (R + r) := (BitVec.ofNat_add _ _).symm
    rw [e1, e2, WordCmp.toInt_ofNat_of_lt (by omega), WordCmp.toInt_ofNat_of_lt (by omega)]
    simp only [Int.ofNat_le]
  rw [c, e]
  by_cases h : κ₀ + j ≤ R + r
  · simp [h, Scalar.select]
  · simp [h, Scalar.select]

/-- Past the chunk's rows everything is masked: a key after every row has weight zero. -/
theorem pr_after (r : Fin 512) (j : Fin 1024) (h : Fin 2) (hj : R + 512 ≤ κ₀ + j.val) : pr B κ₀ (rowAt R hR r) j h = 0 :=
  if_neg (by show ¬(κ₀ + j.val ≤ R + r.val); omega)

theorem ds_after (r : Fin 512) (j : Fin 1024) (h : Fin 2) (hj : R + 512 ≤ κ₀ + j.val) : ds B κ₀ (rowAt R hR r) j h = 0 := by
  unfold ds; rw [pr_after B κ₀ R hR r j h hj, zero_mul]

/-! ## The chunk on the diagonal's first half: only the block's first 512 keys count -/

theorem stepCq_half (y : Vec Ideal S1x8192x2 .f32) (h : Fin 2) (r : Fin 512) :
    stepCq B R R y (ix3 0 (rowAt R hR r) h) = y (ix3 0 (rowAt R hR r) h) + ∑ j : Fin 512, ds B R (rowAt R hR r) ⟨j.val, by omega⟩ h :=
  (stepCq_at B R R hR y h r).trans (congrArg (_ + ·) (sum_half (fun j => ds B R (rowAt R hR r) j h) fun j hj => ds_after B R R hR r j h (by omega)))

theorem stepQ_half (y : Vec Ideal S8192x128 .f32) (h : Fin 2) (r : Fin 512) (l : Fin 64) :
    stepQ B R R y (ix2 (rowAt R hR r) (lane h l)) = y (ix2 (rowAt R hR r) (lane h l))
      + ∑ j : Fin 512, ds B R (rowAt R hR r) ⟨j.val, by omega⟩ h * B.k (ix2 ⟨j.val, by omega⟩ (lane h l)) :=
  (stepQ_at B R R hR y h r l).trans (congrArg (_ + ·) (sum_half (fun j => ds B R (rowAt R hR r) j h * B.k (ix2 j (lane h l))) fun j hj => by rw [ds_after B R R hR r j h (by omega), zero_mul]))

theorem stepV_after (y : Vec Ideal S128x1024 .f32) (d : Fin 128) (j : Fin 1024) (hj : 512 ≤ j.val) : stepV B R R hR y (ix2 d j) = y (ix2 d j) := by
  show _ + ∑ r : Fin 512, _ * pr B R _ _ (hd d) = _
  rw [Finset.sum_eq_zero fun r _ => by rw [show (ix2 d j : S128x1024.Idx) 1 = j from rfl, pr_after B R R hR r j (hd d) (by omega), mul_zero], add_zero]
  rfl

theorem stepK_after (y : Vec Ideal S128x1024 .f32) (d : Fin 128) (j : Fin 1024) (hj : 512 ≤ j.val) : stepK B R R hR y (ix2 d j) = y (ix2 d j) := by
  show _ + ∑ r : Fin 512, _ * ds B R _ _ (hd d) = _
  rw [Finset.sum_eq_zero fun r _ => by rw [show (ix2 d j : S128x1024.Idx) 1 = j from rfl, ds_after B R R hR r j (hd d) (by omega), mul_zero], add_zero]
  rfl

theorem stepCk_after (y : Vec Ideal S1x8x1024 .f32) (e : Fin 8) (j : Fin 1024) (hj : 2 ≤ e.val ∨ 512 ≤ j.val) : stepCk B R R hR y (ix3 0 e j) = y (ix3 0 e j) := by
  by_cases he : e.val < 2
  · refine (stepCk_at B R R hR y ⟨e.val, he⟩ j).trans ?_
    rw [Finset.sum_eq_zero fun r _ => ds_after B R R hR r j _ (by omega), sub_zero]
  · exact dif_neg he

end Cert.KernelIdeal.Flash
-- ==== Proof.Flash.Word.lean ====
module

public import proofs.«01_k».proof.Proof.Flash.Mask

@[expose] public section

namespace Cert.KernelIdeal.Flash

open Idealize.ShloMosaic

/-- The first key of the block, as a word. -/
theorem word_lo (n : ℕ) (h : n < 8) : Scalar.muli (BitVec.ofNat 32 n) 1024#32 = BitVec.ofNat 32 (1024 * n) := by
  interval_cases n <;> rfl
/-- The first row of the block's first chunk, as a word. -/
theorem word_hi0 (n : ℕ) (h : n < 8) : Scalar.muli (Scalar.addi (Scalar.muli (BitVec.ofNat 32 n) 2#32) 0#32) 512#32 = BitVec.ofNat 32 (1024 * n) := by
  interval_cases n <;> rfl
/-- The first row of the block's second chunk, as a word. -/
theorem word_hi1 (n : ℕ) (h : n < 8) : Scalar.muli (Scalar.addi (Scalar.muli (BitVec.ofNat 32 n) 2#32) 1#32) 512#32 = BitVec.ofNat 32 (1024 * n + 512 * 1) := by
  interval_cases n <;> rfl

end Cert.KernelIdeal.Flash
-- ==== Proof.Flash.Ref.lean ====
module

public import proofs.«01_k».proof.Proof.Gen.ReferenceIdeal.Read
public import proofs.«01_k».proof.Proof.Flash.Real
public import proofs.«01_k».proof.Proof.Flash.Word
public import Idealize.ShloMosaic.Lib.IdealHost
public import Idealize.ShloMosaic.Lib.KernelVsHost
public import Idealize.ShloMosaic.PureOps.Reduce

@[expose] public section

set_option maxRecDepth 16384

noncomputable section

namespace Cert.Flash.Ref

open Idealize.ShloMosaic Idealize.ShloMosaic.TcCoe
open Cert.ReferenceIdeal Cert.ReferenceIdeal.Gen Cert.ReferenceIdeal.Read Cert.Flash.Real

/-- The five arrays hold real numbers: those of `A`. -/
structure Reads (A : Args) (x0 x1 x2 : (⟨S8192x1024, .f32⟩ : BufTy).Contents (Elt Ideal))
    (x3 : (⟨S8192x16, .f32⟩ : BufTy).Contents (Elt Ideal)) (x4 : (⟨S8192x1024, .f32⟩ : BufTy).Contents (Elt Ideal)) : Prop where
  q : ∀ i : S8192x1024.Idx, x0 i = ((A.q (i 0) (i 1) : ℝ) : EReal)
  k : ∀ i : S8192x1024.Idx, x1 i = ((A.k (i 0) (i 1) : ℝ) : EReal)
  v : ∀ i : S8192x1024.Idx, x2 i = ((A.v (i 0) (i 1) : ℝ) : EReal)
  c : ∀ i : S8192x16.Idx, x3 i = ((A.c (i 0) (i 1) : ℝ) : EReal)
  g : ∀ i : S8192x1024.Idx, x4 i = ((A.g (i 0) (i 1) : ℝ) : EReal)

/-- A real function of two bounded numbers depends on their values alone. -/
theorem coe_congr {n m : ℕ} (f : Fin n → Fin m → ℝ) {a r : Fin n} {b x : Fin m} (h0 : a.val = r.val) (h1 : b.val = x.val) :
    ((f a b : ℝ) : EReal) = ((f r x : ℝ) : EReal) := by
  rw [Fin.ext h0, Fin.ext h1]

/-- The pattern of minus infinity. -/
theorem ofBits_neg_inf : Ideal.ofBits .f32 0xFF800000#32 = ⊥ := by simp [Ideal.ofBits, Ideal.ieee]

/-- A real divided by a real that is not zero. -/
theorem div_real (x : ℝ) {y : ℝ} (h : y ≠ 0) : Ideal.div (x : EReal) (y : EReal) = ((x * (1 / y) : ℝ) : EReal) := by
  rw [Ideal.div_coe h, EReal.coe_mul]

variable {A : Args} {x0 x1 x2 : (⟨S8192x1024, .f32⟩ : BufTy).Contents (Elt Ideal)}
  {x3 : (⟨S8192x16, .f32⟩ : BufTy).Contents (Elt Ideal)} {x4 : (⟨S8192x1024, .f32⟩ : BufTy).Contents (Elt Ideal)}

section
variable (H : Reads A x0 x1 x2 x3 x4)
include H

/-- The queries by head. -/
theorem v0 (i : S8192x16x64.Idx) : val_main_v0 (F := Ideal) x0 i = ((A.q (i 0) (ln (i 1) (i 2)) : ℝ) : EReal) := by
  rw [val_main_v0_apply, H.q]
  have h0 : (i 0).val < 8192 := (i 0).isLt
  have h1 : (i 1).val < 16 := (i 1).isLt
  have h2 : (i 2).val < 64 := (i 2).isLt
  refine coe_congr A.q ?_ ?_
  · show (((i 0).val * 16 + (i 1).val) * 64 + (i 2).val) / 1024 = (i 0).val; omega
  · show (((i 0).val * 16 + (i 1).val) * 64 + (i 2).val) % 1024 = 64 * (i 1).val + (i 2).val; omega

/-- The keys by head. -/
theorem v1 (i : S8192x16x64.Idx) : val_main_v1 (F := Ideal) x1 i = ((A.k (i 0) (ln (i 1) (i 2)) : ℝ) : EReal) := by
  rw [val_main_v1_apply, H.k]
  have h0 : (i 0).val < 8192 := (i 0).isLt
  have h1 : (i 1).val < 16 := (i 1).isLt
  have h2 : (i 2).val < 64 := (i 2).isLt
  refine coe_congr A.k ?_ ?_
  · show (((i 0).val * 16 + (i 1).val) * 64 + (i 2).val) / 1024 = (i 0).val; omega
  · show (((i 0).val * 16 + (i 1).val) * 64 + (i 2).val) % 1024 = 64 * (i 1).val + (i 2).val; omega

/-- The values by head. -/
theorem v2 (i : S8192x16x64.Idx) : val_main_v2 (F := Ideal) x2 i = ((A.v (i 0) (ln (i 1) (i 2)) : ℝ) : EReal) := by
  rw [val_main_v2_apply, H.v]
  have h0 : (i 0).val < 8192 := (i 0).isLt
  have h1 : (i 1).val < 16 := (i 1).isLt
  have h2 : (i 2).val < 64 := (i 2).isLt
  refine coe_congr A.v ?_ ?_
  · show (((i 0).val * 16 + (i 1).val) * 64 + (i 2).val) / 1024 = (i 0).val; omega
  · show (((i 0).val * 16 + (i 1).val) * 64 + (i 2).val) % 1024 = 64 * (i 1).val + (i 2).val; omega

/-- The incoming gradient by head. -/
theorem v52 (i : S16x64x8192.Idx) : val_main_v52 (F := Ideal) x4 i = ((A.g (i 2) (ln (i 0) (i 1)) : ℝ) : EReal) := by
  rw [val_main_v52_apply, val_main_v51_apply, H.g]
  have h0 : (i 0).val < 16 := (i 0).isLt
  have h1 : (i 1).val < 64 := (i 1).isLt
  have h2 : (i 2).val < 8192 := (i 2).isLt
  refine coe_congr A.g ?_ ?_
  · show (((i 2).val * 16 + (i 0).val) * 64 + (i 1).val) / 1024 = (i 2).val; omega
  · show (((i 2).val * 16 + (i 0).val) * 64 + (i 1).val) % 1024 = 64 * (i 0).val + (i 1).val; omega

/-- The unmasked score. -/
theorem v18 (i : S16x8192x8192.Idx) : val_main_v18 (F := Ideal) x0 x1 x3 i = ((s A (i 0) (i 1) (i 2) : ℝ) : EReal) := by
  have h10 : val_main_v10 (F := Ideal) x3 i = ((A.c (i 1) (i 0) - A.c (i 2) (i 0) : ℝ) : EReal) := by
    rw [val_main_v10_apply, val_main_v8_apply, val_main_v9_apply, val_main_v5_apply, val_main_v7_apply, val_main_v4_apply, val_main_v6_apply, H.c, H.c,
      EReal.coe_sub]
    rfl
  have h3 : val_main_v3 (F := Ideal) x0 x1 i = ((∑ l : Fin 64, A.q (i 1) (ln (i 0) l) * A.k (i 2) (ln (i 0) l) : ℝ) : EReal) := by
    rw [val_main_v3_apply]
    refine sum_of_coe _ _ fun l => ?_
    rw [v0 H, v1 H, EReal.coe_mul]
    rfl
  rw [val_main_v18_apply, h10, h3]
  exact (EReal.coe_add _ _).symm

end

/-- The mask: row `r` may look at the keys up to itself. -/
theorem v19_1 (i : S16x8192x8192.Idx) : val_main_v19_1 (F := Ideal) i = if (i 2).val ≤ (i 1).val then 1#1 else 0#1 := by
  rw [val_main_v19_1_apply, val_main_v17_apply, val_main_v16_apply, val_main_v14_apply, val_main_v12_apply, val_main_v15_apply, val_main_v13_apply,
    val_main_v11_apply, val_main_v11_apply]
  have h1 : (i 1).val < 8192 := (i 1).isLt
  have h2 : (i 2).val < 8192 := (i 2).isLt
  show IntOp.cmpi .sle (BitVec.ofNat 32 (i 2).val) (BitVec.ofNat 32 (i 1).val) = _
  rw [WordCmp.cmpi_sle_eq, WordCmp.toInt_ofNat_of_lt (by omega), WordCmp.toInt_ofNat_of_lt (by omega)]
  simp only [Nat.cast_le]
  by_cases h : (i 2).val ≤ (i 1).val
  · rw [if_pos h, decide_eq_true h]; rfl
  · rw [if_neg h, decide_eq_false h]; rfl

section
variable (H : Reads A x0 x1 x2 x3 x4)
include H

/-- The masked score. -/
theorem v19 (i : S16x8192x8192.Idx) : val_main_v19_0 (F := Ideal) x0 x1 x3 i
    = if (i 2 : Fin 8192) ≤ i 1 then ((s A (i 0) (i 1) (i 2) : ℝ) : EReal) else ⊥ := by
  rw [val_main_v19_0_apply, v19_1, v18 H, val_main_call0_v2_apply, val_main_call0_v0_apply, val_main_cst_apply, Ideal.ofBits_def, ofBits_neg_inf]
  by_cases h : (i 2).val ≤ (i 1).val
  · rw [if_pos h, if_pos (show (i 2 : Fin 8192) ≤ i 1 from h)]; rfl
  · rw [if_neg h, if_neg (show ¬(i 2 : Fin 8192) ≤ i 1 from h)]; rfl

/-- The row's maximum is a real number. -/
theorem v20 : ∃ M : Fin 16 → Fin 8192 → ℝ, ∀ i : S16x8192.Idx, val_main_v20 (F := Ideal) x0 x1 x3 i = ((M (i 0) (i 1) : ℝ) : EReal) := by
  have h : ∀ i : S16x8192.Idx, ∃ M : ℝ, val_main_v20 (F := Ideal) x0 x1 x3 i = (M : EReal) := by
    intro i
    unfold val_main_v20
    rw [Host.reduce_eq_fold, val_main_cst_0_apply, Ideal.ofBits_def, ofBits_neg_inf]
    refine fold_max_real _ _ (fun j _ => ?_) ⟨(fun a => match a with
      | ⟨0, _⟩ => ⟨(i 0).val, (i 0).isLt⟩
      | ⟨1, _⟩ => ⟨(i 1).val, (i 1).isLt⟩
      | ⟨2, _⟩ => ⟨(i 1).val, (i 1).isLt⟩ : S16x8192x8192.Idx), ?_, ?_⟩
    · rw [v19 H]; split_ifs
      · exact Or.inr ⟨_, rfl⟩
      · exact Or.inl rfl
    · refine Finset.mem_filter.mpr ⟨Finset.mem_univ _, ?_⟩
      funext b
      apply Fin.ext
      match b with
      | ⟨0, _⟩ => exact Shape.ReducesTo.drop_apply_val_of_eq reducesTo_S16x8192x8192_S16x8192_d2 _ 0 0
      | ⟨1, _⟩ => exact Shape.ReducesTo.drop_apply_val_of_eq reducesTo_S16x8192x8192_S16x8192_d2 _ 1 1
    · rw [v19 H, if_pos (by exact le_rfl)]; exact ⟨_, rfl⟩
  choose M hM using h
  refine ⟨fun a b => M (fun c => match c with
      | ⟨0, _⟩ => ⟨a.val, a.isLt⟩
      | ⟨1, _⟩ => ⟨b.val, b.isLt⟩), fun i => ?_⟩
  rw [hM]
  congr 2
  funext c
  match c with
  | ⟨0, _⟩ => rfl
  | ⟨1, _⟩ => rfl

variable {M : Fin 16 → Fin 8192 → ℝ} (hM : ∀ i : S16x8192.Idx, val_main_v20 (F := Ideal) x0 x1 x3 i = ((M (i 0) (i 1) : ℝ) : EReal))
include hM

/-- The shifted exponential. -/
theorem v40 (i : S16x8192x8192.Idx) : val_main_v40 (F := Ideal) x0 x1 x3 i
    = ((if (i 2 : Fin 8192) ≤ i 1 then Real.exp (s A (i 0) (i 1) (i 2) - M (i 0) (i 1)) else 0 : ℝ) : EReal) := by
  rw [val_main_v40_apply, val_main_v39_apply, v19 H, val_main_v38_apply, val_main_v37_apply, val_main_v27_apply, val_main_v26_apply, val_main_cst_2_apply,
    hM, Ideal.ofBits_def, ofBits_neg_inf, Ideal.maximumf_def, Ideal.subf_def, Ideal.hostUnary_exp_def, max_eq_right bot_le]
  split_ifs
  · rw [← EReal.coe_sub, Ideal.exp_coe]; rfl
  · rw [EReal.bot_sub, Ideal.exp_bot]; rfl

/-- The row's sum of shifted exponentials. -/
theorem v41 (i : S16x8192.Idx) : val_main_v41 (F := Ideal) x0 x1 x3 i = ((E A (i 0) (i 1) * Real.exp (-M (i 0) (i 1)) : ℝ) : EReal) := by
  rw [val_main_v41_apply, val_main_cst_8_apply, Ideal.ofBits_def, Ideal.ofBits_zero_f32, zero_add]
  refine (sum_of_coe _ _ fun j => ?_).trans (congrArg Real.toEReal (E_shift A (M (i 0) (i 1)) (i 0) (i 1)))
  rw [v40 H hM]
  rfl

/-- The row's sum is not zero. -/
theorem L_ne (h : Fin 16) (r : Fin 8192) : E A h r * Real.exp (-M h r) ≠ 0 := mul_ne_zero (E_pos A h r).ne' (Real.exp_pos _).ne'

/-- The attention probability. -/
theorem v44 (i : S16x8192x8192.Idx) : val_main_v44 (F := Ideal) x0 x1 x3 i = ((p A (i 0) (i 1) (i 2) : ℝ) : EReal) := by
  rw [val_main_v44_apply, v40 H hM, val_main_v43_apply, val_main_v42_apply, v41 H hM, Ideal.hostDivf_def]
  exact (div_real _ (L_ne H hM (i 0) (i 1))).trans (congrArg Real.toEReal (p_shift A (M (i 0) (i 1)) (i 0) (i 1) (i 2)))

/-- The attention's output. -/
theorem v50 (i : S8192x1024.Idx) : val_main_v50 (F := Ideal) x0 x1 x2 x3 i = ((o A (i 0) (i 1) : ℝ) : EReal) := by
  rw [val_main_v50_apply, val_main_v49_apply, val_main_v48_apply]
  have h0 : (i 0).val < 8192 := (i 0).isLt
  have h1 : (i 1).val < 1024 := (i 1).isLt
  refine sum_of_coe _ (fun j : Fin 8192 => A.v j (i 1) * p A (hd (i 1)) (i 0) j) fun j => ?_
  rw [v2 H, v44 H hM, EReal.coe_mul]
  congr 1
  · refine coe_congr A.v rfl ?_
    show 64 * (((i 0).val * 1024 + (i 1).val) / 64 % 16) + ((i 0).val * 1024 + (i 1).val) % 64 = (i 1).val
    omega
  · have e : ∀ (a b : Fin 16) (r r' : Fin 8192), a.val = b.val → r.val = r'.val → ((p A a r j : ℝ) : EReal) = ((p A b r' j : ℝ) : EReal) := by
      intro a b r r' ha hb; rw [Fin.ext ha, Fin.ext hb]
    refine e _ _ _ _ ?_ ?_
    · show ((i 0).val * 1024 + (i 1).val) / 64 % 16 = (i 1).val / 64; omega
    · show ((i 0).val * 1024 + (i 1).val) / 1024 = (i 0).val; omega

/-- The gradient of the probability. -/
theorem v53 (i : S16x8192x8192.Idx) : val_main_v53 (F := Ideal) x2 x4 i = ((dp A (i 0) (i 1) (i 2) : ℝ) : EReal) := by
  rw [val_main_v53_apply]
  refine sum_of_coe _ (fun l : Fin 64 => A.g (i 1) (ln (i 0) l) * A.v (i 2) (ln (i 0) l)) fun l => ?_
  rw [v52 H, v2 H, EReal.coe_mul]
  rfl

/-- The second part of the quotient's gradient, before its sign. -/
theorem v59 (i : S16x8192.Idx) : ∃ D : ℝ, val_main_v59 (F := Ideal) x0 x1 x2 x3 x4 i = (D : EReal)
    ∧ D * (E A (i 0) (i 1) * Real.exp (-M (i 0) (i 1))) = del A (i 0) (i 1) := by
  refine ⟨_, ?_, del_shift A (M (i 0) (i 1)) (i 0) (i 1)⟩
  rw [val_main_v59_apply, val_main_cst_10_apply, Ideal.ofBits_def, Ideal.ofBits_zero_f32, zero_add]
  refine sum_of_coe _ _ fun j => ?_
  have hL := L_ne H hM (i 0) (i 1)
  rw [val_main_v58_apply, val_main_v57_apply, val_main_v56_apply, val_main_v47_apply, val_main_v46_apply, val_main_cst_9_apply, val_main_v45_apply,
    val_main_v42_apply, v41 H hM, v53 H hM, v40 H hM, Ideal.ofBits_def, Ideal.ofBits_one_f32, Ideal.mulf_def, Ideal.mulf_def, Ideal.mulf_def,
    Ideal.hostDivf_def, ← EReal.coe_mul, ← EReal.coe_one]
  refine (congrArg₂ (· * ·) (congrArg₂ (· * ·) rfl (div_real 1 (mul_ne_zero hL hL))) rfl).trans ?_
  rw [one_mul]
  beta_reduce
  rw [← EReal.coe_mul, ← EReal.coe_mul]
  rfl

/-- The gradient of the score. -/
theorem v68 (i : S16x8192x8192.Idx) : val_main_v68 (F := Ideal) x0 x1 x2 x3 x4 i = ((ds A (i 0) (i 1) (i 2) : ℝ) : EReal) := by
  rw [val_main_v68_apply, v19_1]
  by_cases h : (i 2).val ≤ (i 1).val
  · have hL := L_ne H hM (i 0) (i 1)
    obtain ⟨D, hD, hD'⟩ := v59 H hM (idx_main_v60 (idx_main_v64 (idx_main_v65 i) 0))
    have e0 : (idx_main_v60 (idx_main_v64 (idx_main_v65 i) 0) 0 : Fin 16) = i 0 := by
      have h0 : (i 0).val < 16 := (i 0).isLt
      have h1 : (i 1).val < 8192 := (i 1).isLt
      apply Fin.ext; show (((i 0).val * 8192 + (i 1).val) * 1 + 0) / 8192 = (i 0).val; omega
    have e1 : (idx_main_v60 (idx_main_v64 (idx_main_v65 i) 0) 1 : Fin 8192) = i 1 := by
      have h0 : (i 0).val < 16 := (i 0).isLt
      have h1 : (i 1).val < 8192 := (i 1).isLt
      apply Fin.ext; show (((i 0).val * 8192 + (i 1).val) * 1 + 0) % 8192 = (i 1).val; omega
    rw [e0, e1] at hD'
    rw [if_pos h, val_main_v67_apply, val_main_v66_apply, val_main_v65_apply, val_main_v64_apply, val_main_cst_11_apply, Ideal.ofBits_def,
      Ideal.ofBits_zero_f32, zero_add, Fin.sum_univ_one, val_main_v61_apply, val_main_v60_apply, hD, val_main_v63_apply, val_main_v62_apply, val_main_v42_apply,
      v41 H hM, v53 H hM, v40 H hM, Ideal.mulf_def, Ideal.addf_def, Ideal.hostNegf_def, Ideal.negf_def, Ideal.hostDivf_def]
    show (Ideal.div _ _ + _) * _ = _
    refine (congrArg₂ (· * ·) (congrArg₂ (· + ·) (div_real _ hL) rfl) rfl).trans ?_
    beta_reduce
    rw [← EReal.coe_neg, ← EReal.coe_add, ← EReal.coe_mul]
    refine congrArg Real.toEReal ((ds_shift A (M (i 0) (i 1)) (i 0) (i 1) (i 2) D).trans ?_)
    exact congrArg (fun z => p A (i 0) (i 1) (i 2) * (dp A (i 0) (i 1) (i 2) - z)) hD'
  · rw [if_neg h, val_main_call1_v0_apply, val_main_call1_cst_apply, Ideal.ofBits_def, Ideal.ofBits_zero_f32]
    have e : ds A (i 0) (i 1) (i 2) = 0 := by
      have e' : p A (i 0) (i 1) (i 2) = 0 := if_neg h
      exact (congrArg (· * (dp A (i 0) (i 1) (i 2) - del A (i 0) (i 1))) e').trans (zero_mul _)
    exact (congrArg Real.toEReal e).symm

/-- The gradient of the queries, by head. -/
theorem v80 (i : S16x8192x64.Idx) : val_main_v80 (F := Ideal) x0 x1 x2 x3 x4 i
    = ((∑ j : Fin 8192, ds A (i 0) (i 1) j * A.k j (ln (i 0) (i 2)) : ℝ) : EReal) := by
  rw [val_main_v80_apply]
  refine sum_of_coe _ _ fun j => ?_
  rw [v68 H hM, v1 H, EReal.coe_mul]
  rfl

/-- The gradient of the keys, by head. -/
theorem v78 (i : S16x8192x64.Idx) : val_main_v78 (F := Ideal) x0 x1 x2 x3 x4 i
    = ((∑ r : Fin 8192, ds A (i 0) r (i 1) * A.q r (ln (i 0) (i 2)) : ℝ) : EReal) := by
  rw [val_main_v78_apply]
  refine sum_of_coe _ _ fun j => ?_
  rw [v68 H hM, v0 H, EReal.coe_mul]
  rfl

/-- The gradient of the values, by head. -/
theorem v54 (i : S16x64x8192.Idx) : val_main_v54 (F := Ideal) x0 x1 x3 x4 i
    = ((∑ r : Fin 8192, A.g r (ln (i 0) (i 1)) * p A (i 0) r (i 2) : ℝ) : EReal) := by
  rw [val_main_v54_apply]
  refine sum_of_coe _ _ fun j => ?_
  rw [v52 H, v44 H hM, EReal.coe_mul]
  rfl

end

/-- Splitting a column into head and lane. -/
theorem split_col (r x : ℕ) (hx : x < 1024) :
    (r * 1024 + x) / 64 % 16 = x / 64 ∧ (r * 1024 + x) % 64 = x % 64 ∧ (r * 1024 + x) / 1024 = r := by omega

/-- A head and a lane of a column, put together again. -/
theorem ln_split (x : Fin 1024) (h : Fin 16) (l : Fin 64) (eh : h.val = x.val / 64) (el : l.val = x.val % 64) : h = hd x ∧ ln h l = x := by
  refine ⟨Fin.ext eh, Fin.ext ?_⟩
  show 64 * h.val + l.val = x.val
  omega

section
variable (H : Reads A x0 x1 x2 x3 x4)
include H

/-- What the reference computes for the queries. -/
theorem v84 (i : S8192x1024.Idx) : val_main_v84 (F := Ideal) x0 x1 x2 x3 x4 i = ((dQ A (i 0) (i 1) : ℝ) : EReal) := by
  obtain ⟨M, hM⟩ := v20 H
  rw [val_main_v84_apply, val_main_v81_apply, v80 H hM]
  obtain ⟨a, b, c⟩ := split_col (i 0).val (i 1).val (i 1).isLt
  obtain ⟨eh, el⟩ := ln_split (i 1) (idx_main_v81 (idx_main_v84 i) 0) (idx_main_v81 (idx_main_v84 i) 2) a b
  have er : (idx_main_v81 (idx_main_v84 i) 1 : Fin 8192) = i 0 := Fin.ext c
  rw [el, er, eh]
  rfl

/-- What the reference computes for the keys, keys along the columns. -/
theorem v88 (i : S1024x8192.Idx) : val_main_v88 (F := Ideal) x0 x1 x2 x3 x4 i = ((dK A (i 1) (i 0) : ℝ) : EReal) := by
  obtain ⟨M, hM⟩ := v20 H
  rw [val_main_v88_apply, val_main_v83_apply, val_main_v79_apply, v78 H hM]
  obtain ⟨a, b, c⟩ := split_col (i 1).val (i 0).val (i 0).isLt
  obtain ⟨eh, el⟩ := ln_split (i 0) (idx_main_v79 (idx_main_v83 (idx_main_v88 i)) 0) (idx_main_v79 (idx_main_v83 (idx_main_v88 i)) 2) a b
  have er : (idx_main_v79 (idx_main_v83 (idx_main_v88 i)) 1 : Fin 8192) = i 1 := Fin.ext c
  rw [el, er, eh]
  rfl

/-- What the reference computes for the values, keys along the columns. -/
theorem v89 (i : S1024x8192.Idx) : val_main_v89 (F := Ideal) x0 x1 x3 x4 i = ((dV A (i 1) (i 0) : ℝ) : EReal) := by
  obtain ⟨M, hM⟩ := v20 H
  rw [val_main_v89_apply, val_main_v82_apply, val_main_v55_apply, v54 H hM]
  obtain ⟨a, b, c⟩ := split_col (i 1).val (i 0).val (i 0).isLt
  obtain ⟨eh, el⟩ := ln_split (i 0) (idx_main_v55 (idx_main_v82 (idx_main_v89 i)) 0) (idx_main_v55 (idx_main_v82 (idx_main_v89 i)) 1) a b
  have er : (idx_main_v55 (idx_main_v82 (idx_main_v89 i)) 2 : Fin 8192) = i 1 := Fin.ext c
  rw [el, er, eh]
  rfl

/-- What the reference computes for the gates through the keys, before the padding. -/
theorem v86 (i : S8x2x8192.Idx) (h : Fin 16) (eh : h.val = (i 0).val * 2 + (i 1).val) :
    val_main_v86 (F := Ideal) x0 x1 x2 x3 x4 i = ((dCk A h (i 2) : ℝ) : EReal) := by
  obtain ⟨M, hM⟩ := v20 H
  have h0 : (i 0).val < 8 := (i 0).isLt
  have h1 : (i 1).val < 2 := (i 1).isLt
  have h2 : (i 2).val < 8192 := (i 2).isLt
  rw [val_main_v86_apply, val_main_v85_apply, val_main_v75_apply, val_main_v74_apply, val_main_cst_14_apply, Ideal.ofBits_def,
    Ideal.ofBits_zero_f32, zero_add, Fin.sum_univ_one, val_main_v73_apply, val_main_v72_apply, val_main_cst_13_apply, Ideal.ofBits_def,
    Ideal.ofBits_zero_f32, zero_add]
  refine (sum_of_coe _ (fun r : Fin 8192 => -ds A h r (i 2)) fun r => ?_).trans (congrArg Real.toEReal (Finset.sum_neg_distrib _))
  rw [val_main_v71_apply, v68 H hM, Ideal.hostNegf_def, Ideal.negf_def, EReal.coe_neg]
  congr 2
  have e0 : ∀ (a : Fin 16) (b : Fin 8192), a.val = h.val → b.val = (i 2).val → ds A a r b = ds A h r (i 2) := by
    intro a b ha hb; rw [Fin.ext ha, show b = i 2 from Fin.ext hb]
  refine e0 _ _ ?_ ?_
  · show (((((i 0).val * 2 + (i 1).val) * 8192 + (i 2).val) / 8192 * 1 + 0) * 8192 + (((i 0).val * 2 + (i 1).val) * 8192 + (i 2).val) % 8192) / 8192 = h.val
    omega
  · show (((((i 0).val * 2 + (i 1).val) * 8192 + (i 2).val) / 8192 * 1 + 0) * 8192 + (((i 0).val * 2 + (i 1).val) * 8192 + (i 2).val) % 8192) % 8192 = (i 2).val
    omega

/-- What the reference computes for the gates through the keys: two rows of a group's eight, the others zero. -/
theorem v87 (i : S8x8x8192.Idx) : val_main_v87 (F := Ideal) x0 x1 x2 x3 x4 i
    = if hh : (i 1).val < 2 then ((dCk A ⟨2 * (i 0).val + (i 1).val, by have : (i 0).val < 8 := (i 0).isLt; omega⟩ (i 2) : ℝ) : EReal) else 0 := by
  have h0 : (i 0).val < 8 := (i 0).isLt
  have h1 : (i 1).val < 8 := (i 1).isLt
  have h2 : (i 2).val < 8192 := (i 2).isLt
  unfold val_main_v87
  by_cases hh : (i 1).val < 2
  · rw [dif_pos hh]
    refine (pad_apply_of_inside _ _ _ _ _ _ _ i (fun a => match a with
      | ⟨0, _⟩ => ⟨(i 0).val, h0⟩
      | ⟨1, _⟩ => ⟨(i 1).val, hh⟩
      | ⟨2, _⟩ => ⟨(i 2).val, h2⟩ : S8x2x8192.Idx) fun a => ?_).trans (v86 H _ _ ?_)
    · match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
    · show 2 * (i 0).val + (i 1).val = (i 0).val * 2 + (i 1).val; omega
  · rw [dif_neg hh]
    refine (pad_apply_of_not_inside _ _ _ _ _ _ _ i 1 fun hc => hh ?_).trans ?_
    · have h3 : ((i 1).val - 0) / (0 + 1) < 2 := hc.2.2
      omega
    · rw [val_main_call2_v0_apply, val_main_c_apply]
      show (((BitVec.toInt 0#32 : ℤ) : ℝ) : EReal) = 0
      simp

/-- What the reference computes for the gates through the queries. -/
theorem v91 (i : S8x8192x2.Idx) : val_main_v91 (F := Ideal) x0 x1 x2 x3 x4 i
    = ((dCq A ⟨2 * (i 0).val + (i 2).val, by have : (i 0).val < 8 := (i 0).isLt; have : (i 2).val < 2 := (i 2).isLt; omega⟩ (i 1) : ℝ) : EReal) := by
  obtain ⟨M, hM⟩ := v20 H
  have h0 : (i 0).val < 8 := (i 0).isLt
  have h1 : (i 1).val < 8192 := (i 1).isLt
  have h2 : (i 2).val < 2 := (i 2).isLt
  rw [val_main_v91_apply, val_main_v90_apply, val_main_v77_apply, val_main_v76_apply, val_main_cst_15_apply, Ideal.ofBits_def,
    Ideal.ofBits_zero_f32, zero_add, Fin.sum_univ_one, val_main_v70_apply, val_main_v69_apply, val_main_cst_12_apply, Ideal.ofBits_def,
    Ideal.ofBits_zero_f32, zero_add]
  refine sum_of_coe _ (fun j : Fin 8192 => ds A ⟨2 * (i 0).val + (i 2).val, by omega⟩ (i 1) j) fun j => ?_
  rw [v68 H hM]
  have e0 : ∀ (a b : Fin 16) (r : Fin 8192), a.val = b.val → r.val = (i 1).val → ((ds A a r j : ℝ) : EReal) = ((ds A b (i 1) j : ℝ) : EReal) := by
    intro a b r ha hb; rw [Fin.ext ha, show r = i 1 from Fin.ext hb]
  have a : (((i 1).val * 8 + (i 0).val) * 2 + (i 2).val) % 16 = 2 * (i 0).val + (i 2).val := by omega
  have b : (((i 1).val * 8 + (i 0).val) * 2 + (i 2).val) / 16 = (i 1).val := by omega
  refine e0 _ _ _ ?_ ?_
  · show (((((i 1).val * 8 + (i 0).val) * 2 + (i 2).val) % 16 * 8192 + (((i 1).val * 8 + (i 0).val) * 2 + (i 2).val) / 16) * 1 + 0) / 8192 = 2 * (i 0).val + (i 2).val
    rw [a, b]; omega
  · show (((((i 1).val * 8 + (i 0).val) * 2 + (i 2).val) % 16 * 8192 + (((i 1).val * 8 + (i 0).val) * 2 + (i 2).val) / 16) * 1 + 0) % 8192 = (i 1).val
    rw [a, b]; omega

end

end Cert.Flash.Ref
-- ==== Proof.Flash.Finite.lean ====
module

public import proofs.«01_k».proof.Defs
public import proofs.«01_k».proof.Proof.Flash.Ref
public import Idealize.ShloMosaic.Lib.ReduceAll

@[expose] public section

set_option maxRecDepth 16384

noncomputable section

namespace Cert.Flash.Finite

open Idealize.ShloMosaic Idealize.ShloMosaic.TcCoe
open Cert.Pre_finite
open Cert.Flash.Real (Args)
open Cert.Flash.Ref (Reads)

/-! The precondition read back: arrays it holds of are arrays of real numbers. -/

/-- The shape relations the precondition's operations take. -/
theorem facts : Cert.Pre_finite.Facts where
  bcast_S_S8192x1024 := by decide
  reducesTo_S8192x1024_S_d0_1 := by decide
  h_S_ := by decide
  bcast_S_S8192x16 := by decide
  reducesTo_S8192x16_S_d0_1 := by decide

/-- The pattern of plus infinity. -/
theorem ofBits_pos_inf : Ideal.ofBits .f32 0x7F800000#32 = ⊤ := by simp [Ideal.ofBits, Ideal.ieee]

/-- An extended real whose absolute value is below plus infinity is a real number. -/
theorem coe_of_abs_lt {x : EReal} (h : max x (-x) < ⊤) : x = ((x.toReal : ℝ) : EReal) := by
  obtain ⟨h1, h2⟩ := max_lt_iff.1 h
  refine (EReal.coe_toReal h1.ne ?_).symm
  rintro rfl
  exact absurd h2 (by simp)

instance : Subsingleton S_.Idx := ⟨fun a b => funext fun k => k.elim0⟩

/-- An array whose every absolute value compares below plus infinity holds real numbers. -/
theorem all_coe {s : Shape} (x : FVec Ideal s .f32) (hb : S_.BroadcastsInDim s (![] : Fin 0 → Fin s.rank)) {axes : List (Fin s.rank)}
    (hr : s.ReducesTo axes S_) (hu : 0 < S_.numel) (init : IVec S_ 1) (j : S_.Idx)
    (e : Host.reduce IntOp.andi (cmpf .olt (Host.absf x) (broadcastInDim s ![] hb (constant (F := Ideal) S_ .f32 0x7F800000#32))) init hr hu j = 1#1)
    (i : s.Idx) : x i = (((x i : EReal).toReal : ℝ) : EReal) := by
  have h := Host.reduce_andi_all _ _ _ _ j e i
  have h' : BitVec.ofBool (decide (max (x i : EReal) (-(x i : EReal)) < Ideal.ofBits .f32 0x7F800000#32)) = 1#1 := h
  rw [ofBits_pos_inf] at h'
  refine coe_of_abs_lt ?_
  by_contra hn
  rw [decide_eq_false hn] at h'
  exact absurd h' (by decide)

/-- The real numbers five arrays hold. -/
def args (x0 x1 x2 : FVec Ideal S8192x1024 .f32) (x3 : FVec Ideal S8192x16 .f32) (x4 : FVec Ideal S8192x1024 .f32) : Args where
  q i j := (x0 (ix2 i j) : EReal).toReal
  k i j := (x1 (ix2 i j) : EReal).toReal
  v i j := (x2 (ix2 i j) : EReal).toReal
  c i j := (x3 (ix2 i j) : EReal).toReal
  g i j := (x4 (ix2 i j) : EReal).toReal

/-- Five arrays the precondition holds of hold the real numbers of `args`. -/
theorem reads [Cert.Pre_finite.Facts] (x0 x1 x2 : FVec Ideal S8192x1024 .f32) (x3 : FVec Ideal S8192x16 .f32) (x4 : FVec Ideal S8192x1024 .f32)
    (h : fn (F := Ideal) x0 x1 x2 x3 x4 = fun _ => 1#1) : Reads (args x0 x1 x2 x3 x4) x0 x1 x2 x3 x4 := by
  have j : S_.Idx := fun k => k.elim0
  have e := congrFun h j
  unfold fn fn_part1 at e
  clear h
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  have t2 : ∀ i : S8192x1024.Idx, ix2 (i 0) (i 1) = i := fun i => funext fun
    | ⟨0, _⟩ => rfl
    | ⟨1, _⟩ => rfl
  have t16 : ∀ i : S8192x16.Idx, ix2 (i 0) (i 1) = i := fun i => funext fun
    | ⟨0, _⟩ => rfl
    | ⟨1, _⟩ => rfl
  exact ⟨fun i => (all_coe x0 Facts.bcast_S_S8192x1024 Facts.reducesTo_S8192x1024_S_d0_1 Facts.h_S_ (constantI S_ 1 1#1) j e0 i).trans (congrArg (fun l => (((x0 l : EReal).toReal : ℝ) : EReal)) (t2 i).symm),
    fun i => (all_coe x1 Facts.bcast_S_S8192x1024 Facts.reducesTo_S8192x1024_S_d0_1 Facts.h_S_ (constantI S_ 1 1#1) j e1 i).trans (congrArg (fun l => (((x1 l : EReal).toReal : ℝ) : EReal)) (t2 i).symm),
    fun i => (all_coe x2 Facts.bcast_S_S8192x1024 Facts.reducesTo_S8192x1024_S_d0_1 Facts.h_S_ (constantI S_ 1 1#1) j e2 i).trans (congrArg (fun l => (((x2 l : EReal).toReal : ℝ) : EReal)) (t2 i).symm),
    fun i => (all_coe x3 Facts.bcast_S_S8192x16 Facts.reducesTo_S8192x16_S_d0_1 Facts.h_S_ (constantI S_ 1 1#1) j e3 i).trans (congrArg (fun l => (((x3 l : EReal).toReal : ℝ) : EReal)) (t16 i).symm),
    fun i => (all_coe x4 Facts.bcast_S_S8192x1024 Facts.reducesTo_S8192x1024_S_d0_1 Facts.h_S_ (constantI S_ 1 1#1) j e4 i).trans (congrArg (fun l => (((x4 l : EReal).toReal : ℝ) : EReal)) (t2 i).symm)⟩

end Cert.Flash.Finite

end
-- ==== Proof.Flash.Trip.lean ====
module

public import proofs.«01_k».proof.Proof.Gen.KernelIdeal.Frame
public import proofs.«01_k».proof.Proof.Flash.Pure
public import Idealize.ShloMosaic.Lib.LoopRemainder

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- The nine input blocks of a grid point, held by its staging buffers. -/
abbrev Ins (c : Dev nD) (arg2 : Memref sig .tc .vmem S8192x128 .bf16) (arg3 : Memref sig .tc .vmem S128x8192 .bf16) (arg4 : Memref sig .tc .vmem S1024x128 .bf16)
    (arg5 arg6 : Memref sig .tc .vmem S128x1024 .bf16) (arg7 : Memref sig .tc .vmem S1x2x1024 .f32) (arg8 : Memref sig .tc .vmem S8192x128 .bf16)
    (arg9 : Memref sig .tc .vmem S128x8192 .bf16) (arg10 : Memref sig .tc .vmem S1x8192x6 .f32) (B : Blocks) : sProp 𝕄 :=
  iprop(owns (c : Thread nD τ) arg2 fullShare B.q ∗ owns (c : Thread nD τ) arg3 fullShare B.qT ∗ owns (c : Thread nD τ) arg4 fullShare B.k
    ∗ owns (c : Thread nD τ) arg5 fullShare B.kT ∗ owns (c : Thread nD τ) arg6 fullShare B.vT ∗ owns (c : Thread nD τ) arg7 fullShare B.cr
    ∗ owns (c : Thread nD τ) arg8 fullShare B.dO ∗ owns (c : Thread nD τ) arg9 fullShare B.dOT ∗ owns (c : Thread nD τ) arg10 fullShare B.st)

/-- The five result blocks of a grid point. -/
structure Res where
  dq : Vec Ideal S8192x128 .f32
  dk : Vec Ideal S128x1024 .f32
  dv : Vec Ideal S128x1024 .f32
  dck : Vec Ideal S1x8x1024 .f32
  dcq : Vec Ideal S1x8192x2 .f32

/-- The five result blocks of a grid point, held by its staging buffers. -/
abbrev Outs (c : Dev nD) (arg11 : Memref sig .tc .vmem S8192x128 .f32) (arg12 arg13 : Memref sig .tc .vmem S128x1024 .f32)
    (arg14 : Memref sig .tc .vmem S1x8x1024 .f32) (arg15 : Memref sig .tc .vmem S1x8192x2 .f32) (Y : Res) : sProp 𝕄 :=
  iprop(owns (c : Thread nD τ) arg11 fullShare Y.dq ∗ owns (c : Thread nD τ) arg12 fullShare Y.dk ∗ owns (c : Thread nD τ) arg13 fullShare Y.dv
    ∗ owns (c : Thread nD τ) arg14 fullShare Y.dck ∗ owns (c : Thread nD τ) arg15 fullShare Y.dcq)

/-- All five results after the chunk of rows from R. -/
def step (B : Blocks) (κ₀ R : ℕ) (hR : R + 512 ≤ 8192) (Y : Res) : Res :=
  ⟨stepQ B κ₀ R Y.dq, stepK B κ₀ R hR Y.dk, stepV B κ₀ R hR Y.dv, stepCk B κ₀ R hR Y.dck, stepCq B κ₀ R Y.dcq⟩

theorem t1_bound (i : grid0.Coords) (k : Fin (k0_t1_loop i).trips) : 1024 * (i 1).val + 512 * k.val + 1024 + 512 ≤ 8192 := by
  have h := k0_off9_inb i k 0
  rw [k0_off9_eq] at h
  exact h

set_option hygiene false in
/-- One trip of the loop over the full chunks. -/
theorem trip (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (v378 : BitVec 32) (k : Fin (k0_t1_loop i).trips) (B : Blocks) (Y : Res) (E : Set ℕ) :
    iprop(Ins c arg2 arg3 arg4 arg5 arg6 arg7 arg8 arg9 arg10 B ∗ Outs c arg11 arg12 arg13 arg14 arg15 Y)
      ⊢ wp frame (wpE (defs₀ (F := Ideal)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 v378 k ⟨⟩)
          (fun _ => iprop(Ins c arg2 arg3 arg4 arg5 arg6 arg7 arg8 arg9 arg10 B
            ∗ Outs c arg11 arg12 arg13 arg14 arg15 (step B (1024 * (i 1).val) (1024 * (i 1).val + 512 * k.val + 1024) (t1_bound i k) Y))) := by
    unfold k0_t1_body
    simp only [k0_part1_eq_skeleton, k0_part2_eq_skeleton, k0_part3_eq_skeleton, k0_part4_eq_skeleton]
    unfold Ins Outs owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%f11, %hf11, H11⟩, ⟨%f12, %hf12, H12⟩, ⟨%f13, %hf13, H13⟩⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    obtain rfl := harg11.eq_unread hf9; obtain rfl := harg12.eq_unread hf10; obtain rfl := harg13.eq_unread hf11; obtain rfl := harg14.eq_unread hf12; obtain rfl := harg15.eq_unread hf13
    have hR := t1_bound i k
    have hκ : 1024 * (i 1).val + 1024 ≤ 1024 * (i 1).val + 512 * k.val + 1024 := by omega
    have hoff : BitVec.toNat (Scalar.indexCast (Scalar.muli (Scf.iv (Scalar.muli (Scalar.addi (BitVec.ofNat 32 (i 1).val) 1#32) 2#32) 1#32 k.val) 512#32)) = 1024 * (i 1).val + 512 * k.val + 1024 := congrFun (k0_off9_eq i k) 0
    have hx : ∀ (x : Fin 512) h, (⟨BitVec.toNat (Scalar.indexCast (Scalar.muli (Scf.iv (Scalar.muli (Scalar.addi (BitVec.ofNat 32 (i 1).val) 1#32) 2#32) 1#32 k.val) 512#32)) + x.val, h⟩ : Fin 8192) = rowAt (1024 * (i 1).val + 512 * k.val + 1024) hR x := fun x h => Fin.ext (congrArg (· + x.val) hoff)
    sl_exec
    sl_step
    isplitl [H0 H1 H2 H3 H4 H5 H6 H7 H8]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      iexists _; isplitr; · ipureintro; exact harg10.read_unread _
      iexact H8
    isplitl [H9]
    · iexists _; isplitr; swap; · iexact H9
      ipureintro
      sl_unfold_words
      simp only [View.readAt_eq_ld, read_writes_overlay, View.writes_nil, Memref.IsWhole.read_unread]
      refine twoRows_of _ _ hoff hR _ _ _ _ Y.dq (stepQ B _ _ Y.dq) (fun r l => ?_) (fun r l => ?_) (fun r d h => if_neg h)
      · refine Eq.trans ?_ (stepQ_at _ _ _ hR _ 0 r l).symm
        simp only [ds, pr_full _ _ _ hR hκ, sc]
        pointwise [k0_pay12, k0_pay11, k0_pay7, k0_pay6, k0_pay4, k0_pay3]
        try simp only [lane0, lane1, hx]
      · refine Eq.trans ?_ (stepQ_at _ _ _ hR _ 1 r l).symm
        simp only [ds, pr_full _ _ _ hR hκ, sc]
        pointwise [k0_pay1, k0_pay16, k0_pay15, k0_pay13, k0_pay3]
        try simp only [lane0, lane1, hx]
    isplitl [H10]
    · iexists _; isplitr; swap; · iexact H10
      ipureintro
      sl_unfold_words
      simp only [View.readAt_eq_ld, read_writes_overlay, View.writes_nil, Memref.IsWhole.read_unread]
      refine twoHeads _ _ _ _ _ _ le_rfl (fun l j => ?_) (fun l j => ?_) (fun d j h => absurd j.isLt (by omega))
      · refine Eq.trans ?_ (stepK_at _ _ _ hR _ 0 l j).symm
        simp only [ds, pr_full _ _ _ hR hκ, sc]
        pointwise [k0_pay8, k0_pay7, k0_pay6, k0_pay4, k0_pay3]
        try simp only [lane0, lane1, hx]
      · refine Eq.trans ?_ (stepK_at _ _ _ hR _ 1 l j).symm
        simp only [ds, pr_full _ _ _ hR hκ, sc]
        pointwise [k0_pay17, k0_pay16, k0_pay15, k0_pay13, k0_pay3]
        try simp only [lane0, lane1, hx]
    isplitl [H11]
    · iexists _; isplitr; swap; · iexact H11
      ipureintro
      sl_unfold_words
      simp only [View.readAt_eq_ld, read_writes_overlay, View.writes_nil, Memref.IsWhole.read_unread]
      refine twoHeads _ _ _ _ _ _ le_rfl (fun l j => ?_) (fun l j => ?_) (fun d j h => absurd j.isLt (by omega))
      · refine Eq.trans ?_ (stepV_at _ _ _ hR _ 0 l j).symm
        simp only [pr_full _ _ _ hR hκ, sc]
        pointwise [k0_pay5, k0_pay4, k0_pay3]
        try simp only [lane0, lane1, hx]
      · refine Eq.trans ?_ (stepV_at _ _ _ hR _ 1 l j).symm
        simp only [pr_full _ _ _ hR hκ, sc]
        pointwise [k0_pay14, k0_pay13, k0_pay3]
        try simp only [lane0, lane1, hx]
    isplitl [H12]
    · iexists _; isplitr; swap; · iexact H12
      ipureintro
      sl_unfold_words
      simp only [View.readAt_eq_ld, read_writes_overlay, View.writes_nil, Memref.IsWhole.read_unread]
      refine twoGates _ _ _ _ _ _ le_rfl (fun j => ?_) (fun j => ?_) (fun e j h => dif_neg (by rcases h with h | h; exacts [by show ¬ (e.val < 2); omega, absurd j.isLt (by omega)]))
      · refine Eq.trans ?_ (stepCk_at _ _ _ hR _ 0 j).symm
        simp only [ds, pr_full _ _ _ hR hκ, sc]
        pointwise [k0_pay9, k0_pay7, k0_pay6, k0_pay4, k0_pay3]
        try simp only [lane0, lane1, hx]
      · refine Eq.trans ?_ (stepCk_at _ _ _ hR _ 1 j).symm
        simp only [ds, pr_full _ _ _ hR hκ, sc]
        pointwise [k0_pay18, k0_pay16, k0_pay15, k0_pay13, k0_pay3]
        try simp only [lane0, lane1, hx]
    iexists _; isplitr; swap; · iexact H13
    ipureintro
    sl_unfold_words
    simp only [View.readAt_eq_ld, read_writes_overlay, View.writes_nil, Memref.IsWhole.read_unread]
    refine twoCols_of _ _ hoff hR _ _ _ _ Y.dcq (stepCq B _ _ Y.dcq) (fun r => ?_) (fun r => ?_) (fun r e h => if_neg h)
    · refine Eq.trans ?_ (stepCq_at _ _ _ hR _ 0 r).symm
      simp only [ds, pr_full _ _ _ hR hκ, sc]
      pointwise [k0_pay10, k0_pay7, k0_pay6, k0_pay4, k0_pay3]
      try simp only [lane0, lane1, hx]
    · refine Eq.trans ?_ (stepCq_at _ _ _ hR _ 1 r).symm
      simp only [ds, pr_full _ _ _ hR hκ, sc]
      pointwise [k0_pay19, k0_pay16, k0_pay15, k0_pay13, k0_pay3]
      try simp only [lane0, lane1, hx]

end Cert.KernelIdeal.Flash
-- ==== Proof.Flash.Flat.lean ====
module

public import proofs.«01_k».proof.Proof.Gen.KernelIdeal.Skeleton
public import Idealize.ShloMosaic.Lib.Tactic.OpenCalls
public import Idealize.ShloMosaic.Lib.Tactic.Stretches

@[expose] public section

set_option maxRecDepth 65536
set_option maxHeartbeats 4000000

noncomputable section

namespace Cert.KernelIdeal.Flash

open Idealize.ShloMosaic Idealize.ShloMosaic.TcCoe
open Cert.KernelIdeal.Gen

open_calls flat := cc0_flash_bwd [k0_part9, k0_part10, k0_part11, k0_part12, k0_part13, k0_part14, k0_part15, k0_part16, k0_part17, k0_part18]
cut_chain seg := flat at 8, 55, 102

end Cert.KernelIdeal.Flash
-- ==== Proof.Flash.ChunkA.lean ====
module

public import proofs.«01_k».proof.Proof.Flash.Trip
public import proofs.«01_k».proof.Proof.Flash.Mask
public import proofs.«01_k».proof.Proof.Flash.Flat
public import proofs.«01_k».proof.Proof.Flash.Word

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

set_option hygiene false in
/-- The first masked chunk: rows from the start of the block, its first 512 keys. -/
theorem chunkA (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (B : Blocks) (Y : Res) (κ : Prog (TpuEff nD τ sig (Elt Ideal) Λ₀ .tc) PUnit) (E : Set ℕ) (Q : PUnit → sProp 𝕄) (hR : (1024 * (i 1).val) + 512 ≤ 8192) :
    iprop((Ins c arg2 arg3 arg4 arg5 arg6 arg7 arg8 arg9 arg10 B ∗ Outs c arg11 arg12 arg13 arg14 arg15 Y) ∗ ((Ins c arg2 arg3 arg4 arg5 arg6 arg7 arg8 arg9 arg10 B ∗ Outs c arg11 arg12 arg13 arg14 arg15 (step B (1024 * (i 1).val) (1024 * (i 1).val) hR Y))
      -∗ wp frame (wpE (defs₀ (F := Ideal)) Variants.none c none) E κ Q))
      ⊢ wp frame (wpE (defs₀ (F := Ideal)) Variants.none c none) E (seg2 (F := Ideal) i arg2 arg3 arg4 arg5 arg6 arg7 arg8 arg9 arg10 arg11 arg12 arg13 arg14 arg15 κ) Q := by
    unfold Ins Outs owns
    iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%f11, %hf11, H11⟩, ⟨%f12, %hf12, H12⟩, ⟨%f13, %hf13, H13⟩⟩, Hκ⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    have hi : (i 1).val < 8 := (i 1).isLt
    have hoff : BitVec.toNat (Scalar.indexCast (Scalar.muli (Scalar.addi (Scalar.muli (BitVec.ofNat 32 (i 1).val) 2#32) 0#32) 512#32)) = (1024 * (i 1).val) := congrFun (k0_off1_eq i 0) 1
    have hx : ∀ (x : Fin 512) h, (⟨BitVec.toNat (Scalar.indexCast (Scalar.muli (Scalar.addi (Scalar.muli (BitVec.ofNat 32 (i 1).val) 2#32) 0#32) 512#32)) + x.val, h⟩ : Fin 8192) = rowAt (1024 * (i 1).val) hR x := fun x h => Fin.ext (congrArg (· + x.val) hoff)
    have ha : Scalar.muli (BitVec.ofNat 32 (i 1).val) 1024#32 = BitVec.ofNat 32 (1024 * (i 1).val) := word_lo _ hi
    have hb : Scalar.muli (Scalar.addi (Scalar.muli (BitVec.ofNat 32 (i 1).val) 2#32) 0#32) 512#32 = BitVec.ofNat 32 (1024 * (i 1).val) := word_hi0 _ hi
    have hm := fun (j : Fin 512) (r : Fin 512) => mask_exp ha hb (by omega) (by omega) j.val (by omega) r.val r.isLt
    unfold seg2
    sl_exec
    iapply Hκ
    isplitl [H0 H1 H2 H3 H4 H5 H6 H7 H8]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      iexists _; isplitr; · ipureintro; exact harg10.read_unread _
      iexact H8
    isplitl [H9]
    · iexists _; isplitr; swap; · iexact H9
      ipureintro
      sl_unfold_words
      simp only [View.readAt_eq_ld, read_writes_overlay, View.writes_nil, Memref.IsWhole.read_unread]
      refine twoRows_of _ _ hoff hR _ _ _ _ Y.dq (stepQ B _ _ Y.dq) (fun r l => ?_) (fun r l => ?_) (fun r d h => if_neg h)
      · refine Eq.trans ?_ (stepQ_half B _ hR _ 0 r l).symm
        simp only [ds, pr_at, sc]
        pointwise [k0_pay55, k0_pay50, k0_pay48, k0_pay47, k0_pay46, k0_pay45, k0_pay44, k0_pay43, k0_pay42]
        try simp only [lane0, lane1, hx, hm]
      · refine Eq.trans ?_ (stepQ_half B _ hR _ 1 r l).symm
        simp only [ds, pr_at, sc]
        pointwise [k0_pay63, k0_pay59, k0_pay58, k0_pay56, k0_pay42]
        try simp only [lane0, lane1, hx, hm]
    isplitl [H10]
    · iexists _; isplitr; swap; · iexact H10
      ipureintro
      sl_unfold_words
      simp only [View.readAt_eq_ld, read_writes_overlay, View.writes_nil, Memref.IsWhole.read_unread]
      refine twoHeads _ _ _ _ _ _ (by decide) (fun l j => ?_) (fun l j => ?_) (fun d j h => stepK_after B _ hR Y.dk d j h)
      · refine Eq.trans ?_ (stepK_at B _ _ hR _ 0 l ⟨j.val, by omega⟩).symm
        simp only [ds, pr_at, sc]
        pointwise [k0_pay52, k0_pay51, k0_pay50, k0_pay48, k0_pay47, k0_pay46, k0_pay45, k0_pay44, k0_pay43, k0_pay42]
        try simp only [lane0, lane1, hx, hm]
      · refine Eq.trans ?_ (stepK_at B _ _ hR _ 1 l ⟨j.val, by omega⟩).symm
        simp only [ds, pr_at, sc]
        pointwise [k0_pay60, k0_pay59, k0_pay58, k0_pay56, k0_pay42]
        try simp only [lane0, lane1, hx, hm]
    isplitl [H11]
    · iexists _; isplitr; swap; · iexact H11
      ipureintro
      sl_unfold_words
      simp only [View.readAt_eq_ld, read_writes_overlay, View.writes_nil, Memref.IsWhole.read_unread]
      refine twoHeads _ _ _ _ _ _ (by decide) (fun l j => ?_) (fun l j => ?_) (fun d j h => stepV_after B _ hR Y.dv d j h)
      · refine Eq.trans ?_ (stepV_at B _ _ hR _ 0 l ⟨j.val, by omega⟩).symm
        simp only [pr_at, sc]
        pointwise [k0_pay49, k0_pay48, k0_pay47, k0_pay46, k0_pay45, k0_pay44, k0_pay43, k0_pay42]
        try simp only [lane0, lane1, hx, hm]
      · refine Eq.trans ?_ (stepV_at B _ _ hR _ 1 l ⟨j.val, by omega⟩).symm
        simp only [pr_at, sc]
        pointwise [k0_pay57, k0_pay56, k0_pay42]
        try simp only [lane0, lane1, hx, hm]
    isplitl [H12]
    · iexists _; isplitr; swap; · iexact H12
      ipureintro
      sl_unfold_words
      simp only [View.readAt_eq_ld, read_writes_overlay, View.writes_nil, Memref.IsWhole.read_unread]
      refine twoGates _ _ _ _ _ _ (by decide) (fun j => ?_) (fun j => ?_) (fun e j h => stepCk_after B _ hR Y.dck e j h)
      · refine Eq.trans ?_ (stepCk_at B _ _ hR _ 0 ⟨j.val, by omega⟩).symm
        simp only [ds, pr_at, sc]
        pointwise [k0_pay53, k0_pay50, k0_pay48, k0_pay47, k0_pay46, k0_pay45, k0_pay44, k0_pay43, k0_pay42]
        try simp only [lane0, lane1, hx, hm]
      · refine Eq.trans ?_ (stepCk_at B _ _ hR _ 1 ⟨j.val, by omega⟩).symm
        simp only [ds, pr_at, sc]
        pointwise [k0_pay61, k0_pay59, k0_pay58, k0_pay56, k0_pay42]
        try simp only [lane0, lane1, hx, hm]
    iexists _; isplitr; swap; · iexact H13
    ipureintro
    sl_unfold_words
    simp only [View.readAt_eq_ld, read_writes_overlay, View.writes_nil, Memref.IsWhole.read_unread]
    refine twoCols_of _ _ hoff hR _ _ _ _ Y.dcq (stepCq B _ _ Y.dcq) (fun r => ?_) (fun r => ?_) (fun r e h => if_neg h)
    · refine Eq.trans ?_ (stepCq_half B _ hR _ 0 r).symm
      simp only [ds, pr_at, sc]
      pointwise [k0_pay54, k0_pay50, k0_pay48, k0_pay47, k0_pay46, k0_pay45, k0_pay44, k0_pay43, k0_pay42]
      try simp only [lane0, lane1, hx, hm]
    · refine Eq.trans ?_ (stepCq_half B _ hR _ 1 r).symm
      simp only [ds, pr_at, sc]
      pointwise [k0_pay62, k0_pay59, k0_pay58, k0_pay56, k0_pay42]
      try simp only [lane0, lane1, hx, hm]

end Cert.KernelIdeal.Flash
-- ==== Proof.Flash.ChunkB.lean ====
module

public import proofs.«01_k».proof.Proof.Flash.Trip
public import proofs.«01_k».proof.Proof.Flash.Mask
public import proofs.«01_k».proof.Proof.Flash.Flat
public import proofs.«01_k».proof.Proof.Flash.Word

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

set_option hygiene false in
/-- The second masked chunk: rows from the middle of the block, all its keys. -/
theorem chunkB (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (B : Blocks) (Y : Res) (κ : Prog (TpuEff nD τ sig (Elt Ideal) Λ₀ .tc) PUnit) (E : Set ℕ) (Q : PUnit → sProp 𝕄) (hR : (1024 * (i 1).val + 512 * 1) + 512 ≤ 8192) :
    iprop((Ins c arg2 arg3 arg4 arg5 arg6 arg7 arg8 arg9 arg10 B ∗ Outs c arg11 arg12 arg13 arg14 arg15 Y) ∗ ((Ins c arg2 arg3 arg4 arg5 arg6 arg7 arg8 arg9 arg10 B ∗ Outs c arg11 arg12 arg13 arg14 arg15 (step B (1024 * (i 1).val) (1024 * (i 1).val + 512 * 1) hR Y))
      -∗ wp frame (wpE (defs₀ (F := Ideal)) Variants.none c none) E κ Q))
      ⊢ wp frame (wpE (defs₀ (F := Ideal)) Variants.none c none) E (seg3 (F := Ideal) i arg2 arg3 arg4 arg5 arg6 arg7 arg8 arg9 arg10 arg11 arg12 arg13 arg14 arg15 κ) Q := by
    unfold Ins Outs owns
    iintro ⟨⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%f9, %hf9, H9⟩, ⟨%f10, %hf10, H10⟩, ⟨%f11, %hf11, H11⟩, ⟨%f12, %hf12, H12⟩, ⟨%f13, %hf13, H13⟩⟩, Hκ⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    have hi : (i 1).val < 8 := (i 1).isLt
    have hoff : BitVec.toNat (Scalar.indexCast (Scalar.muli (Scalar.addi (Scalar.muli (BitVec.ofNat 32 (i 1).val) 2#32) 1#32) 512#32)) = (1024 * (i 1).val + 512 * 1) := congrFun (k0_off1_eq i 1) 1
    have hx : ∀ (x : Fin 512) h, (⟨BitVec.toNat (Scalar.indexCast (Scalar.muli (Scalar.addi (Scalar.muli (BitVec.ofNat 32 (i 1).val) 2#32) 1#32) 512#32)) + x.val, h⟩ : Fin 8192) = rowAt (1024 * (i 1).val + 512 * 1) hR x := fun x h => Fin.ext (congrArg (· + x.val) hoff)
    have ha : Scalar.muli (BitVec.ofNat 32 (i 1).val) 1024#32 = BitVec.ofNat 32 (1024 * (i 1).val) := word_lo _ hi
    have hb : Scalar.muli (Scalar.addi (Scalar.muli (BitVec.ofNat 32 (i 1).val) 2#32) 1#32) 512#32 = BitVec.ofNat 32 (1024 * (i 1).val + 512 * 1) := word_hi1 _ hi
    have hm := fun (j : Fin 1024) (r : Fin 512) => mask_exp ha hb (by omega) (by omega) j.val (by omega) r.val r.isLt
    unfold seg3
    sl_exec
    iapply Hκ
    isplitl [H0 H1 H2 H3 H4 H5 H6 H7 H8]
    · isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      iexists _; isplitr; · ipureintro; exact harg10.read_unread _
      iexact H8
    isplitl [H9]
    · iexists _; isplitr; swap; · iexact H9
      ipureintro
      sl_unfold_words
      simp only [View.readAt_eq_ld, read_writes_overlay, View.writes_nil, Memref.IsWhole.read_unread]
      refine twoRows_of _ _ hoff hR _ _ _ _ Y.dq (stepQ B _ _ Y.dq) (fun r l => ?_) (fun r l => ?_) (fun r d h => if_neg h)
      · refine Eq.trans ?_ (stepQ_at B _ _ hR _ 0 r l).symm
        simp only [ds, pr_at, sc]
        pointwise [k0_pay75, k0_pay69, k0_pay67, k0_pay66, k0_pay65, k0_pay64]
        try simp only [lane0, lane1, hx, hm]
      · refine Eq.trans ?_ (stepQ_at B _ _ hR _ 1 r l).symm
        simp only [ds, pr_at, sc]
        pointwise [k0_pay88, k0_pay83, k0_pay81, k0_pay80, k0_pay79, k0_pay78, k0_pay77, k0_pay76, k0_pay64]
        try simp only [lane0, lane1, hx, hm]
    isplitl [H10]
    · iexists _; isplitr; swap; · iexact H10
      ipureintro
      sl_unfold_words
      simp only [View.readAt_eq_ld, read_writes_overlay, View.writes_nil, Memref.IsWhole.read_unread]
      refine twoHeads _ _ _ _ _ _ le_rfl (fun l j => ?_) (fun l j => ?_) (fun d j h => absurd j.isLt (by omega))
      · refine Eq.trans ?_ (stepK_at B _ _ hR _ 0 l j).symm
        simp only [ds, pr_at, sc]
        pointwise [k0_pay70, k0_pay69, k0_pay67, k0_pay66, k0_pay65, k0_pay64]
        try simp only [lane0, lane1, hx, hm]
      · refine Eq.trans ?_ (stepK_at B _ _ hR _ 1 l j).symm
        simp only [ds, pr_at, sc]
        pointwise [k0_pay85, k0_pay84, k0_pay83, k0_pay81, k0_pay80, k0_pay79, k0_pay78, k0_pay77, k0_pay76, k0_pay64]
        try simp only [lane0, lane1, hx, hm]
    isplitl [H11]
    · iexists _; isplitr; swap; · iexact H11
      ipureintro
      sl_unfold_words
      simp only [View.readAt_eq_ld, read_writes_overlay, View.writes_nil, Memref.IsWhole.read_unread]
      refine twoHeads _ _ _ _ _ _ le_rfl (fun l j => ?_) (fun l j => ?_) (fun d j h => absurd j.isLt (by omega))
      · refine Eq.trans ?_ (stepV_at B _ _ hR _ 0 l j).symm
        simp only [pr_at, sc]
        pointwise [k0_pay68, k0_pay67, k0_pay66, k0_pay65, k0_pay64]
        try simp only [lane0, lane1, hx, hm]
      · refine Eq.trans ?_ (stepV_at B _ _ hR _ 1 l j).symm
        simp only [pr_at, sc]
        pointwise [k0_pay82, k0_pay81, k0_pay80, k0_pay79, k0_pay78, k0_pay77, k0_pay76, k0_pay64]
        try simp only [lane0, lane1, hx, hm]
    isplitl [H12]
    · iexists _; isplitr; swap; · iexact H12
      ipureintro
      sl_unfold_words
      simp only [View.readAt_eq_ld, read_writes_overlay, View.writes_nil, Memref.IsWhole.read_unread]
      refine twoGates _ _ _ _ _ _ le_rfl (fun j => ?_) (fun j => ?_) (fun e j h => dif_neg (by rcases h with h | h; exacts [by show ¬ (e.val < 2); omega, absurd j.isLt (by omega)]))
      · refine Eq.trans ?_ (stepCk_at B _ _ hR _ 0 j).symm
        simp only [ds, pr_at, sc]
        pointwise [k0_pay73, k0_pay72, k0_pay71, k0_pay69, k0_pay67, k0_pay66, k0_pay65, k0_pay64]
        try simp only [lane0, lane1, hx, hm]
      · refine Eq.trans ?_ (stepCk_at B _ _ hR _ 1 j).symm
        simp only [ds, pr_at, sc]
        pointwise [k0_pay86, k0_pay83, k0_pay81, k0_pay80, k0_pay79, k0_pay78, k0_pay77, k0_pay76, k0_pay64]
        try simp only [lane0, lane1, hx, hm]
    iexists _; isplitr; swap; · iexact H13
    ipureintro
    sl_unfold_words
    simp only [View.readAt_eq_ld, read_writes_overlay, View.writes_nil, Memref.IsWhole.read_unread]
    refine twoCols_of _ _ hoff hR _ _ _ _ Y.dcq (stepCq B _ _ Y.dcq) (fun r => ?_) (fun r => ?_) (fun r e h => if_neg h)
    · refine Eq.trans ?_ (stepCq_at B _ _ hR _ 0 r).symm
      simp only [ds, pr_at, sc]
      pointwise [k0_pay74, k0_pay69, k0_pay67, k0_pay66, k0_pay65, k0_pay64]
      try simp only [lane0, lane1, hx, hm]
    · refine Eq.trans ?_ (stepCq_at B _ _ hR _ 1 r).symm
      simp only [ds, pr_at, sc]
      pointwise [k0_pay87, k0_pay83, k0_pay81, k0_pay80, k0_pay79, k0_pay78, k0_pay77, k0_pay76, k0_pay64]
      try simp only [lane0, lane1, hx, hm]

end Cert.KernelIdeal.Flash
-- ==== Proof.Flash.Zero.lean ====
module

public import proofs.«01_k».proof.Proof.Flash.Trip
public import proofs.«01_k».proof.Proof.Flash.Mask
public import proofs.«01_k».proof.Proof.Flash.Flat

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- A matrix replaced whole. -/
theorem overlay2_all {α : Type} {n0 n1 : ℕ} (inb) (X w : (⟨2, ![n0, n1]⟩ : Shape).Idx → α) :
    (Rect.unit (s := ⟨2, ![n0, n1]⟩) ![0, 0] ![n0, n1] inb).overlay X w = w := by
  funext i
  obtain ⟨a, b, rfl⟩ : ∃ a b, i = ix2 a b := ⟨i 0, i 1, eq_ix2 i⟩
  rw [overlay2, dif_pos (by omega)]
  rfl

/-- A rank-three block replaced whole. -/
theorem overlay3_all {α : Type} {n0 n1 n2 : ℕ} (inb) (X w : (⟨3, ![n0, n1, n2]⟩ : Shape).Idx → α) :
    (Rect.unit (s := ⟨3, ![n0, n1, n2]⟩) ![0, 0, 0] ![n0, n1, n2] inb).overlay X w = w := by
  funext i
  obtain ⟨a, b, d, rfl⟩ : ∃ a b d, i = ix3 a b d := ⟨i 0, i 1, i 2, eq_ix3 i⟩
  rw [overlay3, dif_pos (by omega)]
  rfl

/-- The results at the start of a group's first grid point: all zero. -/
def zeroAll : Res := ⟨fun _ => (0 : EReal), fun _ => (0 : EReal), fun _ => (0 : EReal), fun _ => (0 : EReal), fun _ => (0 : EReal)⟩

/-- The results at the start of a later grid point: the blocks of the keys zero, the blocks of the rows as they were. -/
def zeroKeys (Y : Res) : Res := ⟨Y.dq, fun _ => (0 : EReal), fun _ => (0 : EReal), fun _ => (0 : EReal), Y.dcq⟩

set_option hygiene false in
/-- At a group's first point the results are set to zero. -/
theorem zeroA (c : Dev nD) (i : grid0.Coords) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (Y : Res) (κ : Prog (TpuEff nD τ sig (Elt Ideal) Λ₀ .tc) PUnit) (E : Set ℕ) (Q : PUnit → sProp 𝕄) (hc0 : (Scalar.cmpi .ne (Scalar.extui (Scalar.cmpi .eq (BitVec.ofNat 32 (i 1).val) 0#32)) 0#32) = 1#1) :
    iprop(Outs c arg11 arg12 arg13 arg14 arg15 Y ∗ (Outs c arg11 arg12 arg13 arg14 arg15 zeroAll -∗ wp frame (wpE (defs₀ (F := Ideal)) Variants.none c none) E κ Q))
      ⊢ wp frame (wpE (defs₀ (F := Ideal)) Variants.none c none) E (seg1 (F := Ideal) i arg11 arg12 arg13 arg14 arg15 κ) Q := by
    unfold Outs owns
    iintro ⟨⟨⟨%f9, %hf9, H9⟩, ⟨%f10, %hf10, H10⟩, ⟨%f11, %hf11, H11⟩, ⟨%f12, %hf12, H12⟩, ⟨%f13, %hf13, H13⟩⟩, Hκ⟩
    obtain rfl := harg11.eq_unread hf9; obtain rfl := harg12.eq_unread hf10; obtain rfl := harg13.eq_unread hf11; obtain rfl := harg14.eq_unread hf12; obtain rfl := harg15.eq_unread hf13
    unfold seg1
    sl_exec (disch := first | sl_exact hc0)
    iapply Hκ
    isplitl [H9]
    · iexists _; isplitr; swap; · iexact H9
      ipureintro
      sl_unfold_words
      simp only [View.readAt_eq_ld, read_writes_overlay, View.writes_nil, Memref.IsWhole.read_unread]
      refine (overlay2_all _ _ _).trans (funext fun y => ?_)
      obtain ⟨a, b, rfl⟩ : ∃ a b, y = ix2 a b := ⟨y 0, y 1, eq_ix2 y⟩
      pointwise [k0_pay37]
      try rfl
    isplitl [H10]
    · iexists _; isplitr; swap; · iexact H10
      ipureintro
      sl_unfold_words
      simp only [View.readAt_eq_ld, read_writes_overlay, View.writes_nil, Memref.IsWhole.read_unread]
      refine (overlay2_all _ _ _).trans (funext fun y => ?_)
      obtain ⟨a, b, rfl⟩ : ∃ a b, y = ix2 a b := ⟨y 0, y 1, eq_ix2 y⟩
      pointwise [k0_pay40]
      try rfl
    isplitl [H11]
    · iexists _; isplitr; swap; · iexact H11
      ipureintro
      sl_unfold_words
      simp only [View.readAt_eq_ld, read_writes_overlay, View.writes_nil, Memref.IsWhole.read_unread]
      refine (overlay2_all _ _ _).trans (funext fun y => ?_)
      obtain ⟨a, b, rfl⟩ : ∃ a b, y = ix2 a b := ⟨y 0, y 1, eq_ix2 y⟩
      pointwise [k0_pay41]
      try rfl
    isplitl [H12]
    · iexists _; isplitr; swap; · iexact H12
      ipureintro
      sl_unfold_words
      simp only [View.readAt_eq_ld, read_writes_overlay, View.writes_nil, Memref.IsWhole.read_unread]
      refine (overlay3_all _ _ _).trans (funext fun y => ?_)
      obtain ⟨a, b, d, rfl⟩ : ∃ a b d, y = ix3 a b d := ⟨y 0, y 1, y 2, eq_ix3 y⟩
      pointwise [k0_pay39]
      try rfl
    iexists _; isplitr; swap; · iexact H13
    ipureintro
    sl_unfold_words
    simp only [View.readAt_eq_ld, read_writes_overlay, View.writes_nil, Memref.IsWhole.read_unread]
    refine (overlay3_all _ _ _).trans (funext fun y => ?_)
    obtain ⟨a, b, d, rfl⟩ : ∃ a b d, y = ix3 a b d := ⟨y 0, y 1, y 2, eq_ix3 y⟩
    pointwise [k0_pay38]
    try rfl

set_option hygiene false in
/-- At a later point the blocks of the keys are set to zero. -/
theorem zeroB (c : Dev nD) (i : grid0.Coords) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (Y : Res) (κ : Prog (TpuEff nD τ sig (Elt Ideal) Λ₀ .tc) PUnit) (E : Set ℕ) (Q : PUnit → sProp 𝕄) (hc0 : ¬ (Scalar.cmpi .ne (Scalar.extui (Scalar.cmpi .eq (BitVec.ofNat 32 (i 1).val) 0#32)) 0#32) = 1#1) :
    iprop(Outs c arg11 arg12 arg13 arg14 arg15 Y ∗ (Outs c arg11 arg12 arg13 arg14 arg15 (zeroKeys Y) -∗ wp frame (wpE (defs₀ (F := Ideal)) Variants.none c none) E κ Q))
      ⊢ wp frame (wpE (defs₀ (F := Ideal)) Variants.none c none) E (seg1 (F := Ideal) i arg11 arg12 arg13 arg14 arg15 κ) Q := by
    unfold Outs owns
    iintro ⟨⟨⟨%f9, %hf9, H9⟩, ⟨%f10, %hf10, H10⟩, ⟨%f11, %hf11, H11⟩, ⟨%f12, %hf12, H12⟩, ⟨%f13, %hf13, H13⟩⟩, Hκ⟩
    obtain rfl := harg11.eq_unread hf9; obtain rfl := harg12.eq_unread hf10; obtain rfl := harg13.eq_unread hf11; obtain rfl := harg14.eq_unread hf12; obtain rfl := harg15.eq_unread hf13
    unfold seg1
    sl_exec (disch := first | sl_exact hc0)
    iapply Hκ
    isplitl [H9]
    · iexists _; isplitr; swap; · iexact H9
      ipureintro
      exact harg11.read_unread _
    isplitl [H10]
    · iexists _; isplitr; swap; · iexact H10
      ipureintro
      sl_unfold_words
      simp only [View.readAt_eq_ld, read_writes_overlay, View.writes_nil, Memref.IsWhole.read_unread]
      refine (overlay2_all _ _ _).trans (funext fun y => ?_)
      obtain ⟨a, b, rfl⟩ : ∃ a b, y = ix2 a b := ⟨y 0, y 1, eq_ix2 y⟩
      pointwise [k0_pay40]
      try rfl
    isplitl [H11]
    · iexists _; isplitr; swap; · iexact H11
      ipureintro
      sl_unfold_words
      simp only [View.readAt_eq_ld, read_writes_overlay, View.writes_nil, Memref.IsWhole.read_unread]
      refine (overlay2_all _ _ _).trans (funext fun y => ?_)
      obtain ⟨a, b, rfl⟩ : ∃ a b, y = ix2 a b := ⟨y 0, y 1, eq_ix2 y⟩
      pointwise [k0_pay41]
      try rfl
    isplitl [H12]
    · iexists _; isplitr; swap; · iexact H12
      ipureintro
      sl_unfold_words
      simp only [View.readAt_eq_ld, read_writes_overlay, View.writes_nil, Memref.IsWhole.read_unread]
      refine (overlay3_all _ _ _).trans (funext fun y => ?_)
      obtain ⟨a, b, d, rfl⟩ : ∃ a b d, y = ix3 a b d := ⟨y 0, y 1, y 2, eq_ix3 y⟩
      pointwise [k0_pay39]
      try rfl
    iexists _; isplitr; swap; · iexact H13
    ipureintro
    exact harg15.read_unread _

end Cert.KernelIdeal.Flash
-- ==== Proof.Flash.Loops.lean ====
module

public import proofs.«01_k».proof.Proof.Flash.Trip
public import proofs.«01_k».proof.Proof.Flash.Mask
public import proofs.«01_k».proof.Proof.Flash.Flat

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

/-- The results after `n` full chunks. -/
def runT (B : Blocks) (κ₀ : ℕ) (Y : Res) : ℕ → Res
  | 0 => Y
  | n + 1 => if h : κ₀ + 512 * n + 1024 + 512 ≤ 8192 then step B κ₀ (κ₀ + 512 * n + 1024) h (runT B κ₀ Y n) else runT B κ₀ Y n

/-- The loops: every full chunk in turn; the remainder loop makes no trip. -/
theorem loops (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (B : Blocks) (Y : Res) (E : Set ℕ) (Q : PUnit → sProp 𝕄) :
    iprop((Ins c arg2 arg3 arg4 arg5 arg6 arg7 arg8 arg9 arg10 B ∗ Outs c arg11 arg12 arg13 arg14 arg15 Y) ∗ ((Ins c arg2 arg3 arg4 arg5 arg6 arg7 arg8 arg9 arg10 B ∗ Outs c arg11 arg12 arg13 arg14 arg15 (runT B (1024 * (i 1).val) Y (k0_t1_loop i).trips)) -∗ Q ⟨⟩))
      ⊢ wp frame (wpE (defs₀ (F := Ideal)) Variants.none c none) E (seg3.tail (F := Ideal) i arg2 harg2 arg3 harg3 arg4 harg4 arg5 harg5 arg6 harg6 arg7 harg7 arg8 harg8 arg9 harg9 arg10 harg10 arg11 harg11 arg12 harg12 arg13 harg13 arg14 harg14 arg15 harg15) Q := by
    have hbody : ∀ (k : Fin (k0_t1_loop i).trips) (acc : PUnit), iprop(Ins c arg2 arg3 arg4 arg5 arg6 arg7 arg8 arg9 arg10 B ∗ Outs c arg11 arg12 arg13 arg14 arg15 (runT B (1024 * (i 1).val) Y k.val))
        ⊢ wp frame (wpE (defs₀ (F := Ideal)) Variants.none c none) E (k0_t1_body i arg2 harg2 arg3 harg3 arg4 harg4 arg5 harg5 arg6 harg6 arg7 harg7 arg8 harg8 arg9 harg9 arg10 harg10 arg11 harg11 arg12 harg12 arg13 harg13 arg14 harg14 arg15 harg15 (Scalar.muli (Scalar.addi (BitVec.ofNat 32 (i 1).val) 1#32) 2#32) k acc)
          (fun _ => iprop(Ins c arg2 arg3 arg4 arg5 arg6 arg7 arg8 arg9 arg10 B ∗ Outs c arg11 arg12 arg13 arg14 arg15 (runT B (1024 * (i 1).val) Y (k.val + 1)))) := fun k acc => by
      have e : runT B (1024 * (i 1).val) Y (k.val + 1) = step B (1024 * (i 1).val) (1024 * (i 1).val + 512 * k.val + 1024) (t1_bound i k) (runT B (1024 * (i 1).val) Y k.val) :=
        dif_pos (t1_bound i k)
      rw [e]
      exact trip c i arg2 harg2 arg3 harg3 arg4 harg4 arg5 harg5 arg6 harg6 arg7 harg7 arg8 harg8 arg9 harg9 arg10 harg10 arg11 harg11 arg12 harg12 arg13 harg13 arg14 harg14 arg15 harg15 _ k B _ E
    have hp2 : (Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15
        (Scalar.addi (Scalar.muli (Scalar.addi (BitVec.ofNat 32 (i 1).val) 1#32) 2#32) (Scalar.muli (Scalar.divsi (Scalar.subi 16#32 (Scalar.muli (Scalar.addi (BitVec.ofNat 32 (i 1).val) 1#32) 2#32)) 1#32) 1#32))) >>= fun _ => Pure.pure ⟨⟩ : Prog (TpuEff nD τ sig (Elt Ideal) Λ₀ .tc) PUnit) = Pure.pure ⟨⟩ :=
      (congrArg (fun p : Prog (TpuEff nD τ sig (Elt Ideal) Λ₀ .tc) PUnit => p >>= fun _ => (Pure.pure PUnit.unit : Prog (TpuEff nD τ sig (Elt Ideal) Λ₀ .tc) PUnit)) (Scf.for_eq_ret _ _ _ _ _ _ (Scf.rem_trips _ _))).trans rfl
    have key := Scf.wp_for_bind (M := 𝕄) frame (wpE (defs₀ (F := Ideal)) Variants.none c none) E (k0_t1_loop i).lb (k0_t1_loop i).ub (k0_t1_loop i).st (k0_t1_ok i) PUnit.unit
      (k0_t1_body i arg2 harg2 arg3 harg3 arg4 harg4 arg5 harg5 arg6 harg6 arg7 harg7 arg8 harg8 arg9 harg9 arg10 harg10 arg11 harg11 arg12 harg12 arg13 harg13 arg14 harg14 arg15 harg15 (Scalar.muli (Scalar.addi (BitVec.ofNat 32 (i 1).val) 1#32) 2#32))
      (fun n _ => iprop(Ins c arg2 arg3 arg4 arg5 arg6 arg7 arg8 arg9 arg10 B ∗ Outs c arg11 arg12 arg13 arg14 arg15 (runT B (1024 * (i 1).val) Y n))) hbody
      (kk := fun _ => Scf.Loop.for (k0_t2_loop i) (k0_t2_ok i) ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15
        (Scalar.addi (Scalar.muli (Scalar.addi (BitVec.ofNat 32 (i 1).val) 1#32) 2#32) (Scalar.muli (Scalar.divsi (Scalar.subi 16#32 (Scalar.muli (Scalar.addi (BitVec.ofNat 32 (i 1).val) 1#32) 2#32)) 1#32) 1#32))) >>= fun _ => Pure.pure ⟨⟩) (Q := Q)
    replace key : iprop(Ins c arg2 arg3 arg4 arg5 arg6 arg7 arg8 arg9 arg10 B ∗ Outs c arg11 arg12 arg13 arg14 arg15 Y) ⊢ _ := key
    rw [seg4.eq]
    unfold seg4 seg4.tail
    iintro ⟨H, HQ⟩
    iapply key $$ H
    iintro %acc H
    rw [hp2]
    sl_step
    iapply HQ $$ H

end Cert.KernelIdeal.Flash
-- ==== Proof.Flash.Body.lean ====
module

public import proofs.«01_k».proof.Proof.Flash.Trip
public import proofs.«01_k».proof.Proof.Flash.Mask
public import proofs.«01_k».proof.Proof.Flash.Flat
public import proofs.«01_k».proof.Proof.Flash.ChunkA
public import proofs.«01_k».proof.Proof.Flash.ChunkB
public import proofs.«01_k».proof.Proof.Flash.Zero
public import proofs.«01_k».proof.Proof.Flash.Loops

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

local notation "𝕄" => MT nD τ sig Unit (Elt Ideal) ℕ (UR sig nD τ) ℕ

theorem rowA (i : grid0.Coords) : 1024 * (i 1).val + 512 ≤ 8192 := by have : (i 1).val < 8 := (i 1).isLt; omega
theorem rowB (i : grid0.Coords) : 1024 * (i 1).val + 512 * 1 + 512 ≤ 8192 := by have : (i 1).val < 8 := (i 1).isLt; omega

/-- The number of full chunks after the block's own two. -/
theorem t1_trips (i : grid0.Coords) : (k0_t1_loop i).trips = 14 - 2 * (i 1).val := by
  have h : ∀ n : Fin 8, (Scf.trips (Scalar.muli (Scalar.addi (BitVec.ofNat 32 n.val) 1#32) 2#32) (Scalar.addi (Scalar.muli (Scalar.addi (BitVec.ofNat 32 n.val) 1#32) 2#32) (Scalar.muli (Scalar.divsi (Scalar.subi 16#32 (Scalar.muli (Scalar.addi (BitVec.ofNat 32 n.val) 1#32) 2#32)) 1#32) 1#32)) 1#32) = 14 - 2 * n.val := by decide +kernel
  exact h (i 1)

/-- What a grid point starts from: the blocks of the keys at zero, the blocks of the rows at zero at a group's first point. -/
def start (ki : ℕ) (Y : Res) : Res := if ki = 0 then zeroAll else zeroKeys Y

/-- What a grid point leaves: its two masked chunks, then every full chunk. -/
def point (B : Blocks) (i : grid0.Coords) (Y : Res) : Res :=
  runT B (1024 * (i 1).val) (step B (1024 * (i 1).val) (1024 * (i 1).val + 512 * 1) (rowB i) (step B (1024 * (i 1).val) (1024 * (i 1).val) (rowA i) (start (i 1).val Y))) (14 - 2 * (i 1).val)

theorem cond_iff (i : grid0.Coords) : (Scalar.cmpi .ne (Scalar.extui (Scalar.cmpi .eq (BitVec.ofNat 32 (i 1).val) 0#32)) 0#32) = 1#1 ↔ (i 1).val = 0 := by
  have h : ∀ n : Fin 8, (Scalar.cmpi .ne (Scalar.extui (Scalar.cmpi .eq (BitVec.ofNat 32 n.val) 0#32)) 0#32) = 1#1 ↔ n.val = 0 := by decide +kernel
  exact h (i 1)

/-- The body after its first stretch: the two masked chunks, then the loops. -/
theorem restOf (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (B : Blocks) (Y : Res) (E : Set ℕ) (Q : PUnit → sProp 𝕄) :
    iprop((Ins c arg2 arg3 arg4 arg5 arg6 arg7 arg8 arg9 arg10 B ∗ Outs c arg11 arg12 arg13 arg14 arg15 Y) ∗ ((Ins c arg2 arg3 arg4 arg5 arg6 arg7 arg8 arg9 arg10 B ∗ Outs c arg11 arg12 arg13 arg14 arg15 (runT B (1024 * (i 1).val) (step B (1024 * (i 1).val) (1024 * (i 1).val + 512 * 1) (rowB i) (step B (1024 * (i 1).val) (1024 * (i 1).val) (rowA i) Y)) (14 - 2 * (i 1).val))) -∗ Q ⟨⟩))
      ⊢ wp frame (wpE (defs₀ (F := Ideal)) Variants.none c none) E (seg1.tail (F := Ideal) i arg2 harg2 arg3 harg3 arg4 harg4 arg5 harg5 arg6 harg6 arg7 harg7 arg8 harg8 arg9 harg9 arg10 harg10 arg11 harg11 arg12 harg12 arg13 harg13 arg14 harg14 arg15 harg15) Q := by
    iintro ⟨H, HQ⟩
    rw [seg2.eq]
    iapply (chunkA c i arg2 harg2 arg3 harg3 arg4 harg4 arg5 harg5 arg6 harg6 arg7 harg7 arg8 harg8 arg9 harg9 arg10 harg10 arg11 harg11 arg12 harg12 arg13 harg13 arg14 harg14 arg15 harg15 B Y _ E Q (rowA i))
    isplitl [H]
    · iexact H
    iintro H
    rw [seg3.eq]
    iapply (chunkB c i arg2 harg2 arg3 harg3 arg4 harg4 arg5 harg5 arg6 harg6 arg7 harg7 arg8 harg8 arg9 harg9 arg10 harg10 arg11 harg11 arg12 harg12 arg13 harg13 arg14 harg14 arg15 harg15 B _ _ E Q (rowB i))
    isplitl [H]
    · iexact H
    iintro H
    iapply (loops c i arg2 harg2 arg3 harg3 arg4 harg4 arg5 harg5 arg6 harg6 arg7 harg7 arg8 harg8 arg9 harg9 arg10 harg10 arg11 harg11 arg12 harg12 arg13 harg13 arg14 harg14 arg15 harg15 B _ E Q)
    isplitl [H]
    · iexact H
    iintro H
    rw [t1_trips]
    iapply HQ $$ H

/-- The body of a grid point on its staging buffers. -/
theorem body (c : Dev nD) (i : grid0.Coords) (arg2 : Memref sig .tc .vmem S8192x128 .bf16) (harg2 : arg2.IsWhole) (arg3 : Memref sig .tc .vmem S128x8192 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S1x2x1024 .f32) (harg7 : arg7.IsWhole) (arg8 : Memref sig .tc .vmem S8192x128 .bf16) (harg8 : arg8.IsWhole) (arg9 : Memref sig .tc .vmem S128x8192 .bf16) (harg9 : arg9.IsWhole) (arg10 : Memref sig .tc .vmem S1x8192x6 .f32) (harg10 : arg10.IsWhole) (arg11 : Memref sig .tc .vmem S8192x128 .f32) (harg11 : arg11.IsWhole) (arg12 : Memref sig .tc .vmem S128x1024 .f32) (harg12 : arg12.IsWhole) (arg13 : Memref sig .tc .vmem S128x1024 .f32) (harg13 : arg13.IsWhole) (arg14 : Memref sig .tc .vmem S1x8x1024 .f32) (harg14 : arg14.IsWhole) (arg15 : Memref sig .tc .vmem S1x8192x2 .f32) (harg15 : arg15.IsWhole) (B : Blocks) (Y : Res) (E : Set ℕ) (Q : PUnit → sProp 𝕄) :
    iprop((Ins c arg2 arg3 arg4 arg5 arg6 arg7 arg8 arg9 arg10 B ∗ Outs c arg11 arg12 arg13 arg14 arg15 Y) ∗ ((Ins c arg2 arg3 arg4 arg5 arg6 arg7 arg8 arg9 arg10 B ∗ Outs c arg11 arg12 arg13 arg14 arg15 (point B i Y)) -∗ Q ⟨⟩))
      ⊢ wp frame (wpE (defs₀ (F := Ideal)) Variants.none c none) E (cc0_flash_bwd (F := Ideal) i arg2 harg2 arg3 harg3 arg4 harg4 arg5 harg5 arg6 harg6 arg7 harg7 arg8 harg8 arg9 harg9 arg10 harg10 arg11 harg11 arg12 harg12 arg13 harg13 arg14 harg14 arg15 harg15) Q := by
    rw [flat.eq, seg1.eq]
    unfold point start
    by_cases h : (Scalar.cmpi .ne (Scalar.extui (Scalar.cmpi .eq (BitVec.ofNat 32 (i 1).val) 0#32)) 0#32) = 1#1
    · rw [if_pos ((cond_iff i).mp h)]
      iintro ⟨⟨HI, HO⟩, HQ⟩
      iapply (zeroA c i arg11 harg11 arg12 harg12 arg13 harg13 arg14 harg14 arg15 harg15 Y _ E Q h)
      isplitl [HO]
      · iexact HO
      iintro HO
      iapply (restOf c i arg2 harg2 arg3 harg3 arg4 harg4 arg5 harg5 arg6 harg6 arg7 harg7 arg8 harg8 arg9 harg9 arg10 harg10 arg11 harg11 arg12 harg12 arg13 harg13 arg14 harg14 arg15 harg15 B _ E Q)
      isplitl [HI HO]
      · isplitl [HI] <;> iassumption
      iexact HQ
    · rw [if_neg fun e => h ((cond_iff i).mpr e)]
      iintro ⟨⟨HI, HO⟩, HQ⟩
      iapply (zeroB c i arg11 harg11 arg12 harg12 arg13 harg13 arg14 harg14 arg15 harg15 Y _ E Q h)
      isplitl [HO]
      · iexact HO
      iintro HO
      iapply (restOf c i arg2 harg2 arg3 harg3 arg4 harg4 arg5 harg5 arg6 harg6 arg7 harg7 arg8 harg8 arg9 harg9 arg10 harg10 arg11 harg11 arg12 harg12 arg13 harg13 arg14 harg14 arg15 harg15 B _ E Q)
      isplitl [HI HO]
      · isplitl [HI] <;> iassumption
      iexact HQ

end Cert.KernelIdeal.Flash
-- ==== Proof.Flash.Launch.lean ====
module

public import proofs.«01_k».proof.Proof.Flash.Body
public import Idealize.ShloMosaic.Lib.Claim

@[expose] public section

set_option maxRecDepth 16384
set_option maxHeartbeats 4000000

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

/-! The launch of the kernel: the body at each of the 64 grid points, one after the other, and what the result arrays end holding. -/

variable (m : (ℓ : Loc nD τ sig) → Buf (Elt Ideal) ℓ) (ρ : Dev nD → PrngReg)

/-- The staging buffers of each window at point `t`. -/
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x8192 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x8192 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8192x6 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S128x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x8x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8192x2 .f32 := win0_13.stage (cfg0.slots t 13)
abbrev hs0_13 (t : Fin cfg0.N) : (ms0_13 t).IsWhole := hstage0_13 ((cfg0.slots t 13).cast nbuf0_13)

/-- The nine input blocks at point `t`, as the region finds the arrays. -/
def blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t⟩

/-- The five result blocks after the first `n` points. -/
def stateAt (c : Dev nD) : ℕ → Res
  | 0 => zeroAll
  | n + 1 => if h : n < cfg0.N then point (blocks m c ⟨n, h⟩) (grid0.coords ⟨n, h⟩) (stateAt c n) else stateAt c n

theorem stateAt_succ (c : Dev nD) (t : Fin cfg0.N) : stateAt m c (t.val + 1) = point (blocks m c t) (grid0.coords t) (stateAt m c t.val) := by
  show (if h : t.val < cfg0.N then point (blocks m c ⟨t.val, h⟩) (grid0.coords ⟨t.val, h⟩) (stateAt m c t.val) else stateAt m c t.val) = _
  rw [dif_pos t.isLt]

/-- A point reads of the results before it only the two row results, and those only past the group's first point. -/
theorem point_congr (B : Blocks) (i : grid0.Coords) (Y Y' : Res) (h : (i 1).val ≠ 0 → Y.dq = Y'.dq ∧ Y.dcq = Y'.dcq) : point B i Y = point B i Y' := by
  have hs : start (i 1).val Y = start (i 1).val Y' := by
    unfold start
    by_cases h0 : (i 1).val = 0
    · rw [if_pos h0, if_pos h0]
    · rw [if_neg h0, if_neg h0]
      unfold zeroKeys
      rw [(h h0).1, (h h0).2]
  unfold point
  rw [hs]

/-- The proof data of the pipeline: each input's buffer at its block, each result's at the result after the point. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (stateAt m c (t.val + 1)).dq
    | ⟨10, _⟩ => (stateAt m c (t.val + 1)).dk
    | ⟨11, _⟩ => (stateAt m c (t.val + 1)).dv
    | ⟨12, _⟩ => (stateAt m c (t.val + 1)).dck
    | ⟨13, _⟩ => (stateAt m c (t.val + 1)).dcq
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (stateAt m c (t.val + 1)).dq := by dsimp only [dats]
theorem after0_10 (c : Dev nD) (t : Fin cfg0.N) : (dats m 0 c).after 10 t = (stateAt m c (t.val + 1)).dk := by dsimp only [dats]
theorem after0_11 (c : Dev nD) (t : Fin cfg0.N) : (dats m 0 c).after 11 t = (stateAt m c (t.val + 1)).dv := by dsimp only [dats]
theorem after0_12 (c : Dev nD) (t : Fin cfg0.N) : (dats m 0 c).after 12 t = (stateAt m c (t.val + 1)).dck := by dsimp only [dats]
theorem after0_13 (c : Dev nD) (t : Fin cfg0.N) : (dats m 0 c).after 13 t = (stateAt m c (t.val + 1)).dcq := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

theorem coord1 (t : Fin cfg0.N) : (grid0.coords t 1).val = t.val % 8 := by
  have h : (grid0.coords t 1).val = t.val / 1 % 8 := Pipeline.Grid.coords_val t 1 (by decide) rfl
  rw [h, Nat.div_one]
theorem coord0 (t : Fin cfg0.N) : (grid0.coords t 0).val = t.val / 8 := by
  have h : (grid0.coords t 0).val = t.val / 8 % 8 := Pipeline.Grid.coords_val t 0 (by decide) rfl
  have hN : t.val < 64 := Nat.lt_of_lt_of_eq t.isLt N_0
  rw [h]
  omega

/-- Past a group's first point, this result's buffer holds what the point before left. -/
theorem before0_9 (c : Dev nD) (t : Fin cfg0.N) (ht : t.val % 8 ≠ 0) (d) : (dats m 0 c).before 9 t d = (stateAt m c t.val).dq := by
  have h0 : t.val ≠ 0 := fun h => ht (by rw [h])
  have hfl : (cfg0.win 9).flush ⟨t.val - 1, Nat.lt_of_le_of_lt (Nat.sub_le _ _) t.isLt⟩ = false := by
    by_contra hc
    have := (flush0_9 _).mp (Bool.eq_true_of_not_eq_false hc)
    dsimp only at this
    omega
  rw [(dats m 0 c).before_out_kept 9 rfl t h0 hfl (fun _ => rfl) (fun _ _ => rfl) d, after0_9]
  show (stateAt m c (t.val - 1 + 1)).dq = _
  rw [Nat.sub_add_cancel (Nat.one_le_iff_ne_zero.mpr h0)]

/-- Past a group's first point, this result's buffer holds what the point before left. -/
theorem before0_13 (c : Dev nD) (t : Fin cfg0.N) (ht : t.val % 8 ≠ 0) (d) : (dats m 0 c).before 13 t d = (stateAt m c t.val).dcq := by
  have h0 : t.val ≠ 0 := fun h => ht (by rw [h])
  have hfl : (cfg0.win 13).flush ⟨t.val - 1, Nat.lt_of_le_of_lt (Nat.sub_le _ _) t.isLt⟩ = false := by
    by_contra hc
    have := (flush0_13 _).mp (Bool.eq_true_of_not_eq_false hc)
    dsimp only at this
    omega
  rw [(dats m 0 c).before_out_kept 13 rfl t h0 hfl (fun _ => rfl) (fun _ _ => rfl) d, after0_13]
  show (stateAt m c (t.val - 1 + 1)).dcq = _
  rw [Nat.sub_add_cancel (Nat.one_le_iff_ne_zero.mpr h0)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  have key : stateAt m c (t.val + 1) = point (blocks m c t) (grid0.coords t)
      ⟨(dats m 0 c).before 9 t d9, (dats m 0 c).before 10 t d10, (dats m 0 c).before 11 t d11, (dats m 0 c).before 12 t d12, (dats m 0 c).before 13 t d13⟩ := by
    rw [stateAt_succ]
    refine point_congr _ _ _ _ fun hne => ?_
    rw [coord1] at hne
    exact ⟨(before0_9 m c t hne d9).symm, (before0_13 m c t hne d13).symm⟩
  rw [key]
  iapply (body c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (blocks m c t) ⟨(dats m 0 c).before 9 t d9, (dats m 0 c).before 10 t d10, (dats m 0 c).before 11 t d11, (dats m 0 c).before 12 t d12, (dats m 0 c).before 13 t d13⟩ Set.univ _)
  isplitl [H0 H1 H2 H3 H4 H5 H6 H7 H8 H9 H10 H11 H12 H13]
  · isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · isplitl [H9]; · iexact H9
      isplitl [H10]; · iexact H10
      isplitl [H11]; · iexact H11
      isplitl [H12]; · iexact H12
      iexact H13
  iintro ⟨⟨H0, H1, H2, H3, H4, H5, H6, H7, H8⟩, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at point `t`'s slots is the body on the staging buffers. -/
theorem defs₀_row (t : Fin cfg0.N) :
    defs₀ (F := Ideal) .tc cfg0.body (cfg0.bodyArgs t (cfg0.slots t)) = bodyAt0 t := by
  unfold defs₀; rw [Defs.onTc_tc]

/-- The pipeline's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every weakly fair execution of the launch terminates; at its end each array of the pipeline holds what its proof data say, every
    other buffer what the region found, and every counter is zero. -/
theorem run_main_quiescent : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Flash

end
-- ==== Proof.Flash.Closed.lean ====
module

public import proofs.«01_k».proof.Proof.Flash.Body
public import proofs.«01_k».proof.Proof.Flash.Real

@[expose] public section

set_option maxRecDepth 16384

noncomputable section

namespace Cert.KernelIdeal.Flash

open Idealize.ShloMosaic Idealize.ShloMosaic.TcCoe
open Cert.KernelIdeal.Gen
open Cert.Flash.Real (Args)

/-! A grid point's results in closed form, over the reals. -/

/-- A sum over the numbers below `R`, as a sum over all with the others zero. -/
theorem sum_below (f : Fin 8192 → ℝ) (R : ℕ) (hR : R ≤ 8192) :
    (∑ r : Fin 8192, if r.val < R then f r else 0) = ∑ x ∈ Finset.range R, if h : x < 8192 then f ⟨x, h⟩ else 0 := by
  have e : ∀ r : Fin 8192, (if r.val < R then f r else 0) = (fun x : ℕ => if x < R then (if h : x < 8192 then f ⟨x, h⟩ else 0) else 0) r.val := by
    intro r
    beta_reduce
    rw [dif_pos r.isLt]
  rw [Finset.sum_congr rfl (fun r _ => e r), Fin.sum_univ_eq_sum_range (fun x : ℕ => if x < R then (if h : x < 8192 then f ⟨x, h⟩ else 0) else 0) 8192,
    ← Finset.sum_filter]
  refine Finset.sum_congr ?_ fun _ _ => rfl
  ext x
  simp only [Finset.mem_filter, Finset.mem_range]
  omega

/-- A sum up to the end of a stretch is the sum up to its start and the stretch's own. -/
theorem sum_stretch (f : Fin 8192 → ℝ) (R n : ℕ) (hR : R + n ≤ 8192) :
    (∑ r : Fin 8192, if r.val < R + n then f r else 0)
      = (∑ r : Fin 8192, if r.val < R then f r else 0) + ∑ r : Fin n, f ⟨R + r.val, by omega⟩ := by
  rw [sum_below f _ hR, sum_below f R (by omega), Finset.sum_range_add]
  congr 1
  rw [← Fin.sum_univ_eq_sum_range (fun x : ℕ => if h : R + x < 8192 then f ⟨R + x, h⟩ else 0) n]
  exact Finset.sum_congr rfl fun r _ => dif_pos (by omega)

/-- The sum up to all the rows is the whole sum. -/
theorem sum_whole (f : Fin 8192 → ℝ) : (∑ r : Fin 8192, if r.val < 8192 then f r else 0) = ∑ r : Fin 8192, f r :=
  Finset.sum_congr rfl fun r _ => if_pos r.isLt

/-- The sum up to row `R` of a function zero there is zero. -/
theorem sum_zero (f : Fin 8192 → ℝ) (R : ℕ) (h : ∀ r : Fin 8192, r.val < R → f r = 0) :
    (∑ r : Fin 8192, if r.val < R then f r else 0) = 0 :=
  Finset.sum_eq_zero fun r _ => by
    split_ifs with hr
    · exact h r hr
    · rfl

/-- Head `h` of group `g` among the sixteen. -/
def ghd (g : Fin 8) (h : Fin 2) : Fin 16 := ⟨2 * g.val + h.val, by omega⟩

/-- Column `d` of group `g` among the 1024. -/
def gcol (g : Fin 8) (d : Fin 128) : Fin 1024 := ⟨128 * g.val + d.val, by omega⟩

/-- Key `j` of block `b` among the 8192. -/
def key (b : Fin 8) (j : Fin 1024) : Fin 8192 := ⟨1024 * b.val + j.val, by omega⟩

/-- The head of a group's column. -/
theorem hd_gcol (g : Fin 8) (d : Fin 128) : Cert.Flash.Real.hd (gcol g d) = ghd g (hd d) := by
  apply Fin.ext
  show (128 * g.val + d.val) / 64 = 2 * g.val + d.val / 64
  omega

/-- A lane of a head of a group. -/
theorem gcol_lane (g : Fin 8) (h : Fin 2) (l : Fin 64) : gcol g (lane h l) = Cert.Flash.Real.ln (ghd g h) l := by
  apply Fin.ext
  show 128 * g.val + (64 * h.val + l.val) = 64 * (2 * g.val + h.val) + l.val
  omega

variable (A : Args)

/-- The blocks of a grid point hold what the real arguments give for group `g` and key block `b`. -/
structure Holds (g b : Fin 8) (B : Blocks) : Prop where
  qT : ∀ (d : Fin 128) (r : Fin 8192), B.qT (ix2 d r) = ((A.q r (gcol g d) : ℝ) : EReal)
  dOT : ∀ (d : Fin 128) (r : Fin 8192), B.dOT (ix2 d r) = ((A.g r (gcol g d) : ℝ) : EReal)
  k : ∀ (j : Fin 1024) (d : Fin 128), B.k (ix2 j d) = ((A.k (key b j) (gcol g d) : ℝ) : EReal)
  pr : ∀ (r : Fin 8192) (j : Fin 1024) (h : Fin 2), pr B (1024 * b.val) r j h = ((Cert.Flash.Real.p A (ghd g h) r (key b j) : ℝ) : EReal)
  ds : ∀ (r : Fin 8192) (j : Fin 1024) (h : Fin 2), ds B (1024 * b.val) r j h = ((Cert.Flash.Real.ds A (ghd g h) r (key b j) : ℝ) : EReal)

/-- Before the block's first key a row has no weight. -/
theorem p_before (b : Fin 8) (h : Fin 16) (r : Fin 8192) (j : Fin 1024) (hr : r.val < 1024 * b.val) : Cert.Flash.Real.p A h r (key b j) = 0 :=
  if_neg (show ¬(1024 * b.val + j.val ≤ r.val) by omega)

/-- Before the block's first key a row has no gradient of the score. -/
theorem ds_before (b : Fin 8) (h : Fin 16) (r : Fin 8192) (j : Fin 1024) (hr : r.val < 1024 * b.val) : Cert.Flash.Real.ds A h r (key b j) = 0 := by
  rw [Cert.Flash.Real.ds, p_before A b h r j hr, zero_mul]

/-- What the results hold when the rows below `R` are done: the rows' gradients over the keys before the block and, for those rows, the block's;
    the keys' gradients over those rows. -/
structure Upto (g b : Fin 8) (R : ℕ) (Y : Res) : Prop where
  dq : ∀ (r : Fin 8192) (d : Fin 128), Y.dq (ix2 r d) = (((∑ j : Fin 8192, if j.val < 1024 * b.val then Cert.Flash.Real.ds A (ghd g (hd d)) r j * A.k j (gcol g d) else 0)
    + (if r.val < R then ∑ j : Fin 1024, Cert.Flash.Real.ds A (ghd g (hd d)) r (key b j) * A.k (key b j) (gcol g d) else 0) : ℝ) : EReal)
  dk : ∀ (d : Fin 128) (j : Fin 1024), Y.dk (ix2 d j)
    = ((∑ r : Fin 8192, if r.val < R then A.q r (gcol g d) * Cert.Flash.Real.ds A (ghd g (hd d)) r (key b j) else 0 : ℝ) : EReal)
  dv : ∀ (d : Fin 128) (j : Fin 1024), Y.dv (ix2 d j)
    = ((∑ r : Fin 8192, if r.val < R then A.g r (gcol g d) * Cert.Flash.Real.p A (ghd g (hd d)) r (key b j) else 0 : ℝ) : EReal)
  dck : ∀ (e : Fin 8) (j : Fin 1024), Y.dck (ix3 0 e j)
    = ((if h : e.val < 2 then -∑ r : Fin 8192, (if r.val < R then Cert.Flash.Real.ds A (ghd g ⟨e.val, h⟩) r (key b j) else 0) else 0 : ℝ) : EReal)
  dcq : ∀ (r : Fin 8192) (h : Fin 2), Y.dcq (ix3 0 r h) = (((∑ j : Fin 8192, if j.val < 1024 * b.val then Cert.Flash.Real.ds A (ghd g h) r j else 0)
    + (if r.val < R then ∑ j : Fin 1024, Cert.Flash.Real.ds A (ghd g h) r (key b j) else 0) : ℝ) : EReal)

/-- The results between two points of a group: the rows' gradients over the keys of the blocks done. -/
structure Rows (g : Fin 8) (K : ℕ) (Y : Res) : Prop where
  dq : ∀ (r : Fin 8192) (d : Fin 128), Y.dq (ix2 r d)
    = ((∑ j : Fin 8192, if j.val < K then Cert.Flash.Real.ds A (ghd g (hd d)) r j * A.k j (gcol g d) else 0 : ℝ) : EReal)
  dcq : ∀ (r : Fin 8192) (h : Fin 2), Y.dcq (ix3 0 r h)
    = ((∑ j : Fin 8192, if j.val < K then Cert.Flash.Real.ds A (ghd g h) r j else 0 : ℝ) : EReal)

variable {A} {g b : Fin 8} {B : Blocks}

/-- A chunk's results. -/
theorem upto_step (H : Holds A g b B) (R : ℕ) (hR : R + 512 ≤ 8192) (Y : Res) (hY : Upto A g b R Y) :
    Upto A g b (R + 512) (step B (1024 * b.val) R hR Y) where
  dq r d := by
    show stepQ B (1024 * b.val) R Y.dq (ix2 r d) = _
    show (if R ≤ r.val ∧ r.val < R + 512 then Y.dq (ix2 r d) + ∑ j : Fin 1024, ds B (1024 * b.val) r j (hd d) * B.k (ix2 j d) else Y.dq (ix2 r d)) = _
    have e : (∑ j : Fin 1024, ds B (1024 * b.val) r j (hd d) * B.k (ix2 j d))
        = ((∑ j : Fin 1024, Cert.Flash.Real.ds A (ghd g (hd d)) r (key b j) * A.k (key b j) (gcol g d) : ℝ) : EReal) :=
      Cert.Flash.Real.sum_of_coe _ _ fun j => by rw [H.ds, H.k, EReal.coe_mul]
    rw [e, hY.dq]
    by_cases h : R ≤ r.val ∧ r.val < R + 512
    · rw [if_pos h, if_neg (by omega), if_pos h.2, ← EReal.coe_add, add_zero]
    · rw [if_neg h]
      by_cases h' : r.val < R
      · rw [if_pos h', if_pos (by omega)]
      · rw [if_neg h', if_neg (by omega)]
  dcq r h := by
    show (if R ≤ r.val ∧ r.val < R + 512 then Y.dcq (ix3 0 r h) + ∑ j : Fin 1024, ds B (1024 * b.val) r j h else Y.dcq (ix3 0 r h)) = _
    have e : (∑ j : Fin 1024, ds B (1024 * b.val) r j h) = ((∑ j : Fin 1024, Cert.Flash.Real.ds A (ghd g h) r (key b j) : ℝ) : EReal) :=
      Cert.Flash.Real.sum_of_coe _ _ fun j => H.ds r j h
    rw [e, hY.dcq]
    by_cases h0 : R ≤ r.val ∧ r.val < R + 512
    · rw [if_pos h0, if_neg (by omega), if_pos h0.2, ← EReal.coe_add, add_zero]
    · rw [if_neg h0]
      by_cases h' : r.val < R
      · rw [if_pos h', if_pos (by omega)]
      · rw [if_neg h', if_neg (by omega)]
  dk d j := by
    show Y.dk (ix2 d j) + ∑ r : Fin 512, B.qT (ix2 d (rowAt R hR r)) * ds B (1024 * b.val) (rowAt R hR r) j (hd d) = _
    rw [hY.dk, sum_stretch _ R 512 hR, EReal.coe_add]
    congr 1
    exact Cert.Flash.Real.sum_of_coe _ _ fun r => by rw [H.ds, H.qT, EReal.coe_mul]
  dv d j := by
    show Y.dv (ix2 d j) + ∑ r : Fin 512, B.dOT (ix2 d (rowAt R hR r)) * pr B (1024 * b.val) (rowAt R hR r) j (hd d) = _
    rw [hY.dv, sum_stretch _ R 512 hR, EReal.coe_add]
    congr 1
    exact Cert.Flash.Real.sum_of_coe _ _ fun r => by rw [H.pr, H.dOT, EReal.coe_mul]
  dck e j := by
    show (if h : e.val < 2 then Y.dck (ix3 0 e j) - ∑ r : Fin 512, ds B (1024 * b.val) (rowAt R hR r) j ⟨e.val, h⟩ else Y.dck (ix3 0 e j)) = _
    rw [hY.dck]
    by_cases h : e.val < 2
    · have e' : (∑ r : Fin 512, ds B (1024 * b.val) (rowAt R hR r) j ⟨e.val, h⟩)
          = ((∑ r : Fin 512, Cert.Flash.Real.ds A (ghd g ⟨e.val, h⟩) (rowAt R hR r) (key b j) : ℝ) : EReal) :=
        Cert.Flash.Real.sum_of_coe _ _ fun r => H.ds _ _ _
      rw [dif_pos h, dif_pos h, dif_pos h, sum_stretch (fun r => Cert.Flash.Real.ds A (ghd g ⟨e.val, h⟩) r (key b j)) R 512 hR, e', ← EReal.coe_sub, neg_add']
    · rw [dif_neg h, dif_neg h, dif_neg h]

/-- What a point starts from. -/
theorem upto_start (Y : Res) (hY : b.val ≠ 0 → Rows A g (1024 * b.val) Y) : Upto A g b (1024 * b.val) (start b.val Y) := by
  have zk : ∀ (d : Fin 128) (j : Fin 1024), (0 : EReal)
      = ((∑ r : Fin 8192, if r.val < 1024 * b.val then A.q r (gcol g d) * Cert.Flash.Real.ds A (ghd g (hd d)) r (key b j) else 0 : ℝ) : EReal) := fun d j => by
    rw [sum_zero _ _ fun r hr => by rw [ds_before A b _ r j hr, mul_zero]]; rfl
  have zv : ∀ (d : Fin 128) (j : Fin 1024), (0 : EReal)
      = ((∑ r : Fin 8192, if r.val < 1024 * b.val then A.g r (gcol g d) * Cert.Flash.Real.p A (ghd g (hd d)) r (key b j) else 0 : ℝ) : EReal) := fun d j => by
    rw [sum_zero _ _ fun r hr => by rw [p_before A b _ r j hr, mul_zero]]; rfl
  have zc : ∀ (e : Fin 8) (j : Fin 1024), (0 : EReal)
      = ((if h : e.val < 2 then -∑ r : Fin 8192, (if r.val < 1024 * b.val then Cert.Flash.Real.ds A (ghd g ⟨e.val, h⟩) r (key b j) else 0) else 0 : ℝ) : EReal) :=
    fun e j => by
      split_ifs with h
      · rw [sum_zero (fun r => Cert.Flash.Real.ds A (ghd g ⟨e.val, h⟩) r (key b j)) _ fun r hr => ds_before A b _ r j hr, neg_zero]; rfl
      · rfl
  have rq : ∀ (r : Fin 8192) (d : Fin 128), (if r.val < 1024 * b.val then ∑ j : Fin 1024, Cert.Flash.Real.ds A (ghd g (hd d)) r (key b j) * A.k (key b j) (gcol g d) else 0) = 0 :=
    fun r d => by
      split_ifs with h
      · exact Finset.sum_eq_zero fun j _ => by rw [ds_before A b _ r j h, zero_mul]
      · rfl
  have rc : ∀ (r : Fin 8192) (e : Fin 2), (if r.val < 1024 * b.val then ∑ j : Fin 1024, Cert.Flash.Real.ds A (ghd g e) r (key b j) else 0) = 0 :=
    fun r e => by
      split_ifs with h
      · exact Finset.sum_eq_zero fun j _ => ds_before A b _ r j h
      · rfl
  unfold start
  by_cases hb : b.val = 0
  · rw [if_pos hb]
    have nq : ∀ f : Fin 8192 → ℝ, (∑ j : Fin 8192, if j.val < 1024 * b.val then f j else 0) = 0 := fun f =>
      sum_zero f _ fun r hr => absurd hr (by rw [hb]; omega)
    exact ⟨fun r d => by rw [rq, nq, add_zero]; rfl, zk, zv, zc, fun r h => by rw [rc, nq, add_zero]; rfl⟩
  · rw [if_neg hb]
    exact ⟨fun r d => by rw [rq, add_zero]; exact (hY hb).dq r d, zk, zv, zc, fun r h => by rw [rc, add_zero]; exact (hY hb).dcq r h⟩

/-- Chunk after chunk. -/
theorem upto_run (H : Holds A g b B) (Y : Res) (hY : Upto A g b (1024 * b.val + 1024) Y) (n : ℕ) (hn : 1024 * b.val + 512 * n + 1024 ≤ 8192) :
    Upto A g b (1024 * b.val + 512 * n + 1024) (runT B (1024 * b.val) Y n) := by
  induction n with
  | zero => exact hY
  | succ n ih =>
    have e : runT B (1024 * b.val) Y (n + 1)
        = step B (1024 * b.val) (1024 * b.val + 512 * n + 1024) (by omega) (runT B (1024 * b.val) Y n) := by
      show (if h : 1024 * b.val + 512 * n + 1024 + 512 ≤ 8192 then step B (1024 * b.val) (1024 * b.val + 512 * n + 1024) h (runT B (1024 * b.val) Y n) else runT B (1024 * b.val) Y n) = _
      rw [dif_pos (by omega)]
    rw [e, show 1024 * b.val + 512 * (n + 1) + 1024 = 1024 * b.val + 512 * n + 1024 + 512 by ring]
    exact upto_step H _ _ _ (ih (by omega))

/-- A grid point's results. -/
theorem upto_point (i : grid0.Coords) (hi : (i 1).val = b.val) (H : Holds A g b B) (Y : Res) (hY : b.val ≠ 0 → Rows A g (1024 * b.val) Y) :
    Upto A g b 8192 (point B i Y) := by
  have hb := b.isLt
  unfold point
  simp only [hi]
  have h := upto_run H _ (upto_step H _ (by omega) _ (upto_step H _ (by omega) _ (upto_start Y hY))) (14 - 2 * b.val) (by omega)
  rw [show 1024 * b.val + 512 * (14 - 2 * b.val) + 1024 = 8192 by omega] at h
  exact h

/-- After a point the rows' gradients cover one block of keys more. -/
theorem rows_of_upto (Y : Res) (hY : Upto A g b 8192 Y) : Rows A g (1024 * b.val + 1024) Y where
  dq r d := by
    rw [hY.dq, if_pos r.isLt, sum_stretch (fun j => Cert.Flash.Real.ds A (ghd g (hd d)) r j * A.k j (gcol g d)) (1024 * b.val) 1024 (by omega)]
    rfl
  dcq r h := by
    rw [hY.dcq, if_pos r.isLt, sum_stretch (fun j => Cert.Flash.Real.ds A (ghd g h) r j) (1024 * b.val) 1024 (by omega)]
    rfl

/-- The gradient of the keys a point leaves. -/
theorem dk_of_upto (Y : Res) (hY : Upto A g b 8192 Y) (d : Fin 128) (j : Fin 1024) :
    Y.dk (ix2 d j) = ((Cert.Flash.Real.dK A (key b j) (gcol g d) : ℝ) : EReal) := by
  rw [hY.dk, sum_whole, Cert.Flash.Real.dK, hd_gcol]
  exact congrArg Real.toEReal (Finset.sum_congr rfl fun r _ => mul_comm _ _)

/-- The gradient of the values a point leaves. -/
theorem dv_of_upto (Y : Res) (hY : Upto A g b 8192 Y) (d : Fin 128) (j : Fin 1024) :
    Y.dv (ix2 d j) = ((Cert.Flash.Real.dV A (key b j) (gcol g d) : ℝ) : EReal) := by
  rw [hY.dv, sum_whole, Cert.Flash.Real.dV, hd_gcol]

/-- The gradient of the keys' gates a point leaves. -/
theorem dck_of_upto (Y : Res) (hY : Upto A g b 8192 Y) (e : Fin 8) (j : Fin 1024) :
    Y.dck (ix3 0 e j) = ((if h : e.val < 2 then Cert.Flash.Real.dCk A (ghd g ⟨e.val, h⟩) (key b j) else 0 : ℝ) : EReal) := by
  rw [hY.dck]
  split_ifs with h
  · rw [sum_whole (fun r => Cert.Flash.Real.ds A (ghd g ⟨e.val, h⟩) r (key b j)), Cert.Flash.Real.dCk]
  · rfl

/-- The gradient of the queries after a group's last point. -/
theorem dq_of_rows (Y : Res) (hY : Rows A g 8192 Y) (r : Fin 8192) (d : Fin 128) :
    Y.dq (ix2 r d) = ((Cert.Flash.Real.dQ A r (gcol g d) : ℝ) : EReal) := by
  rw [hY.dq, sum_whole (fun j => Cert.Flash.Real.ds A (ghd g (hd d)) r j * A.k j (gcol g d)), Cert.Flash.Real.dQ, hd_gcol]

/-- The gradient of the rows' gates after a group's last point. -/
theorem dcq_of_rows (Y : Res) (hY : Rows A g 8192 Y) (r : Fin 8192) (h : Fin 2) :
    Y.dcq (ix3 0 r h) = ((Cert.Flash.Real.dCq A (ghd g h) r : ℝ) : EReal) := by
  rw [hY.dcq, sum_whole (fun j => Cert.Flash.Real.ds A (ghd g h) r j), Cert.Flash.Real.dCq]

end Cert.KernelIdeal.Flash
-- ==== Proof.Flash.Host.lean ====
module

public import proofs.«01_k».proof.Proof.Flash.Ref
public import proofs.«01_k».proof.Proof.Flash.Closed
public import Idealize.ShloMosaic.Lib.Claim

@[expose] public section

set_option maxRecDepth 16384
set_option maxHeartbeats 4000000

noncomputable section

namespace Cert.KernelIdeal.Flash

open Idealize.ShloMosaic Idealize.ShloMosaic.TcCoe Idealize.ShloMosaic.Tactic
open Cert.KernelIdeal.Gen
open Cert.ReferenceIdeal.Read (val_main_v19_0 val_main_v20 val_main_v50)
open Cert.Flash.Real (Args)
open Cert.Flash.Ref (Reads)

/-! What the host hands to the kernel: the arguments and their transposes, and the three statistics of each row. -/

section
variable (x0 x1 x2 : (⟨S8192x1024, .f32⟩ : BufTy).Contents (Elt Ideal)) (x3 : (⟨S8192x16, .f32⟩ : BufTy).Contents (Elt Ideal))
  (x4 : (⟨S8192x1024, .f32⟩ : BufTy).Contents (Elt Ideal))

/-- The row maxima with a unit axis. -/
def maxCol : (⟨S16x8192x1, .f32⟩ : BufTy).Contents (Elt Ideal) :=
  broadcastInDim S16x8192x1 ![0, 1] bcast_S16x8192_S16x8192x1_0_1 (val_main_v20 (F := Ideal) x0 x1 x3 : (⟨S16x8192, .f32⟩ : BufTy).Contents (Elt Ideal))

/-- The exponentials of the masked scores, shifted by the row maxima. -/
def expT : (⟨S16x8192x8192, .f32⟩ : BufTy).Contents (Elt Ideal) :=
  Host.exp (F := Ideal) (s := S16x8192x8192) (φ := .f32) (subf (F := Ideal) (s := S16x8192x8192) (φ := .f32) (val_main_v19_0 (F := Ideal) x0 x1 x3 : (⟨S16x8192x8192, .f32⟩ : BufTy).Contents (Elt Ideal))
    (broadcastInDim S16x8192x8192 ![0, 1, 2] bcast_S16x8192x1_S16x8192x8192_0_1_2 (maxCol x0 x1 x3) : (⟨S16x8192x8192, .f32⟩ : BufTy).Contents (Elt Ideal)))

/-- The rows' sums of the exponentials. -/
def sumT : (⟨S16x8192, .f32⟩ : BufTy).Contents (Elt Ideal) :=
  Host.reduceAdd (F := Ideal) (φ := .f32) (expT x0 x1 x3) (constant (F := Ideal) S_ .f32 0x00000000#32 : (⟨S_, .f32⟩ : BufTy).Contents (Elt Ideal)) reducesTo_S16x8192x8192_S16x8192_d2 h_S_

/-- The logarithms of the rows' sums. -/
def lse : (⟨S16x8192, .f32⟩ : BufTy).Contents (Elt Ideal) :=
  addf (F := Ideal) (s := S16x8192) (φ := .f32) (shapeCast S16x8192 (maxCol x0 x1 x3) shapeCasts_S16x8192x1_S16x8192 : (⟨S16x8192, .f32⟩ : BufTy).Contents (Elt Ideal))
    (Host.log (F := Ideal) (s := S16x8192) (φ := .f32) (sumT x0 x1 x3))

/-- The incoming gradient against the output, by head. -/
def prodT : (⟨S8192x16x64, .f32⟩ : BufTy).Contents (Elt Ideal) :=
  shapeCast S8192x16x64 (mulf (F := Ideal) (s := S8192x1024) (φ := .f32) x4 (val_main_v50 (F := Ideal) x0 x1 x2 x3))
    shapeCasts_S8192x1024_S8192x16x64

/-- The rows' averages. -/
def delta : (⟨S8192x16, .f32⟩ : BufTy).Contents (Elt Ideal) :=
  Host.reduceAdd (F := Ideal) (φ := .f32) (prodT x0 x1 x2 x3 x4) (constant (F := Ideal) S_ .f32 0x00000000#32 : (⟨S_, .f32⟩ : BufTy).Contents (Elt Ideal)) reducesTo_S8192x16x64_S8192x16_d2 h_S_

/-- The gates by group. -/
def gates : (⟨S8192x8x2, .f32⟩ : BufTy).Contents (Elt Ideal) := shapeCast S8192x8x2 x3 shapeCasts_S8192x16_S8192x8x2

/-- The gates, a row of keys per head. -/
def gateRow : (⟨S8x2x8192, .f32⟩ : BufTy).Contents (Elt Ideal) := transpose S8x2x8192 [1, 2, 0] (gates x3) transposes_S8192x8x2_S8x2x8192_1_2_0

/-- The gates, a column of queries per head. -/
def gateCol : (⟨S8x8192x2, .f32⟩ : BufTy).Contents (Elt Ideal) := transpose S8x8192x2 [1, 0, 2] (gates x3) transposes_S8192x8x2_S8x8192x2_1_0_2

/-- The logarithms of the rows' sums, by group. -/
def lseCol : (⟨S8x8192x2, .f32⟩ : BufTy).Contents (Elt Ideal) :=
  transpose S8x8192x2 [0, 2, 1] (shapeCast S8x2x8192 (lse x0 x1 x3) shapeCasts_S16x8192_S8x2x8192 : (⟨S8x2x8192, .f32⟩ : BufTy).Contents (Elt Ideal)) transposes_S8x2x8192_S8x8192x2_0_2_1

/-- The rows' averages, by group. -/
def deltaCol : (⟨S8x8192x2, .f32⟩ : BufTy).Contents (Elt Ideal) :=
  transpose S8x8192x2 [1, 0, 2] (shapeCast S8192x8x2 (delta x0 x1 x2 x3 x4) shapeCasts_S8192x16_S8192x8x2 : (⟨S8192x8x2, .f32⟩ : BufTy).Contents (Elt Ideal)) transposes_S8192x8x2_S8x8192x2_1_0_2

/-- The three statistics side by side. -/
def stats : (⟨S8x8192x6, .f32⟩ : BufTy).Contents (Elt Ideal) :=
  concatenate S8x8192x6 2 [⟨S8x8192x2, gateCol x3⟩, ⟨S8x8192x2, lseCol x0 x1 x3⟩, ⟨S8x8192x2, deltaCol x0 x1 x2 x3 x4⟩]
    concatenates_S8x8192x2_S8x8192x2_S8x8192x2_S8x8192x6_d2

/-- The constant zero. -/
theorem zero_const (i : S_.Idx) : constant (F := Ideal) S_ .f32 0x00000000#32 i = (0 : EReal) := Ideal.ofBits_zero_f32

theorem lse_at (i : S16x8192.Idx) : lse x0 x1 x3 i = (shapeCast S16x8192 (maxCol x0 x1 x3) shapeCasts_S16x8192x1_S16x8192 i : EReal) + Ideal.log (sumT x0 x1 x3 i) := by
  unfold lse
  rw [addf, Host.log, Ideal.addf_def, Ideal.hostUnary_log_def]

theorem stats_gate (g : Fin 8) (r : Fin 8192) (e : Fin 2) (n : Fin 6) (hn : n.val = 0 + e.val) :
    stats x0 x1 x2 x3 x4 (ix3 g r n) = gateCol x3 (ix3 g r e) := by
  unfold stats
  refine concatenate_apply_piece (t := S8x8192x6) 2 [⟨S8x8192x2, gateCol x3⟩, ⟨S8x8192x2, lseCol x0 x1 x3⟩, ⟨S8x8192x2, deltaCol x0 x1 x2 x3 x4⟩] _ (ix3 g r n)
    0 (by show 0 < 3; decide) S8x8192x2 (gateCol x3) rfl rfl 0 rfl (ix3 g r e)
    (fun b hb => match b, hb with
      | ⟨0, _⟩, _ => rfl
      | ⟨1, _⟩, _ => rfl
      | ⟨2, _⟩, hb => absurd rfl hb) ?_
  exact hn.symm

theorem stats_lse (g : Fin 8) (r : Fin 8192) (e : Fin 2) (n : Fin 6) (hn : n.val = 2 + e.val) :
    stats x0 x1 x2 x3 x4 (ix3 g r n) = lseCol x0 x1 x3 (ix3 g r e) := by
  unfold stats
  refine concatenate_apply_piece (t := S8x8192x6) 2 [⟨S8x8192x2, gateCol x3⟩, ⟨S8x8192x2, lseCol x0 x1 x3⟩, ⟨S8x8192x2, deltaCol x0 x1 x2 x3 x4⟩] _ (ix3 g r n)
    1 (by show 1 < 3; decide) S8x8192x2 (lseCol x0 x1 x3) rfl rfl 2 rfl (ix3 g r e)
    (fun b hb => match b, hb with
      | ⟨0, _⟩, _ => rfl
      | ⟨1, _⟩, _ => rfl
      | ⟨2, _⟩, hb => absurd rfl hb) ?_
  exact hn.symm

theorem stats_delta (g : Fin 8) (r : Fin 8192) (e : Fin 2) (n : Fin 6) (hn : n.val = 4 + e.val) :
    stats x0 x1 x2 x3 x4 (ix3 g r n) = deltaCol x0 x1 x2 x3 x4 (ix3 g r e) := by
  unfold stats
  refine concatenate_apply_piece (t := S8x8192x6) 2 [⟨S8x8192x2, gateCol x3⟩, ⟨S8x8192x2, lseCol x0 x1 x3⟩, ⟨S8x8192x2, deltaCol x0 x1 x2 x3 x4⟩] _ (ix3 g r n)
    2 (by show 2 < 3; decide) S8x8192x2 (deltaCol x0 x1 x2 x3 x4) rfl rfl 4 rfl (ix3 g r e)
    (fun b hb => match b, hb with
      | ⟨0, _⟩, _ => rfl
      | ⟨1, _⟩, _ => rfl
      | ⟨2, _⟩, hb => absurd rfl hb) ?_
  exact hn.symm

variable {x0 x1 x2 x3 x4} {A : Args} (H : Reads A x0 x1 x2 x3 x4)
include H

theorem maxCol_apply (M : Fin 16 → Fin 8192 → ℝ) (hM : ∀ i : Cert.ReferenceIdeal.S16x8192.Idx, val_main_v20 (F := Ideal) x0 x1 x3 i = ((M (i 0) (i 1) : ℝ) : EReal))
    (h : Fin 16) (r : Fin 8192) : maxCol x0 x1 x3 (ix3 h r 0) = ((M h r : ℝ) : EReal) := by
  unfold maxCol
  rw [broadcastInDim_apply _ _ _ _ (ix2 h r) (fun a => match a with | ⟨0, _⟩ => rfl | ⟨1, _⟩ => rfl)]
  exact hM (ix2 h r)

theorem expT_apply (M : Fin 16 → Fin 8192 → ℝ) (hM : ∀ i : Cert.ReferenceIdeal.S16x8192.Idx, val_main_v20 (F := Ideal) x0 x1 x3 i = ((M (i 0) (i 1) : ℝ) : EReal))
    (h : Fin 16) (r j : Fin 8192) : expT x0 x1 x3 (ix3 h r j)
      = ((if j ≤ r then Real.exp (Cert.Flash.Real.s A h r j - M h r) else 0 : ℝ) : EReal) := by
  have e : broadcastInDim S16x8192x8192 ![0, 1, 2] bcast_S16x8192x1_S16x8192x8192_0_1_2 (maxCol x0 x1 x3) (ix3 h r j) = ((M h r : ℝ) : EReal) := by
    rw [broadcastInDim_apply _ _ _ _ (ix3 h r 0) (fun a => match a with | ⟨0, _⟩ => rfl | ⟨1, _⟩ => rfl | ⟨2, _⟩ => rfl)]
    exact maxCol_apply H M hM h r
  have e19 : val_main_v19_0 (F := Ideal) x0 x1 x3 (ix3 h r j) = if j ≤ r then ((Cert.Flash.Real.s A h r j : ℝ) : EReal) else ⊥ := Cert.Flash.Ref.v19 H (ix3 h r j)
  show Ideal.exp (val_main_v19_0 (F := Ideal) x0 x1 x3 (ix3 h r j)
    - broadcastInDim S16x8192x8192 ![0, 1, 2] bcast_S16x8192x1_S16x8192x8192_0_1_2 (maxCol x0 x1 x3) (ix3 h r j)) = _
  rw [e, e19]
  split_ifs
  · rw [← EReal.coe_sub, Ideal.exp_coe]
  · rw [EReal.bot_sub, Ideal.exp_bot]; rfl

theorem sumT_apply (M : Fin 16 → Fin 8192 → ℝ) (hM : ∀ i : Cert.ReferenceIdeal.S16x8192.Idx, val_main_v20 (F := Ideal) x0 x1 x3 i = ((M (i 0) (i 1) : ℝ) : EReal))
    (h : Fin 16) (r : Fin 8192) : sumT x0 x1 x3 (ix2 h r) = ((Cert.Flash.Real.E A h r * Real.exp (-M h r) : ℝ) : EReal) := by
  unfold sumT
  simp only [Host.reduceAdd, Ideal.hostReduceAdd_def]
  rw [Ideal.hostReduceAdd_single reducesTo_S16x8192x8192_S16x8192_d2 (by decide)]
  refine (congrArg₂ (· + ·) (zero_const _) rfl).trans ((zero_add _).trans ?_)
  refine (Cert.Flash.Real.sum_of_coe _ (fun j : Fin 8192 => if j ≤ r then Real.exp (Cert.Flash.Real.s A h r j - M h r) else 0) fun j => ?_).trans
    (congrArg Real.toEReal (Cert.Flash.Real.E_shift A (M h r) h r))
  exact (congrArg (expT x0 x1 x3) (funext fun a => Fin.ext (by match a with | ⟨0, _⟩ => rfl | ⟨1, _⟩ => rfl | ⟨2, _⟩ => rfl))).trans (expT_apply H M hM h r j)

/-- The logarithm of a row's sum. -/
theorem lse_apply (h : Fin 16) (r : Fin 8192) : lse x0 x1 x3 (ix2 h r) = ((Real.log (Cert.Flash.Real.E A h r) : ℝ) : EReal) := by
  obtain ⟨M, hM⟩ := Cert.Flash.Ref.v20 H
  have e : shapeCast S16x8192 (maxCol x0 x1 x3) shapeCasts_S16x8192x1_S16x8192 (ix2 h r) = ((M h r : ℝ) : EReal) := by
    rw [shapeCast_apply _ _ _ (ix3 h r 0) (by
      rewrite [Shape.rowMajor_val_two, Shape.rowMajor_val_three]
      show (h.val * 8192 + r.val) * 1 + 0 = h.val * 8192 + r.val
      omega)]
    exact maxCol_apply H M hM h r
  rw [lse_at, e, sumT_apply H M hM, Ideal.log_coe, if_neg (not_le.mpr (mul_pos (Cert.Flash.Real.E_pos A h r) (Real.exp_pos _))), ← EReal.coe_add,
    Cert.Flash.Real.log_shift]

theorem prodT_apply (r : Fin 8192) (h : Fin 16) (l : Fin 64) : prodT x0 x1 x2 x3 x4 (ix3 r h l)
    = ((A.g r (Cert.Flash.Real.ln h l) * Cert.Flash.Real.o A r (Cert.Flash.Real.ln h l) : ℝ) : EReal) := by
  obtain ⟨M, hM⟩ := Cert.Flash.Ref.v20 H
  unfold prodT
  rw [shapeCast_apply _ _ _ (ix2 r (Cert.Flash.Real.ln h l)) (by
    rewrite [Shape.rowMajor_val_two, Shape.rowMajor_val_three]
    show r.val * 1024 + (64 * h.val + l.val) = (r.val * 16 + h.val) * 64 + l.val
    omega)]
  show x4 (ix2 r (Cert.Flash.Real.ln h l)) * val_main_v50 (F := Ideal) x0 x1 x2 x3 (ix2 r (Cert.Flash.Real.ln h l)) = _
  rw [EReal.coe_mul]
  exact congrArg₂ (· * ·) (H.g (ix2 r (Cert.Flash.Real.ln h l))) (Cert.Flash.Ref.v50 H hM (ix2 r (Cert.Flash.Real.ln h l)))

/-- The average of a row. -/
theorem delta_apply (r : Fin 8192) (h : Fin 16) : delta x0 x1 x2 x3 x4 (ix2 r h) = ((Cert.Flash.Real.del A h r : ℝ) : EReal) := by
  unfold delta
  simp only [Host.reduceAdd, Ideal.hostReduceAdd_def]
  rw [Ideal.hostReduceAdd_single reducesTo_S8192x16x64_S8192x16_d2 (by decide)]
  refine (congrArg₂ (· + ·) (zero_const _) rfl).trans ((zero_add _).trans ?_)
  refine (Cert.Flash.Real.sum_of_coe _ (fun l : Fin 64 => A.g r (Cert.Flash.Real.ln h l) * Cert.Flash.Real.o A r (Cert.Flash.Real.ln h l)) fun l => ?_).trans
    (congrArg Real.toEReal (Cert.Flash.Real.del_eq A h r))
  exact (congrArg (prodT x0 x1 x2 x3 x4) (funext fun a => Fin.ext (by match a with | ⟨0, _⟩ => rfl | ⟨1, _⟩ => rfl | ⟨2, _⟩ => rfl))).trans (prodT_apply H r h l)

theorem gates_apply (r : Fin 8192) (g : Fin 8) (e : Fin 2) : gates x3 (ix3 r g e) = ((A.c r (ghd g e) : ℝ) : EReal) := by
  unfold gates
  rw [shapeCast_apply _ _ _ (ix2 r (ghd g e)) (by
    rewrite [Shape.rowMajor_val_two, Shape.rowMajor_val_three]
    show r.val * 16 + (2 * g.val + e.val) = (r.val * 8 + g.val) * 2 + e.val
    omega)]
  exact H.c (ix2 r (ghd g e))

/-- A gate of the keys. -/
theorem gateRow_apply (g : Fin 8) (e : Fin 2) (r : Fin 8192) : gateRow x3 (ix3 g e r) = ((A.c r (ghd g e) : ℝ) : EReal) := by
  unfold gateRow
  rw [transpose_apply _ _ _ _ (ix3 r g e) (fun b => match b with | ⟨0, _⟩ => rfl | ⟨1, _⟩ => rfl | ⟨2, _⟩ => rfl)]
  exact gates_apply H r g e

/-- The first pair of statistics: the gates. -/
theorem stats_c (g : Fin 8) (r : Fin 8192) (e : Fin 2) : stats x0 x1 x2 x3 x4 (ix3 g r ⟨e.val, by omega⟩) = ((A.c r (ghd g e) : ℝ) : EReal) := by
  refine (stats_gate x0 x1 x2 x3 x4 g r e _ (Nat.zero_add _).symm).trans ?_
  show gateCol x3 (ix3 g r e) = _
  unfold gateCol
  rw [transpose_apply _ _ _ _ (ix3 r g e) (fun b => match b with | ⟨0, _⟩ => rfl | ⟨1, _⟩ => rfl | ⟨2, _⟩ => rfl)]
  exact gates_apply H r g e

/-- The second pair: the logarithms of the sums. -/
theorem stats_l (g : Fin 8) (r : Fin 8192) (e : Fin 2) : stats x0 x1 x2 x3 x4 (ix3 g r ⟨e.val + 2, by omega⟩)
    = ((Real.log (Cert.Flash.Real.E A (ghd g e) r) : ℝ) : EReal) := by
  refine (stats_lse x0 x1 x2 x3 x4 g r e _ (Nat.add_comm _ _)).trans ?_
  show lseCol x0 x1 x3 (ix3 g r e) = _
  unfold lseCol
  rw [transpose_apply _ _ _ _ (ix3 g e r) (fun b => match b with | ⟨0, _⟩ => rfl | ⟨1, _⟩ => rfl | ⟨2, _⟩ => rfl),
    shapeCast_apply _ _ _ (ix2 (ghd g e) r) (by
      rewrite [Shape.rowMajor_val_two, Shape.rowMajor_val_three]
      show (2 * g.val + e.val) * 8192 + r.val = (g.val * 2 + e.val) * 8192 + r.val
      omega)]
  exact lse_apply H (ghd g e) r

/-- The third pair: the averages. -/
theorem stats_d (g : Fin 8) (r : Fin 8192) (e : Fin 2) : stats x0 x1 x2 x3 x4 (ix3 g r ⟨e.val + 4, by omega⟩)
    = ((Cert.Flash.Real.del A (ghd g e) r : ℝ) : EReal) := by
  refine (stats_delta x0 x1 x2 x3 x4 g r e _ (Nat.add_comm _ _)).trans ?_
  show deltaCol x0 x1 x2 x3 x4 (ix3 g r e) = _
  unfold deltaCol
  rw [transpose_apply _ _ _ _ (ix3 r g e) (fun b => match b with | ⟨0, _⟩ => rfl | ⟨1, _⟩ => rfl | ⟨2, _⟩ => rfl),
    shapeCast_apply _ _ _ (ix2 r (ghd g e)) (by
      rewrite [Shape.rowMajor_val_two, Shape.rowMajor_val_three]
      show r.val * 16 + (2 * g.val + e.val) = (r.val * 8 + g.val) * 2 + e.val
      omega)]
  exact delta_apply H r (ghd g e)

end

end Cert.KernelIdeal.Flash
-- ==== Proof.Flash.Entry.lean ====
module

public import proofs.«01_k».proof.Proof.Flash.Launch
public import proofs.«01_k».proof.Proof.Flash.Host
public import Idealize.ShloMosaic.Lib.StableHlo.RunRead

@[expose] public section

set_option maxRecDepth 16384
set_option maxHeartbeats 4000000

noncomputable section

namespace Cert.KernelIdeal.Flash

open Idealize.ShloMosaic Idealize.ShloMosaic.TcCoe Idealize.ShloMosaic.Tactic
open Idealize.ShloMosaic.StableHlo
open Cert.KernelIdeal.Gen
open Cert.ReferenceIdeal.Read (val_main_v19_0 val_main_v20 val_main_v50)
open Cert.Flash.Real (Args)
open Cert.Flash.Ref (Reads)

/-! The kernel's input arrays as the launch finds them. -/

variable (m : (ℓ : Loc nD τ sig) → Buf (Elt Ideal) ℓ) (c : Dev nD)

theorem V54 : V m c main_v54 = m (c.tc.loc main_arg0) := by after_reads_simp; rfl
theorem V55 : V m c main_v55 = m (c.tc.loc main_arg1) := by after_reads_simp; rfl
theorem V57 : V m c main_v57 = m (c.tc.loc main_arg4) := by after_reads_simp; rfl
theorem V58 : (V m c main_v58 : (⟨S1024x8192, .bf16⟩ : BufTy).Contents (Elt Ideal))
    = transpose S1024x8192 [1, 0] (m (c.tc.loc main_arg0) : (⟨S8192x1024, .f32⟩ : BufTy).Contents (Elt Ideal)) transposes_S8192x1024_S1024x8192_1_0 := by
  after_reads_simp; rfl
theorem V59 : (V m c main_v59 : (⟨S1024x8192, .bf16⟩ : BufTy).Contents (Elt Ideal))
    = transpose S1024x8192 [1, 0] (m (c.tc.loc main_arg1) : (⟨S8192x1024, .f32⟩ : BufTy).Contents (Elt Ideal)) transposes_S8192x1024_S1024x8192_1_0 := by
  after_reads_simp; rfl
theorem V60 : (V m c main_v60 : (⟨S1024x8192, .bf16⟩ : BufTy).Contents (Elt Ideal))
    = transpose S1024x8192 [1, 0] (m (c.tc.loc main_arg2) : (⟨S8192x1024, .f32⟩ : BufTy).Contents (Elt Ideal)) transposes_S8192x1024_S1024x8192_1_0 := by
  after_reads_simp; rfl
theorem V61 : (V m c main_v61 : (⟨S1024x8192, .bf16⟩ : BufTy).Contents (Elt Ideal))
    = transpose S1024x8192 [1, 0] (m (c.tc.loc main_arg4) : (⟨S8192x1024, .f32⟩ : BufTy).Contents (Elt Ideal)) transposes_S8192x1024_S1024x8192_1_0 := by
  after_reads_simp; rfl
theorem V48 : V m c main_v48 = gateRow (m (c.tc.loc main_arg3)) := by after_reads_simp; rfl
/-- Three arrays side by side. -/
def cat (a b d : (⟨S8x8192x2, .f32⟩ : BufTy).Contents (Elt Ideal)) : (⟨S8x8192x6, .f32⟩ : BufTy).Contents (Elt Ideal) :=
  concatenate S8x8192x6 2 [⟨S8x8192x2, a⟩, ⟨S8x8192x2, b⟩, ⟨S8x8192x2, d⟩] concatenates_S8x8192x2_S8x8192x2_S8x8192x2_S8x8192x6_d2

theorem V53 : V m c main_v53 = stats (m (c.tc.loc main_arg0)) (m (c.tc.loc main_arg1)) (m (c.tc.loc main_arg2)) (m (c.tc.loc main_arg3)) (m (c.tc.loc main_arg4)) := by
  after_reads_simp
  show cat (upto [hostOps0, hostOps0_1, hostOps0_2].flatten (fun b => m (c, b)) 63 (Proc.tc.devRef main_v47))
      (upto [hostOps0, hostOps0_1, hostOps0_2].flatten (fun b => m (c, b)) 63 (Proc.tc.devRef main_v50))
      (upto [hostOps0, hostOps0_1, hostOps0_2].flatten (fun b => m (c, b)) 63 (Proc.tc.devRef main_v52))
    = cat (gateCol (m (c.tc.loc main_arg3))) (lseCol (m (c.tc.loc main_arg0)) (m (c.tc.loc main_arg1)) (m (c.tc.loc main_arg3)))
      (deltaCol (m (c.tc.loc main_arg0)) (m (c.tc.loc main_arg1)) (m (c.tc.loc main_arg2)) (m (c.tc.loc main_arg3)) (m (c.tc.loc main_arg4)))
  refine congr (congr (congrArg cat ?_) ?_) ?_
  all_goals after_reads_simp
  all_goals rfl
end Cert.KernelIdeal.Flash
-- ==== Proof.Flash.Blocks.lean ====
module

public import proofs.«01_k».proof.Proof.Flash.Entry
public import Idealize.ShloMosaic.Lib.Pipeline.ValueKit

@[expose] public section

set_option maxRecDepth 16384
set_option maxHeartbeats 4000000

noncomputable section

namespace Cert.KernelIdeal.Flash

open Idealize.ShloMosaic Idealize.ShloMosaic.TcCoe Idealize.ShloMosaic.Tactic
open Cert.KernelIdeal.Gen
open Cert.Flash.Real (Args)
open Cert.Flash.Ref (Reads)

/-! The blocks a grid point works on, read off the host's arrays. -/

variable (m : (ℓ : Loc nD τ sig) → Buf (Elt Ideal) ℓ) (c : Dev nD) (t : Fin cfg0.N)

/-- The group of a point. -/
def grp : Fin 8 := ⟨t.val / 8, by have h : t.val < 64 := Nat.lt_of_lt_of_eq t.isLt N_0; omega⟩

/-- The key block of a point. -/
def kb : Fin 8 := ⟨t.val % 8, by omega⟩

theorem ix_0 : ∀ t : Fin cfg0.N, win0_0.index t = ![0, t.val / 8] := by decide +kernel
theorem ix_1 : ∀ t : Fin cfg0.N, win0_1.index t = ![t.val / 8, 0] := by decide +kernel
theorem ix_2 : ∀ t : Fin cfg0.N, win0_2.index t = ![t.val % 8, t.val / 8] := by decide +kernel
theorem ix_3 : ∀ t : Fin cfg0.N, win0_3.index t = ![t.val / 8, t.val % 8] := by decide +kernel
theorem ix_4 : ∀ t : Fin cfg0.N, win0_4.index t = ![t.val / 8, t.val % 8] := by decide +kernel
theorem ix_5 : ∀ t : Fin cfg0.N, win0_5.index t = ![t.val / 8, 0, t.val % 8] := by decide +kernel
theorem ix_6 : ∀ t : Fin cfg0.N, win0_6.index t = ![0, t.val / 8] := by decide +kernel
theorem ix_7 : ∀ t : Fin cfg0.N, win0_7.index t = ![t.val / 8, 0] := by decide +kernel
theorem ix_8 : ∀ t : Fin cfg0.N, win0_8.index t = ![t.val / 8, 0, 0] := by decide +kernel
theorem ix_9 : ∀ t : Fin cfg0.N, win0_9.index t = ![0, t.val / 8] := by decide +kernel
theorem ix_10 : ∀ t : Fin cfg0.N, win0_10.index t = ![t.val / 8, t.val % 8] := by decide +kernel
theorem ix_11 : ∀ t : Fin cfg0.N, win0_11.index t = ![t.val / 8, t.val % 8] := by decide +kernel
theorem ix_12 : ∀ t : Fin cfg0.N, win0_12.index t = ![t.val / 8, 0, t.val % 8] := by decide +kernel
theorem ix_13 : ∀ t : Fin cfg0.N, win0_13.index t = ![t.val / 8, 0, 0] := by decide +kernel

theorem blk_0 (r : Fin 8192) (d : Fin 128) : iblk m c 0 t (ix2 r d) = V m c main_v54 (ix2 r (gcol (grp t) d)) := by
  blk_simp [iblk]
  refine congrArg (V m c main_v54) (funext fun a => Fin.ext ?_)
  match a with
  | ⟨0, _⟩ => blk_simp [ix_0]
  | ⟨1, _⟩ => blk_simp [ix_0]; show t.val / 8 * 128 + d.val = 128 * (t.val / 8) + d.val; omega

theorem blk_1 (d : Fin 128) (r : Fin 8192) : iblk m c 1 t (ix2 d r) = V m c main_v58 (ix2 (gcol (grp t) d) r) := by
  blk_simp [iblk]
  refine congrArg (V m c main_v58) (funext fun a => Fin.ext ?_)
  match a with
  | ⟨0, _⟩ => blk_simp [ix_1]; show t.val / 8 * 128 + d.val = 128 * (t.val / 8) + d.val; omega
  | ⟨1, _⟩ => blk_simp [ix_1]

theorem blk_2 (j : Fin 1024) (d : Fin 128) : iblk m c 2 t (ix2 j d) = V m c main_v55 (ix2 (key (kb t) j) (gcol (grp t) d)) := by
  blk_simp [iblk]
  refine congrArg (V m c main_v55) (funext fun a => Fin.ext ?_)
  match a with
  | ⟨0, _⟩ => blk_simp [ix_2]; show t.val % 8 * 1024 + j.val = 1024 * (t.val % 8) + j.val; omega
  | ⟨1, _⟩ => blk_simp [ix_2]; show t.val / 8 * 128 + d.val = 128 * (t.val / 8) + d.val; omega

theorem blk_3 (d : Fin 128) (j : Fin 1024) : iblk m c 3 t (ix2 d j) = V m c main_v59 (ix2 (gcol (grp t) d) (key (kb t) j)) := by
  blk_simp [iblk]
  refine congrArg (V m c main_v59) (funext fun a => Fin.ext ?_)
  match a with
  | ⟨0, _⟩ => blk_simp [ix_3]; show t.val / 8 * 128 + d.val = 128 * (t.val / 8) + d.val; omega
  | ⟨1, _⟩ => blk_simp [ix_3]; show t.val % 8 * 1024 + j.val = 1024 * (t.val % 8) + j.val; omega

theorem blk_4 (d : Fin 128) (j : Fin 1024) : iblk m c 4 t (ix2 d j) = V m c main_v60 (ix2 (gcol (grp t) d) (key (kb t) j)) := by
  blk_simp [iblk]
  refine congrArg (V m c main_v60) (funext fun a => Fin.ext ?_)
  match a with
  | ⟨0, _⟩ => blk_simp [ix_4]; show t.val / 8 * 128 + d.val = 128 * (t.val / 8) + d.val; omega
  | ⟨1, _⟩ => blk_simp [ix_4]; show t.val % 8 * 1024 + j.val = 1024 * (t.val % 8) + j.val; omega

theorem blk_5 (h : Fin 2) (j : Fin 1024) : iblk m c 5 t (ix3 0 h j) = V m c main_v48 (ix3 (grp t) h (key (kb t) j)) := by
  blk_simp [iblk]
  refine congrArg (V m c main_v48) (funext fun a => Fin.ext ?_)
  match a with
  | ⟨0, _⟩ => blk_simp [ix_5]; rfl
  | ⟨1, _⟩ => blk_simp [ix_5]
  | ⟨2, _⟩ => blk_simp [ix_5]; show t.val % 8 * 1024 + j.val = 1024 * (t.val % 8) + j.val; omega

theorem blk_6 (r : Fin 8192) (d : Fin 128) : iblk m c 6 t (ix2 r d) = V m c main_v57 (ix2 r (gcol (grp t) d)) := by
  blk_simp [iblk]
  refine congrArg (V m c main_v57) (funext fun a => Fin.ext ?_)
  match a with
  | ⟨0, _⟩ => blk_simp [ix_6]
  | ⟨1, _⟩ => blk_simp [ix_6]; show t.val / 8 * 128 + d.val = 128 * (t.val / 8) + d.val; omega

theorem blk_7 (d : Fin 128) (r : Fin 8192) : iblk m c 7 t (ix2 d r) = V m c main_v61 (ix2 (gcol (grp t) d) r) := by
  blk_simp [iblk]
  refine congrArg (V m c main_v61) (funext fun a => Fin.ext ?_)
  match a with
  | ⟨0, _⟩ => blk_simp [ix_7]; show t.val / 8 * 128 + d.val = 128 * (t.val / 8) + d.val; omega
  | ⟨1, _⟩ => blk_simp [ix_7]

theorem blk_8 (r : Fin 8192) (n : Fin 6) : iblk m c 8 t (ix3 0 r n) = V m c main_v53 (ix3 (grp t) r n) := by
  blk_simp [iblk]
  refine congrArg (V m c main_v53) (funext fun a => Fin.ext ?_)
  match a with
  | ⟨0, _⟩ => blk_simp [ix_8]; rfl
  | ⟨1, _⟩ => blk_simp [ix_8]
  | ⟨2, _⟩ => blk_simp [ix_8]

/-! The blocks over the reals. -/

variable {A : Args} (H : Reads A (m (c.tc.loc main_arg0)) (m (c.tc.loc main_arg1)) (m (c.tc.loc main_arg2)) (m (c.tc.loc main_arg3)) (m (c.tc.loc main_arg4)))
include H

theorem B_q (r : Fin 8192) (d : Fin 128) : (blocks m c t).q (ix2 r d) = ((A.q r (gcol (grp t) d) : ℝ) : EReal) := by
  refine (blk_0 m c t r d).trans ?_
  rw [V54]
  exact H.q (ix2 r (gcol (grp t) d))

theorem B_qT (d : Fin 128) (r : Fin 8192) : (blocks m c t).qT (ix2 d r) = ((A.q r (gcol (grp t) d) : ℝ) : EReal) := by
  refine (blk_1 m c t d r).trans ?_
  rw [V58]
  rw [transpose_apply _ _ _ _ (ix2 (r) (gcol (grp t) d)) (fun x => match x with | ⟨0, _⟩ => rfl | ⟨1, _⟩ => rfl)]
  exact H.q (ix2 (r) (gcol (grp t) d))

theorem B_k (j : Fin 1024) (d : Fin 128) : (blocks m c t).k (ix2 j d) = ((A.k (key (kb t) j) (gcol (grp t) d) : ℝ) : EReal) := by
  refine (blk_2 m c t j d).trans ?_
  rw [V55]
  exact H.k (ix2 (key (kb t) j) (gcol (grp t) d))

theorem B_kT (d : Fin 128) (j : Fin 1024) : (blocks m c t).kT (ix2 d j) = ((A.k (key (kb t) j) (gcol (grp t) d) : ℝ) : EReal) := by
  refine (blk_3 m c t d j).trans ?_
  rw [V59]
  rw [transpose_apply _ _ _ _ (ix2 (key (kb t) j) (gcol (grp t) d)) (fun x => match x with | ⟨0, _⟩ => rfl | ⟨1, _⟩ => rfl)]
  exact H.k (ix2 (key (kb t) j) (gcol (grp t) d))

theorem B_vT (d : Fin 128) (j : Fin 1024) : (blocks m c t).vT (ix2 d j) = ((A.v (key (kb t) j) (gcol (grp t) d) : ℝ) : EReal) := by
  refine (blk_4 m c t d j).trans ?_
  rw [V60]
  rw [transpose_apply _ _ _ _ (ix2 (key (kb t) j) (gcol (grp t) d)) (fun x => match x with | ⟨0, _⟩ => rfl | ⟨1, _⟩ => rfl)]
  exact H.v (ix2 (key (kb t) j) (gcol (grp t) d))

theorem B_cr (h : Fin 2) (j : Fin 1024) : (blocks m c t).cr (ix3 0 h j) = ((A.c (key (kb t) j) (ghd (grp t) h) : ℝ) : EReal) := by
  refine (blk_5 m c t h j).trans ?_
  rw [V48]
  exact gateRow_apply H (grp t) h (key (kb t) j)

theorem B_dO (r : Fin 8192) (d : Fin 128) : (blocks m c t).dO (ix2 r d) = ((A.g r (gcol (grp t) d) : ℝ) : EReal) := by
  refine (blk_6 m c t r d).trans ?_
  rw [V57]
  exact H.g (ix2 r (gcol (grp t) d))

theorem B_dOT (d : Fin 128) (r : Fin 8192) : (blocks m c t).dOT (ix2 d r) = ((A.g r (gcol (grp t) d) : ℝ) : EReal) := by
  refine (blk_7 m c t d r).trans ?_
  rw [V61]
  rw [transpose_apply _ _ _ _ (ix2 (r) (gcol (grp t) d)) (fun x => match x with | ⟨0, _⟩ => rfl | ⟨1, _⟩ => rfl)]
  exact H.g (ix2 (r) (gcol (grp t) d))

theorem B_st_c (r : Fin 8192) (h : Fin 2) : (blocks m c t).st (ix3 0 r ⟨h.val, by omega⟩) = ((A.c r (ghd (grp t) h) : ℝ) : EReal) := by
  refine (blk_8 m c t r _).trans ?_
  rw [V53]
  exact stats_c H (grp t) r h

theorem B_st_l (r : Fin 8192) (h : Fin 2) : (blocks m c t).st (ix3 0 r ⟨h.val + 2, by omega⟩) = ((Real.log (Cert.Flash.Real.E A (ghd (grp t) h) r) : ℝ) : EReal) := by
  refine (blk_8 m c t r _).trans ?_
  rw [V53]
  exact stats_l H (grp t) r h

theorem B_st_d (r : Fin 8192) (h : Fin 2) : (blocks m c t).st (ix3 0 r ⟨h.val + 4, by omega⟩) = ((Cert.Flash.Real.del A (ghd (grp t) h) r : ℝ) : EReal) := by
  refine (blk_8 m c t r _).trans ?_
  rw [V53]
  exact stats_d H (grp t) r h

/-- The score less the logarithm of the row's sum. -/
theorem B_sc (r : Fin 8192) (j : Fin 1024) (h : Fin 2) : sc (blocks m c t) r j h
    = ((Cert.Flash.Real.s A (ghd (grp t) h) r (key (kb t) j) - Real.log (Cert.Flash.Real.E A (ghd (grp t) h) r) : ℝ) : EReal) := by
  have e : (∑ l : Fin 64, (blocks m c t).q (ix2 r (lane h l)) * (blocks m c t).kT (ix2 (lane h l) j))
      = ((∑ l : Fin 64, A.q r (Cert.Flash.Real.ln (ghd (grp t) h) l) * A.k (key (kb t) j) (Cert.Flash.Real.ln (ghd (grp t) h) l) : ℝ) : EReal) :=
    Cert.Flash.Real.sum_of_coe _ _ fun l => by rw [B_q m c t H, B_kT m c t H, gcol_lane, EReal.coe_mul]
  unfold sc
  rw [e, B_cr m c t H, B_cr m c t H, B_st_c m c t H, B_st_l m c t H, Cert.Flash.Real.s, ← EReal.coe_sub, ← EReal.coe_sub, ← EReal.coe_sub, ← EReal.coe_sub,
    ← EReal.coe_add]
  exact congrArg Real.toEReal (by ring)

/-- The probabilities. -/
theorem B_pr (r : Fin 8192) (j : Fin 1024) (h : Fin 2) : pr (blocks m c t) (1024 * (kb t).val) r j h
    = ((Cert.Flash.Real.p A (ghd (grp t) h) r (key (kb t) j) : ℝ) : EReal) := by
  rw [pr, B_sc m c t H, ← Cert.Flash.Real.p_of_log, Ideal.exp_coe]
  by_cases hr : 1024 * (kb t).val + j.val ≤ r.val
  · rw [if_pos hr, if_pos (show key (kb t) j ≤ r from hr)]
  · rw [if_neg hr, if_neg (show ¬key (kb t) j ≤ r from hr)]; rfl

/-- The gradients of the scores. -/
theorem B_ds (r : Fin 8192) (j : Fin 1024) (h : Fin 2) : ds (blocks m c t) (1024 * (kb t).val) r j h
    = ((Cert.Flash.Real.ds A (ghd (grp t) h) r (key (kb t) j) : ℝ) : EReal) := by
  have e : (∑ l : Fin 64, (blocks m c t).dO (ix2 r (lane h l)) * (blocks m c t).vT (ix2 (lane h l) j))
      = ((Cert.Flash.Real.dp A (ghd (grp t) h) r (key (kb t) j) : ℝ) : EReal) :=
    Cert.Flash.Real.sum_of_coe _ _ fun l => by rw [B_dO m c t H, B_vT m c t H, gcol_lane, EReal.coe_mul]
  rw [ds, B_pr m c t H, e, B_st_d m c t H, Cert.Flash.Real.ds, EReal.coe_mul, EReal.coe_sub]

/-- A point's blocks hold what the real arguments give. -/
theorem holds : Holds A (grp t) (kb t) (blocks m c t) :=
  ⟨B_qT m c t H, B_dOT m c t H, B_k m c t H, B_pr m c t H, B_ds m c t H⟩

/-- After a point the results are done for the group's rows and the keys of the block, and the queries' results cover the blocks up to it. -/
theorem stateAt_upto (n : ℕ) : ∀ t : Fin cfg0.N, t.val = n → Upto A (grp t) (kb t) 8192 (stateAt m c (t.val + 1)) := by
  induction n with
  | zero =>
    intro t ht
    rw [stateAt_succ]
    exact upto_point (grid0.coords t) (coord1 t) (holds m c t H) _ fun h => absurd (show (kb t).val = 0 by show t.val % 8 = 0; omega) h
  | succ n ih =>
    intro t ht
    rw [stateAt_succ]
    refine upto_point (grid0.coords t) (coord1 t) (holds m c t H) _ fun h => ?_
    have h' : t.val % 8 ≠ 0 := h
    have hp := rows_of_upto _ (ih ⟨n, by have := t.isLt; omega⟩ rfl)
    have e1 : grp ⟨n, by have := t.isLt; omega⟩ = grp t := Fin.ext (by show n / 8 = t.val / 8; omega)
    have e2 : 1024 * (kb ⟨n, by have := t.isLt; omega⟩).val + 1024 = 1024 * (kb t).val := by show 1024 * (n % 8) + 1024 = 1024 * (t.val % 8); omega
    rw [e1, e2] at hp
    rw [ht]
    exact hp

/-- The results after a point. -/
theorem state_upto : Upto A (grp t) (kb t) 8192 (stateAt m c (t.val + 1)) := stateAt_upto m c H t.val t rfl

/-- The queries' results after a group's last point. -/
theorem state_rows (ht : t.val % 8 = 7) : Rows A (grp t) 8192 (stateAt m c (t.val + 1)) := by
  have h := rows_of_upto _ (state_upto m c t H)
  rw [show 1024 * (kb t).val + 1024 = 8192 by show 1024 * (t.val % 8) + 1024 = 8192; omega] at h
  exact h

end Cert.KernelIdeal.Flash
-- ==== Proof.Flash.Out.lean ====
module

public import proofs.«01_k».proof.Proof.Flash.Blocks

@[expose] public section

set_option maxRecDepth 16384
set_option maxHeartbeats 4000000

noncomputable section

namespace Cert.KernelIdeal.Flash

open Idealize.ShloMosaic Idealize.ShloMosaic.TcCoe Idealize.ShloMosaic.Tactic
open Cert.KernelIdeal.Gen
open Cert.Flash.Real (Args)
open Cert.Flash.Ref (Reads)

/-! The kernel's five result arrays over the reals. -/

variable (m : (ℓ : Loc nD τ sig) → Buf (Elt Ideal) ℓ) (c : Dev nD)
variable {A : Args} (H : Reads A (m (c.tc.loc main_arg0)) (m (c.tc.loc main_arg1)) (m (c.tc.loc main_arg2)) (m (c.tc.loc main_arg3)) (m (c.tc.loc main_arg4)))

/-- The gradient of the queries as an array. -/
def G9 (A : Args) : (⟨S8192x1024, .f32⟩ : BufTy).Contents (Elt Ideal) := fun i => ((Cert.Flash.Real.dQ A (i 0) (i 1) : ℝ) : EReal)

/-- The gradient of the keys as an array, transposed. -/
def G10 (A : Args) : (⟨S1024x8192, .f32⟩ : BufTy).Contents (Elt Ideal) := fun i => ((Cert.Flash.Real.dK A (i 1) (i 0) : ℝ) : EReal)

/-- The gradient of the values as an array, transposed. -/
def G11 (A : Args) : (⟨S1024x8192, .f32⟩ : BufTy).Contents (Elt Ideal) := fun i => ((Cert.Flash.Real.dV A (i 1) (i 0) : ℝ) : EReal)

/-- The gradient of the gates through the keys as an array: two rows of a group of eight, the others zero. -/
def G12 (A : Args) : (⟨S8x8x8192, .f32⟩ : BufTy).Contents (Elt Ideal) := fun i =>
  ((if h : (i 1).val < 2 then Cert.Flash.Real.dCk A (ghd (i 0) ⟨(i 1).val, h⟩) (i 2) else 0 : ℝ) : EReal)

/-- The gradient of the gates through the queries as an array. -/
def G13 (A : Args) : (⟨S8x8192x2, .f32⟩ : BufTy).Contents (Elt Ideal) := fun i => ((Cert.Flash.Real.dCq A (ghd (i 0) (i 2)) (i 1) : ℝ) : EReal)

include H

theorem out9 : (dats m 0 c).arrAt 9 cfg0.N = G9 A := by
  refine (dats m 0 c).arrAt_eq_of_covers 9 (G9 A) (by decide +kernel) fun t hf y => ?_
  have ht := (flush0_9 t).mp hf
  blk_simp
  rw [after0_9]
  have e : ((win0_9.blk t).view.emb y : S8192x1024.Idx) = ix2 (y 0 : Fin 8192) (gcol (grp t) (y 1 : Fin 128)) := funext fun a => Fin.ext (by
    match a with
    | ⟨0, _⟩ => blk_simp [ix_9]; rfl
    | ⟨1, _⟩ => blk_simp [ix_9]; show t.val / 8 * 128 + (y 1).val = 128 * (t.val / 8) + (y 1).val; omega)
  refine Eq.trans ?_ (congrArg (G9 A) e.symm)
  refine (congrArg (stateAt m c (t.val + 1)).dq (eq_ix2 (y : S8192x128.Idx))).trans ?_
  exact dq_of_rows _ (state_rows m c t H ht) (y 0) (y 1)

theorem out10 : (dats m 0 c).arrAt 10 cfg0.N = G10 A := by
  refine (dats m 0 c).arrAt_eq_of_covers 10 (G10 A) (by decide +kernel) fun t hf y => ?_
  blk_simp
  rw [after0_10]
  have e : ((win0_10.blk t).view.emb y : S1024x8192.Idx) = ix2 (gcol (grp t) (y 0 : Fin 128)) (key (kb t) (y 1 : Fin 1024)) := funext fun a => Fin.ext (by
    match a with
    | ⟨0, _⟩ => blk_simp [ix_10]; show t.val / 8 * 128 + (y 0).val = 128 * (t.val / 8) + (y 0).val; omega
    | ⟨1, _⟩ => blk_simp [ix_10]; show t.val % 8 * 1024 + (y 1).val = 1024 * (t.val % 8) + (y 1).val; omega)
  refine Eq.trans ?_ (congrArg (G10 A) e.symm)
  refine (congrArg (stateAt m c (t.val + 1)).dk (eq_ix2 (y : S128x1024.Idx))).trans ?_
  exact dk_of_upto _ (state_upto m c t H) (y 0) (y 1)

theorem out11 : (dats m 0 c).arrAt 11 cfg0.N = G11 A := by
  refine (dats m 0 c).arrAt_eq_of_covers 11 (G11 A) (by decide +kernel) fun t hf y => ?_
  blk_simp
  rw [after0_11]
  have e : ((win0_11.blk t).view.emb y : S1024x8192.Idx) = ix2 (gcol (grp t) (y 0 : Fin 128)) (key (kb t) (y 1 : Fin 1024)) := funext fun a => Fin.ext (by
    match a with
    | ⟨0, _⟩ => blk_simp [ix_11]; show t.val / 8 * 128 + (y 0).val = 128 * (t.val / 8) + (y 0).val; omega
    | ⟨1, _⟩ => blk_simp [ix_11]; show t.val % 8 * 1024 + (y 1).val = 1024 * (t.val % 8) + (y 1).val; omega)
  refine Eq.trans ?_ (congrArg (G11 A) e.symm)
  refine (congrArg (stateAt m c (t.val + 1)).dv (eq_ix2 (y : S128x1024.Idx))).trans ?_
  exact dv_of_upto _ (state_upto m c t H) (y 0) (y 1)

theorem out12 : (dats m 0 c).arrAt 12 cfg0.N = G12 A := by
  refine (dats m 0 c).arrAt_eq_of_covers 12 (G12 A) (by decide +kernel) fun t hf y => ?_
  blk_simp
  rw [after0_12]
  have y0 : (y 0).val = 0 := by
    have h : (y 0).val < 1 := (y 0).isLt
    omega
  have e : ((win0_12.blk t).view.emb y : S8x8x8192.Idx) = ix3 (grp t) (y 1 : Fin 8) (key (kb t) (y 2 : Fin 1024)) := funext fun a => Fin.ext (by
    match a with
    | ⟨0, _⟩ => blk_simp [ix_12]; rfl
    | ⟨1, _⟩ => blk_simp [ix_12]; rfl
    | ⟨2, _⟩ => blk_simp [ix_12]; show t.val % 8 * 1024 + (y 2).val = 1024 * (t.val % 8) + (y 2).val; omega)
  refine Eq.trans ?_ (congrArg (G12 A) e.symm)
  have ey : (y : S1x8x1024.Idx) = ix3 0 (y 1 : Fin 8) (y 2 : Fin 1024) := funext fun a => match a with
    | ⟨0, _⟩ => Fin.ext y0
    | ⟨1, _⟩ => rfl
    | ⟨2, _⟩ => rfl
  refine (congrArg (stateAt m c (t.val + 1)).dck ey).trans ?_
  exact dck_of_upto _ (state_upto m c t H) (y 1) (y 2)

theorem out13 : (dats m 0 c).arrAt 13 cfg0.N = G13 A := by
  refine (dats m 0 c).arrAt_eq_of_covers 13 (G13 A) (by decide +kernel) fun t hf y => ?_
  have ht := (flush0_13 t).mp hf
  blk_simp
  rw [after0_13]
  have y0 : (y 0).val = 0 := by
    have h : (y 0).val < 1 := (y 0).isLt
    omega
  have e : ((win0_13.blk t).view.emb y : S8x8192x2.Idx) = ix3 (grp t) (y 1 : Fin 8192) (y 2 : Fin 2) := funext fun a => Fin.ext (by
    match a with
    | ⟨0, _⟩ => blk_simp [ix_13]; rfl
    | ⟨1, _⟩ => blk_simp [ix_13]; rfl
    | ⟨2, _⟩ => blk_simp [ix_13]; rfl)
  refine Eq.trans ?_ (congrArg (G13 A) e.symm)
  have ey : (y : S1x8192x2.Idx) = ix3 0 (y 1 : Fin 8192) (y 2 : Fin 2) := funext fun a => match a with
    | ⟨0, _⟩ => Fin.ext y0
    | ⟨1, _⟩ => rfl
    | ⟨2, _⟩ => rfl
  refine (congrArg (stateAt m c (t.val + 1)).dcq ey).trans ?_
  exact dcq_of_rows _ (state_rows m c t H ht) (y 1) (y 2)

end Cert.KernelIdeal.Flash
-- ==== Proof.Flash.Claim.lean ====
module

public import proofs.«01_k».proof.Proof.Flash.Finite
public import proofs.«01_k».proof.Proof.Flash.Out
public import proofs.«01_k».proof.Proof.Gen.ReferenceIdeal.Run

@[expose] public section

set_option maxRecDepth 16384
set_option maxHeartbeats 4000000

noncomputable section

namespace Cert.Flash.Claim

open Idealize.ShloMosaic Idealize.ShloMosaic.TcCoe
open Cert.Flash.Real (Args)
open Cert.Flash.Ref (Reads)
open Cert.KernelIdeal.Flash (G9 G10 G11 G12 G13)

/-! The reference's frame, and the results of the kernel and of the reference as the same arrays. -/

/-- A run of the reference leaves the argument arrays unchanged and every counter at zero (it has none). -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

/-- From arrays of real numbers the kernel ends with the five gradients of those numbers. -/
theorem run_kernel (m : (ℓ : Loc Cert.KernelIdeal.nD Cert.KernelIdeal.τ Cert.KernelIdeal.sig) → Buf (Elt Ideal) ℓ) (g : Dev Cert.KernelIdeal.nD → PrngReg)
    (A : Dev Cert.KernelIdeal.nD → Args)
    (H : ∀ c : Dev Cert.KernelIdeal.nD, Reads (A c) (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem (c.tc.loc Cert.KernelIdeal.main_v62_0) = G9 (A c)
      ∧ r.2.mem (c.tc.loc Cert.KernelIdeal.main_v62_1) = G10 (A c)
      ∧ r.2.mem (c.tc.loc Cert.KernelIdeal.main_v62_2) = G11 (A c)
      ∧ r.2.mem (c.tc.loc Cert.KernelIdeal.main_v62_3) = G12 (A c)
      ∧ r.2.mem (c.tc.loc Cert.KernelIdeal.main_v62_4) = G13 (A c)
      ∧ r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1)
      ∧ r.2.mem (c.tc.loc Cert.KernelIdeal.main_arg2) = m (c.tc.loc Cert.KernelIdeal.main_arg2)
      ∧ r.2.mem (c.tc.loc Cert.KernelIdeal.main_arg3) = m (c.tc.loc Cert.KernelIdeal.main_arg3)
      ∧ r.2.mem (c.tc.loc Cert.KernelIdeal.main_arg4) = m (c.tc.loc Cert.KernelIdeal.main_arg4)) :=
  θ_run_mono (θ_run_and (Cert.KernelIdeal.Flash.run_main m g) (Cert.KernelIdeal.Flash.frame m g)) fun r h c =>
    ⟨((h.1 c).1 9).trans (Cert.KernelIdeal.Flash.out9 m c (H c)),
     ((h.1 c).1 10).trans (Cert.KernelIdeal.Flash.out10 m c (H c)),
     ((h.1 c).1 11).trans (Cert.KernelIdeal.Flash.out11 m c (H c)),
     ((h.1 c).1 12).trans (Cert.KernelIdeal.Flash.out12 m c (H c)),
     ((h.1 c).1 13).trans (Cert.KernelIdeal.Flash.out13 m c (H c)),
     h.2.1 c⟩

/-- From arrays of real numbers the reference ends with the same five gradients. -/
theorem run_reference (m : (ℓ : Loc Cert.ReferenceIdeal.nD Cert.ReferenceIdeal.τ Cert.ReferenceIdeal.sig) → Buf (Elt Ideal) ℓ) (g : Dev Cert.ReferenceIdeal.nD → PrngReg)
    (A : Dev Cert.ReferenceIdeal.nD → Args)
    (H : ∀ c : Dev Cert.ReferenceIdeal.nD, Reads (A c) (m (c.tc.loc Cert.ReferenceIdeal.main_arg0)) (m (c.tc.loc Cert.ReferenceIdeal.main_arg1)) (m (c.tc.loc Cert.ReferenceIdeal.main_arg2)) (m (c.tc.loc Cert.ReferenceIdeal.main_arg3)) (m (c.tc.loc Cert.ReferenceIdeal.main_arg4))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem (c.tc.loc Cert.ReferenceIdeal.main_v84) = G9 (A c)
      ∧ r.2.mem (c.tc.loc Cert.ReferenceIdeal.main_v88) = G10 (A c)
      ∧ r.2.mem (c.tc.loc Cert.ReferenceIdeal.main_v89) = G11 (A c)
      ∧ r.2.mem (c.tc.loc Cert.ReferenceIdeal.main_v87) = G12 (A c)
      ∧ r.2.mem (c.tc.loc Cert.ReferenceIdeal.main_v91) = G13 (A c)
      ∧ r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4)) := by
  refine θ_run_mono (Cert.ReferenceIdeal.Value.run (F := Ideal) m g) fun r h c => ?_
  obtain ⟨h0, h1, h2, h3, h4, ha⟩ := h c
  refine ⟨?_, ?_, ?_, ?_, ?_, ha⟩
  · exact (h0.trans (Cert.ReferenceIdeal.Read.val_main_v84_eq m c)).trans (funext fun i => Cert.Flash.Ref.v84 (H c) i)
  · exact (h1.trans (Cert.ReferenceIdeal.Read.val_main_v88_eq m c)).trans (funext fun i => Cert.Flash.Ref.v88 (H c) i)
  · exact (h2.trans (Cert.ReferenceIdeal.Read.val_main_v89_eq m c)).trans (funext fun i => Cert.Flash.Ref.v89 (H c) i)
  · refine (h3.trans (Cert.ReferenceIdeal.Read.val_main_v87_eq m c)).trans (funext fun i => (Cert.Flash.Ref.v87 (H c) i).trans ?_)
    unfold G12
    by_cases hh : (i 1).val < 2
    · rw [dif_pos hh, dif_pos hh]; rfl
    · rw [dif_neg hh, dif_neg hh]; rfl
  · exact (h4.trans (Cert.ReferenceIdeal.Read.val_main_v91_eq m c)).trans (funext fun i => Cert.Flash.Ref.v91 (H c) i)

end Cert.Flash.Claim

end
-- ==== Proof.Mixer.Point.lean ====
module

public import proofs.«01_k».proof.Proof.Gen.Kernel2Ideal.Value
public import Idealize.ShloMosaic.Lib.Pipeline.ValueKit
public import Idealize.ShloMosaic.Lib.Pointwise

@[expose] public section

set_option maxRecDepth 65536
set_option maxHeartbeats 4000000

noncomputable section

namespace Cert.Mixer

open Idealize.ShloMosaic Idealize.ShloMosaic.TcCoe Idealize.ShloMosaic.Tactic
open Cert.Kernel2Ideal Cert.Kernel2Ideal.Gen Cert.Kernel2Ideal.Value

/-! What one point of the grid leaves in its blocks. -/

private theorem hz2 : (![0, 0] : Fin 2 → ℕ) = fun _ => 0 := funext fun a => by fin_cases a <;> rfl

/-- The gradient of the input, over one block. -/
def inner (x0 x1 : Vec Ideal S256x1024 .f32) (x2 : Vec Ideal S1x1024 .f32) (x3 : Vec Ideal S1024x4096 .bf16) (x4 : Vec Ideal S4096x1024 .bf16) (x5 : Vec Ideal S256x4096 .f32) : Vec Ideal S256x1024 .f32 :=
  k0_pay1 x0 x1 (k0_pay7 x1) (k0_pay9 x0 x4 x5 x2 x3)

/-- The sums for the gradient of the gain, one block's rows added. -/
def gain (x0 x1 : Vec Ideal S256x1024 .f32) (x3 : Vec Ideal S1024x4096 .bf16) (x4 : Vec Ideal S4096x1024 .bf16) (x5 : Vec Ideal S256x4096 .f32) (acc : Vec Ideal S8x1024 .f32) : Vec Ideal S8x1024 .f32 :=
  k0_pay2 x1 (k0_pay7 x1) (k0_pay8 x0 x4 x5 x3) acc

theorem inner_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) :
    out0_A_6 c i arg1 harg1 arg2 harg2 arg3 harg3 arg4 harg4 arg5 harg5 arg6 harg6 arg7 harg7 arg8 harg8 arg9 harg9 arg10 harg10 hc0 hc1 x0 x1 x2 x3 x4 x5 = inner x0 x1 x2 x3 x4 x5 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem hidden_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) :
    out0_A_7 c i arg1 harg1 arg2 harg2 arg3 harg3 arg4 harg4 arg5 harg5 arg6 harg6 arg7 harg7 arg8 harg8 arg9 harg9 arg10 harg10 hc0 hc1 x0 x1 x2 x3 x4 x5 = k0_pay6 x0 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem gain_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) :
    sout0_A_0 c i arg1 harg1 arg2 harg2 arg3 harg3 arg4 harg4 arg5 harg5 arg6 harg6 arg7 harg7 arg8 harg8 arg9 harg9 arg10 harg10 hc0 hc1 x0 x1 x2 x3 x4 x5 = gain x0 x1 x3 x4 x5 (k0_pay4 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem inner_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    out0_B_6 c i arg1 harg1 arg2 harg2 arg3 harg3 arg4 harg4 arg5 harg5 arg6 harg6 arg7 harg7 arg8 harg8 arg9 harg9 arg10 harg10 hc0 hc1 x0 x1 x2 x3 x4 x5 xs0 = inner x0 x1 x2 x3 x4 x5 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem hidden_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    out0_B_7 c i arg1 harg1 arg2 harg2 arg3 harg3 arg4 harg4 arg5 harg5 arg6 harg6 arg7 harg7 arg8 harg8 arg9 harg9 arg10 harg10 hc0 hc1 x0 x1 x2 x3 x4 x5 xs0 = k0_pay6 x0 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem gain_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : ¬cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    sout0_B_0 c i arg1 harg1 arg2 harg2 arg3 harg3 arg4 harg4 arg5 harg5 arg6 harg6 arg7 harg7 arg8 harg8 arg9 harg9 arg10 harg10 hc0 hc1 x0 x1 x2 x3 x4 x5 xs0 = gain x0 x1 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem inner_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    out0_C_6 c i arg1 harg1 arg2 harg2 arg3 harg3 arg4 harg4 arg5 harg5 arg6 harg6 arg7 harg7 arg8 harg8 arg9 harg9 arg10 harg10 hc0 hc1 x0 x1 x2 x3 x4 x5 xs0 = inner x0 x1 x2 x3 x4 x5 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem hidden_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    out0_C_7 c i arg1 harg1 arg2 harg2 arg3 harg3 arg4 harg4 arg5 harg5 arg6 harg6 arg7 harg7 arg8 harg8 arg9 harg9 arg10 harg10 hc0 hc1 x0 x1 x2 x3 x4 x5 xs0 = k0_pay6 x0 x4 x5 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem gain_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    sout0_C_0 c i arg1 harg1 arg2 harg2 arg3 harg3 arg4 harg4 arg5 harg5 arg6 harg6 arg7 harg7 arg8 harg8 arg9 harg9 arg10 harg10 hc0 hc1 x0 x1 x2 x3 x4 x5 xs0 = gain x0 x1 x3 x4 x5 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

theorem final_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x4096 .bf16) (harg4 : arg4.IsWhole) (arg5 : Memref sig .tc .vmem S4096x1024 .bf16) (harg5 : arg5.IsWhole) (arg6 : Memref sig .tc .vmem S256x4096 .f32) (harg6 : arg6.IsWhole) (arg7 : Memref sig .tc .vmem S256x1024 .f32) (harg7 : arg7.IsWhole) (arg8 : Memref sig .tc .vmem S256x4096 .bf16) (harg8 : arg8.IsWhole) (arg9 : Memref sig .tc .vmem S1x1024 .f32) (harg9 : arg9.IsWhole) (arg10 : Memref sig .tc .vmem S8x1024 .f32) (harg10 : arg10.IsWhole) (hc0 : ¬cond0_0 i) (hc1 : cond0_1 i) (x0 : Vec Ideal S256x1024 .f32) (x1 : Vec Ideal S256x1024 .f32) (x2 : Vec Ideal S1x1024 .f32) (x3 : Vec Ideal S1024x4096 .bf16) (x4 : Vec Ideal S4096x1024 .bf16) (x5 : Vec Ideal S256x4096 .f32) (xs0 : Vec Ideal S8x1024 .f32) :
    out0_C_8 c i arg1 harg1 arg2 harg2 arg3 harg3 arg4 harg4 arg5 harg5 arg6 harg6 arg7 harg7 arg8 harg8 arg9 harg9 arg10 harg10 hc0 hc1 x0 x1 x2 x3 x4 x5 xs0 = k0_pay3 (gain x0 x1 x3 x4 x5 xs0) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg10.read_unread, View.ld_unit_zero (S := S256x1024) hz2, View.ld_unit_zero (S := S1x1024) hz2, View.ld_unit_zero (S := S1024x4096) hz2, View.ld_unit_zero (S := S4096x1024) hz2, View.ld_unit_zero (S := S256x4096) hz2, View.ld_unit_zero (S := S8x1024) hz2]
  try rfl

end Cert.Mixer
-- ==== Proof.Mixer.Pure.lean ====
module

public import Idealize.ShloMosaic.Lib.Pointwise

@[expose] public section

noncomputable section

namespace Cert.Mixer

open Idealize.ShloMosaic

/-! The normalization's derivative, written two ways, is one number of the extended reals. -/

theorem val_1024 : Ideal.ofBits .f32 0x44800000#32 = ((1024 : ℝ) : EReal) := by
  simp [Ideal.ofBits, Ideal.ieee]
  rw [← EReal.coe_mul]
  norm_num

theorem val_neg_half : Ideal.ofBits .f32 0xBF000000#32 = ((-(1 / 2) : ℝ) : EReal) := by
  simp [Ideal.ofBits, Ideal.ieee]
  rw [← EReal.coe_mul]
  norm_num

theorem val_eps : ∃ e : ℝ, 0 < e ∧ Ideal.ofBits .f32 0x358637BD#32 = (e : EReal) := by
  refine ⟨8796093 * (1 / 8796093022208), by norm_num, ?_⟩
  simp [Ideal.ofBits, Ideal.ieee]
  norm_num

/-- A sum of squares is not negative. -/
theorem squares_nonneg {ι : Type} [Fintype ι] (f : ι → EReal) : 0 ≤ ∑ i, f i * f i := by
  refine Finset.sum_nonneg fun i _ => ?_
  induction f i with
  | bot => simp
  | top => simp
  | coe a => exact_mod_cast mul_self_nonneg a

/-- The mean of the squares, the small number added, is a positive real or the top. -/
theorem mean_cases (S : EReal) (hS : 0 ≤ S) :
    Ideal.div S (Ideal.ofBits .f32 0x44800000#32) + Ideal.ofBits .f32 0x358637BD#32 = ⊤
      ∨ ∃ y : ℝ, 0 < y ∧ Ideal.div S (Ideal.ofBits .f32 0x44800000#32) + Ideal.ofBits .f32 0x358637BD#32 = (y : EReal) := by
  obtain ⟨e, he, heq⟩ := val_eps
  rw [val_1024, heq, Ideal.div_coe (by norm_num)]
  induction S with
  | bot => simp at hS
  | top => exact .inl (by rw [EReal.top_mul_coe_of_pos (by norm_num)]; rfl)
  | coe s =>
    have hs : 0 ≤ s := by exact_mod_cast hS
    exact .inr ⟨s * (1 / 1024) + e, by positivity, by push_cast; rfl⟩

/-- Twice a positive multiple, taken away, is the multiple taken away two times. -/
theorem twice (P : EReal) (p : ℝ) (hp : 0 < p) : -(P * ((2 * p : ℝ) : EReal)) = -(P * (p : EReal)) + -(P * (p : EReal)) := by
  have h2 : 0 < 2 * p := by linarith
  induction P with
  | bot => rw [EReal.bot_mul_coe_of_pos hp, EReal.bot_mul_coe_of_pos h2]; rfl
  | top => rw [EReal.top_mul_coe_of_pos hp, EReal.top_mul_coe_of_pos h2]; rfl
  | coe a =>
    norm_cast
    ring

theorem derivative (d x w S y : EReal) (hy : y = ⊤ ∨ ∃ z : ℝ, 0 < z ∧ y = (z : EReal)) :
    d + (Ideal.rsqrt y * w - x * (Ideal.rsqrt y * Ideal.rsqrt y * Ideal.rsqrt y) * Ideal.div S (Ideal.ofBits .f32 0x44800000#32))
      = d + w * Ideal.rsqrt y
        + x * Ideal.div (S * (Ideal.ofBits .f32 0xBF000000#32 * Ideal.div (Ideal.rsqrt y) y)) (Ideal.ofBits .f32 0x44800000#32)
        + Ideal.div (S * (Ideal.ofBits .f32 0xBF000000#32 * Ideal.div (Ideal.rsqrt y) y)) (Ideal.ofBits .f32 0x44800000#32) * x := by
  rw [val_1024, val_neg_half, Ideal.div_coe (by norm_num), Ideal.div_coe (by norm_num)]
  rcases hy with rfl | ⟨z, hz, rfl⟩
  · simp [Ideal.div]
  · have hs : 0 < Real.sqrt z := Real.sqrt_pos.mpr hz
    have hr : Ideal.rsqrt (z : EReal) = (((Real.sqrt z)⁻¹ : ℝ) : EReal) := by
      rw [Ideal.rsqrt_coe, if_neg (not_lt.mpr hz.le), if_neg hz.ne']
    have hsq : Real.sqrt z * Real.sqrt z = z := Real.mul_self_sqrt hz.le
    rw [hr, Ideal.div_coe hz.ne']
    generalize Real.sqrt z = s at *
    subst hsq
    have hp : 0 < s⁻¹ * (1 / (s * s)) / 2048 := by positivity
    have e1 : x * ((s⁻¹ : ℝ) * (s⁻¹ : ℝ) * (s⁻¹ : ℝ) : EReal) * (S * ((1 / 1024 : ℝ) : EReal)) = (x * S) * ((2 * (s⁻¹ * (1 / (s * s)) / 2048) : ℝ) : EReal) := by
      rw [mul_mul_mul_comm]
      congr 1
      norm_cast
      field_simp
      norm_num
    have e2 : S * (((-(1 / 2) : ℝ) : EReal) * (((s⁻¹ : ℝ) : EReal) * ((1 / (s * s) : ℝ) : EReal))) * ((1 / 1024 : ℝ) : EReal) = -(S * ((s⁻¹ * (1 / (s * s)) / 2048 : ℝ) : EReal)) := by
      rw [mul_assoc, ← mul_neg]
      congr 1
      norm_cast
      field_simp
      norm_num
    rw [e1, e2, sub_eq_add_neg, twice _ _ hp, mul_neg, neg_mul, mul_comm (S * _) x, ← mul_assoc, mul_comm w, ← add_assoc, ← add_assoc]

end Cert.Mixer
-- ==== Proof.Mixer.Ref.lean ====
module

public import proofs.«01_k».proof.Proof.Mixer.Pure
public import proofs.«01_k».proof.Proof.Gen.Reference2Ideal.Run
public import proofs.«01_k».proof.Proof.Gen.Reference2Ideal.Read
public import Idealize.ShloMosaic.Lib.Pointwise

@[expose] public section

set_option maxRecDepth 65536
set_option maxHeartbeats 4000000

noncomputable section

namespace Cert.Mixer.Ref

open Idealize.ShloMosaic Idealize.ShloMosaic.TcCoe Idealize.ShloMosaic.Tactic
open Idealize.ShloMosaic.StableHlo
open Cert.Reference2Ideal Cert.Reference2Ideal.Read

/-! The reference's stages, element by element, in the form the kernel computes them in. -/

variable (x0 x1 : (⟨S8192x1024, .f32⟩ : BufTy).Contents (Elt Ideal)) (x2 : (⟨S1024, .f32⟩ : BufTy).Contents (Elt Ideal)) (x3 : (⟨S1024x4096, .f32⟩ : BufTy).Contents (Elt Ideal)) (x4 : (⟨S4096x1024, .f32⟩ : BufTy).Contents (Elt Ideal))

theorem mean_at (r : Fin 8192) (u : Fin 1) : val_main_v7 (F := Ideal) x1 (ix2 r u)
    = Ideal.div (∑ x : Fin 1024, x1 (ix2 r x) * x1 (ix2 r x)) (Ideal.ofBits .f32 0x44800000#32) + Ideal.ofBits .f32 0x358637BD#32 := by
  pointwise [val_main_v7, val_main_v6, val_main_v5, val_main_v4, val_main_v3, val_main_v2, val_main_v1, val_main_cst_0, val_main_cst_1, val_main_cst_2]

theorem scale_at (r : Fin 8192) (u : Fin 1) : val_main_v8 (F := Ideal) x1 (ix2 r u) = Ideal.rsqrt (val_main_v7 (F := Ideal) x1 (ix2 r u)) := by
  pointwise [val_main_v8]

/-- Where the rectifier is shut, the other factor is zero as well. -/
theorem hidden_at (r : Fin 8192) (f : Fin 4096) : val_main_v32 (F := Ideal) x0 x1 x2 x3 x4 (ix2 r f)
    = (∑ x : Fin 1024, x0 (ix2 r x) * x4 (ix2 f x)) * (Ideal.ofBits .f32 0x40000000#32 * max (val_main_v17 (F := Ideal) x1 x2 x3 (ix2 r f)) 0) := by
  pointwise [val_main_v32, val_main_v31, val_main_v30, val_main_v29, val_main_v28, val_main_v25, val_main_v24, val_main_v21, val_main_v20, val_main_v19, val_main_v18, val_main_v0, val_main_cst, val_main_cst_4, val_main_cst_6, val_main_cst_7, val_main_call0_v0, val_main_call0_cst]
  split_ifs with h
  · rfl
  · rw [max_eq_right (not_lt.mp h), mul_zero, mul_zero]

theorem normal_at (r : Fin 8192) (j : Fin 1024) : val_main_v33 (F := Ideal) x0 x1 x2 x3 x4 (ix2 r j)
    = ∑ x : Fin 4096, val_main_v32 (F := Ideal) x0 x1 x2 x3 x4 (ix2 r x) * x3 (ix2 j x) := by
  pointwise [val_main_v33]

theorem gained_at (r : Fin 8192) (j : Fin 1024) : val_main_v38 (F := Ideal) x0 x1 x2 x3 x4 (ix2 r j)
    = val_main_v33 (F := Ideal) x0 x1 x2 x3 x4 (ix2 r j) * x2 (ix1 j) := by
  pointwise [val_main_v38, val_main_v37, val_main_v14]

theorem term_at (r : Fin 8192) (j : Fin 1024) : val_main_v34 (F := Ideal) x0 x1 x2 x3 x4 (ix2 r j)
    = val_main_v33 (F := Ideal) x0 x1 x2 x3 x4 (ix2 r j) * x1 (ix2 r j) * val_main_v8 (F := Ideal) x1 (ix2 r 0) := by
  pointwise [val_main_v34, val_main_v13, val_main_v12]
  rw [mul_comm, mul_assoc]

theorem gain_at (u : Fin 1) (j : Fin 1024) : val_main_v56 (F := Ideal) x0 x1 x2 x3 x4 (ix2 u j)
    = ∑ x : Fin 8192, val_main_v34 (F := Ideal) x0 x1 x2 x3 x4 (ix2 x j) := by
  pointwise [val_main_v56, val_main_v39, val_main_v36, val_main_v35, val_main_cst_8, val_main_cst_9]
  exact Fin.sum_univ_one _

theorem input_at (r : Fin 8192) (j : Fin 1024) : val_main_v54 (F := Ideal) x0 x1 x2 x3 x4 (ix2 r j)
    = x0 (ix2 r j) + (val_main_v8 (F := Ideal) x1 (ix2 r 0) * val_main_v38 (F := Ideal) x0 x1 x2 x3 x4 (ix2 r j)
      - x1 (ix2 r j) * (val_main_v8 (F := Ideal) x1 (ix2 r 0) * val_main_v8 (F := Ideal) x1 (ix2 r 0) * val_main_v8 (F := Ideal) x1 (ix2 r 0))
        * Ideal.div (∑ x : Fin 1024, val_main_v38 (F := Ideal) x0 x1 x2 x3 x4 (ix2 r x) * x1 (ix2 r x)) (Ideal.ofBits .f32 0x44800000#32)) := by
  have hy : val_main_v7 (F := Ideal) x1 (ix2 r 0) = ⊤ ∨ ∃ z : ℝ, 0 < z ∧ val_main_v7 (F := Ideal) x1 (ix2 r 0) = (z : EReal) := by
    rw [mean_at]
    exact mean_cases _ (squares_nonneg fun x => x1 (ix2 r x))
  rw [scale_at, derivative _ _ _ _ _ hy]
  pointwise [val_main_v54, val_main_v53, val_main_v52, val_main_v51, val_main_v50, val_main_v49, val_main_v48, val_main_v47, val_main_v46, val_main_v45, val_main_v44, val_main_v43, val_main_v42, val_main_v41, val_main_v40, val_main_v11, val_main_v10, val_main_v9, val_main_v8, val_main_cst_3, val_main_cst_10, val_main_cst_11, val_main_cst_12]
  simp only [mul_comm (x1 _) (val_main_v38 (F := Ideal) x0 x1 x2 x3 x4 _)]
  simp only [Fin.sum_univ_one]

theorem frame_reference (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4))
      ∧ r.2.sem = fun _ => 0) :=
  (θ_run defs _ _).mono (fun r h => ⟨fun c => (h c).2.2.2, sem_eq_zero_of_no_sems (by decide) r.2⟩)
    (Cert.Reference2Ideal.Value.run (F := Ideal) m g)

end Cert.Mixer.Ref
-- ==== Proof.Mixer.Blocks.lean ====
module

public import proofs.«01_k».proof.Proof.Mixer.Point
public import proofs.«01_k».proof.Proof.Mixer.Ref
public import Idealize.ShloMosaic.Lib.StableHlo.RunRead
public import Idealize.ShloMosaic.Lib.Pipeline.ValueKit

@[expose] public section

set_option maxRecDepth 65536
set_option maxHeartbeats 4000000

noncomputable section

namespace Cert.Mixer

open Idealize.ShloMosaic Idealize.ShloMosaic.TcCoe Idealize.ShloMosaic.Tactic
open Idealize.ShloMosaic.StableHlo
open Cert.Kernel2Ideal Cert.Kernel2Ideal.Gen Cert.Kernel2Ideal.Value
open Cert.Reference2Ideal.Read (val_main_v7 val_main_v8 val_main_v17 val_main_v32 val_main_v33 val_main_v34 val_main_v38 val_main_v54 val_main_v55 val_main_v56)

/-! What one point leaves, over the whole arrays: 256 rows of the reference's stages. -/

variable (m : (ℓ : Loc nD τ sig) → Buf (Elt Ideal) ℓ) (c : Dev nD)

/-- The five arguments. -/
def D0 : (⟨S8192x1024, .f32⟩ : BufTy).Contents (Elt Ideal) := m (c.tc.loc main_arg0)
def H0 : (⟨S8192x1024, .f32⟩ : BufTy).Contents (Elt Ideal) := m (c.tc.loc main_arg1)
def G0 : (⟨S1024, .f32⟩ : BufTy).Contents (Elt Ideal) := m (c.tc.loc main_arg2)
def A0 : (⟨S1024x4096, .f32⟩ : BufTy).Contents (Elt Ideal) := m (c.tc.loc main_arg3)
def B0 : (⟨S4096x1024, .f32⟩ : BufTy).Contents (Elt Ideal) := m (c.tc.loc main_arg4)

theorem V0 : V m c main_arg0 = D0 m c := by after_reads_simp; rfl
theorem V1 : V m c main_arg1 = H0 m c := by after_reads_simp; rfl
theorem V13 : V m c main_v13 = val_main_v17 (F := Ideal) (H0 m c) (G0 m c) (A0 m c) := by after_reads_simp; rfl
theorem V14 (j : Fin 1024) : V m c main_v14 (ix2 0 j) = G0 m c (ix1 j) := by
  have e : V m c main_v14 = shapeCast S1x1024 (G0 m c) shapeCasts_S1024_S1x1024 := by after_reads_simp; rfl
  rw [e]
  pointwise
theorem V15 : V m c main_v15 = A0 m c := by after_reads_simp; rfl
theorem V16 : V m c main_v16 = B0 m c := by after_reads_simp; rfl

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![0, 0] := by decide +kernel
theorem ix_5 : ∀ t : Fin cfg0.N, win0_5.index t = ![t.val, 0] := by decide +kernel

/-- A row of the block of a point. -/
def row (t : Fin cfg0.N) (k : Fin 256) : Fin 8192 :=
  ⟨t.val * 256 + k.val, by have h : t.val < 32 := Nat.lt_of_lt_of_eq t.isLt N_0; omega⟩

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 256) (j : Fin 1024) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

theorem blk_2 (t : Fin cfg0.N) (k : Fin 1) (j : Fin 1024) : iblk m c 2 t (ix2 k j) = V m c main_v14 (ix2 k j) := by
  blk_simp [iblk]
  refine congrArg (V m c main_v14) (funext fun a => Fin.ext ?_)
  match a with
  | ⟨0, _⟩ => blk_simp [ix_2]
  | ⟨1, _⟩ => blk_simp [ix_2]

theorem blk_3 (t : Fin cfg0.N) (k : Fin 1024) (j : Fin 4096) : iblk m c 3 t (ix2 k j) = V m c main_v15 (ix2 k j) := by
  blk_simp [iblk]
  refine congrArg (V m c main_v15) (funext fun a => Fin.ext ?_)
  match a with
  | ⟨0, _⟩ => blk_simp [ix_3]
  | ⟨1, _⟩ => blk_simp [ix_3]

theorem blk_4 (t : Fin cfg0.N) (k : Fin 4096) (j : Fin 1024) : iblk m c 4 t (ix2 k j) = V m c main_v16 (ix2 k j) := by
  blk_simp [iblk]
  refine congrArg (V m c main_v16) (funext fun a => Fin.ext ?_)
  match a with
  | ⟨0, _⟩ => blk_simp [ix_4]
  | ⟨1, _⟩ => blk_simp [ix_4]

theorem blk_5 (t : Fin cfg0.N) (k : Fin 256) (j : Fin 4096) : iblk m c 5 t (ix2 k j) = V m c main_v13 (ix2 (row t k) j) := by
  blk_simp [iblk]
  refine congrArg (V m c main_v13) (funext fun a => Fin.ext ?_)
  match a with
  | ⟨0, _⟩ => blk_simp [ix_5]; rfl
  | ⟨1, _⟩ => blk_simp [ix_5]

/-- The stages, of a program's own arguments. -/
abbrev hid (r : Fin 8192) (f : Fin 4096) : EReal := val_main_v32 (F := Ideal) (D0 m c) (H0 m c) (G0 m c) (A0 m c) (B0 m c) (ix2 r f)
abbrev nrm (r : Fin 8192) (j : Fin 1024) : EReal := val_main_v33 (F := Ideal) (D0 m c) (H0 m c) (G0 m c) (A0 m c) (B0 m c) (ix2 r j)
abbrev gnd (r : Fin 8192) (j : Fin 1024) : EReal := val_main_v38 (F := Ideal) (D0 m c) (H0 m c) (G0 m c) (A0 m c) (B0 m c) (ix2 r j)
abbrev trm (r : Fin 8192) (j : Fin 1024) : EReal := val_main_v34 (F := Ideal) (D0 m c) (H0 m c) (G0 m c) (A0 m c) (B0 m c) (ix2 r j)
abbrev inp (r : Fin 8192) (j : Fin 1024) : EReal := val_main_v54 (F := Ideal) (D0 m c) (H0 m c) (G0 m c) (A0 m c) (B0 m c) (ix2 r j)

theorem scale_blk (t : Fin cfg0.N) (i : Fin 256) (u : Fin 1) :
    k0_pay7 (F := Ideal) (iblk m c 1 t) (ix2 i u) = val_main_v8 (F := Ideal) (H0 m c) (ix2 (row t i) 0) := by
  have e1 := blk_1 m c t
  rw [V1] at e1
  generalize iblk m c 1 t = x1 at *
  pointwise [k0_pay7]
  simp only [e1]
  rw [Ref.scale_at, Ref.mean_at]

theorem pay5_blk (t : Fin cfg0.N) (i : Fin 256) (f : Fin 4096) :
    k0_pay5 (F := Ideal) (iblk m c 0 t) (iblk m c 4 t) (iblk m c 5 t) (ix2 i f) = hid m c (row t i) f := by
  have e0 := blk_0 m c t
  have e4 := blk_4 m c t
  have e5 := blk_5 m c t
  rw [V0] at e0
  rw [V16] at e4
  rw [V13] at e5
  generalize iblk m c 0 t = x0 at *
  generalize iblk m c 4 t = x4 at *
  generalize iblk m c 5 t = x5 at *
  pointwise [k0_pay5]
  simp only [e0, e4, e5]
  exact (Ref.hidden_at ..).symm

theorem hidden_blk (t : Fin cfg0.N) (i : Fin 256) (f : Fin 4096) :
    k0_pay6 (F := Ideal) (iblk m c 0 t) (iblk m c 4 t) (iblk m c 5 t) (ix2 i f) = hid m c (row t i) f :=
  (show k0_pay6 (F := Ideal) (iblk m c 0 t) (iblk m c 4 t) (iblk m c 5 t) (ix2 i f) = k0_pay5 (F := Ideal) (iblk m c 0 t) (iblk m c 4 t) (iblk m c 5 t) (ix2 i f) from rfl).trans (pay5_blk m c t i f)

theorem pay8_blk (t : Fin cfg0.N) (i : Fin 256) (j : Fin 1024) :
    k0_pay8 (F := Ideal) (iblk m c 0 t) (iblk m c 4 t) (iblk m c 5 t) (iblk m c 3 t) (ix2 i j) = nrm m c (row t i) j := by
  have e3 := blk_3 m c t
  have e5 := pay5_blk m c t
  rw [V15] at e3
  generalize iblk m c 0 t = x0 at *
  generalize iblk m c 3 t = x3 at *
  generalize iblk m c 4 t = x4 at *
  generalize iblk m c 5 t = x5 at *
  pointwise [k0_pay8]
  simp only [e3, e5]
  exact (Ref.normal_at ..).symm

theorem pay9_blk (t : Fin cfg0.N) (i : Fin 256) (j : Fin 1024) :
    k0_pay9 (F := Ideal) (iblk m c 0 t) (iblk m c 4 t) (iblk m c 5 t) (iblk m c 2 t) (iblk m c 3 t) (ix2 i j) = gnd m c (row t i) j := by
  have e2 : iblk m c 2 t (ix2 0 j) = G0 m c (ix1 j) := (blk_2 m c t 0 j).trans (V14 m c j)
  have e8 := pay8_blk m c t
  generalize iblk m c 0 t = x0 at *
  generalize iblk m c 2 t = x2 at *
  generalize iblk m c 3 t = x3 at *
  generalize iblk m c 4 t = x4 at *
  generalize iblk m c 5 t = x5 at *
  pointwise [k0_pay9]
  rw [e2, e8]
  exact (Ref.gained_at ..).symm

/-- The gradient of the input over one block is the reference's. -/
theorem inner_blk (t : Fin cfg0.N) (i : Fin 256) (j : Fin 1024) :
    inner (iblk m c 0 t) (iblk m c 1 t) (iblk m c 2 t) (iblk m c 3 t) (iblk m c 4 t) (iblk m c 5 t) (ix2 i j) = inp m c (row t i) j := by
  have e0 := blk_0 m c t
  have e1 := blk_1 m c t
  rw [V0] at e0
  rw [V1] at e1
  have e7 := scale_blk m c t
  have e9 := pay9_blk m c t
  unfold inner
  generalize k0_pay7 (F := Ideal) (iblk m c 1 t) = r at *
  generalize k0_pay9 (F := Ideal) (iblk m c 0 t) (iblk m c 4 t) (iblk m c 5 t) (iblk m c 2 t) (iblk m c 3 t) = w at *
  generalize iblk m c 0 t = x0 at *
  generalize iblk m c 1 t = x1 at *
  pointwise [k0_pay1]
  simp only [e0, e1, e7, e9]
  exact (Ref.input_at ..).symm

/-- One of the 256 rows of a block, in 32 groups of eight. -/
def low (q : Fin 32) (s : Fin 8) : Fin 256 := ⟨q.val * 8 + s.val, by omega⟩

theorem gain_blk (t : Fin cfg0.N) (acc : Vec Ideal S8x1024 .f32) (s : Fin 8) (j : Fin 1024) :
    gain (iblk m c 0 t) (iblk m c 1 t) (iblk m c 3 t) (iblk m c 4 t) (iblk m c 5 t) acc (ix2 s j)
      = acc (ix2 s j) + ∑ q : Fin 32, trm m c (row t (low q s)) j := by
  have e1 := blk_1 m c t
  rw [V1] at e1
  have e7 := scale_blk m c t
  have e8 := pay8_blk m c t
  unfold gain
  generalize k0_pay7 (F := Ideal) (iblk m c 1 t) = r at *
  generalize k0_pay8 (F := Ideal) (iblk m c 0 t) (iblk m c 4 t) (iblk m c 5 t) (iblk m c 3 t) = w at *
  generalize iblk m c 1 t = x1 at *
  pointwise [k0_pay2]
  simp only [e1, e7, e8]
  exact congrArg (acc (ix2 s j) + ·) (Finset.sum_congr rfl fun q _ => (Ref.term_at (D0 m c) (H0 m c) (G0 m c) (A0 m c) (B0 m c) (row t (low q s)) j).symm)

end Cert.Mixer
-- ==== Proof.Mixer.Claim.lean ====
module

public import proofs.«01_k».proof.Proof.Mixer.Blocks
public import proofs.«01_k».proof.Defs

@[expose] public section

set_option maxRecDepth 65536
set_option maxHeartbeats 400000

noncomputable section

namespace Cert.Mixer

open Idealize.ShloMosaic Idealize.ShloMosaic.TcCoe Idealize.ShloMosaic.Tactic
open Idealize.ShloMosaic.StableHlo
open Cert.Kernel2Ideal Cert.Kernel2Ideal.Gen Cert.Kernel2Ideal.Value
open Cert.Reference2Ideal.Read (val_main_v54 val_main_v55 val_main_v56 val_main_v32)

/-! The whole pass of the kernel against the reference. -/

variable (m : (ℓ : Loc nD τ sig) → Buf (Elt Ideal) ℓ) (c : Dev nD)

/-- What every point leaves in its block of the input's gradient. -/
theorem inner_outs (t : Fin cfg0.N) : (outsAt0 m c t.val t.isLt).1
    = inner (iblk m c 0 t) (iblk m c 1 t) (iblk m c 2 t) (iblk m c 3 t) (iblk m c 4 t) (iblk m c 5 t) := by
  by_cases h0 : t.val % 32 = 0
  · have h1 : ¬t.val % 32 = 31 := by omega
    rw [outsAt0_A m c t h0 h1]
    dsimp only
    rw [inner_A]
  · by_cases h1 : t.val % 32 = 31
    · rw [outsAt0_C m c t h0 h1]
      dsimp only
      rw [inner_C]
    · rw [outsAt0_B m c t h0 h1]
      dsimp only
      rw [inner_B]

/-- What every point leaves in its block of the hidden layer's gradient. -/
theorem hidden_outs (t : Fin cfg0.N) : (outsAt0 m c t.val t.isLt).2.1
    = k0_pay6 (iblk m c 0 t) (iblk m c 4 t) (iblk m c 5 t) := by
  by_cases h0 : t.val % 32 = 0
  · have h1 : ¬t.val % 32 = 31 := by omega
    rw [outsAt0_A m c t h0 h1]
    dsimp only
    rw [hidden_A]
  · by_cases h1 : t.val % 32 = 31
    · rw [outsAt0_C m c t h0 h1]
      dsimp only
      rw [hidden_C]
    · rw [outsAt0_B m c t h0 h1]
      dsimp only
      rw [hidden_B]

/-- The sums of one block. -/
def part (t : Fin cfg0.N) (s : Fin 8) (j : Fin 1024) : EReal := ∑ q : Fin 32, trm m c (row t (low q s)) j

theorem gain_first (h : 0 < cfg0.N) (s : Fin 8) (j : Fin 1024) : (outsAt0 m c 0 h).2.2.2 (ix2 s j) = part m c ⟨0, h⟩ s j := by
  rw [outsAt0_A m c ⟨0, h⟩ (show 0 % 32 = 0 by decide) (show ¬0 % 32 = 31 by decide)]
  dsimp only
  rw [gain_A, gain_blk]
  refine (congrArg (· + _) ?_).trans (zero_add _)
  pointwise [k0_pay4]

theorem gain_next (n : ℕ) (h : n + 1 < cfg0.N) (s : Fin 8) (j : Fin 1024) : (outsAt0 m c (n + 1) h).2.2.2 (ix2 s j)
    = (outsAt0 m c n (Nat.lt_of_succ_lt h)).2.2.2 (ix2 s j) + part m c ⟨n + 1, h⟩ s j := by
  have hN : n + 1 < 32 := lt_of_lt_of_eq h N_0
  have h0 : ¬(n + 1) % 32 = 0 := by omega
  by_cases h1 : (n + 1) % 32 = 31
  · rw [outsAt0_C m c ⟨n + 1, h⟩ h0 h1]
    dsimp only
    rw [gain_C, gain_blk]
    rfl
  · rw [outsAt0_B m c ⟨n + 1, h⟩ h0 h1]
    dsimp only
    rw [gain_B, gain_blk]
    rfl

/-- The sums carried after a point: those of every block up to it. -/
theorem gain_sum (n : ℕ) (h : n < cfg0.N) (s : Fin 8) (j : Fin 1024) : (outsAt0 m c n h).2.2.2 (ix2 s j)
    = ∑ t : Fin (n + 1), part m c ⟨t.val, Nat.lt_of_lt_of_le t.isLt h⟩ s j := by
  induction n with
  | zero => rw [gain_first]; exact (Fin.sum_univ_one (M := EReal) fun t => part m c ⟨t.val, Nat.lt_of_lt_of_le t.isLt h⟩ s j).symm
  | succ n ih =>
    rw [gain_next, ih, Fin.sum_univ_castSucc (n := n + 1)]
    rfl

theorem final_outs (h : 31 < cfg0.N) (u : Fin 1) (j : Fin 1024) : (outsAt0 m c 31 h).2.2.1 (ix2 u j)
    = ∑ s : Fin 8, (outsAt0 m c 31 h).2.2.2 (ix2 s j) := by
  rw [outsAt0_C m c ⟨31, h⟩ (show ¬31 % 32 = 0 by decide) (show 31 % 32 = 31 by decide)]
  dsimp only
  rw [gain_C, final_C]
  pointwise [k0_pay3]

/-- The eight sums added up are the sum of all the rows. -/
theorem rows_regroup (f : Fin 8192 → EReal) :
    ∑ s : Fin 8, ∑ t : Fin 32, ∑ q : Fin 32, f ⟨t.val * 256 + (low q s).val, by have := t.isLt; have := (low q s).isLt; omega⟩ = ∑ r : Fin 8192, f r := by
  rw [Fin.sum_univ_tiles 32 256 rfl f, Finset.sum_comm]
  refine Finset.sum_congr rfl fun t _ => ?_
  rw [Finset.sum_comm, Fin.sum_univ_tiles 32 8 rfl]
  rfl

theorem input_eq : val_main_v54 (F := Ideal) (D0 m c) (H0 m c) (G0 m c) (A0 m c) (B0 m c) = G6 m c := by
  funext y
  obtain ⟨r, j, rfl⟩ : ∃ (r : Fin 8192) (j : Fin 1024), y = ix2 r j := ⟨y 0, y 1, eq_ix2 y⟩
  have hp : pt6Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc6Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G6
  rw [dif_pos (by rw [hp]; exact hlt), hl]
  have e : ∀ (n : ℕ) (h : n < cfg0.N) (i : S256x1024.Idx), (Pipeline.accAt (fun n h => stAt0 m c n h junk0) (stAt0 m c) 0 n (by omega)).1 i = (outsAt0 m c n h).1 i :=
    fun n h i => by rw [outsAt0_sweep m c n h]
  rw [e _ (by rw [hp]; exact hlt)]
  have e2 : ∀ (n : ℕ) (h : n < cfg0.N), n = r.val / 256 → (outsAt0 m c n h).1 (ix2 (⟨r.val % 256, Nat.mod_lt _ (by decide)⟩ : Fin 256) j) = inp m c r j := by
    intro n h hn
    rw [inner_outs m c ⟨n, h⟩, inner_blk]
    refine congrArg (fun r => inp m c r j) (Fin.ext ?_)
    show n * 256 + r.val % 256 = r.val
    omega
  exact (e2 _ _ hp).symm

theorem hidden_eq : val_main_v55 (F := Ideal) (D0 m c) (H0 m c) (G0 m c) (A0 m c) (B0 m c) = G7 m c := by
  funext y
  obtain ⟨r, j, rfl⟩ : ∃ (r : Fin 8192) (j : Fin 4096), y = ix2 r j := ⟨y 0, y 1, eq_ix2 y⟩
  have hp : pt7Of (ix2 r j) = r.val / 256 := by
    show 1 * (r.val / 256 - 0) + 1 * (j.val / 4096 - 0) = _
    omega
  have hlt : r.val / 256 < cfg0.N := lt_of_lt_of_eq (by omega : r.val / 256 < 32) N_0.symm
  have hl : loc7Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G7
  rw [dif_pos (by rw [hp]; exact hlt), hl]
  have e : ∀ (n : ℕ) (h : n < cfg0.N) (i : S256x4096.Idx), (Pipeline.accAt (fun n h => stAt0 m c n h junk0) (stAt0 m c) 0 n (by omega)).2.1 i = (outsAt0 m c n h).2.1 i :=
    fun n h i => by rw [outsAt0_sweep m c n h]
  rw [e _ (by rw [hp]; exact hlt)]
  have e2 : ∀ (n : ℕ) (h : n < cfg0.N), n = r.val / 256 → (outsAt0 m c n h).2.1 (ix2 (⟨r.val % 256, Nat.mod_lt _ (by decide)⟩ : Fin 256) j) = hid m c r j := by
    intro n h hn
    rw [hidden_outs m c ⟨n, h⟩, hidden_blk]
    refine congrArg (fun r => hid m c r j) (Fin.ext ?_)
    show n * 256 + r.val % 256 = r.val
    omega
  exact (e2 _ _ hp).symm

theorem gain_eq : val_main_v56 (F := Ideal) (D0 m c) (H0 m c) (G0 m c) (A0 m c) (B0 m c) = G8 m c := by
  have h31 : 31 < cfg0.N := lt_of_lt_of_eq (by decide) N_0.symm
  rw [G8_last, ← outsAt0_sweep m c 31 h31]
  funext y
  obtain ⟨u, j, rfl⟩ : ∃ (u : Fin 1) (j : Fin 1024), y = ix2 u j := ⟨y 0, y 1, eq_ix2 y⟩
  rw [final_outs, Ref.gain_at, ← rows_regroup]
  refine Finset.sum_congr rfl fun s _ => ?_
  rw [gain_sum]
  rfl

end Cert.Mixer
-- ==== Proof.Weight.Wide.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Flash.Step
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Wide

open Idealize.ShloMosaic Idealize.ShloMosaic.TcCoe Idealize.ShloMosaic.Tactic
open Idealize.ShloMosaic.StableHlo
open Cert.Kernel3Ideal Cert.Kernel3Ideal.Gen Cert.Kernel3Ideal.Value
open Cert.KernelIdeal.Flash (read_writes_overlay overlay3)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of one row block, at a column of a slab. -/
def slab (x0 x1 : Vec Ideal S2048x1024 .bf16) (h : Fin 2) (i : Fin 1024) (l : Fin 512) : EReal :=
  ∑ k : Fin 2048, x0 (ix2 k i) * x1 (ix2 k ⟨512 * h.val + l.val, by omega⟩)

/-- A slab of a block, read at an entry. -/
theorem ld_slab0 (X : Vec Ideal S2x1024x512 .f32) (a : Fin 1024) (l : Fin 512) :
    View.ld X (Rect.unit (s := S2x1024x512) ![0, 0, 0] ![1, 1024, 512] inb_S2x1024x512_S1x1024x512_0_0_0) (ix3 0 a l) = X (ix3 0 a l) :=
  congrArg X (funext fun b => Fin.ext (by
    match b with
    | ⟨0, _⟩ => rfl
    | ⟨1, _⟩ => show 0 + 1 * a.val = a.val; omega
    | ⟨2, _⟩ => show 0 + 1 * l.val = l.val; omega))

theorem ld_slab1 (X : Vec Ideal S2x1024x512 .f32) (a : Fin 1024) (l : Fin 512) :
    View.ld X (Rect.unit (s := S2x1024x512) ![1, 0, 0] ![1, 1024, 512] inb_S2x1024x512_S1x1024x512_1_0_0) (ix3 0 a l) = X (ix3 1 a l) :=
  congrArg X (funext fun b => Fin.ext (by
    match b with
    | ⟨0, _⟩ => rfl
    | ⟨1, _⟩ => show 0 + 1 * a.val = a.val; omega
    | ⟨2, _⟩ => show 0 + 1 * l.val = l.val; omega))

theorem pay3_at (x0 x1 : Vec Ideal S2048x1024 .bf16) (v : Vec Ideal S1x1024x512 .f32) (a : Fin 1024) (l : Fin 512) :
    k0_pay3 x0 x1 v (ix3 0 a l) = v (ix3 0 a l) + slab x0 x1 0 a l := by
  unfold slab
  pointwise [k0_pay3, k0_pay2]
  try simp

theorem pay4_at (x0 x1 : Vec Ideal S2048x1024 .bf16) (v : Vec Ideal S1x1024x512 .f32) (a : Fin 1024) (l : Fin 512) :
    k0_pay4 x0 x1 v (ix3 0 a l) = v (ix3 0 a l) + slab x0 x1 1 a l := by
  unfold slab
  pointwise [k0_pay4, k0_pay2]
  try simp

/-- Both slabs of a block replaced, read at an entry. -/
theorem slabs_at (X : Vec Ideal S2x1024x512 .f32) (w0 w1 : Vec Ideal S1x1024x512 .f32) (h : Fin 2) (a : Fin 1024) (l : Fin 512) :
    (Rect.unit (s := S2x1024x512) ![1, 0, 0] ![1, 1024, 512] inb_S2x1024x512_S1x1024x512_1_0_0).overlay
      ((Rect.unit (s := S2x1024x512) ![0, 0, 0] ![1, 1024, 512] inb_S2x1024x512_S1x1024x512_0_0_0).overlay X w0) w1 (ix3 h a l)
      = if h = 0 then w0 (ix3 0 a l) else w1 (ix3 0 a l) := by
  match h with
  | 0 =>
    refine (overlay3 _ _ _ 0 a l).trans ((dif_neg (by simp)).trans ((overlay3 _ _ _ 0 a l).trans ((dif_pos ⟨⟨le_rfl, Nat.one_pos⟩, ⟨Nat.zero_le _, a.isLt⟩, Nat.zero_le _, l.isLt⟩).trans ?_)))
    rfl
  | 1 =>
    refine (overlay3 _ _ _ 1 a l).trans ((dif_pos ⟨⟨le_rfl, Nat.one_pos⟩, ⟨Nat.zero_le _, a.isLt⟩, Nat.zero_le _, l.isLt⟩).trans ?_)
    rfl

/-- Replacing the first slab leaves the second. -/
theorem slab_other (X : Vec Ideal S2x1024x512 .f32) (w0 : Vec Ideal S1x1024x512 .f32) (a : Fin 1024) (l : Fin 512) :
    (Rect.unit (s := S2x1024x512) ![0, 0, 0] ![1, 1024, 512] inb_S2x1024x512_S1x1024x512_0_0_0).overlay X w0 (ix3 1 a l) = X (ix3 1 a l) :=
  (overlay3 _ _ _ 1 a l).trans (dif_neg (by simp))

theorem out_B_at (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2x1024x512 .f32) (harg5 : arg5.IsWhole) (hc0 : ¬cond0_0 i)
    (x0 x1 : Vec Ideal S2048x1024 .bf16) (xo2 : Vec Ideal S2x1024x512 .f32) (h : Fin 2) (a : Fin 1024) (l : Fin 512) :
    out0_B_2 c i arg3 harg3 arg4 harg4 arg5 harg5 hc0 x0 x1 xo2 (ix3 h a l) = xo2 (ix3 h a l) + slab x0 x1 h a l := by
  unfold out0_B_2 kernelRun0_B
  dsimp only
  sl_unfold_words
  simp only [View.readCov, View.readAt_eq_ld, read_writes_overlay, View.writes_nil, harg3.read_unread, harg4.read_unread, harg5.read_unread, View.ld_unit_zero (S := S2048x1024) hz2]
  rw [slabs_at]
  match h with
  | 0 => exact (if_pos rfl).trans ((pay3_at ..).trans (congrArg (· + _) (ld_slab0 ..)))
  | 1 => exact (if_neg (by decide)).trans ((pay4_at ..).trans (congrArg (· + _) (ld_slab1 ..)))

theorem zeros_at (Z : Vec Ideal S2x1024x512 .f32) (h : Fin 2) (a : Fin 1024) (l : Fin 512) :
    (Rect.unit (s := S2x1024x512) ![0, 0, 0] ![2, 1024, 512] inb_S2x1024x512_S2x1024x512_0_0_0).overlay Z (k0_pay1 (F := Ideal)) (ix3 h a l) = 0 :=
  (overlay3 _ _ _ h a l).trans ((dif_pos ⟨⟨Nat.zero_le _, h.isLt⟩, ⟨Nat.zero_le _, a.isLt⟩, Nat.zero_le _, l.isLt⟩).trans (by pointwise [k0_pay1]))

theorem out_A_at (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S2x1024x512 .f32) (harg5 : arg5.IsWhole) (hc0 : cond0_0 i)
    (x0 x1 : Vec Ideal S2048x1024 .bf16) (h : Fin 2) (a : Fin 1024) (l : Fin 512) :
    out0_A_2 c i arg3 harg3 arg4 harg4 arg5 harg5 hc0 x0 x1 (ix3 h a l) = slab x0 x1 h a l := by
  unfold out0_A_2 kernelRun0_A
  dsimp only
  sl_unfold_words
  simp only [View.readCov, View.readAt_eq_ld, read_writes_overlay, View.writes_nil, harg3.read_unread, harg4.read_unread, harg5.read_unread, View.ld_unit_zero (S := S2048x1024) hz2]
  rw [slabs_at]
  have hz : ∀ (h : Fin 2) (Z : Vec Ideal S2x1024x512 .f32), (Rect.unit (s := S2x1024x512) ![0, 0, 0] ![2, 1024, 512] inb_S2x1024x512_S2x1024x512_0_0_0).overlay Z (k0_pay1 (F := Ideal)) (ix3 h a l) = 0 := fun h Z => zeros_at Z h a l
  match h with
  | 0 =>
    refine (if_pos rfl).trans ((pay3_at ..).trans ?_)
    rw [ld_slab0, hz, zero_add]
  | 1 =>
    refine (if_neg (by decide)).trans ((pay4_at ..).trans ?_)
    rw [ld_slab1]
    rw [slab_other, hz, zero_add]

variable (m : (ℓ : Loc nD τ sig) → Buf (Elt Ideal) ℓ) (c : Dev nD)

/-- The activations and the cotangent the product was given. -/
def X : (⟨S8192x1024, .f32⟩ : BufTy).Contents (Elt Ideal) := m (c.tc.loc main_arg0)
def Y : (⟨S8192x4096, .f32⟩ : BufTy).Contents (Elt Ideal) := m (c.tc.loc main_arg1)

theorem V0 : V m c main_v0 = X m c := by after_reads_simp; rfl
theorem V1 : V m c main_v1 = Y m c := by after_reads_simp; rfl

theorem ix_0 : ∀ t : Fin cfg0.N, win0_0.index t = ![t.val % 4, 0] := by decide +kernel
theorem ix_1 : ∀ t : Fin cfg0.N, win0_1.index t = ![t.val % 4, t.val / 4] := by decide +kernel
theorem ix_2 : ∀ t : Fin cfg0.N, win0_2.index t = ![t.val / 4, 0, 0] := by decide +kernel

/-- A row of the block of a point. -/
def row (t : Fin cfg0.N) (k : Fin 2048) : Fin 8192 := ⟨t.val % 4 * 2048 + k.val, by omega⟩

/-- A column of the cotangent's block of a point. -/
def col (t : Fin cfg0.N) (j : Fin 1024) : Fin 4096 :=
  ⟨t.val / 4 * 1024 + j.val, by have h : t.val < 16 := Nat.lt_of_lt_of_eq t.isLt N_0; omega⟩

theorem blk_0 (t : Fin cfg0.N) (k : Fin 2048) (j : Fin 1024) : iblk m c 0 t (ix2 k j) = V m c main_v0 (ix2 (row t k) j) := by
  blk_simp [iblk]
  refine congrArg (V m c main_v0) (funext fun a => Fin.ext ?_)
  match a with
  | ⟨0, _⟩ => blk_simp [ix_0]; rfl
  | ⟨1, _⟩ => blk_simp [ix_0]

theorem blk_1 (t : Fin cfg0.N) (k : Fin 2048) (j : Fin 1024) : iblk m c 1 t (ix2 k j) = V m c main_v1 (ix2 (row t k) (col t j)) := by
  blk_simp [iblk]
  refine congrArg (V m c main_v1) (funext fun a => Fin.ext ?_)
  match a with
  | ⟨0, _⟩ => blk_simp [ix_1]; rfl
  | ⟨1, _⟩ => blk_simp [ix_1]; rfl

/-- The product of one row block, over the whole arrays. -/
theorem slab_at (t : Fin cfg0.N) (h : Fin 2) (a : Fin 1024) (l : Fin 512) :
    slab (iblk m c 0 t) (iblk m c 1 t) h a l
      = ∑ k : Fin 2048, X m c (ix2 (row t k) a) * Y m c (ix2 (row t k) (col t ⟨512 * h.val + l.val, by omega⟩)) := by
  have e0 := blk_0 m c t
  have e1 := blk_1 m c t
  rw [V0] at e0
  rw [V1] at e1
  unfold slab
  simp only [e0, e1]

theorem after_reset (n : ℕ) (hn : n < cfg0.N) (h0 : n % 4 = 0) (h : Fin 2) (a : Fin 1024) (l : Fin 512) :
    outsAt0 m c n hn (ix3 h a l) = slab (iblk m c 0 ⟨n, hn⟩) (iblk m c 1 ⟨n, hn⟩) h a l := by
  rw [outsAt0_A m c ⟨n, hn⟩ h0]
  exact out_A_at ..

theorem after_step (n : ℕ) (hn : n + 1 < cfg0.N) (h0 : ¬(n + 1) % 4 = 0) (h : Fin 2) (a : Fin 1024) (l : Fin 512) :
    outsAt0 m c (n + 1) hn (ix3 h a l)
      = outsAt0 m c n (Nat.lt_of_succ_lt hn) (ix3 h a l) + slab (iblk m c 0 ⟨n + 1, hn⟩) (iblk m c 1 ⟨n + 1, hn⟩) h a l := by
  rw [outsAt0_B m c ⟨n + 1, hn⟩ h0]
  exact out_B_at ..

/-- The whole product, cut in eight slabs of columns. -/
def G : (⟨S8x1024x512, .f32⟩ : BufTy).Contents (Elt Ideal) := fun i =>
  ∑ k : Fin 8192, X m c (ix2 k (i 1)) * Y m c (ix2 k ⟨512 * (i 0).val + (i 2).val, by
    have h0 : (i 0).val < 8 := (i 0).isLt; have h2 : (i 2).val < 512 := (i 2).isLt; omega⟩)

/-- What the last point of a run leaves. -/
theorem after_run (j : ℕ) (hj : j < 4) (hn : 4 * j + 3 < cfg0.N) (h : Fin 2) (a : Fin 1024) (l : Fin 512) :
    outsAt0 m c (4 * j + 3) hn (ix3 h a l) = G m c (ix3 ⟨2 * j + h.val, by omega⟩ a l) := by
  have hp : ∀ (s : Fin 4) (hs : 4 * j + s.val < cfg0.N), slab (iblk m c 0 ⟨4 * j + s.val, hs⟩) (iblk m c 1 ⟨4 * j + s.val, hs⟩) h a l
      = ∑ k : Fin 2048, X m c (ix2 ⟨s.val * 2048 + k.val, by omega⟩ a) * Y m c (ix2 ⟨s.val * 2048 + k.val, by omega⟩ ⟨512 * (2 * j + h.val) + l.val, by omega⟩) := by
    intro s hs
    rw [slab_at]
    refine Finset.sum_congr rfl fun k _ => ?_
    have hR : row ⟨4 * j + s.val, hs⟩ k = ⟨s.val * 2048 + k.val, by omega⟩ := Fin.ext (by
      show (4 * j + s.val) % 4 * 2048 + k.val = s.val * 2048 + k.val
      omega)
    have hC : col ⟨4 * j + s.val, hs⟩ ⟨512 * h.val + l.val, by omega⟩ = ⟨512 * (2 * j + h.val) + l.val, by omega⟩ := Fin.ext (by
      show (4 * j + s.val) / 4 * 1024 + (512 * h.val + l.val) = 512 * (2 * j + h.val) + l.val
      omega)
    rw [hR, hC]
  rw [after_step m c (4 * j + 2) hn (by omega), after_step m c (4 * j + 1) (by omega) (by omega), after_step m c (4 * j) (by omega) (by omega),
    after_reset m c (4 * j) (by omega) (by omega)]
  unfold G
  rw [Fin.sum_univ_tiles 4 2048 rfl, Fin.sum_univ_four]
  exact congr (congrArg HAdd.hAdd (congr (congrArg HAdd.hAdd (congr (congrArg HAdd.hAdd (hp 0 _)) (hp 1 _))) (hp 2 _))) (hp 3 _)

/-- A flushing point writes its block of the product. -/
theorem flushed_eq (t : Fin cfg0.N) (hf : (cfg0.win 2).flush t = true) :
    (dats m 0 c).flushed 2 t = ((cfg0.win 2).blk t).view.read (Elt Ideal) (G m c) := by
  have hm : t.val % 4 = 3 := (flush0_2 t).mp hf
  have hN : t.val < 16 := Nat.lt_of_lt_of_eq t.isLt N_0
  obtain ⟨j, hj, ht⟩ : ∃ j, j < 4 ∧ t.val = 4 * j + 3 := ⟨t.val / 4, by omega, by omega⟩
  rw [flushed2]
  funext y
  have hy0 : (y 0).val < 2 := (y 0).isLt
  have hy1 : (y 1).val < 1024 := (y 1).isLt
  have hy2 : (y 2).val < 512 := (y 2).isLt
  have hx : (cfg0.win 2).xinj (grid0.coords t) y = ix3 (⟨(y 0).val, hy0⟩ : Fin 2) (⟨(y 1).val, hy1⟩ : Fin 1024) (⟨(y 2).val, hy2⟩ : Fin 512) := by
    funext a; apply Fin.ext
    match a with
    | ⟨0, _⟩ => rfl
    | ⟨1, _⟩ => rfl
    | ⟨2, _⟩ => rfl
  have hb : ((cfg0.win 2).blk t).view.emb y = ix3 (⟨2 * j + (y 0).val, by omega⟩ : Fin 8) (⟨(y 1).val, hy1⟩ : Fin 1024) (⟨(y 2).val, hy2⟩ : Fin 512) := by
    have i0 : win0_2.index t (0 : Fin 3) = t.val / 4 := congrFun (ix_2 t) 0
    have i1 : win0_2.index t (1 : Fin 3) = 0 := congrFun (ix_2 t) 1
    have i2 : win0_2.index t (2 : Fin 3) = 0 := congrFun (ix_2 t) 2
    funext a; apply Fin.ext
    match a with
    | ⟨0, _⟩ => show win0_2.index t (0 : Fin 3) * 2 + 1 * (y 0).val = 2 * j + (y 0).val; rw [i0]; omega
    | ⟨1, _⟩ => show win0_2.index t (1 : Fin 3) * 1024 + 1 * (y 1).val = (y 1).val; rw [i1]; omega
    | ⟨2, _⟩ => show win0_2.index t (2 : Fin 3) * 512 + 1 * (y 2).val = (y 2).val; rw [i2]; omega
  show outsAt0 m c t.val t.isLt ((cfg0.win 2).xinj (grid0.coords t) y) = G m c (((cfg0.win 2).blk t).view.emb y)
  rw [hx, hb]
  obtain ⟨t, hlt⟩ := t
  dsimp only at ht
  subst ht
  exact after_run m c j hj hlt _ _ _

/-- Every entry of the array is in the block of a flushing point. -/
theorem covered (i : S8x1024x512.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 512 := (i 2).isLt
  have hN : cfg0.N = 16 := N_0
  obtain ⟨t, ht⟩ : ∃ t : Fin cfg0.N, t.val = 4 * ((i 0).val / 2) + 3 := ⟨⟨4 * ((i 0).val / 2) + 3, by omega⟩, rfl⟩
  have i0 : win0_2.index t (0 : Fin 3) = t.val / 4 := congrFun (ix_2 t) 0
  have i1 : win0_2.index t (1 : Fin 3) = 0 := congrFun (ix_2 t) 1
  have i2 : win0_2.index t (2 : Fin 3) = 0 := congrFun (ix_2 t) 2
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 512 ≤ (i 2).val ∧ (i 2).val < win0_2.index t (2 : Fin 3) * 512 + 512; omega

theorem final : (dats m 0 c).arrAt 2 cfg0.N = G m c :=
  (dats m 0 c).arrAt_eq_of_cover 2 _ (fun t hf => flushed_eq m c t hf) covered

theorem frame_reference (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem (c.tc.loc Cert.Reference3Ideal.main_arg0) = m (c.tc.loc Cert.Reference3Ideal.main_arg0)
      ∧ r.2.mem (c.tc.loc Cert.Reference3Ideal.main_arg1) = m (c.tc.loc Cert.Reference3Ideal.main_arg1))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

theorem ref_at (x0 : (⟨S8192x1024, .f32⟩ : BufTy).Contents (Elt Ideal)) (x1 : (⟨S8192x4096, .f32⟩ : BufTy).Contents (Elt Ideal)) (i : S8x1024x512.Idx) :
    Cert.Reference3Ideal.Read.val_main_v5 (F := Ideal) x0 x1 i
      = ∑ k : Fin 8192, x0 (ix2 k (i 1)) * x1 (ix2 k ⟨512 * (i 0).val + (i 2).val, by
        have h0 : (i 0).val < 8 := (i 0).isLt; have h2 : (i 2).val < 512 := (i 2).isLt; omega⟩) := by
  have h0 : (i 0).val < 8 := (i 0).isLt
  have h1 : (i 1).val < 1024 := (i 1).isLt
  have h2 : (i 2).val < 512 := (i 2).isLt
  rw [Cert.Reference3Ideal.Read.val_main_v5_apply, Cert.Reference3Ideal.Read.val_main_v4_apply, Cert.Reference3Ideal.Read.val_main_v3_apply, Cert.Reference3Ideal.Read.val_main_v2_apply]
  refine Finset.sum_congr rfl fun k _ => ?_
  rw [mul_comm]
  refine congr (congrArg HMul.hMul (congrArg x0 (funext fun a => Fin.ext ?_))) (congrArg x1 (funext fun a => Fin.ext ?_))
  · match a with
    | ⟨0, _⟩ => rfl
    | ⟨1, _⟩ => show (((i 1).val * 8 + (i 0).val) * 512 + (i 2).val) / 4096 = (i 1).val; omega
  · match a with
    | ⟨0, _⟩ => rfl
    | ⟨1, _⟩ => show (((i 1).val * 8 + (i 0).val) * 512 + (i 2).val) % 4096 = 512 * (i 0).val + (i 2).val; omega

/-- The two results are one array. -/
theorem same (x0 : (⟨S8192x1024, .f32⟩ : BufTy).Contents (Elt Ideal)) (x1 : (⟨S8192x4096, .f32⟩ : BufTy).Contents (Elt Ideal))
    (h0 : x0 = X m c) (h1 : x1 = Y m c) : Cert.Reference3Ideal.Read.val_main_v5 (F := Ideal) x0 x1 = G m c := by
  subst h0; subst h1
  exact funext fun i => ref_at _ _ i

end Cert.Weight.Wide
-- ==== Proof.Weight.Tall.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Tall

open Idealize.ShloMosaic Idealize.ShloMosaic.TcCoe Idealize.ShloMosaic.Tactic
open Idealize.ShloMosaic.StableHlo
open Cert.Kernel4Ideal Cert.Kernel4Ideal.Gen Cert.Kernel4Ideal.Value

/-! The gradient of a matrix with four times as many rows as columns: four row blocks added up are the whole product. -/

variable (m : (ℓ : Loc nD τ sig) → Buf (Elt Ideal) ℓ) (c : Dev nD)

/-- The activations and the cotangent the product was given. -/
def X : (⟨S8192x4096, .f32⟩ : BufTy).Contents (Elt Ideal) := m (c.tc.loc main_arg0)
def Y : (⟨S8192x1024, .f32⟩ : BufTy).Contents (Elt Ideal) := m (c.tc.loc main_arg1)

theorem V0 : V m c main_v0 = X m c := by after_reads_simp; rfl
theorem V1 : V m c main_arg1 = Y m c := by after_reads_simp; rfl

theorem ix_0 : ∀ t : Fin cfg0.N, win0_0.index t = ![t.val % 4, t.val / 4] := by decide +kernel
theorem ix_1 : ∀ t : Fin cfg0.N, win0_1.index t = ![t.val % 4, 0] := by decide +kernel

/-- A row of the block of a point. -/
def row (t : Fin cfg0.N) (k : Fin 2048) : Fin 8192 :=
  ⟨t.val % 4 * 2048 + k.val, by omega⟩

/-- A column of the activations' block of a point. -/
def col (t : Fin cfg0.N) (j : Fin 1024) : Fin 4096 :=
  ⟨t.val / 4 * 1024 + j.val, by have h : t.val < 16 := Nat.lt_of_lt_of_eq t.isLt N_0; omega⟩

theorem blk_0 (t : Fin cfg0.N) (k : Fin 2048) (j : Fin 1024) : iblk m c 0 t (ix2 k j) = V m c main_v0 (ix2 (row t k) (col t j)) := by
  blk_simp [iblk]
  refine congrArg (V m c main_v0) (funext fun a => Fin.ext ?_)
  match a with
  | ⟨0, _⟩ => blk_simp [ix_0]; rfl
  | ⟨1, _⟩ => blk_simp [ix_0]; rfl

theorem blk_1 (t : Fin cfg0.N) (k : Fin 2048) (j : Fin 1024) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

/-- The product of one row block. -/
def part (t : Fin cfg0.N) (i j : Fin 1024) : EReal :=
  ∑ k : Fin 2048, X m c (ix2 (row t k) (col t i))
    * Y m c (ix2 (row t k) j)

theorem step_at (n : ℕ) (h : n < cfg0.N) (acc : Vec Ideal S1024x1024 .f32) (i j : Fin 1024) :
    step2 m c n h acc (ix2 i j) = acc (ix2 i j) + part m c ⟨n, h⟩ i j := by
  unfold step2
  have e0 := blk_0 m c ⟨n, h⟩
  have e1 := blk_1 m c ⟨n, h⟩
  rw [V0] at e0
  rw [V1] at e1
  generalize iblk m c 0 ⟨n, h⟩ = x0 at *
  generalize iblk m c 1 ⟨n, h⟩ = x1 at *
  pointwise [k0_pay2]
  simp only [e0, e1, part]

theorem reset_at (n : ℕ) (h : n < cfg0.N) (i j : Fin 1024) :
    reset2 m c n h (ix2 i j) = part m c ⟨n, h⟩ i j := by
  refine (step_at m c n h (k0_pay1 (F := Ideal)) i j).trans ?_
  pointwise [k0_pay1]

theorem G_at (i : Fin 4096) (j : Fin 1024) : G2 m c (ix2 i j) = ∑ k : Fin 8192, X m c (ix2 k i) * Y m c (ix2 k j) := by
  have hN : cfg0.N = 16 := N_0
  have hr : run2Of (ix2 i j) = i.val / 1024 := by
    show 1 * (i.val / 1024 - 0) + 1 * (j.val / 1024 - 0) = i.val / 1024
    omega
  have hl : loc2Of (ix2 i j) = ix2 ⟨i.val % 1024, Nat.mod_lt _ (by decide)⟩ j := by
    funext a; apply Fin.ext
    match a with
    | ⟨0, _⟩ => rfl
    | ⟨1, _⟩ => exact Nat.mod_eq_of_lt j.isLt
  unfold G2
  rw [dif_pos (by rw [hr, hN]; omega), hl]
  have e : ∀ (b : ℕ) (h : b + 3 < cfg0.N) (l : Fin 1024), Pipeline.accAt (reset2 m c) (step2 m c) b 3 h (ix2 l j)
      = part m c ⟨b, by omega⟩ l j + part m c ⟨b + 1, by omega⟩ l j + part m c ⟨b + 2, by omega⟩ l j + part m c ⟨b + 3, by omega⟩ l j := by
    intro b h l
    rw [Pipeline.accAt_succ, step_at, Pipeline.accAt_succ, step_at, Pipeline.accAt_succ, step_at]
    exact congrArg (· + _ + _ + _) (reset_at m c _ _ l j)
  have hp : ∀ (s : Fin 4) (h : 4 * run2Of (ix2 i j) + s.val < cfg0.N), part m c ⟨4 * run2Of (ix2 i j) + s.val, h⟩ ⟨i.val % 1024, Nat.mod_lt _ (by decide)⟩ j
      = ∑ k : Fin 2048, X m c (ix2 ⟨s.val * 2048 + k.val, by omega⟩ i) * Y m c (ix2 ⟨s.val * 2048 + k.val, by omega⟩ j) := by
    intro s h
    unfold part
    refine Finset.sum_congr rfl fun k _ => ?_
    have hR : row ⟨4 * run2Of (ix2 i j) + s.val, h⟩ k = ⟨s.val * 2048 + k.val, by omega⟩ := Fin.ext (by
      show (4 * run2Of (ix2 i j) + s.val) % 4 * 2048 + k.val = s.val * 2048 + k.val
      omega)
    have hC : col ⟨4 * run2Of (ix2 i j) + s.val, h⟩ ⟨i.val % 1024, Nat.mod_lt _ (by decide)⟩ = i := Fin.ext (by
      show (4 * run2Of (ix2 i j) + s.val) / 4 * 1024 + i.val % 1024 = i.val
      rw [hr]; omega)
    rw [hR, hC]
  rw [e, Fin.sum_univ_tiles 4 2048 rfl, Fin.sum_univ_four]
  exact congr (congrArg HAdd.hAdd (congr (congrArg HAdd.hAdd (congr (congrArg HAdd.hAdd (hp 0 _)) (hp 1 _))) (hp 2 _))) (hp 3 _)

theorem ref_at (x0 : (⟨S8192x4096, .f32⟩ : BufTy).Contents (Elt Ideal)) (x1 : (⟨S8192x1024, .f32⟩ : BufTy).Contents (Elt Ideal)) (i : Fin 4096) (j : Fin 1024) :
    Cert.Reference4Ideal.Read.val_main_v3 (F := Ideal) x0 x1 (ix2 i j) = ∑ k : Fin 8192, x0 (ix2 k i) * x1 (ix2 k j) := by
  rw [Cert.Reference4Ideal.Read.val_main_v3_apply, Cert.Reference4Ideal.Read.val_main_v2_apply]
  refine Finset.sum_congr rfl fun k _ => ?_
  rw [mul_comm]
  refine congr (congrArg HMul.hMul (congrArg x0 ?_)) (congrArg x1 ?_) <;> (funext a; match a with | ⟨0, _⟩ => rfl | ⟨1, _⟩ => rfl)

theorem frame_reference (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem (c.tc.loc Cert.Reference4Ideal.main_arg0) = m (c.tc.loc Cert.Reference4Ideal.main_arg0)
      ∧ r.2.mem (c.tc.loc Cert.Reference4Ideal.main_arg1) = m (c.tc.loc Cert.Reference4Ideal.main_arg1))
      ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m g)

/-- The two results are one array. -/
theorem same (x0 : (⟨S8192x4096, .f32⟩ : BufTy).Contents (Elt Ideal)) (x1 : (⟨S8192x1024, .f32⟩ : BufTy).Contents (Elt Ideal))
    (h0 : x0 = X m c) (h1 : x1 = Y m c) :
    Cert.Reference4Ideal.Read.val_main_v3 (F := Ideal) x0 x1 = G2 m c := by
  subst h0; subst h1
  funext y
  obtain ⟨i, j, rfl⟩ : ∃ (i : Fin 4096) (j : Fin 1024), y = ix2 i j := ⟨y 0, y 1, eq_ix2 y⟩
  rw [ref_at, G_at]

end Cert.Weight.Tall
-- ==== Proof.Weight.Square.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Square

open Idealize.ShloMosaic Idealize.ShloMosaic.TcCoe Idealize.ShloMosaic.Tactic
open Idealize.ShloMosaic.StableHlo
open Cert.Kernel5Ideal Cert.Kernel5Ideal.Gen Cert.Kernel5Ideal.Value

/-! The gradient of a square matrix: four row blocks added up are the whole product. -/

variable (m : (ℓ : Loc nD τ sig) → Buf (Elt Ideal) ℓ) (c : Dev nD)

/-- The activations and the cotangent the product was given. -/
def X : (⟨S8192x1024, .f32⟩ : BufTy).Contents (Elt Ideal) := m (c.tc.loc main_arg0)
def Y : (⟨S8192x1024, .f32⟩ : BufTy).Contents (Elt Ideal) := m (c.tc.loc main_arg1)

theorem V0 : V m c main_v0 = X m c := by after_reads_simp; rfl
theorem V1 : V m c main_v1 = Y m c := by after_reads_simp; rfl

theorem ix_0 : ∀ t : Fin cfg0.N, win0_0.index t = ![t.val, 0] := by decide +kernel
theorem ix_1 : ∀ t : Fin cfg0.N, win0_1.index t = ![t.val, 0] := by decide +kernel

/-- A row of the block of a point. -/
def row (t : Fin cfg0.N) (k : Fin 2048) : Fin 8192 :=
  ⟨t.val * 2048 + k.val, by have h : t.val < 4 := Nat.lt_of_lt_of_eq t.isLt N_0; omega⟩

theorem blk_0 (t : Fin cfg0.N) (k : Fin 2048) (j : Fin 1024) : iblk m c 0 t (ix2 k j) = V m c main_v0 (ix2 (row t k) j) := by
  blk_simp [iblk]
  refine congrArg (V m c main_v0) (funext fun a => Fin.ext ?_)
  match a with
  | ⟨0, _⟩ => blk_simp [ix_0]; rfl
  | ⟨1, _⟩ => blk_simp [ix_0]

theorem blk_1 (t : Fin cfg0.N) (k : Fin 2048) (j : Fin 1024) : iblk m c 1 t (ix2 k j) = V m c main_v1 (ix2 (row t k) j) := by
  blk_simp [iblk]
  refine congrArg (V m c main_v1) (funext fun a => Fin.ext ?_)
  match a with
  | ⟨0, _⟩ => blk_simp [ix_1]; rfl
  | ⟨1, _⟩ => blk_simp [ix_1]

/-- The product of one row block. -/
def part (t : Fin cfg0.N) (i j : Fin 1024) : EReal :=
  ∑ k : Fin 2048, X m c (ix2 (row t k) i)
    * Y m c (ix2 (row t k) j)

theorem step_at (n : ℕ) (h : n < cfg0.N) (acc : Vec Ideal S1024x1024 .f32) (i j : Fin 1024) :
    step2 m c n h acc (ix2 i j) = acc (ix2 i j) + part m c ⟨n, h⟩ i j := by
  unfold step2
  have e0 := blk_0 m c ⟨n, h⟩
  have e1 := blk_1 m c ⟨n, h⟩
  rw [V0] at e0
  rw [V1] at e1
  generalize iblk m c 0 ⟨n, h⟩ = x0 at *
  generalize iblk m c 1 ⟨n, h⟩ = x1 at *
  pointwise [k0_pay2]
  simp only [e0, e1, part]

theorem reset_at (n : ℕ) (h : n < cfg0.N) (i j : Fin 1024) :
    reset2 m c n h (ix2 i j) = part m c ⟨n, h⟩ i j := by
  refine (step_at m c n h (k0_pay1 (F := Ideal)) i j).trans ?_
  pointwise [k0_pay1]

theorem G_at (i j : Fin 1024) : G2 m c (ix2 i j) = ∑ k : Fin 8192,
    X m c (ix2 k i)
      * Y m c (ix2 k j) := by
  have hN : cfg0.N = 4 := N_0
  have hr : run2Of (ix2 i j) = 0 := by
    show 1 * (i.val / 1024 - 0) + 1 * (j.val / 1024 - 0) = 0
    omega
  have hl : loc2Of (ix2 i j) = ix2 i j := by
    funext a; apply Fin.ext
    match a with
    | ⟨0, _⟩ => exact Nat.mod_eq_of_lt i.isLt
    | ⟨1, _⟩ => exact Nat.mod_eq_of_lt j.isLt
  unfold G2
  rw [dif_pos (by rw [hr, hN]; decide), hl]
  have e : ∀ (b : ℕ) (h : b + 3 < cfg0.N), b = 0 → Pipeline.accAt (reset2 m c) (step2 m c) b 3 h (ix2 i j)
      = part m c ⟨0, by omega⟩ i j + part m c ⟨1, by omega⟩ i j + part m c ⟨2, by omega⟩ i j + part m c ⟨3, by omega⟩ i j := by
    intro b h hb
    subst hb
    rw [Pipeline.accAt_succ, step_at, Pipeline.accAt_succ, step_at, Pipeline.accAt_succ, step_at]
    exact congrArg (· + _ + _ + _) (reset_at m c _ _ i j)
  rw [e _ _ (by rw [hr]), Fin.sum_univ_tiles 4 2048 rfl, Fin.sum_univ_four]
  rfl

theorem ref_at (x0 x1 : (⟨S8192x1024, .f32⟩ : BufTy).Contents (Elt Ideal)) (i j : Fin 1024) :
    Cert.Reference5Ideal.Read.val_main_v3 (F := Ideal) x0 x1 (ix2 i j) = ∑ k : Fin 8192, x0 (ix2 k i) * x1 (ix2 k j) := by
  rw [Cert.Reference5Ideal.Read.val_main_v3_apply, Cert.Reference5Ideal.Read.val_main_v2_apply]
  refine Finset.sum_congr rfl fun k _ => ?_
  rw [mul_comm]
  refine congr (congrArg HMul.hMul (congrArg x0 ?_)) (congrArg x1 ?_) <;> (funext a; match a with | ⟨0, _⟩ => rfl | ⟨1, _⟩ => rfl)

theorem frame_reference (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem (c.tc.loc Cert.Reference5Ideal.main_arg0) = m (c.tc.loc Cert.Reference5Ideal.main_arg0)
      ∧ r.2.mem (c.tc.loc Cert.Reference5Ideal.main_arg1) = m (c.tc.loc Cert.Reference5Ideal.main_arg1))
      ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m g)

/-- The two results are one array. -/
theorem same (x0 x1 : (⟨S8192x1024, .f32⟩ : BufTy).Contents (Elt Ideal))
    (h0 : x0 = X m c) (h1 : x1 = Y m c) :
    Cert.Reference5Ideal.Read.val_main_v3 (F := Ideal) x0 x1 = G2 m c := by
  subst h0; subst h1
  funext y
  obtain ⟨i, j, rfl⟩ : ∃ (i j : Fin 1024), y = ix2 i j := ⟨y 0, y 1, eq_ix2 y⟩
  rw [ref_at, G_at]

end Cert.Weight.Square
-- ==== Proof.Weight.Plain.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Plain

open Idealize.ShloMosaic Idealize.ShloMosaic.TcCoe Idealize.ShloMosaic.Tactic
open Idealize.ShloMosaic.StableHlo
open Cert.Kernel7Ideal Cert.Kernel7Ideal.Gen Cert.Kernel7Ideal.Value

/-! The gradient of a square matrix from a cotangent that comes unrounded: four row blocks added up are the whole product. -/

variable (m : (ℓ : Loc nD τ sig) → Buf (Elt Ideal) ℓ) (c : Dev nD)

/-- The activations and the cotangent the product was given. -/
def X : (⟨S8192x1024, .f32⟩ : BufTy).Contents (Elt Ideal) := m (c.tc.loc main_arg0)
def Y : (⟨S8192x1024, .f32⟩ : BufTy).Contents (Elt Ideal) := m (c.tc.loc main_arg1)

theorem V0 : V m c main_v0 = X m c := by after_reads_simp; rfl
theorem V1 : V m c main_arg1 = Y m c := by after_reads_simp; rfl

theorem ix_0 : ∀ t : Fin cfg0.N, win0_0.index t = ![t.val, 0] := by decide +kernel
theorem ix_1 : ∀ t : Fin cfg0.N, win0_1.index t = ![t.val, 0] := by decide +kernel

/-- A row of the block of a point. -/
def row (t : Fin cfg0.N) (k : Fin 2048) : Fin 8192 :=
  ⟨t.val * 2048 + k.val, by have h : t.val < 4 := Nat.lt_of_lt_of_eq t.isLt N_0; omega⟩

theorem blk_0 (t : Fin cfg0.N) (k : Fin 2048) (j : Fin 1024) : iblk m c 0 t (ix2 k j) = V m c main_v0 (ix2 (row t k) j) := by
  blk_simp [iblk]
  refine congrArg (V m c main_v0) (funext fun a => Fin.ext ?_)
  match a with
  | ⟨0, _⟩ => blk_simp [ix_0]; rfl
  | ⟨1, _⟩ => blk_simp [ix_0]

theorem blk_1 (t : Fin cfg0.N) (k : Fin 2048) (j : Fin 1024) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

/-- The product of one row block. -/
def part (t : Fin cfg0.N) (i j : Fin 1024) : EReal :=
  ∑ k : Fin 2048, X m c (ix2 (row t k) i)
    * Y m c (ix2 (row t k) j)

theorem step_at (n : ℕ) (h : n < cfg0.N) (acc : Vec Ideal S1024x1024 .f32) (i j : Fin 1024) :
    step2 m c n h acc (ix2 i j) = acc (ix2 i j) + part m c ⟨n, h⟩ i j := by
  unfold step2
  have e0 := blk_0 m c ⟨n, h⟩
  have e1 := blk_1 m c ⟨n, h⟩
  rw [V0] at e0
  rw [V1] at e1
  generalize iblk m c 0 ⟨n, h⟩ = x0 at *
  generalize iblk m c 1 ⟨n, h⟩ = x1 at *
  pointwise [k0_pay2]
  simp only [e0, e1, part]

theorem reset_at (n : ℕ) (h : n < cfg0.N) (i j : Fin 1024) :
    reset2 m c n h (ix2 i j) = part m c ⟨n, h⟩ i j := by
  refine (step_at m c n h (k0_pay1 (F := Ideal)) i j).trans ?_
  pointwise [k0_pay1]

theorem G_at (i j : Fin 1024) : G2 m c (ix2 i j) = ∑ k : Fin 8192,
    X m c (ix2 k i)
      * Y m c (ix2 k j) := by
  have hN : cfg0.N = 4 := N_0
  have hr : run2Of (ix2 i j) = 0 := by
    show 1 * (i.val / 1024 - 0) + 1 * (j.val / 1024 - 0) = 0
    omega
  have hl : loc2Of (ix2 i j) = ix2 i j := by
    funext a; apply Fin.ext
    match a with
    | ⟨0, _⟩ => exact Nat.mod_eq_of_lt i.isLt
    | ⟨1, _⟩ => exact Nat.mod_eq_of_lt j.isLt
  unfold G2
  rw [dif_pos (by rw [hr, hN]; decide), hl]
  have e : ∀ (b : ℕ) (h : b + 3 < cfg0.N), b = 0 → Pipeline.accAt (reset2 m c) (step2 m c) b 3 h (ix2 i j)
      = part m c ⟨0, by omega⟩ i j + part m c ⟨1, by omega⟩ i j + part m c ⟨2, by omega⟩ i j + part m c ⟨3, by omega⟩ i j := by
    intro b h hb
    subst hb
    rw [Pipeline.accAt_succ, step_at, Pipeline.accAt_succ, step_at, Pipeline.accAt_succ, step_at]
    exact congrArg (· + _ + _ + _) (reset_at m c _ _ i j)
  rw [e _ _ (by rw [hr]), Fin.sum_univ_tiles 4 2048 rfl, Fin.sum_univ_four]
  rfl

theorem ref_at (x0 x1 : (⟨S8192x1024, .f32⟩ : BufTy).Contents (Elt Ideal)) (i j : Fin 1024) :
    Cert.Reference7Ideal.Read.val_main_v3 (F := Ideal) x0 x1 (ix2 i j) = ∑ k : Fin 8192, x0 (ix2 k i) * x1 (ix2 k j) := by
  rw [Cert.Reference7Ideal.Read.val_main_v3_apply, Cert.Reference7Ideal.Read.val_main_v2_apply]
  refine Finset.sum_congr rfl fun k _ => ?_
  rw [mul_comm]
  refine congr (congrArg HMul.hMul (congrArg x0 ?_)) (congrArg x1 ?_) <;> (funext a; match a with | ⟨0, _⟩ => rfl | ⟨1, _⟩ => rfl)

theorem frame_reference (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem (c.tc.loc Cert.Reference7Ideal.main_arg0) = m (c.tc.loc Cert.Reference7Ideal.main_arg0)
      ∧ r.2.mem (c.tc.loc Cert.Reference7Ideal.main_arg1) = m (c.tc.loc Cert.Reference7Ideal.main_arg1))
      ∧ r.2.sem = fun _ => 0) :=
  (θ_run Cert.Reference7Ideal.defs _ _).mono (fun r h => ⟨fun c => (h c).2, sem_eq_zero_of_no_sems (by decide) r.2⟩)
    (Cert.Reference7Ideal.Value.run (F := Ideal) m g)

/-- The two results are one array. -/
theorem same (x0 x1 : (⟨S8192x1024, .f32⟩ : BufTy).Contents (Elt Ideal))
    (h0 : x0 = X m c) (h1 : x1 = Y m c) :
    Cert.Reference7Ideal.Read.val_main_v3 (F := Ideal) x0 x1 = G2 m c := by
  subst h0; subst h1
  funext y
  obtain ⟨i, j, rfl⟩ : ∃ (i j : Fin 1024), y = ix2 i j := ⟨y 0, y 1, eq_ix2 y⟩
  rw [ref_at, G_at]

end Cert.Weight.Plain
-- ==== Proof.Weight.Pair.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Flash.Step
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Pair

open Idealize.ShloMosaic Idealize.ShloMosaic.TcCoe Idealize.ShloMosaic.Tactic
open Idealize.ShloMosaic.StableHlo
open Cert.Kernel12Ideal Cert.Kernel12Ideal.Gen Cert.Kernel12Ideal.Value
open Cert.KernelIdeal.Flash (read_writes_overlay overlay3)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of one row block, at a column of a slab. -/
def slab (x0 x1 : Vec Ideal S2048x1024 .bf16) (h : Fin 4) (i : Fin 1024) (l : Fin 256) : EReal :=
  ∑ k : Fin 2048, x0 (ix2 k i) * x1 (ix2 k ⟨256 * h.val + l.val, by omega⟩)

/-- A slab of a block, read at an entry, and a block with a slab replaced. -/
theorem ld_slab0 (X : Vec Ideal S4x1024x256 .f32) (a : Fin 1024) (l : Fin 256) :
    View.ld X (Rect.unit (s := S4x1024x256) ![0, 0, 0] ![1, 1024, 256] inb_S4x1024x256_S1x1024x256_0_0_0) (ix3 0 a l) = X (ix3 0 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab0 (X : Vec Ideal S4x1024x256 .f32) (w : Vec Ideal S1x1024x256 .f32) (h : Fin 4) (a : Fin 1024) (l : Fin 256) :
    (Rect.unit (s := S4x1024x256) ![0, 0, 0] ![1, 1024, 256] inb_S4x1024x256_S1x1024x256_0_0_0).overlay X w (ix3 h a l) = if h = 0 then w (ix3 0 a l) else X (ix3 h a l) := by
  by_cases e : h = 0
  · rw [if_pos e]
    subst e
    refine (overlay3 _ _ _ 0 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 0 ≤ h.val := q.1.1
    have q2 : h.val - 0 < 1 := q.1.2
    show h.val = 0
    omega

theorem ld_slab1 (X : Vec Ideal S4x1024x256 .f32) (a : Fin 1024) (l : Fin 256) :
    View.ld X (Rect.unit (s := S4x1024x256) ![1, 0, 0] ![1, 1024, 256] inb_S4x1024x256_S1x1024x256_1_0_0) (ix3 0 a l) = X (ix3 1 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab1 (X : Vec Ideal S4x1024x256 .f32) (w : Vec Ideal S1x1024x256 .f32) (h : Fin 4) (a : Fin 1024) (l : Fin 256) :
    (Rect.unit (s := S4x1024x256) ![1, 0, 0] ![1, 1024, 256] inb_S4x1024x256_S1x1024x256_1_0_0).overlay X w (ix3 h a l) = if h = 1 then w (ix3 0 a l) else X (ix3 h a l) := by
  by_cases e : h = 1
  · rw [if_pos e]
    subst e
    refine (overlay3 _ _ _ 1 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 1 ≤ h.val := q.1.1
    have q2 : h.val - 1 < 1 := q.1.2
    show h.val = 1
    omega

theorem ld_slab2 (X : Vec Ideal S4x1024x256 .f32) (a : Fin 1024) (l : Fin 256) :
    View.ld X (Rect.unit (s := S4x1024x256) ![2, 0, 0] ![1, 1024, 256] inb_S4x1024x256_S1x1024x256_2_0_0) (ix3 0 a l) = X (ix3 2 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab2 (X : Vec Ideal S4x1024x256 .f32) (w : Vec Ideal S1x1024x256 .f32) (h : Fin 4) (a : Fin 1024) (l : Fin 256) :
    (Rect.unit (s := S4x1024x256) ![2, 0, 0] ![1, 1024, 256] inb_S4x1024x256_S1x1024x256_2_0_0).overlay X w (ix3 h a l) = if h = 2 then w (ix3 0 a l) else X (ix3 h a l) := by
  by_cases e : h = 2
  · rw [if_pos e]
    subst e
    refine (overlay3 _ _ _ 2 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 2 ≤ h.val := q.1.1
    have q2 : h.val - 2 < 1 := q.1.2
    show h.val = 2
    omega

theorem ld_slab3 (X : Vec Ideal S4x1024x256 .f32) (a : Fin 1024) (l : Fin 256) :
    View.ld X (Rect.unit (s := S4x1024x256) ![3, 0, 0] ![1, 1024, 256] inb_S4x1024x256_S1x1024x256_3_0_0) (ix3 0 a l) = X (ix3 3 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab3 (X : Vec Ideal S4x1024x256 .f32) (w : Vec Ideal S1x1024x256 .f32) (h : Fin 4) (a : Fin 1024) (l : Fin 256) :
    (Rect.unit (s := S4x1024x256) ![3, 0, 0] ![1, 1024, 256] inb_S4x1024x256_S1x1024x256_3_0_0).overlay X w (ix3 h a l) = if h = 3 then w (ix3 0 a l) else X (ix3 h a l) := by
  by_cases e : h = 3
  · rw [if_pos e]
    subst e
    refine (overlay3 _ _ _ 3 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 3 ≤ h.val := q.1.1
    have q2 : h.val - 3 < 1 := q.1.2
    show h.val = 3
    omega

theorem new_slab0 (x0 x1 : Vec Ideal S2048x1024 .bf16) (v : Vec Ideal S1x1024x256 .f32) (a : Fin 1024) (l : Fin 256) :
    k0_pay4 x0 x1 v (ix3 0 a l) = v (ix3 0 a l) + slab x0 x1 0 a l := by
  unfold slab
  pointwise [k0_pay4, k0_pay3]
  try simp

theorem new_slab1 (x0 x1 : Vec Ideal S2048x1024 .bf16) (v : Vec Ideal S1x1024x256 .f32) (a : Fin 1024) (l : Fin 256) :
    k0_pay5 x0 x1 v (ix3 0 a l) = v (ix3 0 a l) + slab x0 x1 1 a l := by
  unfold slab
  pointwise [k0_pay5, k0_pay3]
  try simp

theorem new_slab2 (x0 x1 : Vec Ideal S2048x1024 .bf16) (v : Vec Ideal S1x1024x256 .f32) (a : Fin 1024) (l : Fin 256) :
    k0_pay6 x0 x1 v (ix3 0 a l) = v (ix3 0 a l) + slab x0 x1 2 a l := by
  unfold slab
  pointwise [k0_pay6, k0_pay3]
  try simp

theorem new_slab3 (x0 x1 : Vec Ideal S2048x1024 .bf16) (v : Vec Ideal S1x1024x256 .f32) (a : Fin 1024) (l : Fin 256) :
    k0_pay1 (k0_pay3 x0 x1) v (ix3 0 a l) = v (ix3 0 a l) + slab x0 x1 3 a l := by
  unfold slab
  pointwise [k0_pay1, k0_pay3]
  try simp

theorem out_B_at (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S4x1024x256 .f32) (harg5 : arg5.IsWhole) (hc0 : ¬cond0_0 i)
    (x0 x1 : Vec Ideal S2048x1024 .bf16) (xo2 : Vec Ideal S4x1024x256 .f32) (h : Fin 4) (a : Fin 1024) (l : Fin 256) :
    out0_B_2 c i arg3 harg3 arg4 harg4 arg5 harg5 hc0 x0 x1 xo2 (ix3 h a l) = xo2 (ix3 h a l) + slab x0 x1 h a l := by
  unfold out0_B_2 kernelRun0_B
  dsimp only
  sl_unfold_words
  simp only [View.readCov, View.readAt_eq_ld, read_writes_overlay, View.writes_nil, harg3.read_unread, harg4.read_unread, harg5.read_unread, View.ld_unit_zero (S := S2048x1024) hz2]
  rw [over_slab3, over_slab2, over_slab1, over_slab0]
  match h with
  | 0 =>
    simp only [Fin.isValue, Fin.reduceEq, reduceIte]
    rw [new_slab0, ld_slab0]
  | 1 =>
    simp only [Fin.isValue, Fin.reduceEq, reduceIte]
    rw [new_slab1, ld_slab1]
  | 2 =>
    simp only [Fin.isValue, Fin.reduceEq, reduceIte]
    rw [new_slab2, ld_slab2]
  | 3 =>
    simp only [Fin.isValue, Fin.reduceEq, reduceIte]
    rw [new_slab3, ld_slab3]

theorem zeros_at (Z : Vec Ideal S4x1024x256 .f32) (h : Fin 4) (a : Fin 1024) (l : Fin 256) :
    (Rect.unit (s := S4x1024x256) ![0, 0, 0] ![4, 1024, 256] inb_S4x1024x256_S4x1024x256_0_0_0).overlay Z (k0_pay2 (F := Ideal)) (ix3 h a l) = 0 :=
  (overlay3 _ _ _ h a l).trans ((dif_pos ⟨⟨Nat.zero_le _, h.isLt⟩, ⟨Nat.zero_le _, a.isLt⟩, Nat.zero_le _, l.isLt⟩).trans (by pointwise [k0_pay2]))

theorem out_A_at (c : Dev nD) (i : grid0.Coords) (arg3 : Memref sig .tc .vmem S2048x1024 .bf16) (harg3 : arg3.IsWhole) (arg4 : Memref sig .tc .vmem S2048x1024 .bf16) (harg4 : arg4.IsWhole) (arg5 : Memref sig .tc .vmem S4x1024x256 .f32) (harg5 : arg5.IsWhole) (hc0 : cond0_0 i)
    (x0 x1 : Vec Ideal S2048x1024 .bf16) (h : Fin 4) (a : Fin 1024) (l : Fin 256) :
    out0_A_2 c i arg3 harg3 arg4 harg4 arg5 harg5 hc0 x0 x1 (ix3 h a l) = slab x0 x1 h a l := by
  unfold out0_A_2 kernelRun0_A
  dsimp only
  sl_unfold_words
  simp only [View.readCov, View.readAt_eq_ld, read_writes_overlay, View.writes_nil, harg3.read_unread, harg4.read_unread, harg5.read_unread, View.ld_unit_zero (S := S2048x1024) hz2]
  rw [over_slab3, over_slab2, over_slab1, over_slab0]
  match h with
  | 0 =>
    simp only [Fin.isValue, Fin.reduceEq, reduceIte]
    rw [new_slab0, ld_slab0]
    rw [zeros_at, zero_add]
  | 1 =>
    simp only [Fin.isValue, Fin.reduceEq, reduceIte]
    rw [new_slab1, ld_slab1]
    rw [over_slab0]
    simp only [Fin.isValue, Fin.reduceEq, reduceIte]
    rw [zeros_at, zero_add]
  | 2 =>
    simp only [Fin.isValue, Fin.reduceEq, reduceIte]
    rw [new_slab2, ld_slab2]
    rw [over_slab1, over_slab0]
    simp only [Fin.isValue, Fin.reduceEq, reduceIte]
    rw [zeros_at, zero_add]
  | 3 =>
    simp only [Fin.isValue, Fin.reduceEq, reduceIte]
    rw [new_slab3, ld_slab3]
    rw [over_slab2, over_slab1, over_slab0]
    simp only [Fin.isValue, Fin.reduceEq, reduceIte]
    rw [zeros_at, zero_add]

variable (m : (ℓ : Loc nD τ sig) → Buf (Elt Ideal) ℓ) (c : Dev nD)

/-- The activations and the cotangent the product was given. -/
def X : (⟨S8192x1024, .f32⟩ : BufTy).Contents (Elt Ideal) := m (c.tc.loc main_arg0)
def Y : (⟨S8192x2048, .f32⟩ : BufTy).Contents (Elt Ideal) := m (c.tc.loc main_arg1)

theorem V0 : V m c main_v0 = X m c := by after_reads_simp; rfl
theorem V1 : V m c main_v1 = Y m c := by after_reads_simp; rfl

theorem ix_0 : ∀ t : Fin cfg0.N, win0_0.index t = ![t.val % 4, 0] := by decide +kernel
theorem ix_1 : ∀ t : Fin cfg0.N, win0_1.index t = ![t.val % 4, t.val / 4] := by decide +kernel
theorem ix_2 : ∀ t : Fin cfg0.N, win0_2.index t = ![t.val / 4, 0, 0] := by decide +kernel

/-- A row of the block of a point. -/
def row (t : Fin cfg0.N) (k : Fin 2048) : Fin 8192 := ⟨t.val % 4 * 2048 + k.val, by omega⟩

/-- A column of the cotangent's block of a point. -/
def col (t : Fin cfg0.N) (j : Fin 1024) : Fin 2048 :=
  ⟨t.val / 4 * 1024 + j.val, by have h : t.val < 8 := Nat.lt_of_lt_of_eq t.isLt N_0; omega⟩

theorem blk_0 (t : Fin cfg0.N) (k : Fin 2048) (j : Fin 1024) : iblk m c 0 t (ix2 k j) = V m c main_v0 (ix2 (row t k) j) := by
  blk_simp [iblk]
  refine congrArg (V m c main_v0) (funext fun a => Fin.ext ?_)
  match a with
  | ⟨0, _⟩ => blk_simp [ix_0]; rfl
  | ⟨1, _⟩ => blk_simp [ix_0]

theorem blk_1 (t : Fin cfg0.N) (k : Fin 2048) (j : Fin 1024) : iblk m c 1 t (ix2 k j) = V m c main_v1 (ix2 (row t k) (col t j)) := by
  blk_simp [iblk]
  refine congrArg (V m c main_v1) (funext fun a => Fin.ext ?_)
  match a with
  | ⟨0, _⟩ => blk_simp [ix_1]; rfl
  | ⟨1, _⟩ => blk_simp [ix_1]; rfl

/-- The product of one row block, over the whole arrays. -/
theorem slab_at (t : Fin cfg0.N) (h : Fin 4) (a : Fin 1024) (l : Fin 256) :
    slab (iblk m c 0 t) (iblk m c 1 t) h a l
      = ∑ k : Fin 2048, X m c (ix2 (row t k) a) * Y m c (ix2 (row t k) (col t ⟨256 * h.val + l.val, by omega⟩)) := by
  have e0 := blk_0 m c t
  have e1 := blk_1 m c t
  rw [V0] at e0
  rw [V1] at e1
  unfold slab
  simp only [e0, e1]

theorem after_reset (n : ℕ) (hn : n < cfg0.N) (h0 : n % 4 = 0) (h : Fin 4) (a : Fin 1024) (l : Fin 256) :
    outsAt0 m c n hn (ix3 h a l) = slab (iblk m c 0 ⟨n, hn⟩) (iblk m c 1 ⟨n, hn⟩) h a l := by
  rw [outsAt0_A m c ⟨n, hn⟩ h0]
  exact out_A_at ..

theorem after_step (n : ℕ) (hn : n + 1 < cfg0.N) (h0 : ¬(n + 1) % 4 = 0) (h : Fin 4) (a : Fin 1024) (l : Fin 256) :
    outsAt0 m c (n + 1) hn (ix3 h a l)
      = outsAt0 m c n (Nat.lt_of_succ_lt hn) (ix3 h a l) + slab (iblk m c 0 ⟨n + 1, hn⟩) (iblk m c 1 ⟨n + 1, hn⟩) h a l := by
  rw [outsAt0_B m c ⟨n + 1, hn⟩ h0]
  exact out_B_at ..

/-- The whole product, cut in eight slabs of columns. -/
def G : (⟨S8x1024x256, .f32⟩ : BufTy).Contents (Elt Ideal) := fun i =>
  ∑ k : Fin 8192, X m c (ix2 k (i 1)) * Y m c (ix2 k ⟨256 * (i 0).val + (i 2).val, by
    have h0 : (i 0).val < 8 := (i 0).isLt; have h2 : (i 2).val < 256 := (i 2).isLt; omega⟩)

/-- What the last point of a run leaves. -/
theorem after_run (j : ℕ) (hj : j < 2) (hn : 4 * j + 3 < cfg0.N) (h : Fin 4) (a : Fin 1024) (l : Fin 256) :
    outsAt0 m c (4 * j + 3) hn (ix3 h a l) = G m c (ix3 ⟨4 * j + h.val, by omega⟩ a l) := by
  have hp : ∀ (s : Fin 4) (hs : 4 * j + s.val < cfg0.N), slab (iblk m c 0 ⟨4 * j + s.val, hs⟩) (iblk m c 1 ⟨4 * j + s.val, hs⟩) h a l
      = ∑ k : Fin 2048, X m c (ix2 ⟨s.val * 2048 + k.val, by omega⟩ a) * Y m c (ix2 ⟨s.val * 2048 + k.val, by omega⟩ ⟨256 * (4 * j + h.val) + l.val, by omega⟩) := by
    intro s hs
    rw [slab_at]
    refine Finset.sum_congr rfl fun k _ => ?_
    have hR : row ⟨4 * j + s.val, hs⟩ k = ⟨s.val * 2048 + k.val, by omega⟩ := Fin.ext (by
      show (4 * j + s.val) % 4 * 2048 + k.val = s.val * 2048 + k.val
      omega)
    have hC : col ⟨4 * j + s.val, hs⟩ ⟨256 * h.val + l.val, by omega⟩ = ⟨256 * (4 * j + h.val) + l.val, by omega⟩ := Fin.ext (by
      show (4 * j + s.val) / 4 * 1024 + (256 * h.val + l.val) = 256 * (4 * j + h.val) + l.val
      omega)
    rw [hR, hC]
  rw [after_step m c (4 * j + 2) hn (by omega), after_step m c (4 * j + 1) (by omega) (by omega), after_step m c (4 * j) (by omega) (by omega),
    after_reset m c (4 * j) (by omega) (by omega)]
  unfold G
  rw [Fin.sum_univ_tiles 4 2048 rfl, Fin.sum_univ_four]
  exact congr (congrArg HAdd.hAdd (congr (congrArg HAdd.hAdd (congr (congrArg HAdd.hAdd (hp 0 _)) (hp 1 _))) (hp 2 _))) (hp 3 _)

/-- A flushing point writes its block of the product. -/
theorem flushed_eq (t : Fin cfg0.N) (hf : (cfg0.win 2).flush t = true) :
    (dats m 0 c).flushed 2 t = ((cfg0.win 2).blk t).view.read (Elt Ideal) (G m c) := by
  have hm : t.val % 4 = 3 := (flush0_2 t).mp hf
  have hN : t.val < 8 := Nat.lt_of_lt_of_eq t.isLt N_0
  obtain ⟨j, hj, ht⟩ : ∃ j, j < 2 ∧ t.val = 4 * j + 3 := ⟨t.val / 4, by omega, by omega⟩
  rw [flushed2]
  funext y
  have hy0 : (y 0).val < 4 := (y 0).isLt
  have hy1 : (y 1).val < 1024 := (y 1).isLt
  have hy2 : (y 2).val < 256 := (y 2).isLt
  have hx : (cfg0.win 2).xinj (grid0.coords t) y = ix3 (⟨(y 0).val, hy0⟩ : Fin 4) (⟨(y 1).val, hy1⟩ : Fin 1024) (⟨(y 2).val, hy2⟩ : Fin 256) := by
    funext a; apply Fin.ext
    match a with
    | ⟨0, _⟩ => rfl
    | ⟨1, _⟩ => rfl
    | ⟨2, _⟩ => rfl
  have hb : ((cfg0.win 2).blk t).view.emb y = ix3 (⟨4 * j + (y 0).val, by omega⟩ : Fin 8) (⟨(y 1).val, hy1⟩ : Fin 1024) (⟨(y 2).val, hy2⟩ : Fin 256) := by
    have i0 : win0_2.index t (0 : Fin 3) = t.val / 4 := congrFun (ix_2 t) 0
    have i1 : win0_2.index t (1 : Fin 3) = 0 := congrFun (ix_2 t) 1
    have i2 : win0_2.index t (2 : Fin 3) = 0 := congrFun (ix_2 t) 2
    funext a; apply Fin.ext
    match a with
    | ⟨0, _⟩ => show win0_2.index t (0 : Fin 3) * 4 + 1 * (y 0).val = 4 * j + (y 0).val; rw [i0]; omega
    | ⟨1, _⟩ => show win0_2.index t (1 : Fin 3) * 1024 + 1 * (y 1).val = (y 1).val; rw [i1]; omega
    | ⟨2, _⟩ => show win0_2.index t (2 : Fin 3) * 256 + 1 * (y 2).val = (y 2).val; rw [i2]; omega
  show outsAt0 m c t.val t.isLt ((cfg0.win 2).xinj (grid0.coords t) y) = G m c (((cfg0.win 2).blk t).view.emb y)
  rw [hx, hb]
  obtain ⟨t, hlt⟩ := t
  dsimp only at ht
  subst ht
  exact after_run m c j hj hlt _ _ _

/-- Every entry of the array is in the block of a flushing point. -/
theorem covered (i : S8x1024x256.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 256 := (i 2).isLt
  have hN : cfg0.N = 8 := N_0
  obtain ⟨t, ht⟩ : ∃ t : Fin cfg0.N, t.val = 4 * ((i 0).val / 4) + 3 := ⟨⟨4 * ((i 0).val / 4) + 3, by omega⟩, rfl⟩
  have i0 : win0_2.index t (0 : Fin 3) = t.val / 4 := congrFun (ix_2 t) 0
  have i1 : win0_2.index t (1 : Fin 3) = 0 := congrFun (ix_2 t) 1
  have i2 : win0_2.index t (2 : Fin 3) = 0 := congrFun (ix_2 t) 2
  refine ⟨t, (flush0_2 t).mpr (by omega), ?_⟩
  show i ∈ ((View.whole main_v2).slice (win0_2.rect t)).set
  rw [View.set_slice_whole, Rect.mem_set_unit]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 256 ≤ (i 2).val ∧ (i 2).val < win0_2.index t (2 : Fin 3) * 256 + 256; omega

theorem final : (dats m 0 c).arrAt 2 cfg0.N = G m c :=
  (dats m 0 c).arrAt_eq_of_cover 2 _ (fun t hf => flushed_eq m c t hf) covered

theorem frame_reference (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem (c.tc.loc Cert.Reference12Ideal.main_arg0) = m (c.tc.loc Cert.Reference12Ideal.main_arg0)
      ∧ r.2.mem (c.tc.loc Cert.Reference12Ideal.main_arg1) = m (c.tc.loc Cert.Reference12Ideal.main_arg1))
      ∧ r.2.sem = fun _ => 0) :=
  (θ_run Cert.Reference12Ideal.defs _ _).mono (fun r h => ⟨fun c => (h c).2, sem_eq_zero_of_no_sems (by decide) r.2⟩)
    (Cert.Reference12Ideal.Value.run (F := Ideal) m g)

theorem ref_at (x0 : (⟨S8192x1024, .f32⟩ : BufTy).Contents (Elt Ideal)) (x1 : (⟨S8192x2048, .f32⟩ : BufTy).Contents (Elt Ideal)) (i : S8x1024x256.Idx) :
    Cert.Reference12Ideal.Read.val_main_v5 (F := Ideal) x0 x1 i
      = ∑ k : Fin 8192, x0 (ix2 k (i 1)) * x1 (ix2 k ⟨256 * (i 0).val + (i 2).val, by
        have h0 : (i 0).val < 8 := (i 0).isLt; have h2 : (i 2).val < 256 := (i 2).isLt; omega⟩) := by
  have h0 : (i 0).val < 8 := (i 0).isLt
  have h1 : (i 1).val < 1024 := (i 1).isLt
  have h2 : (i 2).val < 256 := (i 2).isLt
  rw [Cert.Reference12Ideal.Read.val_main_v5_apply, Cert.Reference12Ideal.Read.val_main_v4_apply, Cert.Reference12Ideal.Read.val_main_v3_apply, Cert.Reference12Ideal.Read.val_main_v2_apply]
  refine Finset.sum_congr rfl fun k _ => ?_
  rw [mul_comm]
  refine congr (congrArg HMul.hMul (congrArg x0 (funext fun a => Fin.ext ?_))) (congrArg x1 (funext fun a => Fin.ext ?_))
  · match a with
    | ⟨0, _⟩ => rfl
    | ⟨1, _⟩ => show (((i 1).val * 8 + (i 0).val) * 256 + (i 2).val) / 2048 = (i 1).val; omega
  · match a with
    | ⟨0, _⟩ => rfl
    | ⟨1, _⟩ => show (((i 1).val * 8 + (i 0).val) * 256 + (i 2).val) % 2048 = 256 * (i 0).val + (i 2).val; omega

/-- The two results are one array. -/
theorem same (x0 : (⟨S8192x1024, .f32⟩ : BufTy).Contents (Elt Ideal)) (x1 : (⟨S8192x2048, .f32⟩ : BufTy).Contents (Elt Ideal))
    (h0 : x0 = X m c) (h1 : x1 = Y m c) : Cert.Reference12Ideal.Read.val_main_v5 (F := Ideal) x0 x1 = G m c := by
  subst h0; subst h1
  exact funext fun i => ref_at _ _ i

end Cert.Weight.Pair
-- ==== Proof.Forward.Mixer.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Forward.Mixer

open Idealize.ShloMosaic Idealize.ShloMosaic.TcCoe Idealize.ShloMosaic.Tactic
open Idealize.ShloMosaic.StableHlo
open Cert.Kernel6Ideal Cert.Kernel6Ideal.Gen Cert.Kernel6Ideal.Value
open Cert.Reference6Ideal.Read (val_main_v12 val_main_v11 val_main_v10 val_main_v9 val_main_v8 val_main_v7 val_main_v6 val_main_v5 val_main_v4 val_main_v3 val_main_v2 val_main_v1 val_main_v0 val_main_cst val_main_cst_0 val_main_cst_1 val_main_v13 val_main_v14 val_main_v15 val_main_v16 val_main_v17 val_main_v18 val_main_v19 val_main_call0_v0 val_main_call0_cst)

/-! The feed-forward block's forward pass: every block holds 256 rows of the reference's stages. -/

private theorem hz2 : (![0, 0] : Fin 2 → ℕ) = fun _ => 0 := funext fun a => by fin_cases a <;> rfl

variable (m : (ℓ : Loc nD τ sig) → Buf (Elt Ideal) ℓ) (c : Dev nD)

/-- The arguments. -/
def H0 : (⟨S8192x1024, .f32⟩ : BufTy).Contents (Elt Ideal) := m (c.tc.loc main_arg0)
def G0 : (⟨S1024, .f32⟩ : BufTy).Contents (Elt Ideal) := m (c.tc.loc main_arg1)
def A0 : (⟨S1024x4096, .f32⟩ : BufTy).Contents (Elt Ideal) := m (c.tc.loc main_arg2)
def B0 : (⟨S4096x1024, .f32⟩ : BufTy).Contents (Elt Ideal) := m (c.tc.loc main_arg3)

theorem V_arg0 : V m c main_arg0 = H0 m c := by after_reads_simp; rfl
theorem V_v0 (j : Fin 1024) : V m c main_v0 (ix2 0 j) = G0 m c (ix1 j) := by
  have e : V m c main_v0 = shapeCast S1x1024 (G0 m c) shapeCasts_S1024_S1x1024 := by after_reads_simp; rfl
  rw [e]
  pointwise
theorem V_v1 : V m c main_v1 = A0 m c := by after_reads_simp; rfl
theorem V_v2 : V m c main_v2 = B0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 1) (j : Fin 1024) : iblk m c 1 t (ix2 k j) = V m c main_v0 (ix2 k j) := by
  blk_simp [iblk]
  refine congrArg (V m c main_v0) (funext fun a => Fin.ext ?_)
  match a with
  | ⟨0, _⟩ => blk_simp [ix_1]
  | ⟨1, _⟩ => blk_simp [ix_1]

theorem blk_2 (t : Fin cfg0.N) (k : Fin 1024) (j : Fin 4096) : iblk m c 2 t (ix2 k j) = V m c main_v1 (ix2 k j) := by
  blk_simp [iblk]
  refine congrArg (V m c main_v1) (funext fun a => Fin.ext ?_)
  match a with
  | ⟨0, _⟩ => blk_simp [ix_2]
  | ⟨1, _⟩ => blk_simp [ix_2]

theorem blk_3 (t : Fin cfg0.N) (k : Fin 4096) (j : Fin 1024) : iblk m c 3 t (ix2 k j) = V m c main_v2 (ix2 k j) := by
  blk_simp [iblk]
  refine congrArg (V m c main_v2) (funext fun a => Fin.ext ?_)
  match a with
  | ⟨0, _⟩ => blk_simp [ix_3]
  | ⟨1, _⟩ => blk_simp [ix_3]

/-- The normalized rows of one block. -/
theorem norm_blk (t : Fin cfg0.N) (i : Fin 256) (j : Fin 1024) :
    k0_pay1 (F := Ideal) (iblk m c 0 t) (iblk m c 1 t) (ix2 i j) = val_main_v12 (F := Ideal) (H0 m c) (G0 m c) (ix2 (row t i) j) := by
  have e0 := blk_0 m c t
  have e1 : iblk m c 1 t (ix2 0 j) = G0 m c (ix1 j) := (blk_1 m c t 0 j).trans (V_v0 m c j)
  rw [V_arg0] at e0
  generalize iblk m c 0 t = x0 at *
  generalize iblk m c 1 t = x1 at *
  pointwise [k0_pay1]
  simp only [e0, e1]
  symm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem normal_blk (t : Fin cfg0.N) (i : Fin 256) (j : Fin 1024) :
    k0_pay2 (F := Ideal) (iblk m c 0 t) (iblk m c 1 t) (ix2 i j) = val_main_v18 (F := Ideal) (H0 m c) (G0 m c) (ix2 (row t i) j) :=
  norm_blk m c t i j

/-- The hidden layer before the rectifier. -/
theorem a_blk (t : Fin cfg0.N) (i : Fin 256) (f : Fin 4096) :
    k0_pay3 (F := Ideal) (iblk m c 0 t) (iblk m c 1 t) (iblk m c 2 t) (ix2 i f) = val_main_v13 (F := Ideal) (H0 m c) (G0 m c) (A0 m c) (ix2 (row t i) f) := by
  have en := norm_blk m c t
  have e2 := blk_2 m c t
  rw [V_v1] at e2
  generalize iblk m c 0 t = x0 at *
  generalize iblk m c 1 t = x1 at *
  generalize iblk m c 2 t = x2 at *
  pointwise [k0_pay3]
  simp only [en, e2]
  symm
  pointwise [val_main_v13]

/-- The hidden layer: the rectifier's square. -/
theorem s_blk (t : Fin cfg0.N) (i : Fin 256) (f : Fin 4096) :
    k0_pay4 (F := Ideal) (iblk m c 0 t) (iblk m c 1 t) (iblk m c 2 t) (ix2 i f) = val_main_v15 (F := Ideal) (H0 m c) (G0 m c) (A0 m c) (ix2 (row t i) f) := by
  have ea := a_blk m c t
  generalize iblk m c 0 t = x0 at *
  generalize iblk m c 1 t = x1 at *
  generalize iblk m c 2 t = x2 at *
  pointwise [k0_pay4]
  simp only [ea]
  symm
  pointwise [val_main_v15, val_main_v14, val_main_call0_v0, val_main_call0_cst]

theorem square_blk (t : Fin cfg0.N) (i : Fin 256) (f : Fin 4096) :
    k0_pay5 (F := Ideal) (iblk m c 0 t) (iblk m c 1 t) (iblk m c 2 t) (ix2 i f) = val_main_v19 (F := Ideal) (H0 m c) (G0 m c) (A0 m c) (ix2 (row t i) f) :=
  s_blk m c t i f

/-- The block's output: the input, the layer's product added. -/
theorem out_blk (t : Fin cfg0.N) (i : Fin 256) (j : Fin 1024) :
    k0_pay6 (F := Ideal) (iblk m c 0 t) (iblk m c 1 t) (iblk m c 2 t) (iblk m c 3 t) (ix2 i j)
      = val_main_v17 (F := Ideal) (H0 m c) (G0 m c) (A0 m c) (B0 m c) (ix2 (row t i) j) := by
  have e0 := blk_0 m c t
  have es := s_blk m c t
  have e3 := blk_3 m c t
  rw [V_arg0] at e0
  rw [V_v2] at e3
  generalize iblk m c 0 t = x0 at *
  generalize iblk m c 1 t = x1 at *
  generalize iblk m c 2 t = x2 at *
  generalize iblk m c 3 t = x3 at *
  pointwise [k0_pay6]
  simp only [e0, es, e3]
  symm
  pointwise [val_main_v17, val_main_v16]

theorem emb_4 (t : Fin cfg0.N) (i : Fin 256) (j : Fin 1024) : (win0_4.blk t).view.emb (ix2 i j) = ix2 (row t i) j := by
  refine funext fun a => Fin.ext ?_
  match a with
  | ⟨0, _⟩ => blk_simp [ix_4]; rfl
  | ⟨1, _⟩ => blk_simp [ix_4]

/-- The output. -/
theorem final_4 : (dats m 0 c).arrAt 4 cfg0.N = val_main_v17 (F := Ideal) (H0 m c) (G0 m c) (A0 m c) (B0 m c) := by
  refine (dats m 0 c).arrAt_eq_of_covers 4 _ (by decide +kernel) fun t _ y => ?_
  obtain ⟨i, j, rfl⟩ : ∃ (i : Fin 256) (j : Fin 1024), y = ix2 i j := ⟨y 0, y 1, eq_ix2 y⟩
  blk_simp
  rw [after0_4]
  refine Eq.trans ?_ (congrArg (val_main_v17 (F := Ideal) (H0 m c) (G0 m c) (A0 m c) (B0 m c)) (emb_4 t i j).symm)
  unfold out0_4
  rw [View.canon_unit_zero hz2]
  simp only [View.ld_unit_zero (S := S256x1024) hz2, View.ld_unit_zero (S := S1x1024) hz2, View.ld_unit_zero (S := S1024x4096) hz2, View.ld_unit_zero (S := S4096x1024) hz2]
  exact out_blk m c t i j

theorem emb_5 (t : Fin cfg0.N) (i : Fin 256) (j : Fin 1024) : (win0_5.blk t).view.emb (ix2 i j) = ix2 (row t i) j := by
  refine funext fun a => Fin.ext ?_
  match a with
  | ⟨0, _⟩ => blk_simp [ix_5]; rfl
  | ⟨1, _⟩ => blk_simp [ix_5]

/-- The normalized rows. -/
theorem final_5 : (dats m 0 c).arrAt 5 cfg0.N = val_main_v18 (F := Ideal) (H0 m c) (G0 m c) := by
  refine (dats m 0 c).arrAt_eq_of_covers 5 _ (by decide +kernel) fun t _ y => ?_
  obtain ⟨i, j, rfl⟩ : ∃ (i : Fin 256) (j : Fin 1024), y = ix2 i j := ⟨y 0, y 1, eq_ix2 y⟩
  blk_simp
  rw [after0_5]
  refine Eq.trans ?_ (congrArg (val_main_v18 (F := Ideal) (H0 m c) (G0 m c)) (emb_5 t i j).symm)
  unfold out0_5
  rw [View.canon_unit_zero hz2]
  simp only [View.ld_unit_zero (S := S256x1024) hz2, View.ld_unit_zero (S := S1x1024) hz2, View.ld_unit_zero (S := S1024x4096) hz2, View.ld_unit_zero (S := S4096x1024) hz2]
  exact normal_blk m c t i j

theorem emb_6 (t : Fin cfg0.N) (i : Fin 256) (j : Fin 4096) : (win0_6.blk t).view.emb (ix2 i j) = ix2 (row t i) j := by
  refine funext fun a => Fin.ext ?_
  match a with
  | ⟨0, _⟩ => blk_simp [ix_6]; rfl
  | ⟨1, _⟩ => blk_simp [ix_6]

/-- The hidden layer before the rectifier. -/
theorem final_6 : (dats m 0 c).arrAt 6 cfg0.N = val_main_v13 (F := Ideal) (H0 m c) (G0 m c) (A0 m c) := by
  refine (dats m 0 c).arrAt_eq_of_covers 6 _ (by decide +kernel) fun t _ y => ?_
  obtain ⟨i, j, rfl⟩ : ∃ (i : Fin 256) (j : Fin 4096), y = ix2 i j := ⟨y 0, y 1, eq_ix2 y⟩
  blk_simp
  rw [after0_6]
  refine Eq.trans ?_ (congrArg (val_main_v13 (F := Ideal) (H0 m c) (G0 m c) (A0 m c)) (emb_6 t i j).symm)
  unfold out0_6
  rw [View.canon_unit_zero hz2]
  simp only [View.ld_unit_zero (S := S256x1024) hz2, View.ld_unit_zero (S := S1x1024) hz2, View.ld_unit_zero (S := S1024x4096) hz2, View.ld_unit_zero (S := S4096x1024) hz2]
  exact a_blk m c t i j

theorem emb_7 (t : Fin cfg0.N) (i : Fin 256) (j : Fin 4096) : (win0_7.blk t).view.emb (ix2 i j) = ix2 (row t i) j := by
  refine funext fun a => Fin.ext ?_
  match a with
  | ⟨0, _⟩ => blk_simp [ix_7]; rfl
  | ⟨1, _⟩ => blk_simp [ix_7]

/-- The hidden layer. -/
theorem final_7 : (dats m 0 c).arrAt 7 cfg0.N = val_main_v19 (F := Ideal) (H0 m c) (G0 m c) (A0 m c) := by
  refine (dats m 0 c).arrAt_eq_of_covers 7 _ (by decide +kernel) fun t _ y => ?_
  obtain ⟨i, j, rfl⟩ : ∃ (i : Fin 256) (j : Fin 4096), y = ix2 i j := ⟨y 0, y 1, eq_ix2 y⟩
  blk_simp
  rw [after0_7]
  refine Eq.trans ?_ (congrArg (val_main_v19 (F := Ideal) (H0 m c) (G0 m c) (A0 m c)) (emb_7 t i j).symm)
  unfold out0_7
  rw [View.canon_unit_zero hz2]
  simp only [View.ld_unit_zero (S := S256x1024) hz2, View.ld_unit_zero (S := S1x1024) hz2, View.ld_unit_zero (S := S1024x4096) hz2, View.ld_unit_zero (S := S4096x1024) hz2]
  exact square_blk m c t i j

theorem frame_reference (m : (ℓ : Loc Cert.Reference6Ideal.nD τ Cert.Reference6Ideal.sig) → Buf (Elt Ideal) ℓ) (g : Dev Cert.Reference6Ideal.nD → PrngReg) :
    θ_run (Cert.Reference6Ideal.defs (F := Ideal)) (onTc (τ := τ) (Cert.Reference6Ideal.main (F := Ideal))) ⟨m, fun _ => 0, g⟩ (fun r => (∀ c : Dev Cert.Reference6Ideal.nD,
      r.2.mem (c.tc.loc Cert.Reference6Ideal.main_arg0) = m (c.tc.loc Cert.Reference6Ideal.main_arg0)
      ∧ r.2.mem (c.tc.loc Cert.Reference6Ideal.main_arg1) = m (c.tc.loc Cert.Reference6Ideal.main_arg1)
      ∧ r.2.mem (c.tc.loc Cert.Reference6Ideal.main_arg2) = m (c.tc.loc Cert.Reference6Ideal.main_arg2)
      ∧ r.2.mem (c.tc.loc Cert.Reference6Ideal.main_arg3) = m (c.tc.loc Cert.Reference6Ideal.main_arg3))
      ∧ r.2.sem = fun _ => 0) :=
  (θ_run Cert.Reference6Ideal.defs _ _).mono (fun r h => ⟨fun c => (h c).2.2.2.2, sem_eq_zero_of_no_sems (by decide) r.2⟩)
    (Cert.Reference6Ideal.Value.run (F := Ideal) m g)

end Cert.Forward.Mixer
-- ==== Proof.Forward.Embed.lean ====
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Forward.Embed

open Idealize.ShloMosaic Idealize.ShloMosaic.TcCoe Idealize.ShloMosaic.Tactic
open Idealize.ShloMosaic.StableHlo
open Cert.Kernel8Ideal Cert.Kernel8Ideal.Gen Cert.Kernel8Ideal.Value
open Cert.Reference8Ideal.Read (val_main_v12 val_main_v11 val_main_v10 val_main_v9 val_main_v8 val_main_v7 val_main_v6 val_main_v5 val_main_v4 val_main_v3 val_main_v2 val_main_v1 val_main_v0 val_main_cst val_main_cst_0 val_main_cst_1 val_main_v13 val_main_v14 val_main_v15 val_main_v16 val_main_v17 val_main_v18 val_main_v19 val_main_v20 val_main_v21 val_main_v22 val_main_v23 val_main_cst_2 val_main_cst_3)

/-! The layer embedding's forward pass: every block holds 256 rows of the reference's stages. -/

private theorem hz2 : (![0, 0] : Fin 2 → ℕ) = fun _ => 0 := funext fun a => by fin_cases a <;> rfl

variable (m : (ℓ : Loc nD τ sig) → Buf (Elt Ideal) ℓ) (c : Dev nD)

/-- The arguments. -/
def H0 : (⟨S8192x1024, .f32⟩ : BufTy).Contents (Elt Ideal) := m (c.tc.loc main_arg0)
def G0 : (⟨S1024, .f32⟩ : BufTy).Contents (Elt Ideal) := m (c.tc.loc main_arg1)
def A0 : (⟨S1024x1024, .f32⟩ : BufTy).Contents (Elt Ideal) := m (c.tc.loc main_arg2)
def P0 : (⟨S8192x256, .f32⟩ : BufTy).Contents (Elt Ideal) := m (c.tc.loc main_arg3)
def B0 : (⟨S256x1024, .f32⟩ : BufTy).Contents (Elt Ideal) := m (c.tc.loc main_arg4)

theorem V_arg0 : V m c main_arg0 = H0 m c := by after_reads_simp; rfl
theorem V_v0 (j : Fin 1024) : V m c main_v0 (ix2 0 j) = G0 m c (ix1 j) := by
  have e : V m c main_v0 = shapeCast S1x1024 (G0 m c) shapeCasts_S1024_S1x1024 := by after_reads_simp; rfl
  rw [e]
  pointwise
theorem V_v1 : V m c main_v1 = A0 m c := by after_reads_simp; rfl
theorem V_arg3 : V m c main_arg3 = P0 m c := by after_reads_simp; rfl
theorem V_v2 : V m c main_v2 = B0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![t.val, 0] := by decide +kernel
theorem ix_4 : ∀ t : Fin cfg0.N, win0_4.index t = ![0, 0] := by decide +kernel
theorem ix_5 : ∀ t : Fin cfg0.N, win0_5.index t = ![t.val, 0] := by decide +kernel
theorem ix_6 : ∀ t : Fin cfg0.N, win0_6.index t = ![t.val, 0] := by decide +kernel
theorem ix_7 : ∀ t : Fin cfg0.N, win0_7.index t = ![t.val, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 1) (j : Fin 1024) : iblk m c 1 t (ix2 k j) = V m c main_v0 (ix2 k j) := by
  blk_simp [iblk]
  refine congrArg (V m c main_v0) (funext fun a => Fin.ext ?_)
  match a with
  | ⟨0, _⟩ => blk_simp [ix_1]
  | ⟨1, _⟩ => blk_simp [ix_1]

theorem blk_2 (t : Fin cfg0.N) (k : Fin 1024) (j : Fin 1024) : iblk m c 2 t (ix2 k j) = V m c main_v1 (ix2 k j) := by
  blk_simp [iblk]
  refine congrArg (V m c main_v1) (funext fun a => Fin.ext ?_)
  match a with
  | ⟨0, _⟩ => blk_simp [ix_2]
  | ⟨1, _⟩ => blk_simp [ix_2]

theorem blk_3 (t : Fin cfg0.N) (k : Fin 256) (j : Fin 256) : iblk m c 3 t (ix2 k j) = V m c main_arg3 (ix2 (row t k) j) := by
  blk_simp [iblk]
  refine congrArg (V m c main_arg3) (funext fun a => Fin.ext ?_)
  match a with
  | ⟨0, _⟩ => blk_simp [ix_3]; rfl
  | ⟨1, _⟩ => blk_simp [ix_3]

theorem blk_4 (t : Fin cfg0.N) (k : Fin 256) (j : Fin 1024) : iblk m c 4 t (ix2 k j) = V m c main_v2 (ix2 k j) := by
  blk_simp [iblk]
  refine congrArg (V m c main_v2) (funext fun a => Fin.ext ?_)
  match a with
  | ⟨0, _⟩ => blk_simp [ix_4]
  | ⟨1, _⟩ => blk_simp [ix_4]

/-- The normalized rows of one block. -/
theorem norm_blk (t : Fin cfg0.N) (i : Fin 256) (j : Fin 1024) :
    k0_pay1 (F := Ideal) (iblk m c 0 t) (iblk m c 1 t) (ix2 i j) = val_main_v12 (F := Ideal) (H0 m c) (G0 m c) (ix2 (row t i) j) := by
  have e0 := blk_0 m c t
  have e1 : iblk m c 1 t (ix2 0 j) = G0 m c (ix1 j) := (blk_1 m c t 0 j).trans (V_v0 m c j)
  rw [V_arg0] at e0
  generalize iblk m c 0 t = x0 at *
  generalize iblk m c 1 t = x1 at *
  pointwise [k0_pay1]
  simp only [e0, e1]
  symm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem normal_blk (t : Fin cfg0.N) (i : Fin 256) (j : Fin 1024) :
    k0_pay2 (F := Ideal) (iblk m c 0 t) (iblk m c 1 t) (ix2 i j) = val_main_v23 (F := Ideal) (H0 m c) (G0 m c) (ix2 (row t i) j) :=
  norm_blk m c t i j

/-- The gate. -/
theorem gate_blk (t : Fin cfg0.N) (i : Fin 256) (f : Fin 1024) :
    k0_pay3 (F := Ideal) (iblk m c 0 t) (iblk m c 1 t) (iblk m c 2 t) (ix2 i f) = val_main_v19 (F := Ideal) (H0 m c) (G0 m c) (A0 m c) (ix2 (row t i) f) := by
  have en := norm_blk m c t
  have e2 := blk_2 m c t
  rw [V_v1] at e2
  generalize iblk m c 0 t = x0 at *
  generalize iblk m c 1 t = x1 at *
  generalize iblk m c 2 t = x2 at *
  pointwise [k0_pay3]
  simp only [en, e2]
  symm
  pointwise [val_main_v19, val_main_v18, val_main_v17, val_main_v16, val_main_v15, val_main_v14, val_main_v13, val_main_cst_2, val_main_cst_3]
  rfl

/-- The block's output: the input, the gated embedding added. -/
theorem out_blk (t : Fin cfg0.N) (i : Fin 256) (j : Fin 1024) :
    k0_pay4 (F := Ideal) (iblk m c 0 t) (iblk m c 1 t) (iblk m c 2 t) (iblk m c 3 t) (iblk m c 4 t) (ix2 i j)
      = val_main_v22 (F := Ideal) (H0 m c) (G0 m c) (A0 m c) (P0 m c) (B0 m c) (ix2 (row t i) j) := by
  have e0 := blk_0 m c t
  have eg := gate_blk m c t
  have e3 := blk_3 m c t
  have e4 := blk_4 m c t
  rw [V_arg0] at e0
  rw [V_arg3] at e3
  rw [V_v2] at e4
  generalize iblk m c 0 t = x0 at *
  generalize iblk m c 1 t = x1 at *
  generalize iblk m c 2 t = x2 at *
  generalize iblk m c 3 t = x3 at *
  generalize iblk m c 4 t = x4 at *
  pointwise [k0_pay4]
  simp only [e0, eg, e3, e4]
  symm
  pointwise [val_main_v22, val_main_v21, val_main_v20]

theorem emb_5 (t : Fin cfg0.N) (i : Fin 256) (j : Fin 1024) : (win0_5.blk t).view.emb (ix2 i j) = ix2 (row t i) j := by
  refine funext fun a => Fin.ext ?_
  match a with
  | ⟨0, _⟩ => blk_simp [ix_5]; rfl
  | ⟨1, _⟩ => blk_simp [ix_5]

/-- The output. -/
theorem final_5 : (dats m 0 c).arrAt 5 cfg0.N = val_main_v22 (F := Ideal) (H0 m c) (G0 m c) (A0 m c) (P0 m c) (B0 m c) := by
  refine (dats m 0 c).arrAt_eq_of_covers 5 _ (by decide +kernel) fun t _ y => ?_
  obtain ⟨i, j, rfl⟩ : ∃ (i : Fin 256) (j : Fin 1024), y = ix2 i j := ⟨y 0, y 1, eq_ix2 y⟩
  blk_simp
  rw [after0_5]
  refine Eq.trans ?_ (congrArg (val_main_v22 (F := Ideal) (H0 m c) (G0 m c) (A0 m c) (P0 m c) (B0 m c)) (emb_5 t i j).symm)
  unfold out0_5
  rw [View.canon_unit_zero hz2]
  simp only [View.ld_unit_zero (S := S256x1024) hz2, View.ld_unit_zero (S := S1x1024) hz2, View.ld_unit_zero (S := S1024x1024) hz2, View.ld_unit_zero (S := S256x256) hz2]
  exact out_blk m c t i j

theorem emb_6 (t : Fin cfg0.N) (i : Fin 256) (j : Fin 1024) : (win0_6.blk t).view.emb (ix2 i j) = ix2 (row t i) j := by
  refine funext fun a => Fin.ext ?_
  match a with
  | ⟨0, _⟩ => blk_simp [ix_6]; rfl
  | ⟨1, _⟩ => blk_simp [ix_6]

/-- The normalized rows. -/
theorem final_6 : (dats m 0 c).arrAt 6 cfg0.N = val_main_v23 (F := Ideal) (H0 m c) (G0 m c) := by
  refine (dats m 0 c).arrAt_eq_of_covers 6 _ (by decide +kernel) fun t _ y => ?_
  obtain ⟨i, j, rfl⟩ : ∃ (i : Fin 256) (j : Fin 1024), y = ix2 i j := ⟨y 0, y 1, eq_ix2 y⟩
  blk_simp
  rw [after0_6]
  refine Eq.trans ?_ (congrArg (val_main_v23 (F := Ideal) (H0 m c) (G0 m c)) (emb_6 t i j).symm)
  unfold out0_6
  rw [View.canon_unit_zero hz2]
  simp only [View.ld_unit_zero (S := S256x1024) hz2, View.ld_unit_zero (S := S1x1024) hz2, View.ld_unit_zero (S := S1024x1024) hz2, View.ld_unit_zero (S := S256x256) hz2]
  exact normal_blk m c t i j

theorem emb_7 (t : Fin cfg0.N) (i : Fin 256) (j : Fin 1024) : (win0_7.blk t).view.emb (ix2 i j) = ix2 (row t i) j := by
  refine funext fun a => Fin.ext ?_
  match a with
  | ⟨0, _⟩ => blk_simp [ix_7]; rfl
  | ⟨1, _⟩ => blk_simp [ix_7]

/-- The gate. -/
theorem final_7 : (dats m 0 c).arrAt 7 cfg0.N = val_main_v19 (F := Ideal) (H0 m c) (G0 m c) (A0 m c) := by
  refine (dats m 0 c).arrAt_eq_of_covers 7 _ (by decide +kernel) fun t _ y => ?_
  obtain ⟨i, j, rfl⟩ : ∃ (i : Fin 256) (j : Fin 1024), y = ix2 i j := ⟨y 0, y 1, eq_ix2 y⟩
  blk_simp
  rw [after0_7]
  refine Eq.trans ?_ (congrArg (val_main_v19 (F := Ideal) (H0 m c) (G0 m c) (A0 m c)) (emb_7 t i j).symm)
  unfold out0_7
  rw [View.canon_unit_zero hz2]
  simp only [View.ld_unit_zero (S := S256x1024) hz2, View.ld_unit_zero (S := S1x1024) hz2, View.ld_unit_zero (S := S1024x1024) hz2, View.ld_unit_zero (S := S256x256) hz2]
  exact gate_blk m c t i j

theorem frame_reference (m : (ℓ : Loc Cert.Reference8Ideal.nD τ Cert.Reference8Ideal.sig) → Buf (Elt Ideal) ℓ) (g : Dev Cert.Reference8Ideal.nD → PrngReg) :
    θ_run (Cert.Reference8Ideal.defs (F := Ideal)) (onTc (τ := τ) (Cert.Reference8Ideal.main (F := Ideal))) ⟨m, fun _ => 0, g⟩ (fun r => (∀ c : Dev Cert.Reference8Ideal.nD,
      r.2.mem (c.tc.loc Cert.Reference8Ideal.main_arg0) = m (c.tc.loc Cert.Reference8Ideal.main_arg0)
      ∧ r.2.mem (c.tc.loc Cert.Reference8Ideal.main_arg1) = m (c.tc.loc Cert.Reference8Ideal.main_arg1)
      ∧ r.2.mem (c.tc.loc Cert.Reference8Ideal.main_arg2) = m (c.tc.loc Cert.Reference8Ideal.main_arg2)
      ∧ r.2.mem (c.tc.loc Cert.Reference8Ideal.main_arg3) = m (c.tc.loc Cert.Reference8Ideal.main_arg3)
      ∧ r.2.mem (c.tc.loc Cert.Reference8Ideal.main_arg4) = m (c.tc.loc Cert.Reference8Ideal.main_arg4))
      ∧ r.2.sem = fun _ => 0) :=
  (θ_run Cert.Reference8Ideal.defs _ _).mono (fun r h => ⟨fun c => (h c).2.2.2, sem_eq_zero_of_no_sems (by decide) r.2⟩)
    (Cert.Reference8Ideal.Value.run (F := Ideal) m g)

end Cert.Forward.Embed
-- ==== Proof.Forward.Query.lean ====
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Forward.Query

open Idealize.ShloMosaic Idealize.ShloMosaic.TcCoe Idealize.ShloMosaic.Tactic
open Idealize.ShloMosaic.StableHlo
open Cert.Kernel9Ideal Cert.Kernel9Ideal.Gen Cert.Kernel9Ideal.Value
open Cert.Reference9Ideal.Read (val_main_v12 val_main_v11 val_main_v10 val_main_v9 val_main_v8 val_main_v7 val_main_v6 val_main_v5 val_main_v4 val_main_v3 val_main_v2 val_main_v1 val_main_v0 val_main_cst val_main_cst_0 val_main_cst_1 val_main_v13 val_main_v14 val_main_v15 val_main_v16 val_main_v17 val_main_v18 val_main_v19 val_main_cst_2)

/-! The query projection's forward pass: every block holds 256 rows, or 256 columns, of the reference's stages. -/

private theorem hz2 : (![0, 0] : Fin 2 → ℕ) = fun _ => 0 := funext fun a => by fin_cases a <;> rfl

variable (m : (ℓ : Loc nD τ sig) → Buf (Elt Ideal) ℓ) (c : Dev nD)

/-- The arguments. -/
def H0 : (⟨S8192x1024, .f32⟩ : BufTy).Contents (Elt Ideal) := m (c.tc.loc main_arg0)
def G0 : (⟨S1024, .f32⟩ : BufTy).Contents (Elt Ideal) := m (c.tc.loc main_arg1)
def A0 : (⟨S1024x1024, .f32⟩ : BufTy).Contents (Elt Ideal) := m (c.tc.loc main_arg2)

theorem V_arg0 : V m c main_arg0 = H0 m c := by after_reads_simp; rfl
theorem V_v0 (j : Fin 1024) : V m c main_v0 (ix2 0 j) = G0 m c (ix1 j) := by
  have e : V m c main_v0 = shapeCast S1x1024 (G0 m c) shapeCasts_S1024_S1x1024 := by after_reads_simp; rfl
  rw [e]
  pointwise
theorem V_v1 : V m c main_v1 = A0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![0, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![0, t.val] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 1) (j : Fin 1024) : iblk m c 1 t (ix2 k j) = V m c main_v0 (ix2 k j) := by
  blk_simp [iblk]
  refine congrArg (V m c main_v0) (funext fun a => Fin.ext ?_)
  match a with
  | ⟨0, _⟩ => blk_simp [ix_1]
  | ⟨1, _⟩ => blk_simp [ix_1]

theorem blk_2 (t : Fin cfg0.N) (k : Fin 1024) (j : Fin 1024) : iblk m c 2 t (ix2 k j) = V m c main_v1 (ix2 k j) := by
  blk_simp [iblk]
  refine congrArg (V m c main_v1) (funext fun a => Fin.ext ?_)
  match a with
  | ⟨0, _⟩ => blk_simp [ix_2]
  | ⟨1, _⟩ => blk_simp [ix_2]

/-- The normalized rows of one block. -/
theorem norm_blk (t : Fin cfg0.N) (i : Fin 256) (j : Fin 1024) :
    k0_pay1 (F := Ideal) (iblk m c 0 t) (iblk m c 1 t) (ix2 i j) = val_main_v12 (F := Ideal) (H0 m c) (G0 m c) (ix2 (row t i) j) := by
  have e0 := blk_0 m c t
  have e1 : iblk m c 1 t (ix2 0 j) = G0 m c (ix1 j) := (blk_1 m c t 0 j).trans (V_v0 m c j)
  rw [V_arg0] at e0
  generalize iblk m c 0 t = x0 at *
  generalize iblk m c 1 t = x1 at *
  pointwise [k0_pay1]
  simp only [e0, e1]
  symm
  pointwise [val_main_v12, val_main_v11, val_main_v10, val_main_v9, val_main_v8, val_main_v7, val_main_v6, val_main_v5, val_main_v4, val_main_v3, val_main_v2, val_main_v1, val_main_v0, val_main_cst, val_main_cst_0, val_main_cst_1]

theorem normal_blk (t : Fin cfg0.N) (i : Fin 256) (j : Fin 1024) :
    k0_pay2 (F := Ideal) (iblk m c 0 t) (iblk m c 1 t) (ix2 i j) = val_main_v16 (F := Ideal) (H0 m c) (G0 m c) (ix2 (row t i) j) :=
  norm_blk m c t i j

/-- The scaled queries. -/
theorem scaled_blk (t : Fin cfg0.N) (i : Fin 256) (f : Fin 1024) :
    k0_pay3 (F := Ideal) (iblk m c 0 t) (iblk m c 1 t) (iblk m c 2 t) (ix2 i f) = val_main_v15 (F := Ideal) (H0 m c) (G0 m c) (A0 m c) (ix2 (row t i) f) := by
  have en := norm_blk m c t
  have e2 := blk_2 m c t
  rw [V_v1] at e2
  generalize iblk m c 0 t = x0 at *
  generalize iblk m c 1 t = x1 at *
  generalize iblk m c 2 t = x2 at *
  pointwise [k0_pay3]
  simp only [en, e2]
  symm
  pointwise [val_main_v15, val_main_v14, val_main_v13, val_main_cst_2]

theorem query_blk (t : Fin cfg0.N) (i : Fin 256) (f : Fin 1024) :
    k0_pay4 (F := Ideal) (iblk m c 0 t) (iblk m c 1 t) (iblk m c 2 t) (ix2 i f) = val_main_v17 (F := Ideal) (H0 m c) (G0 m c) (A0 m c) (ix2 (row t i) f) :=
  scaled_blk m c t i f

/-- The scaled queries, turned. -/
theorem turned_blk (t : Fin cfg0.N) (f : Fin 1024) (i : Fin 256) :
    k0_pay5 (F := Ideal) (iblk m c 0 t) (iblk m c 1 t) (iblk m c 2 t) (ix2 f i) = val_main_v19 (F := Ideal) (H0 m c) (G0 m c) (A0 m c) (ix2 f (row t i)) := by
  have es := scaled_blk m c t
  generalize iblk m c 0 t = x0 at *
  generalize iblk m c 1 t = x1 at *
  generalize iblk m c 2 t = x2 at *
  pointwise [k0_pay5]
  rw [es]
  symm
  pointwise [val_main_v19, val_main_v18]

theorem emb_3 (t : Fin cfg0.N) (i : Fin 256) (j : Fin 1024) : (win0_3.blk t).view.emb (ix2 i j) = ix2 (row t i) j := by
  refine funext fun a => Fin.ext ?_
  match a with
  | ⟨0, _⟩ => blk_simp [ix_3]; rfl
  | ⟨1, _⟩ => blk_simp [ix_3]

/-- The normalized rows. -/
theorem final_3 : (dats m 0 c).arrAt 3 cfg0.N = val_main_v16 (F := Ideal) (H0 m c) (G0 m c) := by
  refine (dats m 0 c).arrAt_eq_of_covers 3 _ (by decide +kernel) fun t _ y => ?_
  obtain ⟨i, j, rfl⟩ : ∃ (i : Fin 256) (j : Fin 1024), y = ix2 i j := ⟨y 0, y 1, eq_ix2 y⟩
  blk_simp
  rw [after0_3]
  refine Eq.trans ?_ (congrArg (val_main_v16 (F := Ideal) (H0 m c) (G0 m c)) (emb_3 t i j).symm)
  unfold out0_3
  rw [View.canon_unit_zero hz2]
  simp only [View.ld_unit_zero (S := S256x1024) hz2, View.ld_unit_zero (S := S1x1024) hz2, View.ld_unit_zero (S := S1024x1024) hz2]
  exact normal_blk m c t i j

theorem emb_4 (t : Fin cfg0.N) (i : Fin 256) (j : Fin 1024) : (win0_4.blk t).view.emb (ix2 i j) = ix2 (row t i) j := by
  refine funext fun a => Fin.ext ?_
  match a with
  | ⟨0, _⟩ => blk_simp [ix_4]; rfl
  | ⟨1, _⟩ => blk_simp [ix_4]

/-- The queries. -/
theorem final_4 : (dats m 0 c).arrAt 4 cfg0.N = val_main_v17 (F := Ideal) (H0 m c) (G0 m c) (A0 m c) := by
  refine (dats m 0 c).arrAt_eq_of_covers 4 _ (by decide +kernel) fun t _ y => ?_
  obtain ⟨i, j, rfl⟩ : ∃ (i : Fin 256) (j : Fin 1024), y = ix2 i j := ⟨y 0, y 1, eq_ix2 y⟩
  blk_simp
  rw [after0_4]
  refine Eq.trans ?_ (congrArg (val_main_v17 (F := Ideal) (H0 m c) (G0 m c) (A0 m c)) (emb_4 t i j).symm)
  unfold out0_4
  rw [View.canon_unit_zero hz2]
  simp only [View.ld_unit_zero (S := S256x1024) hz2, View.ld_unit_zero (S := S1x1024) hz2, View.ld_unit_zero (S := S1024x1024) hz2]
  exact query_blk m c t i j

theorem emb_5 (t : Fin cfg0.N) (i : Fin 1024) (j : Fin 256) : (win0_5.blk t).view.emb (ix2 i j) = ix2 i (row t j) := by
  refine funext fun a => Fin.ext ?_
  match a with
  | ⟨0, _⟩ => blk_simp [ix_5]
  | ⟨1, _⟩ => blk_simp [ix_5]; rfl

/-- The queries, turned. -/
theorem final_5 : (dats m 0 c).arrAt 5 cfg0.N = val_main_v19 (F := Ideal) (H0 m c) (G0 m c) (A0 m c) := by
  refine (dats m 0 c).arrAt_eq_of_covers 5 _ (by decide +kernel) fun t _ y => ?_
  obtain ⟨i, j, rfl⟩ : ∃ (i : Fin 1024) (j : Fin 256), y = ix2 i j := ⟨y 0, y 1, eq_ix2 y⟩
  blk_simp
  rw [after0_5]
  refine Eq.trans ?_ (congrArg (val_main_v19 (F := Ideal) (H0 m c) (G0 m c) (A0 m c)) (emb_5 t i j).symm)
  unfold out0_5
  rw [View.canon_unit_zero hz2]
  simp only [View.ld_unit_zero (S := S256x1024) hz2, View.ld_unit_zero (S := S1x1024) hz2, View.ld_unit_zero (S := S1024x1024) hz2]
  exact turned_blk m c t i j

theorem frame_reference (m : (ℓ : Loc Cert.Reference9Ideal.nD τ Cert.Reference9Ideal.sig) → Buf (Elt Ideal) ℓ) (g : Dev Cert.Reference9Ideal.nD → PrngReg) :
    θ_run (Cert.Reference9Ideal.defs (F := Ideal)) (onTc (τ := τ) (Cert.Reference9Ideal.main (F := Ideal))) ⟨m, fun _ => 0, g⟩ (fun r => (∀ c : Dev Cert.Reference9Ideal.nD,
      r.2.mem (c.tc.loc Cert.Reference9Ideal.main_arg0) = m (c.tc.loc Cert.Reference9Ideal.main_arg0)
      ∧ r.2.mem (c.tc.loc Cert.Reference9Ideal.main_arg1) = m (c.tc.loc Cert.Reference9Ideal.main_arg1)
      ∧ r.2.mem (c.tc.loc Cert.Reference9Ideal.main_arg2) = m (c.tc.loc Cert.Reference9Ideal.main_arg2))
      ∧ r.2.sem = fun _ => 0) :=
  (θ_run Cert.Reference9Ideal.defs _ _).mono (fun r h => ⟨fun c => (h c).2.2.2, sem_eq_zero_of_no_sems (by decide) r.2⟩)
    (Cert.Reference9Ideal.Value.run (F := Ideal) m g)

end Cert.Forward.Query
-- ==== Proof.Forward.Out.lean ====
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Forward.Out

open Idealize.ShloMosaic Idealize.ShloMosaic.TcCoe Idealize.ShloMosaic.Tactic
open Idealize.ShloMosaic.StableHlo
open Cert.Kernel10Ideal Cert.Kernel10Ideal.Gen Cert.Kernel10Ideal.Value
open Cert.Reference10Ideal.Read (val_main_v0 val_main_v1)

/-! The attention's output projection: every block holds 256 rows of the reference's result. -/

private theorem hz2 : (![0, 0] : Fin 2 → ℕ) = fun _ => 0 := funext fun a => by fin_cases a <;> rfl

variable (m : (ℓ : Loc nD τ sig) → Buf (Elt Ideal) ℓ) (c : Dev nD)

/-- The arguments. -/
def H0 : (⟨S8192x1024, .f32⟩ : BufTy).Contents (Elt Ideal) := m (c.tc.loc main_arg0)
def O0 : (⟨S8192x1024, .f32⟩ : BufTy).Contents (Elt Ideal) := m (c.tc.loc main_arg1)
def A0 : (⟨S1024x1024, .f32⟩ : BufTy).Contents (Elt Ideal) := m (c.tc.loc main_arg2)

theorem V_arg0 : V m c main_arg0 = H0 m c := by after_reads_simp; rfl
theorem V_v0 : V m c main_v0 = O0 m c := by after_reads_simp; rfl
theorem V_v1 : V m c main_v1 = A0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![0, 0] := by decide +kernel
theorem ix_3 : ∀ t : Fin cfg0.N, win0_3.index t = ![t.val, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 256) (j : Fin 1024) : iblk m c 1 t (ix2 k j) = V m c main_v0 (ix2 (row t k) j) := by
  blk_simp [iblk]
  refine congrArg (V m c main_v0) (funext fun a => Fin.ext ?_)
  match a with
  | ⟨0, _⟩ => blk_simp [ix_1]; rfl
  | ⟨1, _⟩ => blk_simp [ix_1]

theorem blk_2 (t : Fin cfg0.N) (k : Fin 1024) (j : Fin 1024) : iblk m c 2 t (ix2 k j) = V m c main_v1 (ix2 k j) := by
  blk_simp [iblk]
  refine congrArg (V m c main_v1) (funext fun a => Fin.ext ?_)
  match a with
  | ⟨0, _⟩ => blk_simp [ix_2]
  | ⟨1, _⟩ => blk_simp [ix_2]

/-- The output of one block. -/
theorem out_blk (t : Fin cfg0.N) (i : Fin 256) (j : Fin 1024) :
    k0_pay1 (F := Ideal) (iblk m c 0 t) (iblk m c 1 t) (iblk m c 2 t) (ix2 i j) = val_main_v1 (F := Ideal) (H0 m c) (O0 m c) (A0 m c) (ix2 (row t i) j) := by
  have e0 := blk_0 m c t
  have e1 := blk_1 m c t
  have e2 := blk_2 m c t
  rw [V_arg0] at e0
  rw [V_v0] at e1
  rw [V_v1] at e2
  generalize iblk m c 0 t = x0 at *
  generalize iblk m c 1 t = x1 at *
  generalize iblk m c 2 t = x2 at *
  pointwise [k0_pay1]
  simp only [e0, e1, e2]
  symm
  pointwise [val_main_v1, val_main_v0]

theorem emb_3 (t : Fin cfg0.N) (i : Fin 256) (j : Fin 1024) : (win0_3.blk t).view.emb (ix2 i j) = ix2 (row t i) j := by
  refine funext fun a => Fin.ext ?_
  match a with
  | ⟨0, _⟩ => blk_simp [ix_3]; rfl
  | ⟨1, _⟩ => blk_simp [ix_3]

/-- The output. -/
theorem final_3 : (dats m 0 c).arrAt 3 cfg0.N = val_main_v1 (F := Ideal) (H0 m c) (O0 m c) (A0 m c) := by
  refine (dats m 0 c).arrAt_eq_of_covers 3 _ (by decide +kernel) fun t _ y => ?_
  obtain ⟨i, j, rfl⟩ : ∃ (i : Fin 256) (j : Fin 1024), y = ix2 i j := ⟨y 0, y 1, eq_ix2 y⟩
  blk_simp
  rw [after0_3]
  refine Eq.trans ?_ (congrArg (val_main_v1 (F := Ideal) (H0 m c) (O0 m c) (A0 m c)) (emb_3 t i j).symm)
  unfold out0_3
  rw [View.canon_unit_zero hz2]
  simp only [View.ld_unit_zero (S := S256x1024) hz2, View.ld_unit_zero (S := S1024x1024) hz2]
  exact out_blk m c t i j

theorem frame_reference (m : (ℓ : Loc Cert.Reference10Ideal.nD τ Cert.Reference10Ideal.sig) → Buf (Elt Ideal) ℓ) (g : Dev Cert.Reference10Ideal.nD → PrngReg) :
    θ_run (Cert.Reference10Ideal.defs (F := Ideal)) (onTc (τ := τ) (Cert.Reference10Ideal.main (F := Ideal))) ⟨m, fun _ => 0, g⟩ (fun r => (∀ c : Dev Cert.Reference10Ideal.nD,
      r.2.mem (c.tc.loc Cert.Reference10Ideal.main_arg0) = m (c.tc.loc Cert.Reference10Ideal.main_arg0)
      ∧ r.2.mem (c.tc.loc Cert.Reference10Ideal.main_arg1) = m (c.tc.loc Cert.Reference10Ideal.main_arg1)
      ∧ r.2.mem (c.tc.loc Cert.Reference10Ideal.main_arg2) = m (c.tc.loc Cert.Reference10Ideal.main_arg2))
      ∧ r.2.sem = fun _ => 0) :=
  (θ_run Cert.Reference10Ideal.defs _ _).mono (fun r h => ⟨fun c => (h c).2, sem_eq_zero_of_no_sems (by decide) r.2⟩)
    (Cert.Reference10Ideal.Value.run (F := Ideal) m g)

end Cert.Forward.Out
-- ==== Proof.Backward.QueryPoint.lean ====
module

public import proofs.«01_k».proof.Proof.Gen.Kernel11Ideal.Value
public import Idealize.ShloMosaic.Lib.Pipeline.ValueKit

@[expose] public section

set_option maxRecDepth 65536
set_option maxHeartbeats 4000000

noncomputable section

namespace Cert.Backward.Query

open Idealize.ShloMosaic Idealize.ShloMosaic.TcCoe Idealize.ShloMosaic.Tactic
open Cert.Kernel11Ideal Cert.Kernel11Ideal.Gen Cert.Kernel11Ideal.Value

/-! What one point of the query's backward pass leaves in its blocks. -/

private theorem hz2 : (![0, 0] : Fin 2 → ℕ) = fun _ => 0 := funext fun a => by fin_cases a <;> rfl

/-- The gradient of the input, over one block. -/
def inner (x0 x1 x2 : Vec Ideal S256x1024 .f32) (x3 : Vec Ideal S1x1024 .f32) (x4 : Vec Ideal S1024x1024 .bf16) : Vec Ideal S256x1024 .f32 :=
  k0_pay1 (k0_pay10 x2 x1 x3 x4) (k0_pay11 x2 x1 x3 x4) x0

/-- The sums for the gradient of the gain, one block's rows added. -/
def gain (x1 x2 : Vec Ideal S256x1024 .f32) (x4 : Vec Ideal S1024x1024 .bf16) (acc : Vec Ideal S8x1024 .f32) : Vec Ideal S8x1024 .f32 :=
  k0_pay2 x2 (k0_pay7 x2) (k0_pay8 x1 x4) acc

theorem inner_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) :
    out0_A_5 c i arg1 harg1 arg2 harg2 arg3 harg3 arg4 harg4 arg5 harg5 arg6 harg6 arg7 harg7 arg8 harg8 arg9 harg9 hc0 hc1 x0 x1 x2 x3 x4 = inner x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem inner_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    out0_B_5 c i arg1 harg1 arg2 harg2 arg3 harg3 arg4 harg4 arg5 harg5 arg6 harg6 arg7 harg7 arg8 harg8 arg9 harg9 hc0 hc1 x0 x1 x2 x3 x4 xs0 = inner x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem inner_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    out0_C_5 c i arg1 harg1 arg2 harg2 arg3 harg3 arg4 harg4 arg5 harg5 arg6 harg6 arg7 harg7 arg8 harg8 arg9 harg9 hc0 hc1 x0 x1 x2 x3 x4 xs0 = inner x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem scaled_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) :
    out0_A_6 c i arg1 harg1 arg2 harg2 arg3 harg3 arg4 harg4 arg5 harg5 arg6 harg6 arg7 harg7 arg8 harg8 arg9 harg9 hc0 hc1 x0 x1 x2 x3 x4 = k0_pay6 x1 := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem scaled_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    out0_B_6 c i arg1 harg1 arg2 harg2 arg3 harg3 arg4 harg4 arg5 harg5 arg6 harg6 arg7 harg7 arg8 harg8 arg9 harg9 hc0 hc1 x0 x1 x2 x3 x4 xs0 = k0_pay6 x1 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem scaled_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    out0_C_6 c i arg1 harg1 arg2 harg2 arg3 harg3 arg4 harg4 arg5 harg5 arg6 harg6 arg7 harg7 arg8 harg8 arg9 harg9 hc0 hc1 x0 x1 x2 x3 x4 xs0 = k0_pay6 x1 := by
  unfold out0_C_6
  rw [View.read_writes_eq_canon _ _ _ (cover0_C_6 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem gain_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) :
    sout0_A_0 c i arg1 harg1 arg2 harg2 arg3 harg3 arg4 harg4 arg5 harg5 arg6 harg6 arg7 harg7 arg8 harg8 arg9 harg9 hc0 hc1 x0 x1 x2 x3 x4 = gain x1 x2 x4 (k0_pay4 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem gain_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : ¬cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    sout0_B_0 c i arg1 harg1 arg2 harg2 arg3 harg3 arg4 harg4 arg5 harg5 arg6 harg6 arg7 harg7 arg8 harg8 arg9 harg9 hc0 hc1 x0 x1 x2 x3 x4 xs0 = gain x1 x2 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 hc0 hc1 x0 x1 x2 x3 x4 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem gain_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    sout0_C_0 c i arg1 harg1 arg2 harg2 arg3 harg3 arg4 harg4 arg5 harg5 arg6 harg6 arg7 harg7 arg8 harg8 arg9 harg9 hc0 hc1 x0 x1 x2 x3 x4 xs0 = gain x1 x2 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

theorem final_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S256x1024 .f32) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S8x1024 .f32) (harg9 : arg9.IsWhole) (hc0 : ¬cond0_0 i) (hc1 : cond0_1 i) (x0 : Vec Ideal S256x1024 .f32) (x1 : Vec Ideal S256x1024 .f32) (x2 : Vec Ideal S256x1024 .f32) (x3 : Vec Ideal S1x1024 .f32) (x4 : Vec Ideal S1024x1024 .bf16) (xs0 : Vec Ideal S8x1024 .f32) :
    out0_C_7 c i arg1 harg1 arg2 harg2 arg3 harg3 arg4 harg4 arg5 harg5 arg6 harg6 arg7 harg7 arg8 harg8 arg9 harg9 hc0 hc1 x0 x1 x2 x3 x4 xs0 = k0_pay3 (gain x1 x2 x4 xs0) := by
  unfold out0_C_7
  rw [View.read_writes_eq_canon _ _ _ (cover0_C_7 c i arg1 harg1 arg2 harg2 arg3 harg3 arg4 harg4 arg5 harg5 arg6 harg6 arg7 harg7 arg8 harg8 arg9 harg9 hc0 hc1 x0 x1 x2 x3 x4 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, View.ld_unit_zero (S := S256x1024) hz2, View.ld_unit_zero (S := S1x1024) hz2, View.ld_unit_zero (S := S1024x1024) hz2, View.ld_unit_zero (S := S8x1024) hz2]
  try rfl

end Cert.Backward.Query
-- ==== Proof.Backward.Query.lean ====
module

public import proofs.«01_k».proof.Proof.Backward.QueryPoint
public import proofs.«01_k».proof.Proof.Mixer.Claim
public import proofs.«01_k».proof.Proof.Gen.Reference11Ideal.Run
public import proofs.«01_k».proof.Proof.Gen.Reference11Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Backward.Query

open Idealize.ShloMosaic Idealize.ShloMosaic.TcCoe Idealize.ShloMosaic.Tactic
open Idealize.ShloMosaic.StableHlo
open Cert.Kernel11Ideal Cert.Kernel11Ideal.Gen Cert.Kernel11Ideal.Value
open Cert.Mixer (mean_cases squares_nonneg derivative low rows_regroup)

/-! The query projection's backward pass against the reference. -/

open Cert.Reference11Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_v37 val_main_v38 val_main_v39 val_main_v40 val_main_v41 val_main_v42 val_main_v43 val_main_v44 val_main_v45 val_main_v46 val_main_cst val_main_cst_0 val_main_cst_1 val_main_cst_2 val_main_cst_3 val_main_cst_4 val_main_cst_5 val_main_cst_6 val_main_cst_7 val_main_cst_8 val_main_cst_9 val_main_cst_10)

section

variable (x0 x1 x2 : (⟨S8192x1024, .f32⟩ : BufTy).Contents (Elt Ideal)) (x3 : (⟨S1024, .f32⟩ : BufTy).Contents (Elt Ideal)) (x4 : (⟨S1024x1024, .f32⟩ : BufTy).Contents (Elt Ideal))

theorem mean_at (r : Fin 8192) (u : Fin 1) : val_main_v7 (F := Ideal) x2 (ix2 r u)
    = Ideal.div (∑ x : Fin 1024, x2 (ix2 r x) * x2 (ix2 r x)) (Ideal.ofBits .f32 0x44800000#32) + Ideal.ofBits .f32 0x358637BD#32 := by
  pointwise [val_main_v7, val_main_v6, val_main_v5, val_main_v4, val_main_v3, val_main_v2, val_main_v1, val_main_cst_0, val_main_cst_1, val_main_cst_2]

theorem scale_at (r : Fin 8192) (u : Fin 1) : val_main_v8 (F := Ideal) x2 (ix2 r u) = Ideal.rsqrt (val_main_v7 (F := Ideal) x2 (ix2 r u)) := by
  pointwise [val_main_v8]

theorem normal_at (r : Fin 8192) (j : Fin 1024) : val_main_v23 (F := Ideal) x1 x4 (ix2 r j)
    = ∑ x : Fin 1024, x1 (ix2 r x) * Ideal.ofBits .f32 0x3E000000#32 * x4 (ix2 j x) := by
  pointwise [val_main_v23, val_main_v22, val_main_v21, val_main_cst_5]

theorem gained_at (r : Fin 8192) (j : Fin 1024) : val_main_v28 (F := Ideal) x1 x3 x4 (ix2 r j) = val_main_v23 (F := Ideal) x1 x4 (ix2 r j) * x3 (ix1 j) := by
  pointwise [val_main_v28, val_main_v27, val_main_v14]

theorem term_at (r : Fin 8192) (j : Fin 1024) : val_main_v24 (F := Ideal) x1 x2 x4 (ix2 r j) = val_main_v23 (F := Ideal) x1 x4 (ix2 r j) * x2 (ix2 r j) * val_main_v8 (F := Ideal) x2 (ix2 r 0) := by
  pointwise [val_main_v24, val_main_v13, val_main_v12]
  rw [mul_comm, mul_assoc]

theorem gain_at (u : Fin 1) (j : Fin 1024) : val_main_v46 (F := Ideal) x1 x2 x4 (ix2 u j) = ∑ x : Fin 8192, val_main_v24 (F := Ideal) x1 x2 x4 (ix2 x j) := by
  pointwise [val_main_v46, val_main_v29, val_main_v26, val_main_v25, val_main_cst_6, val_main_cst_7]
  exact Fin.sum_univ_one _

theorem input_at (r : Fin 8192) (j : Fin 1024) : val_main_v44 (F := Ideal) x0 x1 x2 x3 x4 (ix2 r j)
    = x0 (ix2 r j) + (val_main_v8 (F := Ideal) x2 (ix2 r 0) * val_main_v28 (F := Ideal) x1 x3 x4 (ix2 r j)
      - x2 (ix2 r j) * (val_main_v8 (F := Ideal) x2 (ix2 r 0) * val_main_v8 (F := Ideal) x2 (ix2 r 0) * val_main_v8 (F := Ideal) x2 (ix2 r 0))
        * Ideal.div (∑ x : Fin 1024, val_main_v28 (F := Ideal) x1 x3 x4 (ix2 r x) * x2 (ix2 r x)) (Ideal.ofBits .f32 0x44800000#32)) := by
  have hy : val_main_v7 (F := Ideal) x2 (ix2 r 0) = ⊤ ∨ ∃ z : ℝ, 0 < z ∧ val_main_v7 (F := Ideal) x2 (ix2 r 0) = (z : EReal) := by
    rw [mean_at]
    exact mean_cases _ (squares_nonneg fun x => x2 (ix2 r x))
  rw [scale_at, derivative _ _ _ _ _ hy]
  pointwise [val_main_v44, val_main_v43, val_main_v42, val_main_v41, val_main_v40, val_main_v39, val_main_v38, val_main_v37, val_main_v36, val_main_v35, val_main_v34, val_main_v33, val_main_v32, val_main_v31, val_main_v30, val_main_v11, val_main_v10, val_main_v9, val_main_v8, val_main_cst_3, val_main_cst_8, val_main_cst_9, val_main_cst_10]
  simp only [mul_comm (x2 _) (val_main_v28 (F := Ideal) x1 x3 x4 _)]
  simp only [Fin.sum_univ_one]

end

variable (m : (ℓ : Loc nD τ sig) → Buf (Elt Ideal) ℓ) (c : Dev nD)

/-- The arguments. -/
def D0 : (⟨S8192x1024, .f32⟩ : BufTy).Contents (Elt Ideal) := m (c.tc.loc main_arg0)
def Q0 : (⟨S8192x1024, .f32⟩ : BufTy).Contents (Elt Ideal) := m (c.tc.loc main_arg1)
def H0 : (⟨S8192x1024, .f32⟩ : BufTy).Contents (Elt Ideal) := m (c.tc.loc main_arg2)
def G0 : (⟨S1024, .f32⟩ : BufTy).Contents (Elt Ideal) := m (c.tc.loc main_arg3)
def A0 : (⟨S1024x1024, .f32⟩ : BufTy).Contents (Elt Ideal) := m (c.tc.loc main_arg4)

theorem V_arg0 : V m c main_arg0 = D0 m c := by after_reads_simp; rfl
theorem V_arg1 : V m c main_arg1 = Q0 m c := by after_reads_simp; rfl
theorem V_arg2 : V m c main_arg2 = H0 m c := by after_reads_simp; rfl
theorem V_v0 (j : Fin 1024) : V m c main_v0 (ix2 0 j) = G0 m c (ix1 j) := by
  have e : V m c main_v0 = shapeCast S1x1024 (G0 m c) shapeCasts_S1024_S1x1024 := by after_reads_simp; rfl
  rw [e]
  pointwise
theorem V_v1 : V m c main_v1 = A0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![0, 0] := by decide +kernel
theorem ix_4 : ∀ t : Fin cfg0.N, win0_4.index t = ![0, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 256) (j : Fin 1024) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

theorem blk_2 (t : Fin cfg0.N) (k : Fin 256) (j : Fin 1024) : iblk m c 2 t (ix2 k j) = V m c main_arg2 (ix2 (row t k) j) := by
  blk_simp [iblk]
  refine congrArg (V m c main_arg2) (funext fun a => Fin.ext ?_)
  match a with
  | ⟨0, _⟩ => blk_simp [ix_2]; rfl
  | ⟨1, _⟩ => blk_simp [ix_2]

theorem blk_3 (t : Fin cfg0.N) (k : Fin 1) (j : Fin 1024) : iblk m c 3 t (ix2 k j) = V m c main_v0 (ix2 k j) := by
  blk_simp [iblk]
  refine congrArg (V m c main_v0) (funext fun a => Fin.ext ?_)
  match a with
  | ⟨0, _⟩ => blk_simp [ix_3]
  | ⟨1, _⟩ => blk_simp [ix_3]

theorem blk_4 (t : Fin cfg0.N) (k : Fin 1024) (j : Fin 1024) : iblk m c 4 t (ix2 k j) = V m c main_v1 (ix2 k j) := by
  blk_simp [iblk]
  refine congrArg (V m c main_v1) (funext fun a => Fin.ext ?_)
  match a with
  | ⟨0, _⟩ => blk_simp [ix_4]
  | ⟨1, _⟩ => blk_simp [ix_4]

theorem scale_blk (t : Fin cfg0.N) (i : Fin 256) (u : Fin 1) :
    k0_pay7 (F := Ideal) (iblk m c 2 t) (ix2 i u) = val_main_v8 (F := Ideal) (H0 m c) (ix2 (row t i) 0) := by
  have e2 := blk_2 m c t
  rw [V_arg2] at e2
  generalize iblk m c 2 t = x2 at *
  pointwise [k0_pay7]
  simp only [e2]
  rw [scale_at, mean_at]

/-- The query's cotangent, scaled. -/
theorem scaled_blk (t : Fin cfg0.N) (i : Fin 256) (j : Fin 1024) :
    k0_pay6 (F := Ideal) (iblk m c 1 t) (ix2 i j) = val_main_v45 (F := Ideal) (Q0 m c) (ix2 (row t i) j) := by
  have e1 := blk_1 m c t
  rw [V_arg1] at e1
  generalize iblk m c 1 t = x1 at *
  pointwise [k0_pay6, k0_pay5]
  rw [e1]
  symm
  pointwise [val_main_v45, val_main_v22, val_main_v21, val_main_cst_5]

theorem normal_blk (t : Fin cfg0.N) (i : Fin 256) (j : Fin 1024) :
    k0_pay8 (F := Ideal) (iblk m c 1 t) (iblk m c 4 t) (ix2 i j) = val_main_v23 (F := Ideal) (Q0 m c) (A0 m c) (ix2 (row t i) j) := by
  have e1 := blk_1 m c t
  have e4 := blk_4 m c t
  rw [V_arg1] at e1
  rw [V_v1] at e4
  generalize iblk m c 1 t = x1 at *
  generalize iblk m c 4 t = x4 at *
  pointwise [k0_pay8, k0_pay5]
  simp only [e1, e4]
  exact (normal_at ..).symm

theorem gained_blk (t : Fin cfg0.N) (i : Fin 256) (j : Fin 1024) :
    k0_pay9 (F := Ideal) (iblk m c 1 t) (iblk m c 3 t) (iblk m c 4 t) (ix2 i j) = val_main_v28 (F := Ideal) (Q0 m c) (G0 m c) (A0 m c) (ix2 (row t i) j) := by
  have e3 : iblk m c 3 t (ix2 0 j) = G0 m c (ix1 j) := (blk_3 m c t 0 j).trans (V_v0 m c j)
  have e8 := normal_blk m c t
  generalize iblk m c 1 t = x1 at *
  generalize iblk m c 3 t = x3 at *
  generalize iblk m c 4 t = x4 at *
  pointwise [k0_pay9]
  rw [e3, e8]
  exact (gained_at ..).symm

/-- The gradient of the input over one block is the reference's. -/
theorem inner_blk (t : Fin cfg0.N) (i : Fin 256) (j : Fin 1024) :
    inner (iblk m c 0 t) (iblk m c 1 t) (iblk m c 2 t) (iblk m c 3 t) (iblk m c 4 t) (ix2 i j) = val_main_v44 (F := Ideal) (D0 m c) (Q0 m c) (H0 m c) (G0 m c) (A0 m c) (ix2 (row t i) j) := by
  have e0 := blk_0 m c t
  have e2 := blk_2 m c t
  rw [V_arg0] at e0
  rw [V_arg2] at e2
  have e7 := scale_blk m c t
  have e9 := gained_blk m c t
  unfold inner
  generalize iblk m c 0 t = x0 at *
  generalize iblk m c 1 t = x1 at *
  generalize iblk m c 2 t = x2 at *
  generalize iblk m c 3 t = x3 at *
  generalize iblk m c 4 t = x4 at *
  pointwise [k0_pay1, k0_pay10, k0_pay11]
  simp only [e0, e2, e7, e9]
  exact (input_at ..).symm

theorem gain_blk (t : Fin cfg0.N) (acc : Vec Ideal S8x1024 .f32) (s : Fin 8) (j : Fin 1024) :
    gain (iblk m c 1 t) (iblk m c 2 t) (iblk m c 4 t) acc (ix2 s j)
      = acc (ix2 s j) + ∑ q : Fin 32, val_main_v24 (F := Ideal) (Q0 m c) (H0 m c) (A0 m c) (ix2 (row t (low q s)) j) := by
  have e2 := blk_2 m c t
  rw [V_arg2] at e2
  have e7 := scale_blk m c t
  have e8 := normal_blk m c t
  unfold gain
  generalize k0_pay7 (F := Ideal) (iblk m c 2 t) = r at *
  generalize k0_pay8 (F := Ideal) (iblk m c 1 t) (iblk m c 4 t) = w at *
  generalize iblk m c 2 t = x2 at *
  pointwise [k0_pay2]
  simp only [e2, e7, e8]
  exact congrArg (acc (ix2 s j) + ·) (Finset.sum_congr rfl fun q _ => (term_at (Q0 m c) (H0 m c) (A0 m c) (row t (low q s)) j).symm)

theorem inner_outs (t : Fin cfg0.N) : (outsAt0 m c t.val t.isLt).1
    = inner (iblk m c 0 t) (iblk m c 1 t) (iblk m c 2 t) (iblk m c 3 t) (iblk m c 4 t) := by
  by_cases h0 : t.val % 32 = 0
  · have h1 : ¬t.val % 32 = 31 := by omega
    rw [outsAt0_A m c t h0 h1]
    dsimp only
    rw [inner_A]
  · by_cases h1 : t.val % 32 = 31
    · rw [outsAt0_C m c t h0 h1]
      dsimp only
      rw [inner_C]
    · rw [outsAt0_B m c t h0 h1]
      dsimp only
      rw [inner_B]

theorem scaled_outs (t : Fin cfg0.N) : (outsAt0 m c t.val t.isLt).2.1
    = k0_pay6 (iblk m c 1 t) := by
  by_cases h0 : t.val % 32 = 0
  · have h1 : ¬t.val % 32 = 31 := by omega
    rw [outsAt0_A m c t h0 h1]
    dsimp only
    rw [scaled_A]
  · by_cases h1 : t.val % 32 = 31
    · rw [outsAt0_C m c t h0 h1]
      dsimp only
      rw [scaled_C]
    · rw [outsAt0_B m c t h0 h1]
      dsimp only
      rw [scaled_B]

theorem inner_eq : val_main_v44 (F := Ideal) (D0 m c) (Q0 m c) (H0 m c) (G0 m c) (A0 m c) = G5 m c := by
  funext y
  obtain ⟨r, j, rfl⟩ : ∃ (r : Fin 8192) (j : Fin 1024), y = ix2 r j := ⟨y 0, y 1, eq_ix2 y⟩
  have hp : pt5Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc5Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G5
  rw [dif_pos (by rw [hp]; exact hlt), hl]
  have e : ∀ (n : ℕ) (h : n < cfg0.N) (i : S256x1024.Idx), (Pipeline.accAt (fun n h => stAt0 m c n h junk0) (stAt0 m c) 0 n (by omega)).1 i = (outsAt0 m c n h).1 i :=
    fun n h i => by rw [outsAt0_sweep m c n h]
  rw [e _ (by rw [hp]; exact hlt)]
  have e2 : ∀ (n : ℕ) (h : n < cfg0.N), n = r.val / 256 → (outsAt0 m c n h).1 (ix2 (⟨r.val % 256, Nat.mod_lt _ (by decide)⟩ : Fin 256) j) = val_main_v44 (F := Ideal) (D0 m c) (Q0 m c) (H0 m c) (G0 m c) (A0 m c) (ix2 r j) := by
    intro n h hn
    rw [inner_outs m c ⟨n, h⟩, inner_blk]
    refine congrArg (fun r => val_main_v44 (F := Ideal) (D0 m c) (Q0 m c) (H0 m c) (G0 m c) (A0 m c) (ix2 r j)) (Fin.ext ?_)
    show n * 256 + r.val % 256 = r.val
    omega
  exact (e2 _ _ hp).symm

theorem scaled_eq : val_main_v45 (F := Ideal) (Q0 m c) = G6 m c := by
  funext y
  obtain ⟨r, j, rfl⟩ : ∃ (r : Fin 8192) (j : Fin 1024), y = ix2 r j := ⟨y 0, y 1, eq_ix2 y⟩
  have hp : pt6Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc6Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G6
  rw [dif_pos (by rw [hp]; exact hlt), hl]
  have e : ∀ (n : ℕ) (h : n < cfg0.N) (i : S256x1024.Idx), (Pipeline.accAt (fun n h => stAt0 m c n h junk0) (stAt0 m c) 0 n (by omega)).2.1 i = (outsAt0 m c n h).2.1 i :=
    fun n h i => by rw [outsAt0_sweep m c n h]
  rw [e _ (by rw [hp]; exact hlt)]
  have e2 : ∀ (n : ℕ) (h : n < cfg0.N), n = r.val / 256 → (outsAt0 m c n h).2.1 (ix2 (⟨r.val % 256, Nat.mod_lt _ (by decide)⟩ : Fin 256) j) = val_main_v45 (F := Ideal) (Q0 m c) (ix2 r j) := by
    intro n h hn
    rw [scaled_outs m c ⟨n, h⟩, scaled_blk]
    refine congrArg (fun r => val_main_v45 (F := Ideal) (Q0 m c) (ix2 r j)) (Fin.ext ?_)
    show n * 256 + r.val % 256 = r.val
    omega
  exact (e2 _ _ hp).symm

/-- The sums of one block. -/
def part (t : Fin cfg0.N) (s : Fin 8) (j : Fin 1024) : EReal := ∑ q : Fin 32, val_main_v24 (F := Ideal) (Q0 m c) (H0 m c) (A0 m c) (ix2 (row t (low q s)) j)

theorem gain_first (h : 0 < cfg0.N) (s : Fin 8) (j : Fin 1024) : (outsAt0 m c 0 h).2.2.2 (ix2 s j) = part m c ⟨0, h⟩ s j := by
  rw [outsAt0_A m c ⟨0, h⟩ (show 0 % 32 = 0 by decide) (show ¬0 % 32 = 31 by decide)]
  dsimp only
  rw [gain_A, gain_blk]
  refine (congrArg (· + _) ?_).trans (zero_add _)
  pointwise [k0_pay4]

theorem gain_next (n : ℕ) (h : n + 1 < cfg0.N) (s : Fin 8) (j : Fin 1024) : (outsAt0 m c (n + 1) h).2.2.2 (ix2 s j)
    = (outsAt0 m c n (Nat.lt_of_succ_lt h)).2.2.2 (ix2 s j) + part m c ⟨n + 1, h⟩ s j := by
  have hN : n + 1 < 32 := lt_of_lt_of_eq h N_0
  have h0 : ¬(n + 1) % 32 = 0 := by omega
  by_cases h1 : (n + 1) % 32 = 31
  · rw [outsAt0_C m c ⟨n + 1, h⟩ h0 h1]
    dsimp only
    rw [gain_C, gain_blk]
    rfl
  · rw [outsAt0_B m c ⟨n + 1, h⟩ h0 h1]
    dsimp only
    rw [gain_B, gain_blk]
    rfl

/-- The sums carried after a point: those of every block up to it. -/
theorem gain_sum (n : ℕ) (h : n < cfg0.N) (s : Fin 8) (j : Fin 1024) : (outsAt0 m c n h).2.2.2 (ix2 s j)
    = ∑ t : Fin (n + 1), part m c ⟨t.val, Nat.lt_of_lt_of_le t.isLt h⟩ s j := by
  induction n with
  | zero => rw [gain_first]; exact (Fin.sum_univ_one (M := EReal) fun t => part m c ⟨t.val, Nat.lt_of_lt_of_le t.isLt h⟩ s j).symm
  | succ n ih =>
    rw [gain_next, ih, Fin.sum_univ_castSucc (n := n + 1)]
    rfl

theorem final_outs (h : 31 < cfg0.N) (u : Fin 1) (j : Fin 1024) : (outsAt0 m c 31 h).2.2.1 (ix2 u j)
    = ∑ s : Fin 8, (outsAt0 m c 31 h).2.2.2 (ix2 s j) := by
  rw [outsAt0_C m c ⟨31, h⟩ (show ¬31 % 32 = 0 by decide) (show 31 % 32 = 31 by decide)]
  dsimp only
  rw [gain_C, final_C]
  pointwise [k0_pay3]

theorem gain_eq : val_main_v46 (F := Ideal) (Q0 m c) (H0 m c) (A0 m c) = G7 m c := by
  have h31 : 31 < cfg0.N := lt_of_lt_of_eq (by decide) N_0.symm
  rw [G7_last, ← outsAt0_sweep m c 31 h31]
  funext y
  obtain ⟨u, j, rfl⟩ : ∃ (u : Fin 1) (j : Fin 1024), y = ix2 u j := ⟨y 0, y 1, eq_ix2 y⟩
  rw [final_outs, gain_at, ← rows_regroup]
  refine Finset.sum_congr rfl fun s _ => ?_
  rw [gain_sum]
  rfl

theorem frame_reference (m : (ℓ : Loc Cert.Reference11Ideal.nD τ Cert.Reference11Ideal.sig) → Buf (Elt Ideal) ℓ) (g : Dev Cert.Reference11Ideal.nD → PrngReg) :
    θ_run (Cert.Reference11Ideal.defs (F := Ideal)) (onTc (τ := τ) (Cert.Reference11Ideal.main (F := Ideal))) ⟨m, fun _ => 0, g⟩ (fun r => (∀ c : Dev Cert.Reference11Ideal.nD,
      r.2.mem (c.tc.loc Cert.Reference11Ideal.main_arg0) = m (c.tc.loc Cert.Reference11Ideal.main_arg0)
      ∧ r.2.mem (c.tc.loc Cert.Reference11Ideal.main_arg1) = m (c.tc.loc Cert.Reference11Ideal.main_arg1)
      ∧ r.2.mem (c.tc.loc Cert.Reference11Ideal.main_arg2) = m (c.tc.loc Cert.Reference11Ideal.main_arg2)
      ∧ r.2.mem (c.tc.loc Cert.Reference11Ideal.main_arg3) = m (c.tc.loc Cert.Reference11Ideal.main_arg3)
      ∧ r.2.mem (c.tc.loc Cert.Reference11Ideal.main_arg4) = m (c.tc.loc Cert.Reference11Ideal.main_arg4))
      ∧ r.2.sem = fun _ => 0) :=
  (θ_run Cert.Reference11Ideal.defs _ _).mono (fun r h => ⟨fun c => (h c).2.2.2, sem_eq_zero_of_no_sems (by decide) r.2⟩)
    (Cert.Reference11Ideal.Value.run (F := Ideal) m g)

end Cert.Backward.Query
-- ==== Proof.Backward.EmbedPoint.lean ====
module

public import proofs.«01_k».proof.Proof.Gen.Kernel13Ideal.Value
public import Idealize.ShloMosaic.Lib.Pipeline.ValueKit

@[expose] public section

set_option maxRecDepth 65536
set_option maxHeartbeats 4000000

noncomputable section

namespace Cert.Backward.Embed

open Idealize.ShloMosaic Idealize.ShloMosaic.TcCoe Idealize.ShloMosaic.Tactic
open Cert.Kernel13Ideal Cert.Kernel13Ideal.Gen Cert.Kernel13Ideal.Value

/-! What one point of the embedding's backward pass leaves in its blocks. -/

private theorem hz2 : (![0, 0] : Fin 2 → ℕ) = fun _ => 0 := funext fun a => by fin_cases a <;> rfl

/-- The gradient of the input, over one block. -/
def inner (x0 x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) : Vec Ideal S256x1024 .f32 :=
  k0_pay2 x0 x1 (k0_pay6 x2) (k0_pay9 x0 x4 x5 x6) (k0_pay11 x1) x3

/-- The sums for the gradient of the gain, one block's rows added. -/
def gain (x0 x1 : Vec Ideal S256x1024 .f32) (x3 : Vec Ideal S1024x1024 .bf16) (x4 : Vec Ideal S256x1024 .f32) (x5 : Vec Ideal S256x256 .f32) (x6 : Vec Ideal S256x1024 .bf16) (acc : Vec Ideal S8x1024 .f32) : Vec Ideal S8x1024 .f32 :=
  k0_pay3 x1 (k0_pay9 x0 x4 x5 x6) (k0_pay11 x1) x3 acc

theorem inner_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) :
    out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = inner x0 x1 x2 x3 x4 x5 x6 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem inner_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = inner x0 x1 x2 x3 x4 x5 x6 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem inner_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = inner x0 x1 x2 x3 x4 x5 x6 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gate_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k0_pay10 x0 x4 x5 x6 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gate_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = k0_pay10 x0 x4 x5 x6 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gate_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = k0_pay10 x0 x4 x5 x6 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem embed_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = k0_pay8 x0 x4 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem embed_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = k0_pay8 x0 x4 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem embed_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = k0_pay8 x0 x4 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gain_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 = gain x0 x1 x3 x4 x5 x6 (k0_pay5 (F := Ideal)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gain_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : ¬cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = gain x0 x1 x3 x4 x5 x6 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem gain_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = gain x0 x1 x3 x4 x5 x6 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

theorem final_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x256 .f32) (harg6 : arg6.IsWhole) (arg7 : Memref sig .tc .vmem S256x1024 .bf16) (harg7 : arg7.IsWhole) (arg8 : Memref sig .tc .vmem S256x1024 .f32) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S8x1024 .f32) (harg12 : arg12.IsWhole) (hc0 : ¬cond0_0 i) (hc1 : cond0_1 i) (x0 : Vec Ideal S256x1024 .f32) (x1 : Vec Ideal S256x1024 .f32) (x2 : Vec Ideal S1x1024 .f32) (x3 : Vec Ideal S1024x1024 .bf16) (x4 : Vec Ideal S256x1024 .f32) (x5 : Vec Ideal S256x256 .f32) (x6 : Vec Ideal S256x1024 .bf16) (xs0 : Vec Ideal S8x1024 .f32) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0 = k0_pay4 (gain x0 x1 x3 x4 x5 x6 xs0) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C
  dsimp only
  sl_unfold_words
  first | rw [View.canon_unit_zero hz2] | rw [View.canon_cons_unit_zero (S := S8x1024) hz2]
  simp only [View.readCov_unit_zero (S := S8x1024) _ hz2, View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1024x1024) hz2, View.ld_unit_zero (S := S256x256) hz2, View.ld_unit_zero (S := S8x1024) hz2]
  try rfl

end Cert.Backward.Embed
-- ==== Proof.Backward.Embed.lean ====
module

public import proofs.«01_k».proof.Proof.Backward.EmbedPoint
public import proofs.«01_k».proof.Proof.Mixer.Claim
public import proofs.«01_k».proof.Proof.Gen.Reference13Ideal.Run
public import proofs.«01_k».proof.Proof.Gen.Reference13Ideal.Read
public import proofs.«01_k».proof.Proof.Gen.Reference8Ideal.Read
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Backward.Embed

open Idealize.ShloMosaic Idealize.ShloMosaic.TcCoe Idealize.ShloMosaic.Tactic
open Idealize.ShloMosaic.StableHlo
open Cert.Kernel13Ideal Cert.Kernel13Ideal.Gen Cert.Kernel13Ideal.Value
open Cert.Mixer (mean_cases squares_nonneg derivative low rows_regroup)

/-! The layer embedding's backward pass against the reference. -/

open Cert.Reference13Ideal.Read (val_main_v0 val_main_v1 val_main_v2 val_main_v3 val_main_v4 val_main_v5 val_main_v6 val_main_v7 val_main_v8 val_main_v9 val_main_v10 val_main_v11 val_main_v12 val_main_v13 val_main_v14 val_main_v15 val_main_v16 val_main_v17 val_main_v18 val_main_v19 val_main_v20 val_main_v21 val_main_v22 val_main_v23 val_main_v24 val_main_v25 val_main_v26 val_main_v27 val_main_v28 val_main_v29 val_main_v30 val_main_v31 val_main_v32 val_main_v33 val_main_v34 val_main_v35 val_main_v36 val_main_v37 val_main_v38 val_main_v39 val_main_v40 val_main_v41 val_main_v42 val_main_v43 val_main_v44 val_main_v45 val_main_v46 val_main_v47 val_main_v48 val_main_v49 val_main_v50 val_main_v51 val_main_v52 val_main_v53 val_main_v54 val_main_v55 val_main_v56 val_main_v57 val_main_v58 val_main_v59 val_main_v60 val_main_cst val_main_cst_0 val_main_cst_1 val_main_cst_2 val_main_cst_3 val_main_cst_4 val_main_cst_5 val_main_cst_6 val_main_cst_7 val_main_cst_8 val_main_cst_9 val_main_cst_10 val_main_cst_11)

section

variable (x0 x1 : (⟨S8192x1024, .f32⟩ : BufTy).Contents (Elt Ideal)) (x2 : (⟨S1024, .f32⟩ : BufTy).Contents (Elt Ideal)) (x3 : (⟨S1024x1024, .f32⟩ : BufTy).Contents (Elt Ideal)) (x4 : (⟨S8192x256, .f32⟩ : BufTy).Contents (Elt Ideal)) (x5 : (⟨S256x1024, .f32⟩ : BufTy).Contents (Elt Ideal))

theorem mean_at (r : Fin 8192) (u : Fin 1) : val_main_v7 (F := Ideal) x1 (ix2 r u)
    = Ideal.div (∑ x : Fin 1024, x1 (ix2 r x) * x1 (ix2 r x)) (Ideal.ofBits .f32 0x44800000#32) + Ideal.ofBits .f32 0x358637BD#32 := by
  pointwise [val_main_v7, val_main_v6, val_main_v5, val_main_v4, val_main_v3, val_main_v2, val_main_v1, val_main_cst_0, val_main_cst_1, val_main_cst_2]

theorem scale_at (r : Fin 8192) (u : Fin 1) : val_main_v8 (F := Ideal) x1 (ix2 r u) = Ideal.rsqrt (val_main_v7 (F := Ideal) x1 (ix2 r u)) := by
  pointwise [val_main_v8]

theorem slope_at (r : Fin 8192) (j : Fin 1024) : val_main_v35 (F := Ideal) x0 x1 x2 x3 x4 x5 (ix2 r j)
    = x0 (ix2 r j) * (∑ k : Fin 256, x4 (ix2 r k) * x5 (ix2 k j)) * val_main_v24 (F := Ideal) x1 x2 x3 (ix2 r j)
      * (1 - val_main_v24 (F := Ideal) x1 x2 x3 (ix2 r j)) := by
  pointwise [val_main_v35, val_main_v34, val_main_v32, val_main_v29, val_main_v28, val_main_v27, val_main_v26, val_main_v25, val_main_v0, val_main_cst, val_main_cst_6]
  rw [← mul_assoc]

theorem normal_at (r : Fin 8192) (j : Fin 1024) : val_main_v36 (F := Ideal) x0 x1 x2 x3 x4 x5 (ix2 r j)
    = ∑ x : Fin 1024, val_main_v35 (F := Ideal) x0 x1 x2 x3 x4 x5 (ix2 r x) * x3 (ix2 j x) := by
  pointwise [val_main_v36]

/-- The gate as the host computes it before the call, and as the reference does. -/
theorem gate_at (r : Fin 8192) (j : Fin 1024) : Cert.Reference8Ideal.Read.val_main_v19 (F := Ideal) x1 x2 x3 (ix2 r j)
    = val_main_v24 (F := Ideal) x1 x2 x3 (ix2 r j) := by
  pointwise [Cert.Reference8Ideal.Read.val_main_v19, Cert.Reference8Ideal.Read.val_main_v18, Cert.Reference8Ideal.Read.val_main_v17, Cert.Reference8Ideal.Read.val_main_v16, Cert.Reference8Ideal.Read.val_main_v15, Cert.Reference8Ideal.Read.val_main_v14, Cert.Reference8Ideal.Read.val_main_v13, Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0, Cert.Reference8Ideal.Read.val_main_cst, Cert.Reference8Ideal.Read.val_main_cst_0, Cert.Reference8Ideal.Read.val_main_cst_1, Cert.Reference8Ideal.Read.val_main_cst_2, Cert.Reference8Ideal.Read.val_main_cst_3]
  symm
  pointwise [val_main_v24, val_main_v23, val_main_v22, val_main_v21, val_main_v20, val_main_v19, val_main_v18, val_main_v17, val_main_v16, val_main_v15, val_main_v14, val_main_v13, val_main_v12, val_main_v8, val_main_v7, val_main_v6, val_main_v5, val_main_v4, val_main_v3, val_main_v2, val_main_v1, val_main_v0, val_main_cst, val_main_cst_0, val_main_cst_1, val_main_cst_2, val_main_cst_4, val_main_cst_5]

theorem gained_at (r : Fin 8192) (j : Fin 1024) : val_main_v41 (F := Ideal) x0 x1 x2 x3 x4 x5 (ix2 r j) = val_main_v36 (F := Ideal) x0 x1 x2 x3 x4 x5 (ix2 r j) * x2 (ix1 j) := by
  pointwise [val_main_v41, val_main_v40, val_main_v14]

theorem term_at (r : Fin 8192) (j : Fin 1024) : val_main_v37 (F := Ideal) x0 x1 x2 x3 x4 x5 (ix2 r j) = val_main_v36 (F := Ideal) x0 x1 x2 x3 x4 x5 (ix2 r j) * x1 (ix2 r j) * val_main_v8 (F := Ideal) x1 (ix2 r 0) := by
  pointwise [val_main_v37, val_main_v13, val_main_v12]
  rw [mul_comm, mul_assoc]

theorem gain_at (u : Fin 1) (j : Fin 1024) : val_main_v60 (F := Ideal) x0 x1 x2 x3 x4 x5 (ix2 u j) = ∑ x : Fin 8192, val_main_v37 (F := Ideal) x0 x1 x2 x3 x4 x5 (ix2 x j) := by
  pointwise [val_main_v60, val_main_v42, val_main_v39, val_main_v38, val_main_cst_7, val_main_cst_8]
  exact Fin.sum_univ_one _

theorem input_at (r : Fin 8192) (j : Fin 1024) : val_main_v57 (F := Ideal) x0 x1 x2 x3 x4 x5 (ix2 r j)
    = x0 (ix2 r j) + (val_main_v8 (F := Ideal) x1 (ix2 r 0) * val_main_v41 (F := Ideal) x0 x1 x2 x3 x4 x5 (ix2 r j)
      - x1 (ix2 r j) * (val_main_v8 (F := Ideal) x1 (ix2 r 0) * val_main_v8 (F := Ideal) x1 (ix2 r 0) * val_main_v8 (F := Ideal) x1 (ix2 r 0))
        * Ideal.div (∑ x : Fin 1024, val_main_v41 (F := Ideal) x0 x1 x2 x3 x4 x5 (ix2 r x) * x1 (ix2 r x)) (Ideal.ofBits .f32 0x44800000#32)) := by
  have hy : val_main_v7 (F := Ideal) x1 (ix2 r 0) = ⊤ ∨ ∃ z : ℝ, 0 < z ∧ val_main_v7 (F := Ideal) x1 (ix2 r 0) = (z : EReal) := by
    rw [mean_at]
    exact mean_cases _ (squares_nonneg fun x => x1 (ix2 r x))
  rw [scale_at, derivative _ _ _ _ _ hy]
  pointwise [val_main_v57, val_main_v56, val_main_v55, val_main_v54, val_main_v53, val_main_v52, val_main_v51, val_main_v50, val_main_v49, val_main_v48, val_main_v47, val_main_v46, val_main_v45, val_main_v44, val_main_v43, val_main_v11, val_main_v10, val_main_v9, val_main_v8, val_main_cst_3, val_main_cst_9, val_main_cst_10, val_main_cst_11]
  simp only [mul_comm (x1 _) (val_main_v41 (F := Ideal) x0 x1 x2 x3 x4 x5 _)]
  simp only [Fin.sum_univ_one]

end

variable (m : (ℓ : Loc nD τ sig) → Buf (Elt Ideal) ℓ) (c : Dev nD)

/-- The arguments. -/
def D0 : (⟨S8192x1024, .f32⟩ : BufTy).Contents (Elt Ideal) := m (c.tc.loc main_arg0)
def H0 : (⟨S8192x1024, .f32⟩ : BufTy).Contents (Elt Ideal) := m (c.tc.loc main_arg1)
def G0 : (⟨S1024, .f32⟩ : BufTy).Contents (Elt Ideal) := m (c.tc.loc main_arg2)
def A0 : (⟨S1024x1024, .f32⟩ : BufTy).Contents (Elt Ideal) := m (c.tc.loc main_arg3)
def P0 : (⟨S8192x256, .f32⟩ : BufTy).Contents (Elt Ideal) := m (c.tc.loc main_arg4)
def B0 : (⟨S256x1024, .f32⟩ : BufTy).Contents (Elt Ideal) := m (c.tc.loc main_arg5)

theorem V_arg0 : V m c main_arg0 = D0 m c := by after_reads_simp; rfl
theorem V_arg1 : V m c main_arg1 = H0 m c := by after_reads_simp; rfl
theorem V_v20 (j : Fin 1024) : V m c main_v20 (ix2 0 j) = G0 m c (ix1 j) := by
  have e : V m c main_v20 = shapeCast S1x1024 (G0 m c) shapeCasts_S1024_S1x1024 := by after_reads_simp; rfl
  rw [e]
  pointwise
theorem V_v21 : V m c main_v21 = A0 m c := by after_reads_simp; rfl
theorem V_arg4 : V m c main_arg4 = P0 m c := by after_reads_simp; rfl
theorem V_v22 : V m c main_v22 = B0 m c := by after_reads_simp; rfl
theorem V_v19 (r : Fin 8192) (j : Fin 1024) : V m c main_v19 (ix2 r j) = val_main_v24 (F := Ideal) (H0 m c) (G0 m c) (A0 m c) (ix2 r j) := by
  have e : V m c main_v19 = Cert.Reference8Ideal.Read.val_main_v19 (F := Ideal) (H0 m c) (G0 m c) (A0 m c) := by after_reads_simp; rfl
  rw [e, gate_at]

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![0, 0] := by decide +kernel
theorem ix_3 : ∀ t : Fin cfg0.N, win0_3.index t = ![0, 0] := by decide +kernel
theorem ix_4 : ∀ t : Fin cfg0.N, win0_4.index t = ![t.val, 0] := by decide +kernel
theorem ix_5 : ∀ t : Fin cfg0.N, win0_5.index t = ![t.val, 0] := by decide +kernel
theorem ix_6 : ∀ t : Fin cfg0.N, win0_6.index t = ![0, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 256) (j : Fin 1024) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

theorem blk_2 (t : Fin cfg0.N) (k : Fin 1) (j : Fin 1024) : iblk m c 2 t (ix2 k j) = V m c main_v20 (ix2 k j) := by
  blk_simp [iblk]
  refine congrArg (V m c main_v20) (funext fun a => Fin.ext ?_)
  match a with
  | ⟨0, _⟩ => blk_simp [ix_2]
  | ⟨1, _⟩ => blk_simp [ix_2]

theorem blk_3 (t : Fin cfg0.N) (k : Fin 1024) (j : Fin 1024) : iblk m c 3 t (ix2 k j) = V m c main_v21 (ix2 k j) := by
  blk_simp [iblk]
  refine congrArg (V m c main_v21) (funext fun a => Fin.ext ?_)
  match a with
  | ⟨0, _⟩ => blk_simp [ix_3]
  | ⟨1, _⟩ => blk_simp [ix_3]

theorem blk_4 (t : Fin cfg0.N) (k : Fin 256) (j : Fin 1024) : iblk m c 4 t (ix2 k j) = V m c main_v19 (ix2 (row t k) j) := by
  blk_simp [iblk]
  refine congrArg (V m c main_v19) (funext fun a => Fin.ext ?_)
  match a with
  | ⟨0, _⟩ => blk_simp [ix_4]; rfl
  | ⟨1, _⟩ => blk_simp [ix_4]

theorem blk_5 (t : Fin cfg0.N) (k : Fin 256) (j : Fin 256) : iblk m c 5 t (ix2 k j) = V m c main_arg4 (ix2 (row t k) j) := by
  blk_simp [iblk]
  refine congrArg (V m c main_arg4) (funext fun a => Fin.ext ?_)
  match a with
  | ⟨0, _⟩ => blk_simp [ix_5]; rfl
  | ⟨1, _⟩ => blk_simp [ix_5]

theorem blk_6 (t : Fin cfg0.N) (k : Fin 256) (j : Fin 1024) : iblk m c 6 t (ix2 k j) = V m c main_v22 (ix2 k j) := by
  blk_simp [iblk]
  refine congrArg (V m c main_v22) (funext fun a => Fin.ext ?_)
  match a with
  | ⟨0, _⟩ => blk_simp [ix_6]
  | ⟨1, _⟩ => blk_simp [ix_6]

theorem scale_blk (t : Fin cfg0.N) (i : Fin 256) (u : Fin 1) :
    k0_pay11 (F := Ideal) (iblk m c 1 t) (ix2 i u) = val_main_v8 (F := Ideal) (H0 m c) (ix2 (row t i) 0) := by
  have e1 := blk_1 m c t
  rw [V_arg1] at e1
  generalize iblk m c 1 t = x1 at *
  pointwise [k0_pay11]
  simp only [e1]
  rw [scale_at, mean_at]

/-- The gate's cotangent. -/
theorem slope_blk (t : Fin cfg0.N) (i : Fin 256) (j : Fin 1024) :
    k0_pay9 (F := Ideal) (iblk m c 0 t) (iblk m c 4 t) (iblk m c 5 t) (iblk m c 6 t) (ix2 i j) = val_main_v35 (F := Ideal) (D0 m c) (H0 m c) (G0 m c) (A0 m c) (P0 m c) (B0 m c) (ix2 (row t i) j) := by
  have e0 := blk_0 m c t
  have e4 : ∀ (i : Fin 256) (j : Fin 1024), iblk m c 4 t (ix2 i j) = val_main_v24 (F := Ideal) (H0 m c) (G0 m c) (A0 m c) (ix2 (row t i) j) := fun i j => (blk_4 m c t i j).trans (V_v19 m c (row t i) j)
  have e5 := blk_5 m c t
  have e6 := blk_6 m c t
  rw [V_arg0] at e0
  rw [V_arg4] at e5
  rw [V_v22] at e6
  generalize iblk m c 0 t = x0 at *
  generalize iblk m c 4 t = x4 at *
  generalize iblk m c 5 t = x5 at *
  generalize iblk m c 6 t = x6 at *
  pointwise [k0_pay9, k0_pay7]
  simp only [e0, e4, e5, e6]
  exact (slope_at ..).symm

theorem gate_blk (t : Fin cfg0.N) (i : Fin 256) (j : Fin 1024) :
    k0_pay10 (F := Ideal) (iblk m c 0 t) (iblk m c 4 t) (iblk m c 5 t) (iblk m c 6 t) (ix2 i j) = val_main_v58 (F := Ideal) (D0 m c) (H0 m c) (G0 m c) (A0 m c) (P0 m c) (B0 m c) (ix2 (row t i) j) :=
  slope_blk m c t i j

/-- The embedding's cotangent. -/
theorem embed_blk (t : Fin cfg0.N) (i : Fin 256) (j : Fin 1024) :
    k0_pay8 (F := Ideal) (iblk m c 0 t) (iblk m c 4 t) (ix2 i j) = val_main_v59 (F := Ideal) (D0 m c) (H0 m c) (G0 m c) (A0 m c) (ix2 (row t i) j) := by
  have e0 := blk_0 m c t
  have e4 : ∀ (i : Fin 256) (j : Fin 1024), iblk m c 4 t (ix2 i j) = val_main_v24 (F := Ideal) (H0 m c) (G0 m c) (A0 m c) (ix2 (row t i) j) := fun i j => (blk_4 m c t i j).trans (V_v19 m c (row t i) j)
  rw [V_arg0] at e0
  generalize iblk m c 0 t = x0 at *
  generalize iblk m c 4 t = x4 at *
  pointwise [k0_pay8, k0_pay7]
  rw [e0, e4]
  symm
  pointwise [val_main_v59, val_main_v33, val_main_v32]
  exact mul_comm _ _

theorem normal_blk (t : Fin cfg0.N) (i : Fin 256) (j : Fin 1024) :
    k0_pay1 (F := Ideal) (k0_pay9 (F := Ideal) (iblk m c 0 t) (iblk m c 4 t) (iblk m c 5 t) (iblk m c 6 t)) (iblk m c 3 t) (ix2 i j) = val_main_v36 (F := Ideal) (D0 m c) (H0 m c) (G0 m c) (A0 m c) (P0 m c) (B0 m c) (ix2 (row t i) j) := by
  have e3 := blk_3 m c t
  have e9 := slope_blk m c t
  rw [V_v21] at e3
  generalize k0_pay9 (F := Ideal) (iblk m c 0 t) (iblk m c 4 t) (iblk m c 5 t) (iblk m c 6 t) = w at *
  generalize iblk m c 3 t = x3 at *
  pointwise [k0_pay1]
  simp only [e3, e9]
  exact (normal_at ..).symm

/-- The gradient of the input over one block is the reference's. -/
theorem inner_blk (t : Fin cfg0.N) (i : Fin 256) (j : Fin 1024) :
    inner (iblk m c 0 t) (iblk m c 1 t) (iblk m c 2 t) (iblk m c 3 t) (iblk m c 4 t) (iblk m c 5 t) (iblk m c 6 t) (ix2 i j) = val_main_v57 (F := Ideal) (D0 m c) (H0 m c) (G0 m c) (A0 m c) (P0 m c) (B0 m c) (ix2 (row t i) j) := by
  have e0 := blk_0 m c t
  have e1 := blk_1 m c t
  have e2 : ∀ j : Fin 1024, iblk m c 2 t (ix2 0 j) = G0 m c (ix1 j) := fun j => (blk_2 m c t 0 j).trans (V_v20 m c j)
  rw [V_arg0] at e0
  rw [V_arg1] at e1
  have e7 := scale_blk m c t
  have e9 := normal_blk m c t
  have eg : ∀ j : Fin 1024, val_main_v36 (F := Ideal) (D0 m c) (H0 m c) (G0 m c) (A0 m c) (P0 m c) (B0 m c) (ix2 (row t i) j) * G0 m c (ix1 j) = val_main_v41 (F := Ideal) (D0 m c) (H0 m c) (G0 m c) (A0 m c) (P0 m c) (B0 m c) (ix2 (row t i) j) := fun j => (gained_at ..).symm
  unfold inner
  generalize k0_pay11 (F := Ideal) (iblk m c 1 t) = r at *
  generalize k0_pay9 (F := Ideal) (iblk m c 0 t) (iblk m c 4 t) (iblk m c 5 t) (iblk m c 6 t) = w at *
  generalize iblk m c 0 t = x0 at *
  generalize iblk m c 1 t = x1 at *
  generalize iblk m c 2 t = x2 at *
  generalize iblk m c 3 t = x3 at *
  pointwise [k0_pay2, k0_pay6]
  simp only [e0, e1, e2, e7, e9, eg]
  exact (input_at ..).symm

theorem gain_blk (t : Fin cfg0.N) (acc : Vec Ideal S8x1024 .f32) (s : Fin 8) (j : Fin 1024) :
    gain (iblk m c 0 t) (iblk m c 1 t) (iblk m c 3 t) (iblk m c 4 t) (iblk m c 5 t) (iblk m c 6 t) acc (ix2 s j)
      = acc (ix2 s j) + ∑ q : Fin 32, val_main_v37 (F := Ideal) (D0 m c) (H0 m c) (G0 m c) (A0 m c) (P0 m c) (B0 m c) (ix2 (row t (low q s)) j) := by
  have e1 := blk_1 m c t
  rw [V_arg1] at e1
  have e7 := scale_blk m c t
  have e8 := normal_blk m c t
  unfold gain
  generalize k0_pay11 (F := Ideal) (iblk m c 1 t) = r at *
  generalize k0_pay9 (F := Ideal) (iblk m c 0 t) (iblk m c 4 t) (iblk m c 5 t) (iblk m c 6 t) = w at *
  generalize iblk m c 1 t = x1 at *
  generalize iblk m c 3 t = x3 at *
  pointwise [k0_pay3]
  simp only [e1, e7, e8]
  exact congrArg (acc (ix2 s j) + ·) (Finset.sum_congr rfl fun q _ => (term_at (D0 m c) (H0 m c) (G0 m c) (A0 m c) (P0 m c) (B0 m c) (row t (low q s)) j).symm)

theorem inner_outs (t : Fin cfg0.N) : (outsAt0 m c t.val t.isLt).1
    = inner (iblk m c 0 t) (iblk m c 1 t) (iblk m c 2 t) (iblk m c 3 t) (iblk m c 4 t) (iblk m c 5 t) (iblk m c 6 t) := by
  by_cases h0 : t.val % 32 = 0
  · have h1 : ¬t.val % 32 = 31 := by omega
    rw [outsAt0_A m c t h0 h1]
    dsimp only
    rw [inner_A]
  · by_cases h1 : t.val % 32 = 31
    · rw [outsAt0_C m c t h0 h1]
      dsimp only
      rw [inner_C]
    · rw [outsAt0_B m c t h0 h1]
      dsimp only
      rw [inner_B]

theorem gate_outs (t : Fin cfg0.N) : (outsAt0 m c t.val t.isLt).2.1
    = k0_pay10 (iblk m c 0 t) (iblk m c 4 t) (iblk m c 5 t) (iblk m c 6 t) := by
  by_cases h0 : t.val % 32 = 0
  · have h1 : ¬t.val % 32 = 31 := by omega
    rw [outsAt0_A m c t h0 h1]
    dsimp only
    rw [gate_A]
  · by_cases h1 : t.val % 32 = 31
    · rw [outsAt0_C m c t h0 h1]
      dsimp only
      rw [gate_C]
    · rw [outsAt0_B m c t h0 h1]
      dsimp only
      rw [gate_B]

theorem embed_outs (t : Fin cfg0.N) : (outsAt0 m c t.val t.isLt).2.2.1
    = k0_pay8 (iblk m c 0 t) (iblk m c 4 t) := by
  by_cases h0 : t.val % 32 = 0
  · have h1 : ¬t.val % 32 = 31 := by omega
    rw [outsAt0_A m c t h0 h1]
    dsimp only
    rw [embed_A]
  · by_cases h1 : t.val % 32 = 31
    · rw [outsAt0_C m c t h0 h1]
      dsimp only
      rw [embed_C]
    · rw [outsAt0_B m c t h0 h1]
      dsimp only
      rw [embed_B]

theorem inner_eq : val_main_v57 (F := Ideal) (D0 m c) (H0 m c) (G0 m c) (A0 m c) (P0 m c) (B0 m c) = G7 m c := by
  funext y
  obtain ⟨r, j, rfl⟩ : ∃ (r : Fin 8192) (j : Fin 1024), y = ix2 r j := ⟨y 0, y 1, eq_ix2 y⟩
  have hp : pt7Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc7Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G7
  rw [dif_pos (by rw [hp]; exact hlt), hl]
  have e : ∀ (n : ℕ) (h : n < cfg0.N) (i : S256x1024.Idx), (Pipeline.accAt (fun n h => stAt0 m c n h junk0) (stAt0 m c) 0 n (by omega)).1 i = (outsAt0 m c n h).1 i :=
    fun n h i => by rw [outsAt0_sweep m c n h]
  rw [e _ (by rw [hp]; exact hlt)]
  have e2 : ∀ (n : ℕ) (h : n < cfg0.N), n = r.val / 256 → (outsAt0 m c n h).1 (ix2 (⟨r.val % 256, Nat.mod_lt _ (by decide)⟩ : Fin 256) j) = val_main_v57 (F := Ideal) (D0 m c) (H0 m c) (G0 m c) (A0 m c) (P0 m c) (B0 m c) (ix2 r j) := by
    intro n h hn
    rw [inner_outs m c ⟨n, h⟩, inner_blk]
    refine congrArg (fun r => val_main_v57 (F := Ideal) (D0 m c) (H0 m c) (G0 m c) (A0 m c) (P0 m c) (B0 m c) (ix2 r j)) (Fin.ext ?_)
    show n * 256 + r.val % 256 = r.val
    omega
  exact (e2 _ _ hp).symm

theorem gate_eq : val_main_v58 (F := Ideal) (D0 m c) (H0 m c) (G0 m c) (A0 m c) (P0 m c) (B0 m c) = G8 m c := by
  funext y
  obtain ⟨r, j, rfl⟩ : ∃ (r : Fin 8192) (j : Fin 1024), y = ix2 r j := ⟨y 0, y 1, eq_ix2 y⟩
  have hp : pt8Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc8Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G8
  rw [dif_pos (by rw [hp]; exact hlt), hl]
  have e : ∀ (n : ℕ) (h : n < cfg0.N) (i : S256x1024.Idx), (Pipeline.accAt (fun n h => stAt0 m c n h junk0) (stAt0 m c) 0 n (by omega)).2.1 i = (outsAt0 m c n h).2.1 i :=
    fun n h i => by rw [outsAt0_sweep m c n h]
  rw [e _ (by rw [hp]; exact hlt)]
  have e2 : ∀ (n : ℕ) (h : n < cfg0.N), n = r.val / 256 → (outsAt0 m c n h).2.1 (ix2 (⟨r.val % 256, Nat.mod_lt _ (by decide)⟩ : Fin 256) j) = val_main_v58 (F := Ideal) (D0 m c) (H0 m c) (G0 m c) (A0 m c) (P0 m c) (B0 m c) (ix2 r j) := by
    intro n h hn
    rw [gate_outs m c ⟨n, h⟩, gate_blk]
    refine congrArg (fun r => val_main_v58 (F := Ideal) (D0 m c) (H0 m c) (G0 m c) (A0 m c) (P0 m c) (B0 m c) (ix2 r j)) (Fin.ext ?_)
    show n * 256 + r.val % 256 = r.val
    omega
  exact (e2 _ _ hp).symm

theorem embed_eq : val_main_v59 (F := Ideal) (D0 m c) (H0 m c) (G0 m c) (A0 m c) = G9 m c := by
  funext y
  obtain ⟨r, j, rfl⟩ : ∃ (r : Fin 8192) (j : Fin 1024), y = ix2 r j := ⟨y 0, y 1, eq_ix2 y⟩
  have hp : pt9Of (ix2 r j) = r.val / 256 := by
    show 1 * (r.val / 256 - 0) + 1 * (j.val / 1024 - 0) = _
    omega
  have hlt : r.val / 256 < cfg0.N := lt_of_lt_of_eq (by omega : r.val / 256 < 32) N_0.symm
  have hl : loc9Of (ix2 r j) = ix2 (⟨r.val % 256, Nat.mod_lt _ (by decide)⟩ : Fin 256) j := by
    funext a; apply Fin.ext
    match a with
    | ⟨0, _⟩ => rfl
    | ⟨1, _⟩ => exact Nat.mod_eq_of_lt j.isLt
  unfold G9
  rw [dif_pos (by rw [hp]; exact hlt), hl]
  have e : ∀ (n : ℕ) (h : n < cfg0.N) (i : S256x1024.Idx), (Pipeline.accAt (fun n h => stAt0 m c n h junk0) (stAt0 m c) 0 n (by omega)).2.2.1 i = (outsAt0 m c n h).2.2.1 i :=
    fun n h i => by rw [outsAt0_sweep m c n h]
  rw [e _ (by rw [hp]; exact hlt)]
  have e2 : ∀ (n : ℕ) (h : n < cfg0.N), n = r.val / 256 → (outsAt0 m c n h).2.2.1 (ix2 (⟨r.val % 256, Nat.mod_lt _ (by decide)⟩ : Fin 256) j) = val_main_v59 (F := Ideal) (D0 m c) (H0 m c) (G0 m c) (A0 m c) (ix2 r j) := by
    intro n h hn
    rw [embed_outs m c ⟨n, h⟩, embed_blk]
    refine congrArg (fun r => val_main_v59 (F := Ideal) (D0 m c) (H0 m c) (G0 m c) (A0 m c) (ix2 r j)) (Fin.ext ?_)
    show n * 256 + r.val % 256 = r.val
    omega
  exact (e2 _ _ hp).symm

/-- The sums of one block. -/
def part (t : Fin cfg0.N) (s : Fin 8) (j : Fin 1024) : EReal := ∑ q : Fin 32, val_main_v37 (F := Ideal) (D0 m c) (H0 m c) (G0 m c) (A0 m c) (P0 m c) (B0 m c) (ix2 (row t (low q s)) j)

theorem gain_first (h : 0 < cfg0.N) (s : Fin 8) (j : Fin 1024) : (outsAt0 m c 0 h).2.2.2.2 (ix2 s j) = part m c ⟨0, h⟩ s j := by
  rw [outsAt0_A m c ⟨0, h⟩ (show 0 % 32 = 0 by decide) (show ¬0 % 32 = 31 by decide)]
  dsimp only
  rw [gain_A, gain_blk]
  refine (congrArg (· + _) ?_).trans (zero_add _)
  pointwise [k0_pay5]

theorem gain_next (n : ℕ) (h : n + 1 < cfg0.N) (s : Fin 8) (j : Fin 1024) : (outsAt0 m c (n + 1) h).2.2.2.2 (ix2 s j)
    = (outsAt0 m c n (Nat.lt_of_succ_lt h)).2.2.2.2 (ix2 s j) + part m c ⟨n + 1, h⟩ s j := by
  have hN : n + 1 < 32 := lt_of_lt_of_eq h N_0
  have h0 : ¬(n + 1) % 32 = 0 := by omega
  by_cases h1 : (n + 1) % 32 = 31
  · rw [outsAt0_C m c ⟨n + 1, h⟩ h0 h1]
    dsimp only
    rw [gain_C, gain_blk]
    rfl
  · rw [outsAt0_B m c ⟨n + 1, h⟩ h0 h1]
    dsimp only
    rw [gain_B, gain_blk]
    rfl

/-- The sums carried after a point: those of every block up to it. -/
theorem gain_sum (n : ℕ) (h : n < cfg0.N) (s : Fin 8) (j : Fin 1024) : (outsAt0 m c n h).2.2.2.2 (ix2 s j)
    = ∑ t : Fin (n + 1), part m c ⟨t.val, Nat.lt_of_lt_of_le t.isLt h⟩ s j := by
  induction n with
  | zero => rw [gain_first]; exact (Fin.sum_univ_one (M := EReal) fun t => part m c ⟨t.val, Nat.lt_of_lt_of_le t.isLt h⟩ s j).symm
  | succ n ih =>
    rw [gain_next, ih, Fin.sum_univ_castSucc (n := n + 1)]
    rfl

theorem final_outs (h : 31 < cfg0.N) (u : Fin 1) (j : Fin 1024) : (outsAt0 m c 31 h).2.2.2.1 (ix2 u j)
    = ∑ s : Fin 8, (outsAt0 m c 31 h).2.2.2.2 (ix2 s j) := by
  rw [outsAt0_C m c ⟨31, h⟩ (show ¬31 % 32 = 0 by decide) (show 31 % 32 = 31 by decide)]
  dsimp only
  rw [gain_C, final_C]
  pointwise [k0_pay4]

theorem gain_eq : val_main_v60 (F := Ideal) (D0 m c) (H0 m c) (G0 m c) (A0 m c) (P0 m c) (B0 m c) = G10 m c := by
  have h31 : 31 < cfg0.N := lt_of_lt_of_eq (by decide) N_0.symm
  rw [G10_last, ← outsAt0_sweep m c 31 h31]
  funext y
  obtain ⟨u, j, rfl⟩ : ∃ (u : Fin 1) (j : Fin 1024), y = ix2 u j := ⟨y 0, y 1, eq_ix2 y⟩
  rw [final_outs, gain_at, ← rows_regroup]
  refine Finset.sum_congr rfl fun s _ => ?_
  rw [gain_sum]
  rfl

theorem frame_reference (m : (ℓ : Loc Cert.Reference13Ideal.nD τ Cert.Reference13Ideal.sig) → Buf (Elt Ideal) ℓ) (g : Dev Cert.Reference13Ideal.nD → PrngReg) :
    θ_run (Cert.Reference13Ideal.defs (F := Ideal)) (onTc (τ := τ) (Cert.Reference13Ideal.main (F := Ideal))) ⟨m, fun _ => 0, g⟩ (fun r => (∀ c : Dev Cert.Reference13Ideal.nD,
      r.2.mem (c.tc.loc Cert.Reference13Ideal.main_arg0) = m (c.tc.loc Cert.Reference13Ideal.main_arg0)
      ∧ r.2.mem (c.tc.loc Cert.Reference13Ideal.main_arg1) = m (c.tc.loc Cert.Reference13Ideal.main_arg1)
      ∧ r.2.mem (c.tc.loc Cert.Reference13Ideal.main_arg2) = m (c.tc.loc Cert.Reference13Ideal.main_arg2)
      ∧ r.2.mem (c.tc.loc Cert.Reference13Ideal.main_arg3) = m (c.tc.loc Cert.Reference13Ideal.main_arg3)
      ∧ r.2.mem (c.tc.loc Cert.Reference13Ideal.main_arg4) = m (c.tc.loc Cert.Reference13Ideal.main_arg4)
      ∧ r.2.mem (c.tc.loc Cert.Reference13Ideal.main_arg5) = m (c.tc.loc Cert.Reference13Ideal.main_arg5))
      ∧ r.2.sem = fun _ => 0) :=
  (θ_run Cert.Reference13Ideal.defs _ _).mono (fun r h => ⟨fun c => (h c).2.2.2.2, sem_eq_zero_of_no_sems (by decide) r.2⟩)
    (Cert.Reference13Ideal.Value.run (F := Ideal) m g)

end Cert.Backward.Embed
-- ==== Proof.Backward.Out.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Pre_finite_out
public import proofs.«01_k».proof.Proof.Flash.Finite
public import proofs.«01_k».proof.Proof.Flash.Real
public import Idealize.ShloMosaic.Lib.StableHlo.RunRead
public import Idealize.ShloMosaic.Lib.Pipeline.ValueKit
public import Idealize.ShloMosaic.Lib.Pointwise

@[expose] public section

set_option maxRecDepth 65536
set_option maxHeartbeats 4000000

noncomputable section

namespace Cert.Backward.Out

open Idealize.ShloMosaic Idealize.ShloMosaic.TcCoe Idealize.ShloMosaic.Tactic
open Idealize.ShloMosaic.StableHlo
open Cert.Kernel15Ideal Cert.Kernel15Ideal.Gen Cert.Kernel15Ideal.Value
open Cert.Reference15Ideal.Read (val_main_v1 val_main_v2 val_main_v3 val_main_v4 val_main_v5 val_main_v6 val_main_v7 val_main_cst)

/-! The gradient of the output projection's input, its transpose, and each head's sum of it times the input: every
block holds 256 rows, or 256 columns, of the reference's stages. -/

private theorem hz2 : (![0, 0] : Fin 2 → ℕ) = fun _ => 0 := funext fun a => by fin_cases a <;> rfl

/-! ## The heads of the lanes -/

/-- A lane's head, as it is divided out with the signs' correction. -/
def headWord (a : BitVec 32) : BitVec 32 :=
  Scalar.select
    (IntOp.andi
      (IntOp.cmpi .ne (IntOp.subi ((IntOp.cmpi .sgt a 0#32).setWidth 32) ((IntOp.cmpi .slt a 0#32).setWidth 32))
        (Scalar.subi (Scalar.extui (Scalar.cmpi .sgt 64#32 0#32)) (Scalar.extui (Scalar.cmpi .slt 64#32 0#32))))
      (IntOp.cmpi .ne (IntOp.remsi .vector a 64#32) 0#32))
    (IntOp.subi (IntOp.divsi .vector a 64#32) 1#32) (IntOp.divsi .vector a 64#32)

theorem headWord_eq : ∀ l : Fin 1024, headWord (BitVec.ofNat 32 l.val) = BitVec.ofNat 32 (l.val / 64) := by decide +kernel

theorem sameHead : ∀ a b : Fin 16, (IntOp.cmpi .eq (BitVec.ofNat 32 a.val) (BitVec.ofNat 32 b.val)).setWidth 32 = if a = b then 1#32 else 0#32 := by
  decide +kernel

/-- The matrix that sums the lanes of each head: one where the lane is the head's, else zero. -/
theorem seg_at (l : Fin 1024) (h : Fin 16) : k0_pay5 (F := Ideal) (ix2 l h) = if l.val / 64 = h.val then (1 : EReal) else 0 := by
  have e : k0_pay5 (F := Ideal) (ix2 l h)
      = FloatOps.sitofp (F := Ideal) .f32 ((IntOp.cmpi .eq (headWord (BitVec.ofNat 32 l.val)) (BitVec.ofNat 32 h.val)).setWidth 32) := by
    pointwise [k0_pay5]
    rfl
  rw [e, headWord_eq, sameHead ⟨l.val / 64, by omega⟩ h]
  by_cases q : l.val / 64 = h.val
  · rw [if_pos (Fin.ext q), if_pos q]
    show (((1#32).toInt : ℝ) : EReal) = 1
    norm_num
  · rw [if_neg (fun w => q (congrArg Fin.val w)), if_neg q]
    show (((0#32).toInt : ℝ) : EReal) = 0
    norm_num

/-- A sum over the lanes with the head's matrix is the sum over the head's lanes. -/
theorem head_sum (f : Fin 1024 → EReal) (h : Fin 16) :
    ∑ l : Fin 1024, f l * (if l.val / 64 = h.val then (1 : EReal) else 0) = ∑ e : Fin 64, f ⟨h.val * 64 + e.val, by omega⟩ := by
  rw [Fin.sum_univ_tiles 16 64 rfl]
  rw [Finset.sum_eq_single h]
  · refine Finset.sum_congr rfl fun e _ => ?_
    have q : (h.val * 64 + e.val) / 64 = h.val := by omega
    exact (congrArg (_ * ·) (if_pos q)).trans (mul_one _)
  · intro j _ hj
    refine Finset.sum_eq_zero fun e _ => ?_
    have q : ¬(j.val * 64 + e.val) / 64 = h.val := fun w => hj (Fin.ext (by omega))
    exact (congrArg (_ * ·) (if_neg q)).trans (mul_zero _)
  · intro w
    exact absurd (Finset.mem_univ _) w

/-- The three parts of a real factor summed apart: the first two are zero. -/
theorem parts_sum (f : Fin 1024 → EReal) (hf : ∀ l, f l - f l = 0) (s : Fin 1024 → EReal) :
    ∑ l : Fin 1024, (f l - f l - (f l - f l)) * s l + ∑ l : Fin 1024, (f l - f l) * s l + ∑ l : Fin 1024, f l * s l = ∑ l : Fin 1024, f l * s l := by
  simp only [hf, sub_zero, zero_mul, Finset.sum_const_zero, zero_add]

/-! ## The blocks -/

variable (m : (ℓ : Loc nD τ sig) → Buf (Elt Ideal) ℓ) (c : Dev nD)

/-- The arguments. -/
def D0 : (⟨S8192x1024, .f32⟩ : BufTy).Contents (Elt Ideal) := m (c.tc.loc main_arg0)
def W0 : (⟨S1024x1024, .f32⟩ : BufTy).Contents (Elt Ideal) := m (c.tc.loc main_arg1)
def O0 : (⟨S8192x1024, .f32⟩ : BufTy).Contents (Elt Ideal) := m (c.tc.loc main_arg2)

theorem V_arg0 : V m c main_arg0 = D0 m c := by after_reads_simp; rfl
theorem V_v0 : V m c main_v0 = W0 m c := by after_reads_simp; rfl
theorem V_arg2 : V m c main_arg2 = O0 m c := by after_reads_simp; rfl

/-- A row of the block of a point. -/
def row (t : Fin cfg0.N) (k : Fin 256) : Fin 8192 :=
  ⟨t.val * 256 + k.val, by have h : t.val < 32 := Nat.lt_of_lt_of_eq t.isLt N_0; omega⟩

theorem ix_0 : ∀ t : Fin cfg0.N, win0_0.index t = ![t.val, 0] := by decide +kernel
theorem ix_1 : ∀ t : Fin cfg0.N, win0_1.index t = ![0, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![0, t.val] := by decide +kernel
theorem ix_5 : ∀ t : Fin cfg0.N, win0_5.index t = ![t.val, 0] := by decide +kernel

theorem blk_0 (t : Fin cfg0.N) (k : Fin 256) (j : Fin 1024) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 1024) (j : Fin 1024) : iblk m c 1 t (ix2 k j) = V m c main_v0 (ix2 k j) := by
  blk_simp [iblk]
  refine congrArg (V m c main_v0) (funext fun a => Fin.ext ?_)
  match a with
  | ⟨0, _⟩ => blk_simp [ix_1]
  | ⟨1, _⟩ => blk_simp [ix_1]

theorem blk_2 (t : Fin cfg0.N) (k : Fin 256) (j : Fin 1024) : iblk m c 2 t (ix2 k j) = V m c main_arg2 (ix2 (row t k) j) := by
  blk_simp [iblk]
  refine congrArg (V m c main_arg2) (funext fun a => Fin.ext ?_)
  match a with
  | ⟨0, _⟩ => blk_simp [ix_2]; rfl
  | ⟨1, _⟩ => blk_simp [ix_2]

/-- The gradient's rows of one block. -/
theorem product_blk (t : Fin cfg0.N) (i : Fin 256) (j : Fin 1024) :
    k0_pay2 (F := Ideal) (iblk m c 0 t) (iblk m c 1 t) (ix2 i j) = val_main_v1 (F := Ideal) (D0 m c) (W0 m c) (ix2 (row t i) j) := by
  have e0 := blk_0 m c t
  have e1 := blk_1 m c t
  rw [V_arg0] at e0
  rw [V_v0] at e1
  generalize iblk m c 0 t = x0 at *
  generalize iblk m c 1 t = x1 at *
  pointwise [k0_pay2]
  simp only [e0, e1]
  symm
  pointwise [val_main_v1]

theorem rows_blk (t : Fin cfg0.N) (i : Fin 256) (j : Fin 1024) :
    k0_pay3 (F := Ideal) (iblk m c 0 t) (iblk m c 1 t) (ix2 i j) = val_main_v5 (F := Ideal) (D0 m c) (W0 m c) (ix2 (row t i) j) :=
  product_blk m c t i j

/-- The gradient's rows, turned. -/
theorem turned_blk (t : Fin cfg0.N) (f : Fin 1024) (i : Fin 256) :
    k0_pay4 (F := Ideal) (iblk m c 0 t) (iblk m c 1 t) (ix2 f i) = val_main_v7 (F := Ideal) (D0 m c) (W0 m c) (ix2 f (row t i)) := by
  have es := product_blk m c t
  generalize iblk m c 0 t = x0 at *
  generalize iblk m c 1 t = x1 at *
  pointwise [k0_pay4]
  rw [es]
  symm
  pointwise [val_main_v7, val_main_v6]

/-- Arrays of real numbers have real products. -/
theorem real_rows (hd : ∀ i, D0 m c i = (((D0 m c i : EReal).toReal : ℝ) : EReal)) (hw : ∀ i, W0 m c i = (((W0 m c i : EReal).toReal : ℝ) : EReal))
    (ho : ∀ i, O0 m c i = (((O0 m c i : EReal).toReal : ℝ) : EReal)) (r : Fin 8192) (l : Fin 1024) :
    val_main_v1 (F := Ideal) (D0 m c) (W0 m c) (ix2 r l) * O0 m c (ix2 r l) - val_main_v1 (F := Ideal) (D0 m c) (W0 m c) (ix2 r l) * O0 m c (ix2 r l) = (0 : EReal) := by
  have e : val_main_v1 (F := Ideal) (D0 m c) (W0 m c) (ix2 r l)
      = ((∑ k : Fin 1024, (D0 m c (ix2 r k) : EReal).toReal * (W0 m c (ix2 l k) : EReal).toReal : ℝ) : EReal) := by
    pointwise [val_main_v1]
    rw [Cert.Flash.Real.coe_sum]
    refine Finset.sum_congr rfl fun k _ => ?_
    rw [EReal.coe_mul, ← hd, ← hw]
  rw [e, ho, ← EReal.coe_mul, ← EReal.coe_sub, sub_self, EReal.coe_zero]

/-- The heads' sums of one block. -/
theorem sums_blk (hd : ∀ i, D0 m c i = (((D0 m c i : EReal).toReal : ℝ) : EReal)) (hw : ∀ i, W0 m c i = (((W0 m c i : EReal).toReal : ℝ) : EReal))
    (ho : ∀ i, O0 m c i = (((O0 m c i : EReal).toReal : ℝ) : EReal)) (t : Fin cfg0.N) (i : Fin 256) (h : Fin 16) :
    k0_pay1 (F := Ideal) (k0_pay5 (F := Ideal)) (k0_pay6 (F := Ideal) (iblk m c 0 t) (iblk m c 1 t)) (iblk m c 2 t) (ix2 i h)
      = val_main_v4 (F := Ideal) (D0 m c) (W0 m c) (O0 m c) (ix2 (row t i) h) := by
  have ep : ∀ i j, k0_pay6 (F := Ideal) (iblk m c 0 t) (iblk m c 1 t) (ix2 i j) = val_main_v1 (F := Ideal) (D0 m c) (W0 m c) (ix2 (row t i) j) := product_blk m c t
  have e2 := blk_2 m c t
  rw [V_arg2] at e2
  generalize k0_pay6 (F := Ideal) (iblk m c 0 t) (iblk m c 1 t) = y at *
  generalize iblk m c 2 t = x2 at *
  have es := seg_at
  generalize k0_pay5 (F := Ideal) = s at *
  pointwise [k0_pay1]
  simp only [ep, e2, es]
  refine (parts_sum (fun l => val_main_v1 (F := Ideal) (D0 m c) (W0 m c) (ix2 (row t i) l) * O0 m c (ix2 (row t i) l)) (real_rows m c hd hw ho (row t i)) _).trans ?_
  refine (head_sum _ h).trans ?_
  symm
  pointwise [val_main_v4, val_main_v3, val_main_v2, val_main_cst]
  done

/-! ## The arrays -/

theorem emb_3 (t : Fin cfg0.N) (i : Fin 256) (j : Fin 1024) : (win0_3.blk t).view.emb (ix2 i j) = ix2 (row t i) j := by
  refine funext fun a => Fin.ext ?_
  match a with
  | ⟨0, _⟩ => blk_simp [ix_3]; rfl
  | ⟨1, _⟩ => blk_simp [ix_3]

/-- The gradient. -/
theorem final_3 : (dats m 0 c).arrAt 3 cfg0.N = val_main_v5 (F := Ideal) (D0 m c) (W0 m c) := by
  refine (dats m 0 c).arrAt_eq_of_covers 3 _ (by decide +kernel) fun t _ y => ?_
  obtain ⟨i, j, rfl⟩ : ∃ (i : Fin 256) (j : Fin 1024), y = ix2 i j := ⟨y 0, y 1, eq_ix2 y⟩
  blk_simp
  rw [after0_3]
  refine Eq.trans ?_ (congrArg (val_main_v5 (F := Ideal) (D0 m c) (W0 m c)) (emb_3 t i j).symm)
  unfold out0_3
  rw [View.canon_unit_zero hz2]
  simp only [View.ld_unit_zero (S := S256x1024) hz2, View.ld_unit_zero (S := S1024x1024) hz2]
  exact rows_blk m c t i j

theorem emb_4 (t : Fin cfg0.N) (i : Fin 1024) (j : Fin 256) : (win0_4.blk t).view.emb (ix2 i j) = ix2 i (row t j) := by
  refine funext fun a => Fin.ext ?_
  match a with
  | ⟨0, _⟩ => blk_simp [ix_4]
  | ⟨1, _⟩ => blk_simp [ix_4]; rfl

/-- The gradient, turned. -/
theorem final_4 : (dats m 0 c).arrAt 4 cfg0.N = val_main_v7 (F := Ideal) (D0 m c) (W0 m c) := by
  refine (dats m 0 c).arrAt_eq_of_covers 4 _ (by decide +kernel) fun t _ y => ?_
  obtain ⟨i, j, rfl⟩ : ∃ (i : Fin 1024) (j : Fin 256), y = ix2 i j := ⟨y 0, y 1, eq_ix2 y⟩
  blk_simp
  rw [after0_4]
  refine Eq.trans ?_ (congrArg (val_main_v7 (F := Ideal) (D0 m c) (W0 m c)) (emb_4 t i j).symm)
  unfold out0_4
  rw [View.canon_unit_zero hz2]
  simp only [View.ld_unit_zero (S := S256x1024) hz2, View.ld_unit_zero (S := S1024x1024) hz2]
  exact turned_blk m c t i j

theorem emb_5 (t : Fin cfg0.N) (i : Fin 256) (j : Fin 16) : (win0_5.blk t).view.emb (ix2 i j) = ix2 (row t i) j := by
  refine funext fun a => Fin.ext ?_
  match a with
  | ⟨0, _⟩ => blk_simp [ix_5]; rfl
  | ⟨1, _⟩ => blk_simp [ix_5]

/-- The heads' sums. -/
theorem final_5 (hd : ∀ i, D0 m c i = (((D0 m c i : EReal).toReal : ℝ) : EReal)) (hw : ∀ i, W0 m c i = (((W0 m c i : EReal).toReal : ℝ) : EReal))
    (ho : ∀ i, O0 m c i = (((O0 m c i : EReal).toReal : ℝ) : EReal)) :
    (dats m 0 c).arrAt 5 cfg0.N = val_main_v4 (F := Ideal) (D0 m c) (W0 m c) (O0 m c) := by
  refine (dats m 0 c).arrAt_eq_of_covers 5 _ (by decide +kernel) fun t _ y => ?_
  obtain ⟨i, j, rfl⟩ : ∃ (i : Fin 256) (j : Fin 16), y = ix2 i j := ⟨y 0, y 1, eq_ix2 y⟩
  blk_simp
  rw [after0_5]
  refine Eq.trans ?_ (congrArg (val_main_v4 (F := Ideal) (D0 m c) (W0 m c) (O0 m c)) (emb_5 t i j).symm)
  unfold out0_5
  rw [View.canon_unit_zero hz2]
  simp only [View.ld_unit_zero (S := S256x1024) hz2, View.ld_unit_zero (S := S1024x1024) hz2]
  exact sums_blk m c hd hw ho t i j

/-- The precondition read back: its three arrays hold real numbers. -/
theorem reads (x0 : FVec Ideal Cert.Pre_finite_out.S8192x1024 .f32) (x1 : FVec Ideal Cert.Pre_finite_out.S1024x1024 .f32) (x2 : FVec Ideal Cert.Pre_finite_out.S8192x1024 .f32)
    (h : Cert.Pre_finite_out.fn (F := Ideal) x0 x1 x2 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) := by
  have j : Cert.Pre_finite_out.S_.Idx := fun k => k.elim0
  have e := congrFun h j
  unfold Cert.Pre_finite_out.fn at e
  clear h
  obtain ⟨e, e2⟩ := IntOp.andi_eq_one.1 e
  obtain ⟨e0, e1⟩ := IntOp.andi_eq_one.1 e
  exact ⟨fun i => Cert.Flash.Finite.all_coe x0 Cert.Pre_finite_out.Facts.bcast_S_S8192x1024 Cert.Pre_finite_out.Facts.reducesTo_S8192x1024_S_d0_1 Cert.Pre_finite_out.Facts.h_S_ (constantI Cert.Pre_finite_out.S_ 1 1#1) j e0 i,
    fun i => Cert.Flash.Finite.all_coe x1 Cert.Pre_finite_out.Facts.bcast_S_S1024x1024 Cert.Pre_finite_out.Facts.reducesTo_S1024x1024_S_d0_1 Cert.Pre_finite_out.Facts.h_S_ (constantI Cert.Pre_finite_out.S_ 1 1#1) j e1 i,
    fun i => Cert.Flash.Finite.all_coe x2 Cert.Pre_finite_out.Facts.bcast_S_S8192x1024 Cert.Pre_finite_out.Facts.reducesTo_S8192x1024_S_d0_1 Cert.Pre_finite_out.Facts.h_S_ (constantI Cert.Pre_finite_out.S_ 1 1#1) j e2 i⟩

theorem frame_reference (m : (ℓ : Loc Cert.Reference15Ideal.nD τ Cert.Reference15Ideal.sig) → Buf (Elt Ideal) ℓ) (g : Dev Cert.Reference15Ideal.nD → PrngReg) :
    θ_run (Cert.Reference15Ideal.defs (F := Ideal)) (onTc (τ := τ) (Cert.Reference15Ideal.main (F := Ideal))) ⟨m, fun _ => 0, g⟩ (fun r => (∀ c : Dev Cert.Reference15Ideal.nD,
      r.2.mem (c.tc.loc Cert.Reference15Ideal.main_arg0) = m (c.tc.loc Cert.Reference15Ideal.main_arg0)
      ∧ r.2.mem (c.tc.loc Cert.Reference15Ideal.main_arg1) = m (c.tc.loc Cert.Reference15Ideal.main_arg1)
      ∧ r.2.mem (c.tc.loc Cert.Reference15Ideal.main_arg2) = m (c.tc.loc Cert.Reference15Ideal.main_arg2))
      ∧ r.2.sem = fun _ => 0) :=
  (θ_run Cert.Reference15Ideal.defs _ _).mono (fun r h => ⟨fun c => (h c).2.2.2, sem_eq_zero_of_no_sems (by decide) r.2⟩)
    (Cert.Reference15Ideal.Value.run (F := Ideal) m g)

end Cert.Backward.Out
-- ==== Proof.Weight.Shards.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Flash.Step
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Shards

open Idealize.ShloMosaic Idealize.ShloMosaic.TcCoe Idealize.ShloMosaic.Tactic
open Idealize.ShloMosaic.StableHlo
open Cert.Kernel14Ideal Cert.Kernel14Ideal.Gen Cert.Kernel14Ideal.Value
open Cert.KernelIdeal.Flash (read_writes_overlay overlay3)

theorem hz2 : (![0, 0] : Fin 2 → Nat) = fun _ => 0 := funext fun a => by fin_cases a <;> rfl
theorem hz3 : (![0, 0, 0] : Fin 3 → Nat) = fun _ => 0 := funext fun a => by fin_cases a <;> rfl

/-- The product of one row block, at a column of a slab. -/
def slab (x0 : Vec Ideal S2048x256 .f32) (x1 : Vec Ideal S2048x1024 .bf16) (h : Fin 8) (i : Fin 256) (l : Fin 128) : EReal :=
  ∑ k : Fin 2048, x0 (ix2 k i) * x1 (ix2 k ⟨128 * h.val + l.val, by omega⟩)

/-- A slab of a block, read at an entry, and a block with a slab replaced. -/
theorem ld_slab0 (X : Vec Ideal S8x256x128 .f32) (a : Fin 256) (l : Fin 128) :
    View.ld X (Rect.unit (s := S8x256x128) ![0, 0, 0] ![1, 256, 128] inb_S8x256x128_S1x256x128_0_0_0) (ix3 0 a l) = X (ix3 0 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab0 (X : Vec Ideal S8x256x128 .f32) (w : Vec Ideal S1x256x128 .f32) (h : Fin 8) (a : Fin 256) (l : Fin 128) :
    (Rect.unit (s := S8x256x128) ![0, 0, 0] ![1, 256, 128] inb_S8x256x128_S1x256x128_0_0_0).overlay X w (ix3 h a l) = if h = 0 then w (ix3 0 a l) else X (ix3 h a l) := by
  by_cases e : h = 0
  · rw [if_pos e]
    subst e
    refine (overlay3 _ _ _ 0 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 0 ≤ h.val := q.1.1
    have q2 : h.val - 0 < 1 := q.1.2
    show h.val = 0
    omega

theorem ld_slab1 (X : Vec Ideal S8x256x128 .f32) (a : Fin 256) (l : Fin 128) :
    View.ld X (Rect.unit (s := S8x256x128) ![1, 0, 0] ![1, 256, 128] inb_S8x256x128_S1x256x128_1_0_0) (ix3 0 a l) = X (ix3 1 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab1 (X : Vec Ideal S8x256x128 .f32) (w : Vec Ideal S1x256x128 .f32) (h : Fin 8) (a : Fin 256) (l : Fin 128) :
    (Rect.unit (s := S8x256x128) ![1, 0, 0] ![1, 256, 128] inb_S8x256x128_S1x256x128_1_0_0).overlay X w (ix3 h a l) = if h = 1 then w (ix3 0 a l) else X (ix3 h a l) := by
  by_cases e : h = 1
  · rw [if_pos e]
    subst e
    refine (overlay3 _ _ _ 1 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 1 ≤ h.val := q.1.1
    have q2 : h.val - 1 < 1 := q.1.2
    show h.val = 1
    omega

theorem ld_slab2 (X : Vec Ideal S8x256x128 .f32) (a : Fin 256) (l : Fin 128) :
    View.ld X (Rect.unit (s := S8x256x128) ![2, 0, 0] ![1, 256, 128] inb_S8x256x128_S1x256x128_2_0_0) (ix3 0 a l) = X (ix3 2 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab2 (X : Vec Ideal S8x256x128 .f32) (w : Vec Ideal S1x256x128 .f32) (h : Fin 8) (a : Fin 256) (l : Fin 128) :
    (Rect.unit (s := S8x256x128) ![2, 0, 0] ![1, 256, 128] inb_S8x256x128_S1x256x128_2_0_0).overlay X w (ix3 h a l) = if h = 2 then w (ix3 0 a l) else X (ix3 h a l) := by
  by_cases e : h = 2
  · rw [if_pos e]
    subst e
    refine (overlay3 _ _ _ 2 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 2 ≤ h.val := q.1.1
    have q2 : h.val - 2 < 1 := q.1.2
    show h.val = 2
    omega

theorem ld_slab3 (X : Vec Ideal S8x256x128 .f32) (a : Fin 256) (l : Fin 128) :
    View.ld X (Rect.unit (s := S8x256x128) ![3, 0, 0] ![1, 256, 128] inb_S8x256x128_S1x256x128_3_0_0) (ix3 0 a l) = X (ix3 3 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab3 (X : Vec Ideal S8x256x128 .f32) (w : Vec Ideal S1x256x128 .f32) (h : Fin 8) (a : Fin 256) (l : Fin 128) :
    (Rect.unit (s := S8x256x128) ![3, 0, 0] ![1, 256, 128] inb_S8x256x128_S1x256x128_3_0_0).overlay X w (ix3 h a l) = if h = 3 then w (ix3 0 a l) else X (ix3 h a l) := by
  by_cases e : h = 3
  · rw [if_pos e]
    subst e
    refine (overlay3 _ _ _ 3 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 3 ≤ h.val := q.1.1
    have q2 : h.val - 3 < 1 := q.1.2
    show h.val = 3
    omega

theorem ld_slab4 (X : Vec Ideal S8x256x128 .f32) (a : Fin 256) (l : Fin 128) :
    View.ld X (Rect.unit (s := S8x256x128) ![4, 0, 0] ![1, 256, 128] inb_S8x256x128_S1x256x128_4_0_0) (ix3 0 a l) = X (ix3 4 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab4 (X : Vec Ideal S8x256x128 .f32) (w : Vec Ideal S1x256x128 .f32) (h : Fin 8) (a : Fin 256) (l : Fin 128) :
    (Rect.unit (s := S8x256x128) ![4, 0, 0] ![1, 256, 128] inb_S8x256x128_S1x256x128_4_0_0).overlay X w (ix3 h a l) = if h = 4 then w (ix3 0 a l) else X (ix3 h a l) := by
  by_cases e : h = 4
  · rw [if_pos e]
    subst e
    refine (overlay3 _ _ _ 4 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 4 ≤ h.val := q.1.1
    have q2 : h.val - 4 < 1 := q.1.2
    show h.val = 4
    omega

theorem ld_slab5 (X : Vec Ideal S8x256x128 .f32) (a : Fin 256) (l : Fin 128) :
    View.ld X (Rect.unit (s := S8x256x128) ![5, 0, 0] ![1, 256, 128] inb_S8x256x128_S1x256x128_5_0_0) (ix3 0 a l) = X (ix3 5 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab5 (X : Vec Ideal S8x256x128 .f32) (w : Vec Ideal S1x256x128 .f32) (h : Fin 8) (a : Fin 256) (l : Fin 128) :
    (Rect.unit (s := S8x256x128) ![5, 0, 0] ![1, 256, 128] inb_S8x256x128_S1x256x128_5_0_0).overlay X w (ix3 h a l) = if h = 5 then w (ix3 0 a l) else X (ix3 h a l) := by
  by_cases e : h = 5
  · rw [if_pos e]
    subst e
    refine (overlay3 _ _ _ 5 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 5 ≤ h.val := q.1.1
    have q2 : h.val - 5 < 1 := q.1.2
    show h.val = 5
    omega

theorem ld_slab6 (X : Vec Ideal S8x256x128 .f32) (a : Fin 256) (l : Fin 128) :
    View.ld X (Rect.unit (s := S8x256x128) ![6, 0, 0] ![1, 256, 128] inb_S8x256x128_S1x256x128_6_0_0) (ix3 0 a l) = X (ix3 6 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab6 (X : Vec Ideal S8x256x128 .f32) (w : Vec Ideal S1x256x128 .f32) (h : Fin 8) (a : Fin 256) (l : Fin 128) :
    (Rect.unit (s := S8x256x128) ![6, 0, 0] ![1, 256, 128] inb_S8x256x128_S1x256x128_6_0_0).overlay X w (ix3 h a l) = if h = 6 then w (ix3 0 a l) else X (ix3 h a l) := by
  by_cases e : h = 6
  · rw [if_pos e]
    subst e
    refine (overlay3 _ _ _ 6 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 6 ≤ h.val := q.1.1
    have q2 : h.val - 6 < 1 := q.1.2
    show h.val = 6
    omega

theorem ld_slab7 (X : Vec Ideal S8x256x128 .f32) (a : Fin 256) (l : Fin 128) :
    View.ld X (Rect.unit (s := S8x256x128) ![7, 0, 0] ![1, 256, 128] inb_S8x256x128_S1x256x128_7_0_0) (ix3 0 a l) = X (ix3 7 a l) :=
  congrArg X (funext fun b => Fin.ext (by
    match b with
    | ⟨0, _⟩ => rfl
    | ⟨1, _⟩ => show 0 + 1 * a.val = a.val; omega
    | ⟨2, _⟩ => show 0 + 1 * l.val = l.val; omega))

theorem over_slab7 (X : Vec Ideal S8x256x128 .f32) (w : Vec Ideal S1x256x128 .f32) (h : Fin 8) (a : Fin 256) (l : Fin 128) :
    (Rect.unit (s := S8x256x128) ![7, 0, 0] ![1, 256, 128] inb_S8x256x128_S1x256x128_7_0_0).overlay X w (ix3 h a l) = if h = 7 then w (ix3 0 a l) else X (ix3 h a l) := by
  by_cases e : h = 7
  · rw [if_pos e]
    subst e
    refine (overlay3 _ _ _ 7 a l).trans ((dif_pos ⟨⟨le_rfl, Nat.lt_succ_self _⟩, ⟨Nat.zero_le _, a.isLt⟩, Nat.zero_le _, l.isLt⟩).trans ?_)
    rfl
  · rw [if_neg e]
    refine (overlay3 _ _ _ h a l).trans (dif_neg fun q => e (Fin.ext ?_))
    have q1 : 7 ≤ h.val := q.1.1
    have q2 : h.val - 7 < 1 := q.1.2
    show h.val = 7
    omega

theorem new_slab0 (x0 : Vec Ideal S2048x256 .f32) (x1 : Vec Ideal S2048x1024 .bf16) (v : Vec Ideal S1x256x128 .f32) (a : Fin 256) (l : Fin 128) :
    k0_pay4 x0 x1 v (ix3 0 a l) = v (ix3 0 a l) + slab x0 x1 0 a l := by
  unfold slab
  pointwise [k0_pay4, k0_pay3]
  try simp

theorem new_slab1 (x0 : Vec Ideal S2048x256 .f32) (x1 : Vec Ideal S2048x1024 .bf16) (v : Vec Ideal S1x256x128 .f32) (a : Fin 256) (l : Fin 128) :
    k0_pay5 x0 x1 v (ix3 0 a l) = v (ix3 0 a l) + slab x0 x1 1 a l := by
  unfold slab
  pointwise [k0_pay5, k0_pay3]
  try simp

theorem new_slab2 (x0 : Vec Ideal S2048x256 .f32) (x1 : Vec Ideal S2048x1024 .bf16) (v : Vec Ideal S1x256x128 .f32) (a : Fin 256) (l : Fin 128) :
    k0_pay6 x0 x1 v (ix3 0 a l) = v (ix3 0 a l) + slab x0 x1 2 a l := by
  unfold slab
  pointwise [k0_pay6, k0_pay3]
  try simp

theorem new_slab3 (x0 : Vec Ideal S2048x256 .f32) (x1 : Vec Ideal S2048x1024 .bf16) (v : Vec Ideal S1x256x128 .f32) (a : Fin 256) (l : Fin 128) :
    k0_pay7 (k0_pay3 x0 x1) v (ix3 0 a l) = v (ix3 0 a l) + slab x0 x1 3 a l := by
  unfold slab
  pointwise [k0_pay7, k0_pay3]
  try simp

theorem new_slab4 (x0 : Vec Ideal S2048x256 .f32) (x1 : Vec Ideal S2048x1024 .bf16) (v : Vec Ideal S1x256x128 .f32) (a : Fin 256) (l : Fin 128) :
    k0_pay8 (k0_pay3 x0 x1) v (ix3 0 a l) = v (ix3 0 a l) + slab x0 x1 4 a l := by
  unfold slab
  pointwise [k0_pay8, k0_pay3]
  try simp

theorem new_slab5 (x0 : Vec Ideal S2048x256 .f32) (x1 : Vec Ideal S2048x1024 .bf16) (v : Vec Ideal S1x256x128 .f32) (a : Fin 256) (l : Fin 128) :
    k0_pay9 (k0_pay3 x0 x1) v (ix3 0 a l) = v (ix3 0 a l) + slab x0 x1 5 a l := by
  unfold slab
  pointwise [k0_pay9, k0_pay3]
  try simp

theorem new_slab6 (x0 : Vec Ideal S2048x256 .f32) (x1 : Vec Ideal S2048x1024 .bf16) (v : Vec Ideal S1x256x128 .f32) (a : Fin 256) (l : Fin 128) :
    k0_pay10 (k0_pay3 x0 x1) v (ix3 0 a l) = v (ix3 0 a l) + slab x0 x1 6 a l := by
  unfold slab
  pointwise [k0_pay10, k0_pay3]
  try simp

theorem new_slab7 (x0 : Vec Ideal S2048x256 .f32) (x1 : Vec Ideal S2048x1024 .bf16) (v : Vec Ideal S1x256x128 .f32) (a : Fin 256) (l : Fin 128) :
    k0_pay1 (k0_pay3 x0 x1) v (ix3 0 a l) = v (ix3 0 a l) + slab x0 x1 7 a l := by
  unfold slab
  pointwise [k0_pay1, k0_pay3]
  try simp

theorem out_B_at (c : Dev nD) (i : grid0.Coords) (arg3 : Memref sig .tc .vmem S2048x256 .f32) (harg3 : arg3.IsWhole) (arg4 : Memref sig .tc .vmem S2048x1024 .bf16) (harg4 : arg4.IsWhole) (arg5 : Memref sig .tc .vmem S8x256x128 .f32) (harg5 : arg5.IsWhole) (hc0 : ¬cond0_0 i)
    (x0 : Vec Ideal S2048x256 .f32) (x1 : Vec Ideal S2048x1024 .bf16) (xo2 : Vec Ideal S8x256x128 .f32) (h : Fin 8) (a : Fin 256) (l : Fin 128) :
    out0_B_2 c i arg3 harg3 arg4 harg4 arg5 harg5 hc0 x0 x1 xo2 (ix3 h a l) = xo2 (ix3 h a l) + slab x0 x1 h a l := by
  unfold out0_B_2 kernelRun0_B
  dsimp only
  sl_unfold_words
  simp only [View.readCov, View.readAt_eq_ld, read_writes_overlay, View.writes_nil, harg3.read_unread, harg4.read_unread, harg5.read_unread, View.ld_unit_zero (S := S2048x256) hz2, View.ld_unit_zero (S := S2048x1024) hz2]
  rw [over_slab7, over_slab6, over_slab5, over_slab4, over_slab3, over_slab2, over_slab1, over_slab0]
  match h with
  | 0 =>
    simp only [Fin.isValue, Fin.reduceEq, reduceIte]
    rw [new_slab0, ld_slab0]
  | 1 =>
    simp only [Fin.isValue, Fin.reduceEq, reduceIte]
    rw [new_slab1, ld_slab1]
  | 2 =>
    simp only [Fin.isValue, Fin.reduceEq, reduceIte]
    rw [new_slab2, ld_slab2]
  | 3 =>
    simp only [Fin.isValue, Fin.reduceEq, reduceIte]
    rw [new_slab3, ld_slab3]
  | 4 =>
    simp only [Fin.isValue, Fin.reduceEq, reduceIte]
    rw [new_slab4, ld_slab4]
  | 5 =>
    simp only [Fin.isValue, Fin.reduceEq, reduceIte]
    rw [new_slab5, ld_slab5]
  | 6 =>
    simp only [Fin.isValue, Fin.reduceEq, reduceIte]
    rw [new_slab6, ld_slab6]
  | 7 =>
    simp only [Fin.isValue, Fin.reduceEq, reduceIte]
    rw [new_slab7, ld_slab7]

theorem zeros_at (Z : Vec Ideal S8x256x128 .f32) (h : Fin 8) (a : Fin 256) (l : Fin 128) :
    (Rect.unit (s := S8x256x128) ![0, 0, 0] ![8, 256, 128] inb_S8x256x128_S8x256x128_0_0_0).overlay Z (k0_pay2 (F := Ideal)) (ix3 h a l) = 0 :=
  (overlay3 _ _ _ h a l).trans ((dif_pos ⟨⟨Nat.zero_le _, h.isLt⟩, ⟨Nat.zero_le _, a.isLt⟩, Nat.zero_le _, l.isLt⟩).trans (by pointwise [k0_pay2]))

theorem out_A_at (c : Dev nD) (i : grid0.Coords) (arg3 : Memref sig .tc .vmem S2048x256 .f32) (harg3 : arg3.IsWhole) (arg4 : Memref sig .tc .vmem S2048x1024 .bf16) (harg4 : arg4.IsWhole) (arg5 : Memref sig .tc .vmem S8x256x128 .f32) (harg5 : arg5.IsWhole) (hc0 : cond0_0 i)
    (x0 : Vec Ideal S2048x256 .f32) (x1 : Vec Ideal S2048x1024 .bf16) (h : Fin 8) (a : Fin 256) (l : Fin 128) :
    out0_A_2 c i arg3 harg3 arg4 harg4 arg5 harg5 hc0 x0 x1 (ix3 h a l) = slab x0 x1 h a l := by
  unfold out0_A_2 kernelRun0_A
  dsimp only
  sl_unfold_words
  simp only [View.readCov, View.readAt_eq_ld, read_writes_overlay, View.writes_nil, harg3.read_unread, harg4.read_unread, harg5.read_unread, View.ld_unit_zero (S := S2048x256) hz2, View.ld_unit_zero (S := S2048x1024) hz2]
  rw [over_slab7, over_slab6, over_slab5, over_slab4, over_slab3, over_slab2, over_slab1, over_slab0]
  match h with
  | 0 =>
    simp only [Fin.isValue, Fin.reduceEq, reduceIte]
    rw [new_slab0, ld_slab0]
    rw [zeros_at, zero_add]
  | 1 =>
    simp only [Fin.isValue, Fin.reduceEq, reduceIte]
    rw [new_slab1, ld_slab1]
    rw [over_slab0]
    simp only [Fin.isValue, Fin.reduceEq, reduceIte]
    rw [zeros_at, zero_add]
  | 2 =>
    simp only [Fin.isValue, Fin.reduceEq, reduceIte]
    rw [new_slab2, ld_slab2]
    rw [over_slab1, over_slab0]
    simp only [Fin.isValue, Fin.reduceEq, reduceIte]
    rw [zeros_at, zero_add]
  | 3 =>
    simp only [Fin.isValue, Fin.reduceEq, reduceIte]
    rw [new_slab3, ld_slab3]
    rw [over_slab2, over_slab1, over_slab0]
    simp only [Fin.isValue, Fin.reduceEq, reduceIte]
    rw [zeros_at, zero_add]
  | 4 =>
    simp only [Fin.isValue, Fin.reduceEq, reduceIte]
    rw [new_slab4, ld_slab4]
    rw [over_slab3, over_slab2, over_slab1, over_slab0]
    simp only [Fin.isValue, Fin.reduceEq, reduceIte]
    rw [zeros_at, zero_add]
  | 5 =>
    simp only [Fin.isValue, Fin.reduceEq, reduceIte]
    rw [new_slab5, ld_slab5]
    rw [over_slab4, over_slab3, over_slab2, over_slab1, over_slab0]
    simp only [Fin.isValue, Fin.reduceEq, reduceIte]
    rw [zeros_at, zero_add]
  | 6 =>
    simp only [Fin.isValue, Fin.reduceEq, reduceIte]
    rw [new_slab6, ld_slab6]
    rw [over_slab5, over_slab4, over_slab3, over_slab2, over_slab1, over_slab0]
    simp only [Fin.isValue, Fin.reduceEq, reduceIte]
    rw [zeros_at, zero_add]
  | 7 =>
    simp only [Fin.isValue, Fin.reduceEq, reduceIte]
    rw [new_slab7, ld_slab7]
    rw [over_slab6, over_slab5, over_slab4, over_slab3, over_slab2, over_slab1, over_slab0]
    simp only [Fin.isValue, Fin.reduceEq, reduceIte]
    rw [zeros_at, zero_add]

variable (m : (ℓ : Loc nD τ sig) → Buf (Elt Ideal) ℓ) (c : Dev nD)

/-- The activations and the cotangent the product was given. -/
def X : (⟨S8192x256, .f32⟩ : BufTy).Contents (Elt Ideal) := m (c.tc.loc main_arg0)
def Y : (⟨S8192x1024, .f32⟩ : BufTy).Contents (Elt Ideal) := m (c.tc.loc main_arg1)

theorem V0 : V m c main_arg0 = X m c := by after_reads_simp; rfl
theorem V1 : V m c main_v0 = Y m c := by after_reads_simp; rfl

theorem ix_0 : ∀ t : Fin cfg0.N, win0_0.index t = ![t.val % 4, 0] := by decide +kernel
theorem ix_1 : ∀ t : Fin cfg0.N, win0_1.index t = ![t.val % 4, t.val / 4] := by decide +kernel
theorem ix_2 : ∀ t : Fin cfg0.N, win0_2.index t = ![t.val / 4, 0, 0] := by decide +kernel

/-- A row of the block of a point. -/
def row (t : Fin cfg0.N) (k : Fin 2048) : Fin 8192 := ⟨t.val % 4 * 2048 + k.val, by omega⟩

/-- A column of the cotangent's block of a point. -/
def col (t : Fin cfg0.N) (j : Fin 1024) : Fin 1024 :=
  ⟨t.val / 4 * 1024 + j.val, by have h : t.val < 4 := Nat.lt_of_lt_of_eq t.isLt N_0; omega⟩

theorem blk_0 (t : Fin cfg0.N) (k : Fin 2048) (j : Fin 256) : iblk m c 0 t (ix2 k j) = V m c main_arg0 (ix2 (row t k) j) := by
  blk_simp [iblk]
  refine congrArg (V m c main_arg0) (funext fun a => Fin.ext ?_)
  match a with
  | ⟨0, _⟩ => blk_simp [ix_0]; rfl
  | ⟨1, _⟩ => blk_simp [ix_0]

theorem blk_1 (t : Fin cfg0.N) (k : Fin 2048) (j : Fin 1024) : iblk m c 1 t (ix2 k j) = V m c main_v0 (ix2 (row t k) (col t j)) := by
  blk_simp [iblk]
  refine congrArg (V m c main_v0) (funext fun a => Fin.ext ?_)
  match a with
  | ⟨0, _⟩ => blk_simp [ix_1]; rfl
  | ⟨1, _⟩ => blk_simp [ix_1]; rfl

/-- The product of one row block, over the whole arrays. -/
theorem slab_at (t : Fin cfg0.N) (h : Fin 8) (a : Fin 256) (l : Fin 128) :
    slab (iblk m c 0 t) (iblk m c 1 t) h a l
      = ∑ k : Fin 2048, X m c (ix2 (row t k) a) * Y m c (ix2 (row t k) (col t ⟨128 * h.val + l.val, by omega⟩)) := by
  have e0 := blk_0 m c t
  have e1 := blk_1 m c t
  rw [V0] at e0
  rw [V1] at e1
  unfold slab
  simp only [e0, e1]

theorem after_reset (n : ℕ) (hn : n < cfg0.N) (h0 : n % 4 = 0) (h : Fin 8) (a : Fin 256) (l : Fin 128) :
    outsAt0 m c n hn (ix3 h a l) = slab (iblk m c 0 ⟨n, hn⟩) (iblk m c 1 ⟨n, hn⟩) h a l := by
  rw [outsAt0_A m c ⟨n, hn⟩ h0]
  exact out_A_at ..

theorem after_step (n : ℕ) (hn : n + 1 < cfg0.N) (h0 : ¬(n + 1) % 4 = 0) (h : Fin 8) (a : Fin 256) (l : Fin 128) :
    outsAt0 m c (n + 1) hn (ix3 h a l)
      = outsAt0 m c n (Nat.lt_of_succ_lt hn) (ix3 h a l) + slab (iblk m c 0 ⟨n + 1, hn⟩) (iblk m c 1 ⟨n + 1, hn⟩) h a l := by
  rw [outsAt0_B m c ⟨n + 1, hn⟩ h0]
  exact out_B_at ..

/-- The whole product, cut in eight slabs of columns. -/
def G : (⟨S8x256x128, .f32⟩ : BufTy).Contents (Elt Ideal) := fun i =>
  ∑ k : Fin 8192, X m c (ix2 k (i 1)) * Y m c (ix2 k ⟨128 * (i 0).val + (i 2).val, by
    have h0 : (i 0).val < 8 := (i 0).isLt; have h2 : (i 2).val < 128 := (i 2).isLt; omega⟩)

/-- What the last point of a run leaves. -/
theorem after_run (j : ℕ) (hj : j < 1) (hn : 4 * j + 3 < cfg0.N) (h : Fin 8) (a : Fin 256) (l : Fin 128) :
    outsAt0 m c (4 * j + 3) hn (ix3 h a l) = G m c (ix3 ⟨8 * j + h.val, by omega⟩ a l) := by
  have hp : ∀ (s : Fin 4) (hs : 4 * j + s.val < cfg0.N), slab (iblk m c 0 ⟨4 * j + s.val, hs⟩) (iblk m c 1 ⟨4 * j + s.val, hs⟩) h a l
      = ∑ k : Fin 2048, X m c (ix2 ⟨s.val * 2048 + k.val, by omega⟩ a) * Y m c (ix2 ⟨s.val * 2048 + k.val, by omega⟩ ⟨128 * (8 * j + h.val) + l.val, by omega⟩) := by
    intro s hs
    rw [slab_at]
    refine Finset.sum_congr rfl fun k _ => ?_
    have hR : row ⟨4 * j + s.val, hs⟩ k = ⟨s.val * 2048 + k.val, by omega⟩ := Fin.ext (by
      show (4 * j + s.val) % 4 * 2048 + k.val = s.val * 2048 + k.val
      omega)
    have hC : col ⟨4 * j + s.val, hs⟩ ⟨128 * h.val + l.val, by omega⟩ = ⟨128 * (8 * j + h.val) + l.val, by omega⟩ := Fin.ext (by
      show (4 * j + s.val) / 4 * 1024 + (128 * h.val + l.val) = 128 * (8 * j + h.val) + l.val
      omega)
    rw [hR, hC]
  rw [after_step m c (4 * j + 2) hn (by omega), after_step m c (4 * j + 1) (by omega) (by omega), after_step m c (4 * j) (by omega) (by omega),
    after_reset m c (4 * j) (by omega) (by omega)]
  unfold G
  rw [Fin.sum_univ_tiles 4 2048 rfl, Fin.sum_univ_four]
  exact congr (congrArg HAdd.hAdd (congr (congrArg HAdd.hAdd (congr (congrArg HAdd.hAdd (hp 0 _)) (hp 1 _))) (hp 2 _))) (hp 3 _)

/-- A flushing point writes its block of the product. -/
theorem flushed_eq (t : Fin cfg0.N) (hf : (cfg0.win 2).flush t = true) :
    (dats m 0 c).flushed 2 t = ((cfg0.win 2).blk t).view.read (Elt Ideal) (G m c) := by
  have hm : t.val % 4 = 3 := (flush0_2 t).mp hf
  have hN : t.val < 4 := Nat.lt_of_lt_of_eq t.isLt N_0
  obtain ⟨j, hj, ht⟩ : ∃ j, j < 1 ∧ t.val = 4 * j + 3 := ⟨t.val / 4, by omega, by omega⟩
  rw [flushed2]
  funext y
  have hy0 : (y 0).val < 8 := (y 0).isLt
  have hy1 : (y 1).val < 256 := (y 1).isLt
  have hy2 : (y 2).val < 128 := (y 2).isLt
  have hx : (cfg0.win 2).xinj (grid0.coords t) y = ix3 (⟨(y 0).val, hy0⟩ : Fin 8) (⟨(y 1).val, hy1⟩ : Fin 256) (⟨(y 2).val, hy2⟩ : Fin 128) := by
    funext a; apply Fin.ext
    match a with
    | ⟨0, _⟩ => rfl
    | ⟨1, _⟩ => rfl
    | ⟨2, _⟩ => rfl
  have hb : ((cfg0.win 2).blk t).view.emb y = ix3 (⟨8 * j + (y 0).val, by omega⟩ : Fin 8) (⟨(y 1).val, hy1⟩ : Fin 256) (⟨(y 2).val, hy2⟩ : Fin 128) := by
    have i0 : win0_2.index t (0 : Fin 3) = t.val / 4 := congrFun (ix_2 t) 0
    have i1 : win0_2.index t (1 : Fin 3) = 0 := congrFun (ix_2 t) 1
    have i2 : win0_2.index t (2 : Fin 3) = 0 := congrFun (ix_2 t) 2
    funext a; apply Fin.ext
    match a with
    | ⟨0, _⟩ => show win0_2.index t (0 : Fin 3) * 8 + 1 * (y 0).val = 8 * j + (y 0).val; rw [i0]; omega
    | ⟨1, _⟩ => show win0_2.index t (1 : Fin 3) * 256 + 1 * (y 1).val = (y 1).val; rw [i1]; omega
    | ⟨2, _⟩ => show win0_2.index t (2 : Fin 3) * 128 + 1 * (y 2).val = (y 2).val; rw [i2]; omega
  show outsAt0 m c t.val t.isLt ((cfg0.win 2).xinj (grid0.coords t) y) = G m c (((cfg0.win 2).blk t).view.emb y)
  rw [hx, hb]
  obtain ⟨t, hlt⟩ := t
  dsimp only at ht
  subst ht
  exact after_run m c j hj hlt _ _ _

/-- Every entry of the array is in the block of a flushing point. -/
theorem covered (i : S8x256x128.Idx) : ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 128 := (i 2).isLt
  have hN : cfg0.N = 4 := N_0
  obtain ⟨t, ht⟩ : ∃ t : Fin cfg0.N, t.val = 4 * ((i 0).val / 8) + 3 := ⟨⟨4 * ((i 0).val / 8) + 3, by omega⟩, rfl⟩
  have i0 : win0_2.index t (0 : Fin 3) = t.val / 4 := congrFun (ix_2 t) 0
  have i1 : win0_2.index t (1 : Fin 3) = 0 := congrFun (ix_2 t) 1
  have i2 : win0_2.index t (2 : Fin 3) = 0 := congrFun (ix_2 t) 2
  refine ⟨t, (flush0_2 t).mpr (by omega), ?_⟩
  show i ∈ ((View.whole main_v1).slice (win0_2.rect t)).set
  rw [View.set_slice_whole, Rect.mem_set_unit]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

theorem final : (dats m 0 c).arrAt 2 cfg0.N = G m c :=
  (dats m 0 c).arrAt_eq_of_cover 2 _ (fun t hf => flushed_eq m c t hf) covered

theorem frame_reference (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem (c.tc.loc Cert.Reference14Ideal.main_arg0) = m (c.tc.loc Cert.Reference14Ideal.main_arg0)
      ∧ r.2.mem (c.tc.loc Cert.Reference14Ideal.main_arg1) = m (c.tc.loc Cert.Reference14Ideal.main_arg1))
      ∧ r.2.sem = fun _ => 0) :=
  (θ_run Cert.Reference14Ideal.defs _ _).mono (fun r h => ⟨fun c => (h c).2, sem_eq_zero_of_no_sems (by decide) r.2⟩)
    (Cert.Reference14Ideal.Value.run (F := Ideal) m g)

theorem ref_at (x0 : (⟨S8192x256, .f32⟩ : BufTy).Contents (Elt Ideal)) (x1 : (⟨S8192x1024, .f32⟩ : BufTy).Contents (Elt Ideal)) (i : S8x256x128.Idx) :
    Cert.Reference14Ideal.Read.val_main_v5 (F := Ideal) x0 x1 i
      = ∑ k : Fin 8192, x0 (ix2 k (i 1)) * x1 (ix2 k ⟨128 * (i 0).val + (i 2).val, by
        have h0 : (i 0).val < 8 := (i 0).isLt; have h2 : (i 2).val < 128 := (i 2).isLt; omega⟩) := by
  have h0 : (i 0).val < 8 := (i 0).isLt
  have h1 : (i 1).val < 256 := (i 1).isLt
  have h2 : (i 2).val < 128 := (i 2).isLt
  rw [Cert.Reference14Ideal.Read.val_main_v5_apply, Cert.Reference14Ideal.Read.val_main_v4_apply, Cert.Reference14Ideal.Read.val_main_v3_apply, Cert.Reference14Ideal.Read.val_main_v2_apply]
  refine Finset.sum_congr rfl fun k _ => ?_
  rw [mul_comm]
  refine congr (congrArg HMul.hMul (congrArg x0 (funext fun a => Fin.ext ?_))) (congrArg x1 (funext fun a => Fin.ext ?_))
  · match a with
    | ⟨0, _⟩ => rfl
    | ⟨1, _⟩ => show (((i 1).val * 8 + (i 0).val) * 128 + (i 2).val) / 1024 = (i 1).val; omega
  · match a with
    | ⟨0, _⟩ => rfl
    | ⟨1, _⟩ => show (((i 1).val * 8 + (i 0).val) * 128 + (i 2).val) % 1024 = 128 * (i 0).val + (i 2).val; omega

/-- The two results are one array. -/
theorem same (x0 : (⟨S8192x256, .f32⟩ : BufTy).Contents (Elt Ideal)) (x1 : (⟨S8192x1024, .f32⟩ : BufTy).Contents (Elt Ideal))
    (h0 : x0 = X m c) (h1 : x1 = Y m c) : Cert.Reference14Ideal.Read.val_main_v5 (F := Ideal) x0 x1 = G m c := by
  subst h0; subst h1
  exact funext fun i => ref_at _ _ i

end Cert.Weight.Shards
-- ==== Proof.Weight.Gates.lean ====
module

public import proofs.«01_k».proof.Proof.Gen.Kernel16Ideal.Value
public import proofs.«01_k».proof.Proof.Gen.Reference16Ideal.Run
public import proofs.«01_k».proof.Proof.Gen.Reference16Ideal.Read
public import Idealize.ShloMosaic.Lib.StableHlo.RunRead
public import Idealize.ShloMosaic.Lib.Pipeline.ValueKit
public import Idealize.ShloMosaic.Lib.Pointwise

@[expose] public section

set_option maxRecDepth 16384
set_option maxHeartbeats 4000000

noncomputable section

namespace Cert.Weight.Gates

open Idealize.ShloMosaic Idealize.ShloMosaic.TcCoe Idealize.ShloMosaic.Tactic
open Idealize.ShloMosaic.StableHlo
open Cert.Kernel16Ideal Cert.Kernel16Ideal.Gen Cert.Kernel16Ideal.Value

/-! The gradient of the gates' sixteen columns of the shared weight: four row blocks added up are the whole product. -/

variable (m : (ℓ : Loc nD τ sig) → Buf (Elt Ideal) ℓ) (c : Dev nD)

/-- The activations and the cotangent the product was given. -/
def X : (⟨S8192x1024, .f32⟩ : BufTy).Contents (Elt Ideal) := m (c.tc.loc main_arg0)
def Y : (⟨S8192x16, .f32⟩ : BufTy).Contents (Elt Ideal) := m (c.tc.loc main_arg1)

theorem V0 : V m c main_v0 = X m c := by after_reads_simp; rfl
theorem V1 : V m c main_arg1 = Y m c := by after_reads_simp; rfl

theorem ix_0 : ∀ t : Fin cfg0.N, win0_0.index t = ![t.val, 0] := by decide +kernel
theorem ix_1 : ∀ t : Fin cfg0.N, win0_1.index t = ![t.val, 0] := by decide +kernel

/-- A row of the block of a point. -/
def row (t : Fin cfg0.N) (k : Fin 2048) : Fin 8192 :=
  ⟨t.val * 2048 + k.val, by have h : t.val < 4 := Nat.lt_of_lt_of_eq t.isLt N_0; omega⟩

theorem blk_0 (t : Fin cfg0.N) (k : Fin 2048) (j : Fin 1024) : iblk m c 0 t (ix2 k j) = V m c main_v0 (ix2 (row t k) j) := by
  blk_simp [iblk]
  refine congrArg (V m c main_v0) (funext fun a => Fin.ext ?_)
  match a with
  | ⟨0, _⟩ => blk_simp [ix_0]; rfl
  | ⟨1, _⟩ => blk_simp [ix_0]

theorem blk_1 (t : Fin cfg0.N) (k : Fin 2048) (j : Fin 16) : iblk m c 1 t (ix2 k j) = V m c main_arg1 (ix2 (row t k) j) := by
  blk_simp [iblk]
  refine congrArg (V m c main_arg1) (funext fun a => Fin.ext ?_)
  match a with
  | ⟨0, _⟩ => blk_simp [ix_1]; rfl
  | ⟨1, _⟩ => blk_simp [ix_1]

/-- The product of one row block. -/
def part (t : Fin cfg0.N) (i : Fin 1024) (j : Fin 16) : EReal :=
  ∑ k : Fin 2048, X m c (ix2 (row t k) i)
    * Y m c (ix2 (row t k) j)

theorem step_at (n : ℕ) (h : n < cfg0.N) (acc : Vec Ideal S1024x16 .f32) (i : Fin 1024) (j : Fin 16) :
    step2 m c n h acc (ix2 i j) = acc (ix2 i j) + part m c ⟨n, h⟩ i j := by
  unfold step2
  have e0 := blk_0 m c ⟨n, h⟩
  have e1 := blk_1 m c ⟨n, h⟩
  rw [V0] at e0
  rw [V1] at e1
  generalize iblk m c 0 ⟨n, h⟩ = x0 at *
  generalize iblk m c 1 ⟨n, h⟩ = x1 at *
  pointwise [k0_pay2]
  simp only [e0, e1, part]

theorem reset_at (n : ℕ) (h : n < cfg0.N) (i : Fin 1024) (j : Fin 16) :
    reset2 m c n h (ix2 i j) = part m c ⟨n, h⟩ i j := by
  refine (step_at m c n h (k0_pay1 (F := Ideal)) i j).trans ?_
  pointwise [k0_pay1]

theorem G_at (i : Fin 1024) (j : Fin 16) : G2 m c (ix2 i j) = ∑ k : Fin 8192,
    X m c (ix2 k i)
      * Y m c (ix2 k j) := by
  have hN : cfg0.N = 4 := N_0
  have hr : run2Of (ix2 i j) = 0 := by
    show 1 * (i.val / 1024 - 0) + 1 * (j.val / 16 - 0) = 0
    omega
  have hl : loc2Of (ix2 i j) = ix2 i j := by
    funext a; apply Fin.ext
    match a with
    | ⟨0, _⟩ => exact Nat.mod_eq_of_lt i.isLt
    | ⟨1, _⟩ => exact Nat.mod_eq_of_lt j.isLt
  unfold G2
  rw [dif_pos (by rw [hr, hN]; decide), hl]
  have e : ∀ (b : ℕ) (h : b + 3 < cfg0.N), b = 0 → Pipeline.accAt (reset2 m c) (step2 m c) b 3 h (ix2 i j)
      = part m c ⟨0, by omega⟩ i j + part m c ⟨1, by omega⟩ i j + part m c ⟨2, by omega⟩ i j + part m c ⟨3, by omega⟩ i j := by
    intro b h hb
    subst hb
    rw [Pipeline.accAt_succ, step_at, Pipeline.accAt_succ, step_at, Pipeline.accAt_succ, step_at]
    exact congrArg (· + _ + _ + _) (reset_at m c _ _ i j)
  rw [e _ _ (by rw [hr]), Fin.sum_univ_tiles 4 2048 rfl, Fin.sum_univ_four]
  rfl

theorem ref_at (x0 : (⟨S8192x1024, .f32⟩ : BufTy).Contents (Elt Ideal)) (x1 : (⟨S8192x16, .f32⟩ : BufTy).Contents (Elt Ideal)) (i : Fin 1024) (j : Fin 16) :
    Cert.Reference16Ideal.Read.val_main_v3 (F := Ideal) x0 x1 (ix2 i j) = ∑ k : Fin 8192, x0 (ix2 k i) * x1 (ix2 k j) := by
  rw [Cert.Reference16Ideal.Read.val_main_v3_apply, Cert.Reference16Ideal.Read.val_main_v2_apply]
  refine Finset.sum_congr rfl fun k _ => ?_
  rw [mul_comm]
  refine congr (congrArg HMul.hMul (congrArg x0 ?_)) (congrArg x1 ?_) <;> (funext a; match a with | ⟨0, _⟩ => rfl | ⟨1, _⟩ => rfl)

theorem frame_reference (m : (ℓ : Loc Cert.Reference16Ideal.nD Cert.Reference16Ideal.τ Cert.Reference16Ideal.sig) → Buf (Elt Ideal) ℓ) (g : Dev Cert.Reference16Ideal.nD → PrngReg) :
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem (c.tc.loc Cert.Reference16Ideal.main_arg0) = m (c.tc.loc Cert.Reference16Ideal.main_arg0)
      ∧ r.2.mem (c.tc.loc Cert.Reference16Ideal.main_arg1) = m (c.tc.loc Cert.Reference16Ideal.main_arg1))
      ∧ r.2.sem = fun _ => 0) :=
  (θ_run Cert.Reference16Ideal.defs _ _).mono (fun r h => ⟨fun c => (h c).2, sem_eq_zero_of_no_sems (by decide) r.2⟩)
    (Cert.Reference16Ideal.Value.run (F := Ideal) m g)

/-- The two results are one array. -/
theorem same (x0 : (⟨S8192x1024, .f32⟩ : BufTy).Contents (Elt Ideal)) (x1 : (⟨S8192x16, .f32⟩ : BufTy).Contents (Elt Ideal))
    (h0 : x0 = X m c) (h1 : x1 = Y m c) :
    Cert.Reference16Ideal.Read.val_main_v3 (F := Ideal) x0 x1 = G2 m c := by
  subst h0; subst h1
  funext y
  obtain ⟨i, j, rfl⟩ : ∃ (i : Fin 1024) (j : Fin 16), y = ix2 i j := ⟨y 0, y 1, eq_ix2 y⟩
  rw [ref_at, G_at]

end Cert.Weight.Gates
-- ==== Proof.lean ====
/- The certificate's claims, assembled: the kernel's frame is in Proof/Frame/, the ideal kernel's frame and results and
   the reference's results are in Proof/Flash/, the mixer's backward pass is in Proof/Mixer/, the gradients of the
   weights are in Proof/Weight/, the forward passes are in Proof/Forward/, and the backward passes of the query projection,
   of the layer embedding and of the output projection are in Proof/Backward/. -/
module

public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Kernel9.Frame
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Kernel10.Frame
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Kernel11.Frame
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Kernel12.Frame
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Kernel13.Frame
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Kernel14.Frame
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Kernel15.Frame
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Kernel16.Frame
public import proofs.«01_k».proof.Proof.Gen.Reference16Ideal.Run
public import proofs.«01_k».proof.Proof.Gen.Reference16Ideal.Read
public import proofs.«01_k».proof.Proof.Gen.Pre_finite_out
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frame.Launch
public import proofs.«01_k».proof.Proof.Flash.Claim
public import proofs.«01_k».proof.Proof.Mixer.Claim
public import proofs.«01_k».proof.Proof.Weight.Wide
public import proofs.«01_k».proof.Proof.Weight.Tall
public import proofs.«01_k».proof.Proof.Weight.Square
public import proofs.«01_k».proof.Proof.Weight.Plain
public import proofs.«01_k».proof.Proof.Weight.Pair
public import proofs.«01_k».proof.Proof.Forward.Mixer
public import proofs.«01_k».proof.Proof.Forward.Embed
public import proofs.«01_k».proof.Proof.Forward.Query
public import proofs.«01_k».proof.Proof.Forward.Out
public import proofs.«01_k».proof.Proof.Backward.Query
public import proofs.«01_k».proof.Proof.Backward.Embed
public import proofs.«01_k».proof.Proof.Backward.Out
public import proofs.«01_k».proof.Proof.Weight.Shards
public import proofs.«01_k».proof.Proof.Weight.Gates
public import Idealize.ShloMosaic.Adequacy
public import Idealize.ShloMosaic.Init

@[expose] public section

noncomputable section

namespace Cert.Proof

open Idealize.ShloMosaic Idealize.SL.Sem Cert.Kernel

/-- From finite arguments the kernel and the reference end with the same five arrays: the gradients of the real
    numbers the arguments hold. -/
theorem algebraic : Cert.algebraic_KernelIdeal_ReferenceIdeal_pre_finite (hKernelIdeal := Cert.KernelIdeal.Gen.facts)
    (hReferenceIdeal := Cert.ReferenceIdeal.Gen.facts) (hPre_finite := Cert.Flash.Finite.facts) := by
  intro m g m' g' hpre hagree
  have := Cert.Flash.Finite.facts
  have H := fun c => Cert.Flash.Finite.reads _ _ _ _ _ (hpre c)
  refine ⟨_, _, _, _, _, Cert.Flash.Claim.run_kernel m g _ H, Cert.Flash.Claim.run_reference m' g' _ fun c => ?_⟩
  obtain ⟨a0, a1, a2, a3, a4⟩ := hagree c
  rw [a0, a1, a2, a3, a4]
  exact H c

/-- The mixer's backward pass: whatever the arguments hold, the gradients of the input, of the hidden layer and of the
    gain are the reference's. -/
theorem mixer : Cert.algebraic_Kernel2Ideal_Reference2Ideal (hKernel2Ideal := Cert.Kernel2Ideal.Gen.facts)
    (hReference2Ideal := Cert.Reference2Ideal.Gen.facts) := by
  intro m g m' g' _ hagree
  refine ⟨_, _, _, Cert.Kernel2Ideal.Value.run (F := Ideal) m g,
    (θ_run _ _ _).mono (fun r h c => ?_) (Cert.Reference2Ideal.Value.run (F := Ideal) m' g')⟩
  obtain ⟨h54, h55, h56, kept⟩ := h c
  obtain ⟨a0, a1, a2, a3, a4⟩ := hagree c
  refine ⟨h54.trans ((Cert.Reference2Ideal.Read.val_main_v54_eq (F := Ideal) m' c).trans ?_),
    h55.trans ((Cert.Reference2Ideal.Read.val_main_v55_eq (F := Ideal) _ _ _ _ _).trans ?_),
    h56.trans ((Cert.Reference2Ideal.Read.val_main_v56_eq (F := Ideal) _ _ _ _ _).trans ?_), kept⟩
  · rw [a0, a1, a2, a3, a4]
    exact Cert.Mixer.input_eq m c
  · rw [a0, a1, a2, a3, a4]
    exact Cert.Mixer.hidden_eq m c
  · rw [a0, a1, a2, a3, a4]
    exact Cert.Mixer.gain_eq m c

/-- The gradient of a matrix to the hidden layer, left in eight slabs of columns. -/
theorem wide : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Weight.Wide.G m c, (θ_run _ _ _).mono (fun r h c => ⟨(h c).1.trans (Cert.Weight.Wide.final m c), (h c).2⟩) (Cert.Kernel3Ideal.Value.run_blocks (F := Ideal) m g),
    (θ_run _ _ _).mono (fun r h c => ⟨(h c).1.trans ?_, (h c).2⟩) (Cert.Reference3Ideal.Value.run (F := Ideal) m' g')⟩
  exact (Cert.Reference3Ideal.Read.val_main_v5_eq (F := Ideal) _ _).trans (Cert.Weight.Wide.same m c _ _ (hagree c).1 (hagree c).2)

/-- The gradient of a matrix from the hidden layer. -/
theorem tall : Cert.algebraic_Kernel4Ideal_Reference4Ideal (hKernel4Ideal := Cert.Kernel4Ideal.Gen.facts)
    (hReference4Ideal := Cert.Reference4Ideal.Gen.facts) := by
  intro m g m' g' _ hagree
  refine ⟨_, Cert.Kernel4Ideal.Value.run (F := Ideal) m g,
    (θ_run _ _ _).mono (fun r h c => ⟨(h c).1.trans ?_, (h c).2⟩) (Cert.Reference4Ideal.Value.run (F := Ideal) m' g')⟩
  exact (Cert.Reference4Ideal.Read.val_main_v3_eq (F := Ideal) _ _).trans (Cert.Weight.Tall.same m c _ _ (hagree c).1 (hagree c).2)

/-- The gradient of a square matrix. -/
theorem square : Cert.algebraic_Kernel5Ideal_Reference5Ideal (hKernel5Ideal := Cert.Kernel5Ideal.Gen.facts)
    (hReference5Ideal := Cert.Reference5Ideal.Gen.facts) := by
  intro m g m' g' _ hagree
  refine ⟨_, Cert.Kernel5Ideal.Value.run (F := Ideal) m g,
    (θ_run _ _ _).mono (fun r h c => ⟨(h c).1.trans ?_, (h c).2⟩) (Cert.Reference5Ideal.Value.run (F := Ideal) m' g')⟩
  exact (Cert.Reference5Ideal.Read.val_main_v3_eq (F := Ideal) _ _).trans (Cert.Weight.Square.same m c _ _ (hagree c).1 (hagree c).2)

/-- The mixer's forward pass. -/
theorem mixerForward : Cert.algebraic_Kernel6Ideal_Reference6Ideal (hKernel6Ideal := Cert.Kernel6Ideal.Gen.facts)
    (hReference6Ideal := Cert.Reference6Ideal.Gen.facts) := by
  intro m g m' g' _ hagree
  refine ⟨fun c => Cert.Reference6Ideal.Read.val_main_v17 (F := Ideal) (Cert.Forward.Mixer.H0 m c) (Cert.Forward.Mixer.G0 m c) (Cert.Forward.Mixer.A0 m c) (Cert.Forward.Mixer.B0 m c), fun c => Cert.Reference6Ideal.Read.val_main_v18 (F := Ideal) (Cert.Forward.Mixer.H0 m c) (Cert.Forward.Mixer.G0 m c), fun c => Cert.Reference6Ideal.Read.val_main_v13 (F := Ideal) (Cert.Forward.Mixer.H0 m c) (Cert.Forward.Mixer.G0 m c) (Cert.Forward.Mixer.A0 m c), fun c => Cert.Reference6Ideal.Read.val_main_v19 (F := Ideal) (Cert.Forward.Mixer.H0 m c) (Cert.Forward.Mixer.G0 m c) (Cert.Forward.Mixer.A0 m c),
    (θ_run _ _ _).mono (fun r h c => ?_) (Cert.Kernel6Ideal.Value.run_blocks (F := Ideal) m g),
    (θ_run _ _ _).mono (fun r h c => ?_) (Cert.Reference6Ideal.Value.run (F := Ideal) m' g')⟩
  · obtain ⟨h0, h1, h2, h3, kept⟩ := h c
    exact ⟨h0.trans (Cert.Forward.Mixer.final_4 m c), h1.trans (Cert.Forward.Mixer.final_5 m c), h2.trans (Cert.Forward.Mixer.final_6 m c), h3.trans (Cert.Forward.Mixer.final_7 m c), kept⟩
  · obtain ⟨h0, h1, h2, h3, kept⟩ := h c
    obtain ⟨a0, a1, a2, a3⟩ := hagree c
    refine ⟨h0.trans ((Cert.Reference6Ideal.Read.val_main_v17_eq (F := Ideal) _ _ _ _).trans ?_), h1.trans ((Cert.Reference6Ideal.Read.val_main_v18_eq (F := Ideal) _ _).trans ?_), h2.trans ((Cert.Reference6Ideal.Read.val_main_v13_eq (F := Ideal) _ _ _).trans ?_), h3.trans ((Cert.Reference6Ideal.Read.val_main_v19_eq (F := Ideal) _ _ _).trans ?_), kept⟩
    · rw [a0, a1, a2, a3]
      rfl
    · rw [a0, a1]
      rfl
    · rw [a0, a1, a2]
      rfl
    · rw [a0, a1, a2]
      rfl

/-- The gradient of a square matrix, its second factor left as it is. -/
theorem plain : Cert.algebraic_Kernel7Ideal_Reference7Ideal (hKernel7Ideal := Cert.Kernel7Ideal.Gen.facts)
    (hReference7Ideal := Cert.Reference7Ideal.Gen.facts) := by
  intro m g m' g' _ hagree
  refine ⟨_, Cert.Kernel7Ideal.Value.run (F := Ideal) m g,
    (θ_run _ _ _).mono (fun r h c => ⟨(h c).1.trans ?_, (h c).2⟩) (Cert.Reference7Ideal.Value.run (F := Ideal) m' g')⟩
  exact (Cert.Reference7Ideal.Read.val_main_v3_eq (F := Ideal) _ _).trans (Cert.Weight.Plain.same m c _ _ (hagree c).1 (hagree c).2)

/-- The layer embedding's forward pass. -/
theorem embedForward : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Reference8Ideal.Read.val_main_v22 (F := Ideal) (Cert.Forward.Embed.H0 m c) (Cert.Forward.Embed.G0 m c) (Cert.Forward.Embed.A0 m c) (Cert.Forward.Embed.P0 m c) (Cert.Forward.Embed.B0 m c), fun c => Cert.Reference8Ideal.Read.val_main_v23 (F := Ideal) (Cert.Forward.Embed.H0 m c) (Cert.Forward.Embed.G0 m c), fun c => Cert.Reference8Ideal.Read.val_main_v19 (F := Ideal) (Cert.Forward.Embed.H0 m c) (Cert.Forward.Embed.G0 m c) (Cert.Forward.Embed.A0 m c),
    (θ_run _ _ _).mono (fun r h c => ?_) (Cert.Kernel8Ideal.Value.run_blocks (F := Ideal) m g),
    (θ_run _ _ _).mono (fun r h c => ?_) (Cert.Reference8Ideal.Value.run (F := Ideal) m' g')⟩
  · obtain ⟨h0, h1, h2, kept⟩ := h c
    exact ⟨h0.trans (Cert.Forward.Embed.final_5 m c), h1.trans (Cert.Forward.Embed.final_6 m c), h2.trans (Cert.Forward.Embed.final_7 m c), kept⟩
  · obtain ⟨h0, h1, h2, kept⟩ := h c
    obtain ⟨a0, a1, a2, a3, a4⟩ := hagree c
    refine ⟨h0.trans ((Cert.Reference8Ideal.Read.val_main_v22_eq (F := Ideal) _ _ _ _ _).trans ?_), h1.trans ((Cert.Reference8Ideal.Read.val_main_v23_eq (F := Ideal) _ _).trans ?_), h2.trans ((Cert.Reference8Ideal.Read.val_main_v19_eq (F := Ideal) _ _ _).trans ?_), kept⟩
    · rw [a0, a1, a2, a3, a4]
      rfl
    · rw [a0, a1]
      rfl
    · rw [a0, a1, a2]
      rfl

/-- The query projection's forward pass. -/
theorem queryForward : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Reference9Ideal.Read.val_main_v16 (F := Ideal) (Cert.Forward.Query.H0 m c) (Cert.Forward.Query.G0 m c), fun c => Cert.Reference9Ideal.Read.val_main_v17 (F := Ideal) (Cert.Forward.Query.H0 m c) (Cert.Forward.Query.G0 m c) (Cert.Forward.Query.A0 m c), fun c => Cert.Reference9Ideal.Read.val_main_v19 (F := Ideal) (Cert.Forward.Query.H0 m c) (Cert.Forward.Query.G0 m c) (Cert.Forward.Query.A0 m c),
    (θ_run _ _ _).mono (fun r h c => ?_) (Cert.Kernel9Ideal.Value.run_blocks (F := Ideal) m g),
    (θ_run _ _ _).mono (fun r h c => ?_) (Cert.Reference9Ideal.Value.run (F := Ideal) m' g')⟩
  · obtain ⟨h0, h1, h2, kept⟩ := h c
    exact ⟨h0.trans (Cert.Forward.Query.final_3 m c), h1.trans (Cert.Forward.Query.final_4 m c), h2.trans (Cert.Forward.Query.final_5 m c), kept⟩
  · obtain ⟨h0, h1, h2, kept⟩ := h c
    obtain ⟨a0, a1, a2⟩ := hagree c
    refine ⟨h0.trans ((Cert.Reference9Ideal.Read.val_main_v16_eq (F := Ideal) _ _).trans ?_), h1.trans ((Cert.Reference9Ideal.Read.val_main_v17_eq (F := Ideal) _ _ _).trans ?_), h2.trans ((Cert.Reference9Ideal.Read.val_main_v19_eq (F := Ideal) _ _ _).trans ?_), kept⟩
    · rw [a0, a1]
      rfl
    · rw [a0, a1, a2]
      rfl
    · rw [a0, a1, a2]
      rfl

/-- The output projection's forward pass. -/
theorem outForward : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Read.val_main_v1 (F := Ideal) (Cert.Forward.Out.H0 m c) (Cert.Forward.Out.O0 m c) (Cert.Forward.Out.A0 m c),
    (θ_run _ _ _).mono (fun r h c => ?_) (Cert.Kernel10Ideal.Value.run_blocks (F := Ideal) m g),
    (θ_run _ _ _).mono (fun r h c => ?_) (Cert.Reference10Ideal.Value.run (F := Ideal) m' g')⟩
  · obtain ⟨h0, kept⟩ := h c
    exact ⟨h0.trans (Cert.Forward.Out.final_3 m c), kept⟩
  · obtain ⟨h0, kept⟩ := h c
    obtain ⟨a0, a1, a2⟩ := hagree c
    refine ⟨h0.trans ((Cert.Reference10Ideal.Read.val_main_v1_eq (F := Ideal) _ _ _).trans ?_), kept⟩
    · rw [a0, a1, a2]
      rfl

/-- The query projection's backward pass. -/
theorem queryBackward : Cert.algebraic_Kernel11Ideal_Reference11Ideal (hKernel11Ideal := Cert.Kernel11Ideal.Gen.facts)
    (hReference11Ideal := Cert.Reference11Ideal.Gen.facts) := by
  intro m g m' g' _ hagree
  refine ⟨_, _, _, Cert.Kernel11Ideal.Value.run (F := Ideal) m g,
    (θ_run _ _ _).mono (fun r h c => ?_) (Cert.Reference11Ideal.Value.run (F := Ideal) m' g')⟩
  obtain ⟨h0, h1, h2, kept⟩ := h c
  obtain ⟨a0, a1, a2, a3, a4⟩ := hagree c
  refine ⟨h0.trans ((Cert.Reference11Ideal.Read.val_main_v44_eq (F := Ideal) m' c).trans ?_), h1.trans ((Cert.Reference11Ideal.Read.val_main_v45_eq (F := Ideal) _).trans ?_), h2.trans ((Cert.Reference11Ideal.Read.val_main_v46_eq (F := Ideal) _ _ _).trans ?_), kept⟩
  · rw [a0, a1, a2, a3, a4]
    exact Cert.Backward.Query.inner_eq m c
  · rw [a1]
    exact Cert.Backward.Query.scaled_eq m c
  · rw [a1, a2, a4]
    exact Cert.Backward.Query.gain_eq m c

/-- The gradient of a matrix to the convolution, left in eight slabs of columns. -/
theorem pair : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Weight.Pair.G m c, (θ_run _ _ _).mono (fun r h c => ⟨(h c).1.trans (Cert.Weight.Pair.final m c), (h c).2⟩) (Cert.Kernel12Ideal.Value.run_blocks (F := Ideal) m g),
    (θ_run _ _ _).mono (fun r h c => ⟨(h c).1.trans ?_, (h c).2⟩) (Cert.Reference12Ideal.Value.run (F := Ideal) m' g')⟩
  exact (Cert.Reference12Ideal.Read.val_main_v5_eq (F := Ideal) _ _).trans (Cert.Weight.Pair.same m c _ _ (hagree c).1 (hagree c).2)

/-- The layer embedding's backward pass. -/
theorem embedBackward : Cert.algebraic_Kernel13Ideal_Reference13Ideal (hKernel13Ideal := Cert.Kernel13Ideal.Gen.facts)
    (hReference13Ideal := Cert.Reference13Ideal.Gen.facts) := by
  intro m g m' g' _ hagree
  refine ⟨_, _, _, _, Cert.Kernel13Ideal.Value.run (F := Ideal) m g,
    (θ_run _ _ _).mono (fun r h c => ?_) (Cert.Reference13Ideal.Value.run (F := Ideal) m' g')⟩
  obtain ⟨h0, h1, h2, h3, kept⟩ := h c
  obtain ⟨a0, a1, a2, a3, a4, a5⟩ := hagree c
  refine ⟨h0.trans ((Cert.Reference13Ideal.Read.val_main_v57_eq (F := Ideal) m' c).trans ?_), h1.trans ((Cert.Reference13Ideal.Read.val_main_v58_eq (F := Ideal) _ _ _ _ _ _).trans ?_), h2.trans ((Cert.Reference13Ideal.Read.val_main_v59_eq (F := Ideal) _ _ _ _).trans ?_), h3.trans ((Cert.Reference13Ideal.Read.val_main_v60_eq (F := Ideal) _ _ _ _ _ _).trans ?_), kept⟩
  · rw [a0, a1, a2, a3, a4, a5]
    exact Cert.Backward.Embed.inner_eq m c
  · rw [a0, a1, a2, a3, a4, a5]
    exact Cert.Backward.Embed.gate_eq m c
  · rw [a0, a1, a2, a3]
    exact Cert.Backward.Embed.embed_eq m c
  · rw [a0, a1, a2, a3, a4, a5]
    exact Cert.Backward.Embed.gain_eq m c

/-- The gradient of the embedding's projection, left in eight slabs of columns. -/
theorem shards : Cert.algebraic_Kernel14Ideal_Reference14Ideal (hKernel14Ideal := Cert.Kernel14Ideal.Gen.facts)
    (hReference14Ideal := Cert.Reference14Ideal.Gen.facts) := by
  intro m g m' g' _ hagree
  refine ⟨fun c => Cert.Weight.Shards.G m c, (θ_run _ _ _).mono (fun r h c => ⟨(h c).1.trans (Cert.Weight.Shards.final m c), (h c).2⟩) (Cert.Kernel14Ideal.Value.run_blocks (F := Ideal) m g),
    (θ_run _ _ _).mono (fun r h c => ⟨(h c).1.trans ?_, (h c).2⟩) (Cert.Reference14Ideal.Value.run (F := Ideal) m' g')⟩
  exact (Cert.Reference14Ideal.Read.val_main_v5_eq (F := Ideal) _ _).trans (Cert.Weight.Shards.same m c _ _ (hagree c).1 (hagree c).2)

/-- The output projection's backward pass. -/
theorem outBackward : Cert.algebraic_Kernel15Ideal_Reference15Ideal_pre_finite_out (hKernel15Ideal := Cert.Kernel15Ideal.Gen.facts)
    (hReference15Ideal := Cert.Reference15Ideal.Gen.facts) (hPre_finite_out := Cert.Pre_finite_out.Gen.facts) := by
  intro m g m' g' hpre hagree
  have H := fun c => Cert.Backward.Out.reads _ _ _ (hpre c)
  refine ⟨fun c => Cert.Reference15Ideal.Read.val_main_v5 (F := Ideal) (Cert.Backward.Out.D0 m c) (Cert.Backward.Out.W0 m c),
    fun c => Cert.Reference15Ideal.Read.val_main_v7 (F := Ideal) (Cert.Backward.Out.D0 m c) (Cert.Backward.Out.W0 m c),
    fun c => Cert.Reference15Ideal.Read.val_main_v4 (F := Ideal) (Cert.Backward.Out.D0 m c) (Cert.Backward.Out.W0 m c) (Cert.Backward.Out.O0 m c),
    (θ_run _ _ _).mono (fun r h c => ?_) (Cert.Kernel15Ideal.Value.run_blocks (F := Ideal) m g),
    (θ_run _ _ _).mono (fun r h c => ?_) (Cert.Reference15Ideal.Value.run (F := Ideal) m' g')⟩
  · obtain ⟨h0, h1, h2, kept⟩ := h c
    exact ⟨h0.trans (Cert.Backward.Out.final_3 m c), h1.trans (Cert.Backward.Out.final_4 m c),
      h2.trans (Cert.Backward.Out.final_5 m c (H c).1 (H c).2.1 (H c).2.2), kept⟩
  · obtain ⟨h0, h1, h2, kept⟩ := h c
    obtain ⟨a0, a1, a2⟩ := hagree c
    refine ⟨h0.trans ((Cert.Reference15Ideal.Read.val_main_v5_eq (F := Ideal) _ _).trans ?_), h1.trans ((Cert.Reference15Ideal.Read.val_main_v7_eq (F := Ideal) _ _).trans ?_), h2.trans ((Cert.Reference15Ideal.Read.val_main_v4_eq (F := Ideal) _ _ _).trans ?_), kept⟩
    · rw [a0, a1]
      rfl
    · rw [a0, a1]
      rfl
    · rw [a0, a1, a2]
      rfl

/-- The gradient of the gates' columns of the shared weight. -/
theorem gates : Cert.algebraic_Kernel16Ideal_Reference16Ideal (hKernel16Ideal := Cert.Kernel16Ideal.Gen.facts)
    (hReference16Ideal := Cert.Reference16Ideal.Gen.facts) := by
  intro m g m' g' _ hagree
  refine ⟨_, Cert.Kernel16Ideal.Value.run (F := Ideal) m g,
    (θ_run _ _ _).mono (fun r h c => ⟨(h c).1.trans ?_, (h c).2⟩) (Cert.Reference16Ideal.Value.run (F := Ideal) m' g')⟩
  exact (Cert.Reference16Ideal.Read.val_main_v3_eq (F := Ideal) _ _).trans (Cert.Weight.Gates.same m c _ _ (hagree c).1 (hagree c).2)

/-- Every claim of the certificate: the frames, the sanctioned change of the mask's constant, and the gradients of each
    kernel equal to those of its reference over the extended reals. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Flash.Finite.facts, Cert.Pre_finite_out.Gen.facts,
    fun m ρ _ => Cert.Kernel.Forget.frame m ρ,
    fun m ρ _ => Cert.KernelIdeal.Flash.frame m ρ,
    fun m ρ _ => Cert.KernelIdeal.Flash.frame m ρ,
    fun m ρ _ => Cert.Flash.Claim.frame_reference m ρ,
    fun m ρ _ => Cert.Flash.Claim.frame_reference m ρ,
    fun m ρ _ => Cert.Kernel2.Gen.frame m ρ,
    fun m ρ _ => Cert.Kernel2Ideal.Gen.frame m ρ,
    fun m ρ _ => Cert.Mixer.Ref.frame_reference m ρ,
    fun m ρ _ => Cert.Kernel3.Gen.frame m ρ,
    fun m ρ _ => Cert.Kernel3Ideal.Gen.frame m ρ,
    fun m ρ _ => Cert.Weight.Wide.frame_reference m ρ,
    fun m ρ _ => Cert.Kernel4.Gen.frame m ρ,
    fun m ρ _ => Cert.Kernel4Ideal.Gen.frame m ρ,
    fun m ρ _ => Cert.Weight.Tall.frame_reference m ρ,
    fun m ρ _ => Cert.Kernel5.Gen.frame m ρ,
    fun m ρ _ => Cert.Kernel5Ideal.Gen.frame m ρ,
    fun m ρ _ => Cert.Weight.Square.frame_reference m ρ,
    fun m ρ _ => Cert.Kernel6.Gen.frame m ρ,
    fun m ρ _ => Cert.Kernel6Ideal.Gen.frame m ρ,
    fun m ρ _ => Cert.Forward.Mixer.frame_reference m ρ,
    fun m ρ _ => Cert.Kernel7.Gen.frame m ρ,
    fun m ρ _ => Cert.Kernel7Ideal.Gen.frame m ρ,
    fun m ρ _ => Cert.Weight.Plain.frame_reference m ρ,
    fun m ρ _ => Cert.Kernel8.Gen.frame m ρ,
    fun m ρ _ => Cert.Kernel8Ideal.Gen.frame m ρ,
    fun m ρ _ => Cert.Forward.Embed.frame_reference m ρ,
    fun m ρ _ => Cert.Kernel9.Gen.frame m ρ,
    fun m ρ _ => Cert.Kernel9Ideal.Gen.frame m ρ,
    fun m ρ _ => Cert.Forward.Query.frame_reference m ρ,
    fun m ρ _ => Cert.Kernel10.Gen.frame m ρ,
    fun m ρ _ => Cert.Kernel10Ideal.Gen.frame m ρ,
    fun m ρ _ => Cert.Forward.Out.frame_reference m ρ,
    fun m ρ _ => Cert.Kernel11.Gen.frame m ρ,
    fun m ρ _ => Cert.Kernel11Ideal.Gen.frame m ρ,
    fun m ρ _ => Cert.Backward.Query.frame_reference m ρ,
    fun m ρ _ => Cert.Kernel12.Gen.frame m ρ,
    fun m ρ _ => Cert.Kernel12Ideal.Gen.frame m ρ,
    fun m ρ _ => Cert.Weight.Pair.frame_reference m ρ,
    fun m ρ _ => Cert.Kernel13.Gen.frame m ρ,
    fun m ρ _ => Cert.Kernel13Ideal.Gen.frame m ρ,
    fun m ρ _ => Cert.Backward.Embed.frame_reference m ρ,
    fun m ρ _ => Cert.Kernel14.Gen.frame m ρ,
    fun m ρ _ => Cert.Kernel14Ideal.Gen.frame m ρ,
    fun m ρ _ => Cert.Weight.Shards.frame_reference m ρ,
    fun m ρ _ => Cert.Kernel15.Gen.frame m ρ,
    fun m ρ _ => Cert.Kernel15Ideal.Gen.frame m ρ,
    fun m ρ _ => Cert.Kernel15Ideal.Gen.frame m ρ,
    fun m ρ _ => Cert.Backward.Out.frame_reference m ρ,
    fun m ρ _ => Cert.Backward.Out.frame_reference m ρ,
    fun m ρ _ => Cert.Kernel16.Gen.frame m ρ,
    fun m ρ _ => Cert.Kernel16Ideal.Gen.frame m ρ,
    fun m ρ _ => Cert.Weight.Gates.frame_reference m ρ,
    IdealRules.named_const.statement Cert.KernelIdeal.κ "mask" .f32 0xF149F2CA#32 ⊥ rfl,
    algebraic,
    trivial, mixer, trivial, wide, trivial, tall, trivial, square,
    trivial, mixerForward, trivial, plain, trivial, embedForward, trivial, queryForward, trivial, outForward, trivial, queryBackward, trivial, pair, trivial, embedBackward, trivial, shards, trivial, outBackward, trivial, gates⟩

end Cert.Proof

end
